-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_FfnDd (m : (ℓ : Loc Cert.FfnDd.nD Cert.FfnDd.τ Cert.FfnDd.sig) → Buf (Elt Bits) ℓ) : Prop :=
  True

def Pre_FfnDdIdeal (m : (ℓ : Loc Cert.FfnDdIdeal.nD Cert.FfnDdIdeal.τ Cert.FfnDdIdeal.sig) → Buf (Elt Ideal) ℓ) : Prop :=
  True

def Pre_FfnDdRefIdeal (m : (ℓ : Loc Cert.FfnDdRefIdeal.nD Cert.FfnDdRefIdeal.τ Cert.FfnDdRefIdeal.sig) → Buf (Elt Ideal) ℓ) : Prop :=
  True

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaIdeal_finite_ffn [hPre_finite_ffn : Cert.Pre_finite_ffn.Facts] (m : (ℓ : Loc Cert.FfnDaIdeal.nD Cert.FfnDaIdeal.τ Cert.FfnDaIdeal.sig) → Buf (Elt Ideal) ℓ) : Prop :=
  ∀ c : Dev Cert.FfnDaIdeal.nD,
    (Cert.Pre_finite_ffn.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2))).1 = (fun _ => 1#1)
    ∧ (Cert.Pre_finite_ffn.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2))).2.1 = (fun _ => 1#1)
    ∧ (Cert.Pre_finite_ffn.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2))).2.2 = (fun _ => 1#1)

def Pre_FfnDaRefIdeal (m : (ℓ : Loc Cert.FfnDaRefIdeal.nD Cert.FfnDaRefIdeal.τ Cert.FfnDaRefIdeal.sig) → Buf (Elt Ideal) ℓ) : Prop :=
  True

def Pre_FfnDaRefIdeal_finite_ffn [hPre_finite_ffn : Cert.Pre_finite_ffn.Facts] (m : (ℓ : Loc Cert.FfnDaRefIdeal.nD Cert.FfnDaRefIdeal.τ Cert.FfnDaRefIdeal.sig) → Buf (Elt Ideal) ℓ) : Prop :=
  ∀ c : Dev Cert.FfnDaRefIdeal.nD,
    (Cert.Pre_finite_ffn.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2))).1 = (fun _ => 1#1)
    ∧ (Cert.Pre_finite_ffn.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2))).2.1 = (fun _ => 1#1)
    ∧ (Cert.Pre_finite_ffn.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2))).2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_LruDw (m : (ℓ : Loc Cert.LruDw.nD Cert.LruDw.τ Cert.LruDw.sig) → Buf (Elt Bits) ℓ) : Prop :=
  True

def Pre_LruDwIdeal (m : (ℓ : Loc Cert.LruDwIdeal.nD Cert.LruDwIdeal.τ Cert.LruDwIdeal.sig) → Buf (Elt Ideal) ℓ) : Prop :=
  True

def Pre_LruDwRefIdeal (m : (ℓ : Loc Cert.LruDwRefIdeal.nD Cert.LruDwRefIdeal.τ Cert.LruDwRefIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def Pre_OptRow (m : (ℓ : Loc Cert.OptRow.nD Cert.OptRow.τ Cert.OptRow.sig) → Buf (Elt Bits) ℓ) : Prop :=
  True

def Pre_OptRowIdeal (m : (ℓ : Loc Cert.OptRowIdeal.nD Cert.OptRowIdeal.τ Cert.OptRowIdeal.sig) → Buf (Elt Ideal) ℓ) : Prop :=
  True

def Pre_OptRowRefIdeal (m : (ℓ : Loc Cert.OptRowRefIdeal.nD Cert.OptRowRefIdeal.τ Cert.OptRowRefIdeal.sig) → Buf (Elt Ideal) ℓ) : Prop :=
  True

def Pre_OptLatent (m : (ℓ : Loc Cert.OptLatent.nD Cert.OptLatent.τ Cert.OptLatent.sig) → Buf (Elt Bits) ℓ) : Prop :=
  True

def Pre_OptLatentIdeal (m : (ℓ : Loc Cert.OptLatentIdeal.nD Cert.OptLatentIdeal.τ Cert.OptLatentIdeal.sig) → Buf (Elt Ideal) ℓ) : Prop :=
  True

def Pre_OptLatentRefIdeal (m : (ℓ : Loc Cert.OptLatentRefIdeal.nD Cert.OptLatentRefIdeal.τ Cert.OptLatentRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1))
      ∧ r.2.sem = fun _ => 0)

def quiescent_FfnDd [hFfnDd : Cert.FfnDd.Facts] : Prop :=
  ∀ (m : (ℓ : Loc Cert.FfnDd.nD Cert.FfnDd.τ Cert.FfnDd.sig) → Buf (Elt Bits) ℓ) (g : Dev Cert.FfnDd.nD → PrngReg), Pre_FfnDd m →
    θ_run (Cert.FfnDd.defs (F := Bits)) (onTc (τ := Cert.FfnDd.τ) (Cert.FfnDd.main (F := Bits))) ⟨m, fun _ => 0, g⟩ (fun r => (∀ c : Dev Cert.FfnDd.nD,
      r.2.mem ((c.tc : Thread Cert.FfnDd.nD Cert.FfnDd.τ).loc Cert.FfnDd.main_arg0) = m ((c.tc : Thread Cert.FfnDd.nD Cert.FfnDd.τ).loc Cert.FfnDd.main_arg0)
      ∧ r.2.mem ((c.tc : Thread Cert.FfnDd.nD Cert.FfnDd.τ).loc Cert.FfnDd.main_arg1) = m ((c.tc : Thread Cert.FfnDd.nD Cert.FfnDd.τ).loc Cert.FfnDd.main_arg1))
      ∧ r.2.sem = fun _ => 0)

def quiescent_FfnDdIdeal [hFfnDdIdeal : Cert.FfnDdIdeal.Facts] : Prop :=
  ∀ (m : (ℓ : Loc Cert.FfnDdIdeal.nD Cert.FfnDdIdeal.τ Cert.FfnDdIdeal.sig) → Buf (Elt Ideal) ℓ) (g : Dev Cert.FfnDdIdeal.nD → PrngReg), Pre_FfnDdIdeal m →
    θ_run (Cert.FfnDdIdeal.defs (F := Ideal)) (onTc (τ := Cert.FfnDdIdeal.τ) (Cert.FfnDdIdeal.main (F := Ideal))) ⟨m, fun _ => 0, g⟩ (fun r => (∀ c : Dev Cert.FfnDdIdeal.nD,
      r.2.mem ((c.tc : Thread Cert.FfnDdIdeal.nD Cert.FfnDdIdeal.τ).loc Cert.FfnDdIdeal.main_arg0) = m ((c.tc : Thread Cert.FfnDdIdeal.nD Cert.FfnDdIdeal.τ).loc Cert.FfnDdIdeal.main_arg0)
      ∧ r.2.mem ((c.tc : Thread Cert.FfnDdIdeal.nD Cert.FfnDdIdeal.τ).loc Cert.FfnDdIdeal.main_arg1) = m ((c.tc : Thread Cert.FfnDdIdeal.nD Cert.FfnDdIdeal.τ).loc Cert.FfnDdIdeal.main_arg1))
      ∧ r.2.sem = fun _ => 0)

def quiescent_FfnDdRefIdeal [hFfnDdRefIdeal : Cert.FfnDdRefIdeal.Facts] : Prop :=
  ∀ (m : (ℓ : Loc Cert.FfnDdRefIdeal.nD Cert.FfnDdRefIdeal.τ Cert.FfnDdRefIdeal.sig) → Buf (Elt Ideal) ℓ) (g : Dev Cert.FfnDdRefIdeal.nD → PrngReg), Pre_FfnDdRefIdeal m →
    θ_run (Cert.FfnDdRefIdeal.defs (F := Ideal)) (onTc (τ := Cert.FfnDdRefIdeal.τ) (Cert.FfnDdRefIdeal.main (F := Ideal))) ⟨m, fun _ => 0, g⟩ (fun r => (∀ c : Dev Cert.FfnDdRefIdeal.nD,
      r.2.mem ((c.tc : Thread Cert.FfnDdRefIdeal.nD Cert.FfnDdRefIdeal.τ).loc Cert.FfnDdRefIdeal.main_arg0) = m ((c.tc : Thread Cert.FfnDdRefIdeal.nD Cert.FfnDdRefIdeal.τ).loc Cert.FfnDdRefIdeal.main_arg0)
      ∧ r.2.mem ((c.tc : Thread Cert.FfnDdRefIdeal.nD Cert.FfnDdRefIdeal.τ).loc Cert.FfnDdRefIdeal.main_arg1) = m ((c.tc : Thread Cert.FfnDdRefIdeal.nD Cert.FfnDdRefIdeal.τ).loc Cert.FfnDdRefIdeal.main_arg1))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1)
      ∧ r.2.mem ((c.tc : Thread Cert.FfnDa.nD Cert.FfnDa.τ).loc Cert.FfnDa.main_arg2) = m ((c.tc : Thread Cert.FfnDa.nD Cert.FfnDa.τ).loc Cert.FfnDa.main_arg2))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2))
      ∧ r.2.sem = fun _ => 0)

def quiescent_FfnDaIdeal_pre_finite_ffn [hFfnDaIdeal : Cert.FfnDaIdeal.Facts] [hPre_finite_ffn : Cert.Pre_finite_ffn.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal_finite_ffn m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2))
      ∧ r.2.sem = fun _ => 0)

def quiescent_FfnDaRefIdeal [hFfnDaRefIdeal : Cert.FfnDaRefIdeal.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2))
      ∧ r.2.sem = fun _ => 0)

def quiescent_FfnDaRefIdeal_pre_finite_ffn [hFfnDaRefIdeal : Cert.FfnDaRefIdeal.Facts] [hPre_finite_ffn : Cert.Pre_finite_ffn.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal_finite_ffn m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_LruDw [hLruDw : Cert.LruDw.Facts] : Prop :=
  ∀ (m : (ℓ : Loc Cert.LruDw.nD Cert.LruDw.τ Cert.LruDw.sig) → Buf (Elt Bits) ℓ) (g : Dev Cert.LruDw.nD → PrngReg), Pre_LruDw m →
    θ_run (Cert.LruDw.defs (F := Bits)) (onTc (τ := Cert.LruDw.τ) (Cert.LruDw.main (F := Bits))) ⟨m, fun _ => 0, g⟩ (fun r => (∀ c : Dev Cert.LruDw.nD,
      r.2.mem ((c.tc : Thread Cert.LruDw.nD Cert.LruDw.τ).loc Cert.LruDw.main_arg0) = m ((c.tc : Thread Cert.LruDw.nD Cert.LruDw.τ).loc Cert.LruDw.main_arg0)
      ∧ r.2.mem ((c.tc : Thread Cert.LruDw.nD Cert.LruDw.τ).loc Cert.LruDw.main_arg1) = m ((c.tc : Thread Cert.LruDw.nD Cert.LruDw.τ).loc Cert.LruDw.main_arg1))
      ∧ r.2.sem = fun _ => 0)

def quiescent_LruDwIdeal [hLruDwIdeal : Cert.LruDwIdeal.Facts] : Prop :=
  ∀ (m : (ℓ : Loc Cert.LruDwIdeal.nD Cert.LruDwIdeal.τ Cert.LruDwIdeal.sig) → Buf (Elt Ideal) ℓ) (g : Dev Cert.LruDwIdeal.nD → PrngReg), Pre_LruDwIdeal m →
    θ_run (Cert.LruDwIdeal.defs (F := Ideal)) (onTc (τ := Cert.LruDwIdeal.τ) (Cert.LruDwIdeal.main (F := Ideal))) ⟨m, fun _ => 0, g⟩ (fun r => (∀ c : Dev Cert.LruDwIdeal.nD,
      r.2.mem ((c.tc : Thread Cert.LruDwIdeal.nD Cert.LruDwIdeal.τ).loc Cert.LruDwIdeal.main_arg0) = m ((c.tc : Thread Cert.LruDwIdeal.nD Cert.LruDwIdeal.τ).loc Cert.LruDwIdeal.main_arg0)
      ∧ r.2.mem ((c.tc : Thread Cert.LruDwIdeal.nD Cert.LruDwIdeal.τ).loc Cert.LruDwIdeal.main_arg1) = m ((c.tc : Thread Cert.LruDwIdeal.nD Cert.LruDwIdeal.τ).loc Cert.LruDwIdeal.main_arg1))
      ∧ r.2.sem = fun _ => 0)

def quiescent_LruDwRefIdeal [hLruDwRefIdeal : Cert.LruDwRefIdeal.Facts] : Prop :=
  ∀ (m : (ℓ : Loc Cert.LruDwRefIdeal.nD Cert.LruDwRefIdeal.τ Cert.LruDwRefIdeal.sig) → Buf (Elt Ideal) ℓ) (g : Dev Cert.LruDwRefIdeal.nD → PrngReg), Pre_LruDwRefIdeal m →
    θ_run (Cert.LruDwRefIdeal.defs (F := Ideal)) (onTc (τ := Cert.LruDwRefIdeal.τ) (Cert.LruDwRefIdeal.main (F := Ideal))) ⟨m, fun _ => 0, g⟩ (fun r => (∀ c : Dev Cert.LruDwRefIdeal.nD,
      r.2.mem ((c.tc : Thread Cert.LruDwRefIdeal.nD Cert.LruDwRefIdeal.τ).loc Cert.LruDwRefIdeal.main_arg0) = m ((c.tc : Thread Cert.LruDwRefIdeal.nD Cert.LruDwRefIdeal.τ).loc Cert.LruDwRefIdeal.main_arg0)
      ∧ r.2.mem ((c.tc : Thread Cert.LruDwRefIdeal.nD Cert.LruDwRefIdeal.τ).loc Cert.LruDwRefIdeal.main_arg1) = m ((c.tc : Thread Cert.LruDwRefIdeal.nD Cert.LruDwRefIdeal.τ).loc Cert.LruDwRefIdeal.main_arg1))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3))
      ∧ r.2.sem = fun _ => 0)

def quiescent_OptRow [hOptRow : Cert.OptRow.Facts] : Prop :=
  ∀ (m : (ℓ : Loc Cert.OptRow.nD Cert.OptRow.τ Cert.OptRow.sig) → Buf (Elt Bits) ℓ) (g : Dev Cert.OptRow.nD → PrngReg), Pre_OptRow m →
    θ_run (Cert.OptRow.defs (F := Bits)) (onTc (τ := Cert.OptRow.τ) (Cert.OptRow.main (F := Bits))) ⟨m, fun _ => 0, g⟩ (fun r => (∀ c : Dev Cert.OptRow.nD,
      r.2.mem ((c.tc : Thread Cert.OptRow.nD Cert.OptRow.τ).loc Cert.OptRow.main_arg0) = m ((c.tc : Thread Cert.OptRow.nD Cert.OptRow.τ).loc Cert.OptRow.main_arg0)
      ∧ r.2.mem ((c.tc : Thread Cert.OptRow.nD Cert.OptRow.τ).loc Cert.OptRow.main_arg1) = m ((c.tc : Thread Cert.OptRow.nD Cert.OptRow.τ).loc Cert.OptRow.main_arg1)
      ∧ r.2.mem ((c.tc : Thread Cert.OptRow.nD Cert.OptRow.τ).loc Cert.OptRow.main_arg2) = m ((c.tc : Thread Cert.OptRow.nD Cert.OptRow.τ).loc Cert.OptRow.main_arg2)
      ∧ r.2.mem ((c.tc : Thread Cert.OptRow.nD Cert.OptRow.τ).loc Cert.OptRow.main_arg3) = m ((c.tc : Thread Cert.OptRow.nD Cert.OptRow.τ).loc Cert.OptRow.main_arg3))
      ∧ r.2.sem = fun _ => 0)

def quiescent_OptRowIdeal [hOptRowIdeal : Cert.OptRowIdeal.Facts] : Prop :=
  ∀ (m : (ℓ : Loc Cert.OptRowIdeal.nD Cert.OptRowIdeal.τ Cert.OptRowIdeal.sig) → Buf (Elt Ideal) ℓ) (g : Dev Cert.OptRowIdeal.nD → PrngReg), Pre_OptRowIdeal m →
    θ_run (Cert.OptRowIdeal.defs (F := Ideal)) (onTc (τ := Cert.OptRowIdeal.τ) (Cert.OptRowIdeal.main (F := Ideal))) ⟨m, fun _ => 0, g⟩ (fun r => (∀ c : Dev Cert.OptRowIdeal.nD,
      r.2.mem ((c.tc : Thread Cert.OptRowIdeal.nD Cert.OptRowIdeal.τ).loc Cert.OptRowIdeal.main_arg0) = m ((c.tc : Thread Cert.OptRowIdeal.nD Cert.OptRowIdeal.τ).loc Cert.OptRowIdeal.main_arg0)
      ∧ r.2.mem ((c.tc : Thread Cert.OptRowIdeal.nD Cert.OptRowIdeal.τ).loc Cert.OptRowIdeal.main_arg1) = m ((c.tc : Thread Cert.OptRowIdeal.nD Cert.OptRowIdeal.τ).loc Cert.OptRowIdeal.main_arg1)
      ∧ r.2.mem ((c.tc : Thread Cert.OptRowIdeal.nD Cert.OptRowIdeal.τ).loc Cert.OptRowIdeal.main_arg2) = m ((c.tc : Thread Cert.OptRowIdeal.nD Cert.OptRowIdeal.τ).loc Cert.OptRowIdeal.main_arg2)
      ∧ r.2.mem ((c.tc : Thread Cert.OptRowIdeal.nD Cert.OptRowIdeal.τ).loc Cert.OptRowIdeal.main_arg3) = m ((c.tc : Thread Cert.OptRowIdeal.nD Cert.OptRowIdeal.τ).loc Cert.OptRowIdeal.main_arg3))
      ∧ r.2.sem = fun _ => 0)

def quiescent_OptRowRefIdeal [hOptRowRefIdeal : Cert.OptRowRefIdeal.Facts] : Prop :=
  ∀ (m : (ℓ : Loc Cert.OptRowRefIdeal.nD Cert.OptRowRefIdeal.τ Cert.OptRowRefIdeal.sig) → Buf (Elt Ideal) ℓ) (g : Dev Cert.OptRowRefIdeal.nD → PrngReg), Pre_OptRowRefIdeal m →
    θ_run (Cert.OptRowRefIdeal.defs (F := Ideal)) (onTc (τ := Cert.OptRowRefIdeal.τ) (Cert.OptRowRefIdeal.main (F := Ideal))) ⟨m, fun _ => 0, g⟩ (fun r => (∀ c : Dev Cert.OptRowRefIdeal.nD,
      r.2.mem ((c.tc : Thread Cert.OptRowRefIdeal.nD Cert.OptRowRefIdeal.τ).loc Cert.OptRowRefIdeal.main_arg0) = m ((c.tc : Thread Cert.OptRowRefIdeal.nD Cert.OptRowRefIdeal.τ).loc Cert.OptRowRefIdeal.main_arg0)
      ∧ r.2.mem ((c.tc : Thread Cert.OptRowRefIdeal.nD Cert.OptRowRefIdeal.τ).loc Cert.OptRowRefIdeal.main_arg1) = m ((c.tc : Thread Cert.OptRowRefIdeal.nD Cert.OptRowRefIdeal.τ).loc Cert.OptRowRefIdeal.main_arg1)
      ∧ r.2.mem ((c.tc : Thread Cert.OptRowRefIdeal.nD Cert.OptRowRefIdeal.τ).loc Cert.OptRowRefIdeal.main_arg2) = m ((c.tc : Thread Cert.OptRowRefIdeal.nD Cert.OptRowRefIdeal.τ).loc Cert.OptRowRefIdeal.main_arg2)
      ∧ r.2.mem ((c.tc : Thread Cert.OptRowRefIdeal.nD Cert.OptRowRefIdeal.τ).loc Cert.OptRowRefIdeal.main_arg3) = m ((c.tc : Thread Cert.OptRowRefIdeal.nD Cert.OptRowRefIdeal.τ).loc Cert.OptRowRefIdeal.main_arg3))
      ∧ r.2.sem = fun _ => 0)

def quiescent_OptLatent [hOptLatent : Cert.OptLatent.Facts] : Prop :=
  ∀ (m : (ℓ : Loc Cert.OptLatent.nD Cert.OptLatent.τ Cert.OptLatent.sig) → Buf (Elt Bits) ℓ) (g : Dev Cert.OptLatent.nD → PrngReg), Pre_OptLatent m →
    θ_run (Cert.OptLatent.defs (F := Bits)) (onTc (τ := Cert.OptLatent.τ) (Cert.OptLatent.main (F := Bits))) ⟨m, fun _ => 0, g⟩ (fun r => (∀ c : Dev Cert.OptLatent.nD,
      r.2.mem ((c.tc : Thread Cert.OptLatent.nD Cert.OptLatent.τ).loc Cert.OptLatent.main_arg0) = m ((c.tc : Thread Cert.OptLatent.nD Cert.OptLatent.τ).loc Cert.OptLatent.main_arg0)
      ∧ r.2.mem ((c.tc : Thread Cert.OptLatent.nD Cert.OptLatent.τ).loc Cert.OptLatent.main_arg1) = m ((c.tc : Thread Cert.OptLatent.nD Cert.OptLatent.τ).loc Cert.OptLatent.main_arg1)
      ∧ r.2.mem ((c.tc : Thread Cert.OptLatent.nD Cert.OptLatent.τ).loc Cert.OptLatent.main_arg2) = m ((c.tc : Thread Cert.OptLatent.nD Cert.OptLatent.τ).loc Cert.OptLatent.main_arg2)
      ∧ r.2.mem ((c.tc : Thread Cert.OptLatent.nD Cert.OptLatent.τ).loc Cert.OptLatent.main_arg3) = m ((c.tc : Thread Cert.OptLatent.nD Cert.OptLatent.τ).loc Cert.OptLatent.main_arg3))
      ∧ r.2.sem = fun _ => 0)

def quiescent_OptLatentIdeal [hOptLatentIdeal : Cert.OptLatentIdeal.Facts] : Prop :=
  ∀ (m : (ℓ : Loc Cert.OptLatentIdeal.nD Cert.OptLatentIdeal.τ Cert.OptLatentIdeal.sig) → Buf (Elt Ideal) ℓ) (g : Dev Cert.OptLatentIdeal.nD → PrngReg), Pre_OptLatentIdeal m →
    θ_run (Cert.OptLatentIdeal.defs (F := Ideal)) (onTc (τ := Cert.OptLatentIdeal.τ) (Cert.OptLatentIdeal.main (F := Ideal))) ⟨m, fun _ => 0, g⟩ (fun r => (∀ c : Dev Cert.OptLatentIdeal.nD,
      r.2.mem ((c.tc : Thread Cert.OptLatentIdeal.nD Cert.OptLatentIdeal.τ).loc Cert.OptLatentIdeal.main_arg0) = m ((c.tc : Thread Cert.OptLatentIdeal.nD Cert.OptLatentIdeal.τ).loc Cert.OptLatentIdeal.main_arg0)
      ∧ r.2.mem ((c.tc : Thread Cert.OptLatentIdeal.nD Cert.OptLatentIdeal.τ).loc Cert.OptLatentIdeal.main_arg1) = m ((c.tc : Thread Cert.OptLatentIdeal.nD Cert.OptLatentIdeal.τ).loc Cert.OptLatentIdeal.main_arg1)
      ∧ r.2.mem ((c.tc : Thread Cert.OptLatentIdeal.nD Cert.OptLatentIdeal.τ).loc Cert.OptLatentIdeal.main_arg2) = m ((c.tc : Thread Cert.OptLatentIdeal.nD Cert.OptLatentIdeal.τ).loc Cert.OptLatentIdeal.main_arg2)
      ∧ r.2.mem ((c.tc : Thread Cert.OptLatentIdeal.nD Cert.OptLatentIdeal.τ).loc Cert.OptLatentIdeal.main_arg3) = m ((c.tc : Thread Cert.OptLatentIdeal.nD Cert.OptLatentIdeal.τ).loc Cert.OptLatentIdeal.main_arg3))
      ∧ r.2.sem = fun _ => 0)

def quiescent_OptLatentRefIdeal [hOptLatentRefIdeal : Cert.OptLatentRefIdeal.Facts] : Prop :=
  ∀ (m : (ℓ : Loc Cert.OptLatentRefIdeal.nD Cert.OptLatentRefIdeal.τ Cert.OptLatentRefIdeal.sig) → Buf (Elt Ideal) ℓ) (g : Dev Cert.OptLatentRefIdeal.nD → PrngReg), Pre_OptLatentRefIdeal m →
    θ_run (Cert.OptLatentRefIdeal.defs (F := Ideal)) (onTc (τ := Cert.OptLatentRefIdeal.τ) (Cert.OptLatentRefIdeal.main (F := Ideal))) ⟨m, fun _ => 0, g⟩ (fun r => (∀ c : Dev Cert.OptLatentRefIdeal.nD,
      r.2.mem ((c.tc : Thread Cert.OptLatentRefIdeal.nD Cert.OptLatentRefIdeal.τ).loc Cert.OptLatentRefIdeal.main_arg0) = m ((c.tc : Thread Cert.OptLatentRefIdeal.nD Cert.OptLatentRefIdeal.τ).loc Cert.OptLatentRefIdeal.main_arg0)
      ∧ r.2.mem ((c.tc : Thread Cert.OptLatentRefIdeal.nD Cert.OptLatentRefIdeal.τ).loc Cert.OptLatentRefIdeal.main_arg1) = m ((c.tc : Thread Cert.OptLatentRefIdeal.nD Cert.OptLatentRefIdeal.τ).loc Cert.OptLatentRefIdeal.main_arg1)
      ∧ r.2.mem ((c.tc : Thread Cert.OptLatentRefIdeal.nD Cert.OptLatentRefIdeal.τ).loc Cert.OptLatentRefIdeal.main_arg2) = m ((c.tc : Thread Cert.OptLatentRefIdeal.nD Cert.OptLatentRefIdeal.τ).loc Cert.OptLatentRefIdeal.main_arg2)
      ∧ r.2.mem ((c.tc : Thread Cert.OptLatentRefIdeal.nD Cert.OptLatentRefIdeal.τ).loc Cert.OptLatentRefIdeal.main_arg3) = m ((c.tc : Thread Cert.OptLatentRefIdeal.nD Cert.OptLatentRefIdeal.τ).loc Cert.OptLatentRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v97_0)) (v1 : (c : Dev Cert.KernelIdeal.nD) → Buf (Elt Ideal) ((c.tc : Thread Cert.KernelIdeal.nD Cert.KernelIdeal.τ).loc Cert.KernelIdeal.main_v97_1)) (v2 : (c : Dev Cert.KernelIdeal.nD) → Buf (Elt Ideal) ((c.tc : Thread Cert.KernelIdeal.nD Cert.KernelIdeal.τ).loc Cert.KernelIdeal.main_v97_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_0) = v0 c
          ∧ r.2.mem ((c.tc : Thread Cert.KernelIdeal.nD Cert.KernelIdeal.τ).loc Cert.KernelIdeal.main_v97_1) = v1 c
          ∧ r.2.mem ((c.tc : Thread Cert.KernelIdeal.nD Cert.KernelIdeal.τ).loc Cert.KernelIdeal.main_v97_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v10) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v9) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1))

def preserves_FfnDd_FfnDdIdeal : Prop :=
  True

def algebraic_FfnDdIdeal_FfnDdRefIdeal [hFfnDdIdeal : Cert.FfnDdIdeal.Facts] [hFfnDdRefIdeal : Cert.FfnDdRefIdeal.Facts] : Prop :=
  ∀ (m : (ℓ : Loc Cert.FfnDdIdeal.nD Cert.FfnDdIdeal.τ Cert.FfnDdIdeal.sig) → Buf (Elt Ideal) ℓ) (g : Dev Cert.FfnDdIdeal.nD → PrngReg)
    (m' : (ℓ : Loc Cert.FfnDdRefIdeal.nD Cert.FfnDdRefIdeal.τ Cert.FfnDdRefIdeal.sig) → Buf (Elt Ideal) ℓ) (g' : Dev Cert.FfnDdRefIdeal.nD → PrngReg), Pre_FfnDdIdeal m →
    (∀ c : Dev Cert.FfnDdIdeal.nD,
      m' ((c.tc : Thread Cert.FfnDdRefIdeal.nD Cert.FfnDdRefIdeal.τ).loc Cert.FfnDdRefIdeal.main_arg0) = m ((c.tc : Thread Cert.FfnDdIdeal.nD Cert.FfnDdIdeal.τ).loc Cert.FfnDdIdeal.main_arg0)
      ∧ m' ((c.tc : Thread Cert.FfnDdRefIdeal.nD Cert.FfnDdRefIdeal.τ).loc Cert.FfnDdRefIdeal.main_arg1) = m ((c.tc : Thread Cert.FfnDdIdeal.nD Cert.FfnDdIdeal.τ).loc Cert.FfnDdIdeal.main_arg1)) →
    ∃ (v0 : (c : Dev Cert.FfnDdIdeal.nD) → Buf (Elt Ideal) ((c.tc : Thread Cert.FfnDdIdeal.nD Cert.FfnDdIdeal.τ).loc Cert.FfnDdIdeal.main_v0)),
      θ_run (Cert.FfnDdIdeal.defs (F := Ideal)) (onTc (τ := Cert.FfnDdIdeal.τ) (Cert.FfnDdIdeal.main (F := Ideal))) ⟨m, fun _ => 0, g⟩ (fun r => ∀ c : Dev Cert.FfnDdIdeal.nD,
          r.2.mem ((c.tc : Thread Cert.FfnDdIdeal.nD Cert.FfnDdIdeal.τ).loc Cert.FfnDdIdeal.main_v0) = v0 c
          ∧ r.2.mem ((c.tc : Thread Cert.FfnDdIdeal.nD Cert.FfnDdIdeal.τ).loc Cert.FfnDdIdeal.main_arg0) = m ((c.tc : Thread Cert.FfnDdIdeal.nD Cert.FfnDdIdeal.τ).loc Cert.FfnDdIdeal.main_arg0)
          ∧ r.2.mem ((c.tc : Thread Cert.FfnDdIdeal.nD Cert.FfnDdIdeal.τ).loc Cert.FfnDdIdeal.main_arg1) = m ((c.tc : Thread Cert.FfnDdIdeal.nD Cert.FfnDdIdeal.τ).loc Cert.FfnDdIdeal.main_arg1))
      ∧ θ_run (Cert.FfnDdRefIdeal.defs (F := Ideal)) (onTc (τ := Cert.FfnDdRefIdeal.τ) (Cert.FfnDdRefIdeal.main (F := Ideal))) ⟨m', fun _ => 0, g'⟩ (fun r => ∀ c : Dev Cert.FfnDdRefIdeal.nD,
          r.2.mem ((c.tc : Thread Cert.FfnDdRefIdeal.nD Cert.FfnDdRefIdeal.τ).loc Cert.FfnDdRefIdeal.main_v6) = v0 c
          ∧ r.2.mem ((c.tc : Thread Cert.FfnDdRefIdeal.nD Cert.FfnDdRefIdeal.τ).loc Cert.FfnDdRefIdeal.main_arg0) = m' ((c.tc : Thread Cert.FfnDdRefIdeal.nD Cert.FfnDdRefIdeal.τ).loc Cert.FfnDdRefIdeal.main_arg0)
          ∧ r.2.mem ((c.tc : Thread Cert.FfnDdRefIdeal.nD Cert.FfnDdRefIdeal.τ).loc Cert.FfnDdRefIdeal.main_arg1) = m' ((c.tc : Thread Cert.FfnDdRefIdeal.nD Cert.FfnDdRefIdeal.τ).loc Cert.FfnDdRefIdeal.main_arg1))

def preserves_FfnDa_FfnDaIdeal : Prop :=
  True

def algebraic_FfnDaIdeal_FfnDaRefIdeal_pre_finite_ffn [hFfnDaIdeal : Cert.FfnDaIdeal.Facts] [hFfnDaRefIdeal : Cert.FfnDaRefIdeal.Facts] [hPre_finite_ffn : Cert.Pre_finite_ffn.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.FfnDaRefIdeal.nD Cert.FfnDaRefIdeal.τ Cert.FfnDaRefIdeal.sig) → Buf (Elt Ideal) ℓ) (g' : Dev Cert.FfnDaRefIdeal.nD → PrngReg), Pre_FfnDaIdeal_finite_ffn m →
    (∀ c : Dev Cert.FfnDaIdeal.nD,
      m' ((c.tc : Thread Cert.FfnDaRefIdeal.nD Cert.FfnDaRefIdeal.τ).loc Cert.FfnDaRefIdeal.main_arg0) = m ((c.tc : Thread Cert.FfnDaIdeal.nD Cert.FfnDaIdeal.τ).loc Cert.FfnDaIdeal.main_arg0)
      ∧ m' ((c.tc : Thread Cert.FfnDaRefIdeal.nD Cert.FfnDaRefIdeal.τ).loc Cert.FfnDaRefIdeal.main_arg1) = m ((c.tc : Thread Cert.FfnDaIdeal.nD Cert.FfnDaIdeal.τ).loc Cert.FfnDaIdeal.main_arg1)
      ∧ m' ((c.tc : Thread Cert.FfnDaRefIdeal.nD Cert.FfnDaRefIdeal.τ).loc Cert.FfnDaRefIdeal.main_arg2) = m ((c.tc : Thread Cert.FfnDaIdeal.nD Cert.FfnDaIdeal.τ).loc Cert.FfnDaIdeal.main_arg2)) →
    ∃ (v0 : (c : Dev Cert.FfnDaIdeal.nD) → Buf (Elt Ideal) ((c.tc : Thread Cert.FfnDaIdeal.nD Cert.FfnDaIdeal.τ).loc Cert.FfnDaIdeal.main_v0)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v0) = v0 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
          ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2))
      ∧ θ_run (Cert.FfnDaRefIdeal.defs (F := Ideal)) (onTc (τ := Cert.FfnDaRefIdeal.τ) (Cert.FfnDaRefIdeal.main (F := Ideal))) ⟨m', fun _ => 0, g'⟩ (fun r => ∀ c : Dev Cert.FfnDaRefIdeal.nD,
          r.2.mem ((c.tc : Thread Cert.FfnDaRefIdeal.nD Cert.FfnDaRefIdeal.τ).loc Cert.FfnDaRefIdeal.main_v18) = v0 c
          ∧ r.2.mem ((c.tc : Thread Cert.FfnDaRefIdeal.nD Cert.FfnDaRefIdeal.τ).loc Cert.FfnDaRefIdeal.main_arg0) = m' ((c.tc : Thread Cert.FfnDaRefIdeal.nD Cert.FfnDaRefIdeal.τ).loc Cert.FfnDaRefIdeal.main_arg0)
          ∧ r.2.mem ((c.tc : Thread Cert.FfnDaRefIdeal.nD Cert.FfnDaRefIdeal.τ).loc Cert.FfnDaRefIdeal.main_arg1) = m' ((c.tc : Thread Cert.FfnDaRefIdeal.nD Cert.FfnDaRefIdeal.τ).loc Cert.FfnDaRefIdeal.main_arg1)
          ∧ r.2.mem ((c.tc : Thread Cert.FfnDaRefIdeal.nD Cert.FfnDaRefIdeal.τ).loc Cert.FfnDaRefIdeal.main_arg2) = m' ((c.tc : Thread Cert.FfnDaRefIdeal.nD Cert.FfnDaRefIdeal.τ).loc Cert.FfnDaRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v10) = v0 c
          ∧ r.2.mem ((c.tc : Thread Cert.FfnUpRefIdeal.nD Cert.FfnUpRefIdeal.τ).loc Cert.FfnUpRefIdeal.main_v13) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v4) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_LruDw_LruDwIdeal : Prop :=
  True

def algebraic_LruDwIdeal_LruDwRefIdeal [hLruDwIdeal : Cert.LruDwIdeal.Facts] [hLruDwRefIdeal : Cert.LruDwRefIdeal.Facts] : Prop :=
  ∀ (m : (ℓ : Loc Cert.LruDwIdeal.nD Cert.LruDwIdeal.τ Cert.LruDwIdeal.sig) → Buf (Elt Ideal) ℓ) (g : Dev Cert.LruDwIdeal.nD → PrngReg)
    (m' : (ℓ : Loc Cert.LruDwRefIdeal.nD Cert.LruDwRefIdeal.τ Cert.LruDwRefIdeal.sig) → Buf (Elt Ideal) ℓ) (g' : Dev Cert.LruDwRefIdeal.nD → PrngReg), Pre_LruDwIdeal m →
    (∀ c : Dev Cert.LruDwIdeal.nD,
      m' ((c.tc : Thread Cert.LruDwRefIdeal.nD Cert.LruDwRefIdeal.τ).loc Cert.LruDwRefIdeal.main_arg0) = m ((c.tc : Thread Cert.LruDwIdeal.nD Cert.LruDwIdeal.τ).loc Cert.LruDwIdeal.main_arg0)
      ∧ m' ((c.tc : Thread Cert.LruDwRefIdeal.nD Cert.LruDwRefIdeal.τ).loc Cert.LruDwRefIdeal.main_arg1) = m ((c.tc : Thread Cert.LruDwIdeal.nD Cert.LruDwIdeal.τ).loc Cert.LruDwIdeal.main_arg1)) →
    ∃ (v0 : (c : Dev Cert.LruDwIdeal.nD) → Buf (Elt Ideal) ((c.tc : Thread Cert.LruDwIdeal.nD Cert.LruDwIdeal.τ).loc Cert.LruDwIdeal.main_v0)),
      θ_run (Cert.LruDwIdeal.defs (F := Ideal)) (onTc (τ := Cert.LruDwIdeal.τ) (Cert.LruDwIdeal.main (F := Ideal))) ⟨m, fun _ => 0, g⟩ (fun r => ∀ c : Dev Cert.LruDwIdeal.nD,
          r.2.mem ((c.tc : Thread Cert.LruDwIdeal.nD Cert.LruDwIdeal.τ).loc Cert.LruDwIdeal.main_v0) = v0 c
          ∧ r.2.mem ((c.tc : Thread Cert.LruDwIdeal.nD Cert.LruDwIdeal.τ).loc Cert.LruDwIdeal.main_arg0) = m ((c.tc : Thread Cert.LruDwIdeal.nD Cert.LruDwIdeal.τ).loc Cert.LruDwIdeal.main_arg0)
          ∧ r.2.mem ((c.tc : Thread Cert.LruDwIdeal.nD Cert.LruDwIdeal.τ).loc Cert.LruDwIdeal.main_arg1) = m ((c.tc : Thread Cert.LruDwIdeal.nD Cert.LruDwIdeal.τ).loc Cert.LruDwIdeal.main_arg1))
      ∧ θ_run (Cert.LruDwRefIdeal.defs (F := Ideal)) (onTc (τ := Cert.LruDwRefIdeal.τ) (Cert.LruDwRefIdeal.main (F := Ideal))) ⟨m', fun _ => 0, g'⟩ (fun r => ∀ c : Dev Cert.LruDwRefIdeal.nD,
          r.2.mem ((c.tc : Thread Cert.LruDwRefIdeal.nD Cert.LruDwRefIdeal.τ).loc Cert.LruDwRefIdeal.main_v10) = v0 c
          ∧ r.2.mem ((c.tc : Thread Cert.LruDwRefIdeal.nD Cert.LruDwRefIdeal.τ).loc Cert.LruDwRefIdeal.main_arg0) = m' ((c.tc : Thread Cert.LruDwRefIdeal.nD Cert.LruDwRefIdeal.τ).loc Cert.LruDwRefIdeal.main_arg0)
          ∧ r.2.mem ((c.tc : Thread Cert.LruDwRefIdeal.nD Cert.LruDwRefIdeal.τ).loc Cert.LruDwRefIdeal.main_arg1) = m' ((c.tc : Thread Cert.LruDwRefIdeal.nD Cert.LruDwRefIdeal.τ).loc Cert.LruDwRefIdeal.main_arg1))

def preserves_Opt_OptIdeal : Prop :=
  True

def algebraic_OptIdeal_OptRefIdeal [hOptIdeal : Cert.OptIdeal.Facts] [hOptRefIdeal : Cert.OptRefIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptIdeal m →
    (∀ c : Dev Cert.OptIdeal.nD,
      m' ((c.tc : Thread Cert.OptRefIdeal.nD Cert.OptRefIdeal.τ).loc Cert.OptRefIdeal.main_arg0) = m ((c.tc : Thread Cert.OptIdeal.nD Cert.OptIdeal.τ).loc Cert.OptIdeal.main_arg0)
      ∧ m' ((c.tc : Thread Cert.OptRefIdeal.nD Cert.OptRefIdeal.τ).loc Cert.OptRefIdeal.main_arg1) = m ((c.tc : Thread Cert.OptIdeal.nD Cert.OptIdeal.τ).loc Cert.OptIdeal.main_arg1)
      ∧ m' ((c.tc : Thread Cert.OptRefIdeal.nD Cert.OptRefIdeal.τ).loc Cert.OptRefIdeal.main_arg2) = m ((c.tc : Thread Cert.OptIdeal.nD Cert.OptIdeal.τ).loc Cert.OptIdeal.main_arg2)
      ∧ m' ((c.tc : Thread Cert.OptRefIdeal.nD Cert.OptRefIdeal.τ).loc Cert.OptRefIdeal.main_arg3) = m ((c.tc : Thread Cert.OptIdeal.nD Cert.OptIdeal.τ).loc Cert.OptIdeal.main_arg3)) →
    ∃ (v0 : (c : Dev Cert.OptIdeal.nD) → Buf (Elt Ideal) ((c.tc : Thread Cert.OptIdeal.nD Cert.OptIdeal.τ).loc Cert.OptIdeal.main_v0_0)) (v1 : (c : Dev Cert.OptIdeal.nD) → Buf (Elt Ideal) ((c.tc : Thread Cert.OptIdeal.nD Cert.OptIdeal.τ).loc Cert.OptIdeal.main_v0_1)) (v2 : (c : Dev Cert.OptIdeal.nD) → Buf (Elt Ideal) ((c.tc : Thread Cert.OptIdeal.nD Cert.OptIdeal.τ).loc Cert.OptIdeal.main_v0_2)) (v3 : (c : Dev Cert.OptIdeal.nD) → Buf (Elt Ideal) ((c.tc : Thread Cert.OptIdeal.nD Cert.OptIdeal.τ).loc Cert.OptIdeal.main_v0_3)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v0_0) = v0 c
          ∧ r.2.mem ((c.tc : Thread Cert.OptIdeal.nD Cert.OptIdeal.τ).loc Cert.OptIdeal.main_v0_1) = v1 c
          ∧ r.2.mem ((c.tc : Thread Cert.OptIdeal.nD Cert.OptIdeal.τ).loc Cert.OptIdeal.main_v0_2) = v2 c
          ∧ r.2.mem ((c.tc : Thread Cert.OptIdeal.nD Cert.OptIdeal.τ).loc Cert.OptIdeal.main_v0_3) = v3 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v0) = v0 c
          ∧ r.2.mem ((c.tc : Thread Cert.OptRefIdeal.nD Cert.OptRefIdeal.τ).loc Cert.OptRefIdeal.main_v24) = v1 c
          ∧ r.2.mem ((c.tc : Thread Cert.OptRefIdeal.nD Cert.OptRefIdeal.τ).loc Cert.OptRefIdeal.main_v5) = v2 c
          ∧ r.2.mem ((c.tc : Thread Cert.OptRefIdeal.nD Cert.OptRefIdeal.τ).loc Cert.OptRefIdeal.main_v11) = v3 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3))

def preserves_OptRow_OptRowIdeal : Prop :=
  True

def algebraic_OptRowIdeal_OptRowRefIdeal [hOptRowIdeal : Cert.OptRowIdeal.Facts] [hOptRowRefIdeal : Cert.OptRowRefIdeal.Facts] : Prop :=
  ∀ (m : (ℓ : Loc Cert.OptRowIdeal.nD Cert.OptRowIdeal.τ Cert.OptRowIdeal.sig) → Buf (Elt Ideal) ℓ) (g : Dev Cert.OptRowIdeal.nD → PrngReg)
    (m' : (ℓ : Loc Cert.OptRowRefIdeal.nD Cert.OptRowRefIdeal.τ Cert.OptRowRefIdeal.sig) → Buf (Elt Ideal) ℓ) (g' : Dev Cert.OptRowRefIdeal.nD → PrngReg), Pre_OptRowIdeal m →
    (∀ c : Dev Cert.OptRowIdeal.nD,
      m' ((c.tc : Thread Cert.OptRowRefIdeal.nD Cert.OptRowRefIdeal.τ).loc Cert.OptRowRefIdeal.main_arg0) = m ((c.tc : Thread Cert.OptRowIdeal.nD Cert.OptRowIdeal.τ).loc Cert.OptRowIdeal.main_arg0)
      ∧ m' ((c.tc : Thread Cert.OptRowRefIdeal.nD Cert.OptRowRefIdeal.τ).loc Cert.OptRowRefIdeal.main_arg1) = m ((c.tc : Thread Cert.OptRowIdeal.nD Cert.OptRowIdeal.τ).loc Cert.OptRowIdeal.main_arg1)
      ∧ m' ((c.tc : Thread Cert.OptRowRefIdeal.nD Cert.OptRowRefIdeal.τ).loc Cert.OptRowRefIdeal.main_arg2) = m ((c.tc : Thread Cert.OptRowIdeal.nD Cert.OptRowIdeal.τ).loc Cert.OptRowIdeal.main_arg2)
      ∧ m' ((c.tc : Thread Cert.OptRowRefIdeal.nD Cert.OptRowRefIdeal.τ).loc Cert.OptRowRefIdeal.main_arg3) = m ((c.tc : Thread Cert.OptRowIdeal.nD Cert.OptRowIdeal.τ).loc Cert.OptRowIdeal.main_arg3)) →
    ∃ (v0 : (c : Dev Cert.OptRowIdeal.nD) → Buf (Elt Ideal) ((c.tc : Thread Cert.OptRowIdeal.nD Cert.OptRowIdeal.τ).loc Cert.OptRowIdeal.main_v0_0)) (v1 : (c : Dev Cert.OptRowIdeal.nD) → Buf (Elt Ideal) ((c.tc : Thread Cert.OptRowIdeal.nD Cert.OptRowIdeal.τ).loc Cert.OptRowIdeal.main_v0_1)) (v2 : (c : Dev Cert.OptRowIdeal.nD) → Buf (Elt Ideal) ((c.tc : Thread Cert.OptRowIdeal.nD Cert.OptRowIdeal.τ).loc Cert.OptRowIdeal.main_v0_2)) (v3 : (c : Dev Cert.OptRowIdeal.nD) → Buf (Elt Ideal) ((c.tc : Thread Cert.OptRowIdeal.nD Cert.OptRowIdeal.τ).loc Cert.OptRowIdeal.main_v0_3)),
      θ_run (Cert.OptRowIdeal.defs (F := Ideal)) (onTc (τ := Cert.OptRowIdeal.τ) (Cert.OptRowIdeal.main (F := Ideal))) ⟨m, fun _ => 0, g⟩ (fun r => ∀ c : Dev Cert.OptRowIdeal.nD,
          r.2.mem ((c.tc : Thread Cert.OptRowIdeal.nD Cert.OptRowIdeal.τ).loc Cert.OptRowIdeal.main_v0_0) = v0 c
          ∧ r.2.mem ((c.tc : Thread Cert.OptRowIdeal.nD Cert.OptRowIdeal.τ).loc Cert.OptRowIdeal.main_v0_1) = v1 c
          ∧ r.2.mem ((c.tc : Thread Cert.OptRowIdeal.nD Cert.OptRowIdeal.τ).loc Cert.OptRowIdeal.main_v0_2) = v2 c
          ∧ r.2.mem ((c.tc : Thread Cert.OptRowIdeal.nD Cert.OptRowIdeal.τ).loc Cert.OptRowIdeal.main_v0_3) = v3 c
          ∧ r.2.mem ((c.tc : Thread Cert.OptRowIdeal.nD Cert.OptRowIdeal.τ).loc Cert.OptRowIdeal.main_arg0) = m ((c.tc : Thread Cert.OptRowIdeal.nD Cert.OptRowIdeal.τ).loc Cert.OptRowIdeal.main_arg0)
          ∧ r.2.mem ((c.tc : Thread Cert.OptRowIdeal.nD Cert.OptRowIdeal.τ).loc Cert.OptRowIdeal.main_arg1) = m ((c.tc : Thread Cert.OptRowIdeal.nD Cert.OptRowIdeal.τ).loc Cert.OptRowIdeal.main_arg1)
          ∧ r.2.mem ((c.tc : Thread Cert.OptRowIdeal.nD Cert.OptRowIdeal.τ).loc Cert.OptRowIdeal.main_arg2) = m ((c.tc : Thread Cert.OptRowIdeal.nD Cert.OptRowIdeal.τ).loc Cert.OptRowIdeal.main_arg2)
          ∧ r.2.mem ((c.tc : Thread Cert.OptRowIdeal.nD Cert.OptRowIdeal.τ).loc Cert.OptRowIdeal.main_arg3) = m ((c.tc : Thread Cert.OptRowIdeal.nD Cert.OptRowIdeal.τ).loc Cert.OptRowIdeal.main_arg3))
      ∧ θ_run (Cert.OptRowRefIdeal.defs (F := Ideal)) (onTc (τ := Cert.OptRowRefIdeal.τ) (Cert.OptRowRefIdeal.main (F := Ideal))) ⟨m', fun _ => 0, g'⟩ (fun r => ∀ c : Dev Cert.OptRowRefIdeal.nD,
          r.2.mem ((c.tc : Thread Cert.OptRowRefIdeal.nD Cert.OptRowRefIdeal.τ).loc Cert.OptRowRefIdeal.main_v0) = v0 c
          ∧ r.2.mem ((c.tc : Thread Cert.OptRowRefIdeal.nD Cert.OptRowRefIdeal.τ).loc Cert.OptRowRefIdeal.main_v24) = v1 c
          ∧ r.2.mem ((c.tc : Thread Cert.OptRowRefIdeal.nD Cert.OptRowRefIdeal.τ).loc Cert.OptRowRefIdeal.main_v5) = v2 c
          ∧ r.2.mem ((c.tc : Thread Cert.OptRowRefIdeal.nD Cert.OptRowRefIdeal.τ).loc Cert.OptRowRefIdeal.main_v11) = v3 c
          ∧ r.2.mem ((c.tc : Thread Cert.OptRowRefIdeal.nD Cert.OptRowRefIdeal.τ).loc Cert.OptRowRefIdeal.main_arg0) = m' ((c.tc : Thread Cert.OptRowRefIdeal.nD Cert.OptRowRefIdeal.τ).loc Cert.OptRowRefIdeal.main_arg0)
          ∧ r.2.mem ((c.tc : Thread Cert.OptRowRefIdeal.nD Cert.OptRowRefIdeal.τ).loc Cert.OptRowRefIdeal.main_arg1) = m' ((c.tc : Thread Cert.OptRowRefIdeal.nD Cert.OptRowRefIdeal.τ).loc Cert.OptRowRefIdeal.main_arg1)
          ∧ r.2.mem ((c.tc : Thread Cert.OptRowRefIdeal.nD Cert.OptRowRefIdeal.τ).loc Cert.OptRowRefIdeal.main_arg2) = m' ((c.tc : Thread Cert.OptRowRefIdeal.nD Cert.OptRowRefIdeal.τ).loc Cert.OptRowRefIdeal.main_arg2)
          ∧ r.2.mem ((c.tc : Thread Cert.OptRowRefIdeal.nD Cert.OptRowRefIdeal.τ).loc Cert.OptRowRefIdeal.main_arg3) = m' ((c.tc : Thread Cert.OptRowRefIdeal.nD Cert.OptRowRefIdeal.τ).loc Cert.OptRowRefIdeal.main_arg3))

def preserves_OptLatent_OptLatentIdeal : Prop :=
  True

def algebraic_OptLatentIdeal_OptLatentRefIdeal [hOptLatentIdeal : Cert.OptLatentIdeal.Facts] [hOptLatentRefIdeal : Cert.OptLatentRefIdeal.Facts] : Prop :=
  ∀ (m : (ℓ : Loc Cert.OptLatentIdeal.nD Cert.OptLatentIdeal.τ Cert.OptLatentIdeal.sig) → Buf (Elt Ideal) ℓ) (g : Dev Cert.OptLatentIdeal.nD → PrngReg)
    (m' : (ℓ : Loc Cert.OptLatentRefIdeal.nD Cert.OptLatentRefIdeal.τ Cert.OptLatentRefIdeal.sig) → Buf (Elt Ideal) ℓ) (g' : Dev Cert.OptLatentRefIdeal.nD → PrngReg), Pre_OptLatentIdeal m →
    (∀ c : Dev Cert.OptLatentIdeal.nD,
      m' ((c.tc : Thread Cert.OptLatentRefIdeal.nD Cert.OptLatentRefIdeal.τ).loc Cert.OptLatentRefIdeal.main_arg0) = m ((c.tc : Thread Cert.OptLatentIdeal.nD Cert.OptLatentIdeal.τ).loc Cert.OptLatentIdeal.main_arg0)
      ∧ m' ((c.tc : Thread Cert.OptLatentRefIdeal.nD Cert.OptLatentRefIdeal.τ).loc Cert.OptLatentRefIdeal.main_arg1) = m ((c.tc : Thread Cert.OptLatentIdeal.nD Cert.OptLatentIdeal.τ).loc Cert.OptLatentIdeal.main_arg1)
      ∧ m' ((c.tc : Thread Cert.OptLatentRefIdeal.nD Cert.OptLatentRefIdeal.τ).loc Cert.OptLatentRefIdeal.main_arg2) = m ((c.tc : Thread Cert.OptLatentIdeal.nD Cert.OptLatentIdeal.τ).loc Cert.OptLatentIdeal.main_arg2)
      ∧ m' ((c.tc : Thread Cert.OptLatentRefIdeal.nD Cert.OptLatentRefIdeal.τ).loc Cert.OptLatentRefIdeal.main_arg3) = m ((c.tc : Thread Cert.OptLatentIdeal.nD Cert.OptLatentIdeal.τ).loc Cert.OptLatentIdeal.main_arg3)) →
    ∃ (v0 : (c : Dev Cert.OptLatentIdeal.nD) → Buf (Elt Ideal) ((c.tc : Thread Cert.OptLatentIdeal.nD Cert.OptLatentIdeal.τ).loc Cert.OptLatentIdeal.main_v0_0)) (v1 : (c : Dev Cert.OptLatentIdeal.nD) → Buf (Elt Ideal) ((c.tc : Thread Cert.OptLatentIdeal.nD Cert.OptLatentIdeal.τ).loc Cert.OptLatentIdeal.main_v0_1)) (v2 : (c : Dev Cert.OptLatentIdeal.nD) → Buf (Elt Ideal) ((c.tc : Thread Cert.OptLatentIdeal.nD Cert.OptLatentIdeal.τ).loc Cert.OptLatentIdeal.main_v0_2)) (v3 : (c : Dev Cert.OptLatentIdeal.nD) → Buf (Elt Ideal) ((c.tc : Thread Cert.OptLatentIdeal.nD Cert.OptLatentIdeal.τ).loc Cert.OptLatentIdeal.main_v0_3)),
      θ_run (Cert.OptLatentIdeal.defs (F := Ideal)) (onTc (τ := Cert.OptLatentIdeal.τ) (Cert.OptLatentIdeal.main (F := Ideal))) ⟨m, fun _ => 0, g⟩ (fun r => ∀ c : Dev Cert.OptLatentIdeal.nD,
          r.2.mem ((c.tc : Thread Cert.OptLatentIdeal.nD Cert.OptLatentIdeal.τ).loc Cert.OptLatentIdeal.main_v0_0) = v0 c
          ∧ r.2.mem ((c.tc : Thread Cert.OptLatentIdeal.nD Cert.OptLatentIdeal.τ).loc Cert.OptLatentIdeal.main_v0_1) = v1 c
          ∧ r.2.mem ((c.tc : Thread Cert.OptLatentIdeal.nD Cert.OptLatentIdeal.τ).loc Cert.OptLatentIdeal.main_v0_2) = v2 c
          ∧ r.2.mem ((c.tc : Thread Cert.OptLatentIdeal.nD Cert.OptLatentIdeal.τ).loc Cert.OptLatentIdeal.main_v0_3) = v3 c
          ∧ r.2.mem ((c.tc : Thread Cert.OptLatentIdeal.nD Cert.OptLatentIdeal.τ).loc Cert.OptLatentIdeal.main_arg0) = m ((c.tc : Thread Cert.OptLatentIdeal.nD Cert.OptLatentIdeal.τ).loc Cert.OptLatentIdeal.main_arg0)
          ∧ r.2.mem ((c.tc : Thread Cert.OptLatentIdeal.nD Cert.OptLatentIdeal.τ).loc Cert.OptLatentIdeal.main_arg1) = m ((c.tc : Thread Cert.OptLatentIdeal.nD Cert.OptLatentIdeal.τ).loc Cert.OptLatentIdeal.main_arg1)
          ∧ r.2.mem ((c.tc : Thread Cert.OptLatentIdeal.nD Cert.OptLatentIdeal.τ).loc Cert.OptLatentIdeal.main_arg2) = m ((c.tc : Thread Cert.OptLatentIdeal.nD Cert.OptLatentIdeal.τ).loc Cert.OptLatentIdeal.main_arg2)
          ∧ r.2.mem ((c.tc : Thread Cert.OptLatentIdeal.nD Cert.OptLatentIdeal.τ).loc Cert.OptLatentIdeal.main_arg3) = m ((c.tc : Thread Cert.OptLatentIdeal.nD Cert.OptLatentIdeal.τ).loc Cert.OptLatentIdeal.main_arg3))
      ∧ θ_run (Cert.OptLatentRefIdeal.defs (F := Ideal)) (onTc (τ := Cert.OptLatentRefIdeal.τ) (Cert.OptLatentRefIdeal.main (F := Ideal))) ⟨m', fun _ => 0, g'⟩ (fun r => ∀ c : Dev Cert.OptLatentRefIdeal.nD,
          r.2.mem ((c.tc : Thread Cert.OptLatentRefIdeal.nD Cert.OptLatentRefIdeal.τ).loc Cert.OptLatentRefIdeal.main_v0) = v0 c
          ∧ r.2.mem ((c.tc : Thread Cert.OptLatentRefIdeal.nD Cert.OptLatentRefIdeal.τ).loc Cert.OptLatentRefIdeal.main_v24) = v1 c
          ∧ r.2.mem ((c.tc : Thread Cert.OptLatentRefIdeal.nD Cert.OptLatentRefIdeal.τ).loc Cert.OptLatentRefIdeal.main_v5) = v2 c
          ∧ r.2.mem ((c.tc : Thread Cert.OptLatentRefIdeal.nD Cert.OptLatentRefIdeal.τ).loc Cert.OptLatentRefIdeal.main_v11) = v3 c
          ∧ r.2.mem ((c.tc : Thread Cert.OptLatentRefIdeal.nD Cert.OptLatentRefIdeal.τ).loc Cert.OptLatentRefIdeal.main_arg0) = m' ((c.tc : Thread Cert.OptLatentRefIdeal.nD Cert.OptLatentRefIdeal.τ).loc Cert.OptLatentRefIdeal.main_arg0)
          ∧ r.2.mem ((c.tc : Thread Cert.OptLatentRefIdeal.nD Cert.OptLatentRefIdeal.τ).loc Cert.OptLatentRefIdeal.main_arg1) = m' ((c.tc : Thread Cert.OptLatentRefIdeal.nD Cert.OptLatentRefIdeal.τ).loc Cert.OptLatentRefIdeal.main_arg1)
          ∧ r.2.mem ((c.tc : Thread Cert.OptLatentRefIdeal.nD Cert.OptLatentRefIdeal.τ).loc Cert.OptLatentRefIdeal.main_arg2) = m' ((c.tc : Thread Cert.OptLatentRefIdeal.nD Cert.OptLatentRefIdeal.τ).loc Cert.OptLatentRefIdeal.main_arg2)
          ∧ r.2.mem ((c.tc : Thread Cert.OptLatentRefIdeal.nD Cert.OptLatentRefIdeal.τ).loc Cert.OptLatentRefIdeal.main_arg3) = m' ((c.tc : Thread Cert.OptLatentRefIdeal.nD Cert.OptLatentRefIdeal.τ).loc Cert.OptLatentRefIdeal.main_arg3))

def Claim : Prop :=
  ∃ (hKernel : Cert.Kernel.Facts) (hKernelIdeal : Cert.KernelIdeal.Facts) (hReferenceIdeal : Cert.ReferenceIdeal.Facts) (hFfnDw : Cert.FfnDw.Facts) (hFfnDwIdeal : Cert.FfnDwIdeal.Facts) (hFfnDwRefIdeal : Cert.FfnDwRefIdeal.Facts) (hFfnDh : Cert.FfnDh.Facts) (hFfnDhIdeal : Cert.FfnDhIdeal.Facts) (hFfnDhRefIdeal : Cert.FfnDhRefIdeal.Facts) (hFfnDd : Cert.FfnDd.Facts) (hFfnDdIdeal : Cert.FfnDdIdeal.Facts) (hFfnDdRefIdeal : Cert.FfnDdRefIdeal.Facts) (hFfnDa : Cert.FfnDa.Facts) (hFfnDaIdeal : Cert.FfnDaIdeal.Facts) (hFfnDaRefIdeal : Cert.FfnDaRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hLruIn : Cert.LruIn.Facts) (hLruInIdeal : Cert.LruInIdeal.Facts) (hLruInRefIdeal : Cert.LruInRefIdeal.Facts) (hLruDw : Cert.LruDw.Facts) (hLruDwIdeal : Cert.LruDwIdeal.Facts) (hLruDwRefIdeal : Cert.LruDwRefIdeal.Facts) (hOpt : Cert.Opt.Facts) (hOptIdeal : Cert.OptIdeal.Facts) (hOptRefIdeal : Cert.OptRefIdeal.Facts) (hOptRow : Cert.OptRow.Facts) (hOptRowIdeal : Cert.OptRowIdeal.Facts) (hOptRowRefIdeal : Cert.OptRowRefIdeal.Facts) (hOptLatent : Cert.OptLatent.Facts) (hOptLatentIdeal : Cert.OptLatentIdeal.Facts) (hOptLatentRefIdeal : Cert.OptLatentRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_FfnDd (hFfnDd := hFfnDd)
    ∧ quiescent_FfnDdIdeal (hFfnDdIdeal := hFfnDdIdeal)
    ∧ quiescent_FfnDdRefIdeal (hFfnDdRefIdeal := hFfnDdRefIdeal)
    ∧ quiescent_FfnDa (hFfnDa := hFfnDa)
    ∧ quiescent_FfnDaIdeal (hFfnDaIdeal := hFfnDaIdeal)
    ∧ quiescent_FfnDaIdeal_pre_finite_ffn (hFfnDaIdeal := hFfnDaIdeal) (hPre_finite_ffn := hPre_finite_ffn)
    ∧ quiescent_FfnDaRefIdeal (hFfnDaRefIdeal := hFfnDaRefIdeal)
    ∧ quiescent_FfnDaRefIdeal_pre_finite_ffn (hFfnDaRefIdeal := hFfnDaRefIdeal) (hPre_finite_ffn := hPre_finite_ffn)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_LruDw (hLruDw := hLruDw)
    ∧ quiescent_LruDwIdeal (hLruDwIdeal := hLruDwIdeal)
    ∧ quiescent_LruDwRefIdeal (hLruDwRefIdeal := hLruDwRefIdeal)
    ∧ quiescent_Opt (hOpt := hOpt)
    ∧ quiescent_OptIdeal (hOptIdeal := hOptIdeal)
    ∧ quiescent_OptRefIdeal (hOptRefIdeal := hOptRefIdeal)
    ∧ quiescent_OptRow (hOptRow := hOptRow)
    ∧ quiescent_OptRowIdeal (hOptRowIdeal := hOptRowIdeal)
    ∧ quiescent_OptRowRefIdeal (hOptRowRefIdeal := hOptRowRefIdeal)
    ∧ quiescent_OptLatent (hOptLatent := hOptLatent)
    ∧ quiescent_OptLatentIdeal (hOptLatentIdeal := hOptLatentIdeal)
    ∧ quiescent_OptLatentRefIdeal (hOptLatentRefIdeal := hOptLatentRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnDw_FfnDwIdeal
    ∧ algebraic_FfnDwIdeal_FfnDwRefIdeal (hFfnDwIdeal := hFfnDwIdeal) (hFfnDwRefIdeal := hFfnDwRefIdeal)
    ∧ preserves_FfnDh_FfnDhIdeal
    ∧ algebraic_FfnDhIdeal_FfnDhRefIdeal (hFfnDhIdeal := hFfnDhIdeal) (hFfnDhRefIdeal := hFfnDhRefIdeal)
    ∧ preserves_FfnDd_FfnDdIdeal
    ∧ algebraic_FfnDdIdeal_FfnDdRefIdeal (hFfnDdIdeal := hFfnDdIdeal) (hFfnDdRefIdeal := hFfnDdRefIdeal)
    ∧ preserves_FfnDa_FfnDaIdeal
    ∧ algebraic_FfnDaIdeal_FfnDaRefIdeal_pre_finite_ffn (hFfnDaIdeal := hFfnDaIdeal) (hFfnDaRefIdeal := hFfnDaRefIdeal) (hPre_finite_ffn := hPre_finite_ffn)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_LruIn_LruInIdeal
    ∧ algebraic_LruInIdeal_LruInRefIdeal (hLruInIdeal := hLruInIdeal) (hLruInRefIdeal := hLruInRefIdeal)
    ∧ preserves_LruDw_LruDwIdeal
    ∧ algebraic_LruDwIdeal_LruDwRefIdeal (hLruDwIdeal := hLruDwIdeal) (hLruDwRefIdeal := hLruDwRefIdeal)
    ∧ preserves_Opt_OptIdeal
    ∧ algebraic_OptIdeal_OptRefIdeal (hOptIdeal := hOptIdeal) (hOptRefIdeal := hOptRefIdeal)
    ∧ preserves_OptRow_OptRowIdeal
    ∧ algebraic_OptRowIdeal_OptRowRefIdeal (hOptRowIdeal := hOptRowIdeal) (hOptRowRefIdeal := hOptRowRefIdeal)
    ∧ preserves_OptLatent_OptLatentIdeal
    ∧ algebraic_OptLatentIdeal_OptLatentRefIdeal (hOptLatentIdeal := hOptLatentIdeal) (hOptLatentRefIdeal := hOptLatentRefIdeal)
-- ==== Pre_finite.lean ====
abbrev S4112x16x192 : Shape := ⟨3, ![4112, 16, 192]⟩
abbrev S4112x16x256 : Shape := ⟨3, ![4112, 16, 256]⟩
abbrev S4112x64 : Shape := ⟨2, ![4112, 64]⟩
abbrev S4112x16x128 : Shape := ⟨3, ![4112, 16, 128]⟩
abbrev S_ : Shape := ⟨0, ![]⟩

class Facts : Prop where
  bcast_S_S4112x16x192 : S_.BroadcastsInDim S4112x16x192 (![] : Fin 0 → Fin S4112x16x192.rank)
  bcast_S_S4112x16x256 : S_.BroadcastsInDim S4112x16x256 (![] : Fin 0 → Fin S4112x16x256.rank)
  bcast_S_S4112x64 : S_.BroadcastsInDim S4112x64 (![] : Fin 0 → Fin S4112x64.rank)
  bcast_S_S4112x16x128 : S_.BroadcastsInDim S4112x16x128 (![] : Fin 0 → Fin S4112x16x128.rank)

variable [Facts]

def fn {F : FTy → Type} [FloatOps F] (main_arg0 : FVec F S4112x16x192 .f32) (main_arg1 : FVec F S4112x16x256 .f32) (main_arg2 : FVec F S4112x64 .f32) (main_arg3 : FVec F S4112x16x128 .f32) : IVec S4112x16x192 1 × IVec S4112x16x256 1 × IVec S4112x64 1 × IVec S4112x16x128 1 :=
  let main_v0 : FVec F S4112x16x192 .f32 := Host.absf main_arg0
  let main_cst : FVec F S_ .f32 := constant S_ .f32 0x7F800000#32
  let main_v1 : FVec F S4112x16x192 .f32 := broadcastInDim S4112x16x192 ![] bcast_S_S4112x16x192 main_cst
  let main_v2 : IVec S4112x16x192 1 := cmpf .olt main_v0 main_v1
  let main_v3 : FVec F S4112x16x256 .f32 := Host.absf main_arg1
  let main_cst_0 : FVec F S_ .f32 := constant S_ .f32 0x7F800000#32
  let main_v4 : FVec F S4112x16x256 .f32 := broadcastInDim S4112x16x256 ![] bcast_S_S4112x16x256 main_cst_0
  let main_v5 : IVec S4112x16x256 1 := cmpf .olt main_v3 main_v4
  let main_v6 : FVec F S4112x64 .f32 := Host.absf main_arg2
  let main_cst_1 : FVec F S_ .f32 := constant S_ .f32 0x7F800000#32
  let main_v7 : FVec F S4112x64 .f32 := broadcastInDim S4112x64 ![] bcast_S_S4112x64 main_cst_1
  let main_v8 : IVec S4112x64 1 := cmpf .olt main_v6 main_v7
  let main_v9 : FVec F S4112x16x128 .f32 := Host.absf main_arg3
  let main_cst_2 : FVec F S_ .f32 := constant S_ .f32 0x7F800000#32
  let main_v10 : FVec F S4112x16x128 .f32 := broadcastInDim S4112x16x128 ![] bcast_S_S4112x16x128 main_cst_2
  let main_v11 : IVec S4112x16x128 1 := cmpf .olt main_v9 main_v10
  (main_v2, main_v5, main_v8, main_v11)
-- ==== Pre_finite_ffn.lean ====
abbrev S4224x2048 : Shape := ⟨2, ![4224, 2048]⟩
abbrev S5632x2048 : Shape := ⟨2, ![5632, 2048]⟩
abbrev S2x4224x5632 : Shape := ⟨3, ![2, 4224, 5632]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  bcast_S_S5632x2048 : S_.BroadcastsInDim S5632x2048 (![] : Fin 0 → Fin S5632x2048.rank)
  bcast_S_S2x4224x5632 : S_.BroadcastsInDim S2x4224x5632 (![] : Fin 0 → Fin S2x4224x5632.rank)

variable [Facts]

def fn {F : FTy → Type} [FloatOps F] (main_arg0 : FVec F S4224x2048 .bf16) (main_arg1 : FVec F S5632x2048 .bf16) (main_arg2 : FVec F S2x4224x5632 .bf16) : IVec S4224x2048 1 × IVec S5632x2048 1 × IVec S2x4224x5632 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S2x4224x5632 .f32 := (extf .f32 · bitsLt_bf16_f32) main_arg2
  let main_v9 : FVec F S2x4224x5632 .f32 := Host.absf main_v8
  let main_cst_1 : FVec F S_ .f32 := constant S_ .f32 0x7F800000#32
  let main_v10 : FVec F S2x4224x5632 .f32 := broadcastInDim S2x4224x5632 ![] bcast_S_S2x4224x5632 main_cst_1
  let main_v11 : IVec S2x4224x5632 1 := cmpf .olt main_v9 main_v10
  (main_v3, main_v7, main_v11)
-- ==== Kernel.lean ====
abbrev S4112x16x192 : Shape := ⟨3, ![4112, 16, 192]⟩
abbrev S4112x16x256 : Shape := ⟨3, ![4112, 16, 256]⟩
abbrev S4112x64 : Shape := ⟨2, ![4112, 64]⟩
abbrev S4112x16x128 : Shape := ⟨3, ![4112, 16, 128]⟩
abbrev S4112 : Shape := ⟨1, ![4112]⟩
abbrev S32 : Shape := ⟨1, ![32]⟩
abbrev S_ : Shape := ⟨0, ![]⟩
abbrev S4112x1 : Shape := ⟨2, ![4112, 1]⟩
abbrev S1x32 : Shape := ⟨2, ![1, 32]⟩
abbrev S4112x32 : Shape := ⟨2, ![4112, 32]⟩
abbrev S4112x16x64 : Shape := ⟨3, ![4112, 16, 64]⟩
abbrev S4112x1x32 : Shape := ⟨3, ![4112, 1, 32]⟩
abbrev S4112x16x32 : Shape := ⟨3, ![4112, 16, 32]⟩
abbrev S16x4112x4112 : Shape := ⟨3, ![16, 4112, 4112]⟩
abbrev S4112x4112x16 : Shape := ⟨3, ![4112, 4112, 16]⟩
abbrev S1x4112 : Shape := ⟨2, ![1, 4112]⟩
abbrev S4112x4112 : Shape := ⟨2, ![4112, 4112]⟩
abbrev S1x4112x4112 : Shape := ⟨3, ![1, 4112, 4112]⟩
abbrev S16x4112 : Shape := ⟨2, ![16, 4112]⟩
abbrev S16x4112x1 : Shape := ⟨3, ![16, 4112, 1]⟩
abbrev S16x128x4112 : Shape := ⟨3, ![16, 128, 4112]⟩
abbrev S4224x16x256 : Shape := ⟨3, ![4224, 16, 256]⟩
abbrev S4224x4096 : Shape := ⟨2, ![4224, 4096]⟩
abbrev S4224x128 : Shape := ⟨2, ![4224, 128]⟩
abbrev S4224x16x128 : Shape := ⟨3, ![4224, 16, 128]⟩
abbrev S4224x2048 : Shape := ⟨2, ![4224, 2048]⟩
abbrev S16x4112x128 : Shape := ⟨3, ![16, 4112, 128]⟩
abbrev S16x4224x128 : Shape := ⟨3, ![16, 4224, 128]⟩
abbrev S1x4112x1x32 : Shape := ⟨4, ![1, 4112, 1, 32]⟩
abbrev S1x4112x4x32 : Shape := ⟨4, ![1, 4112, 4, 32]⟩
abbrev S4112x128 : Shape := ⟨2, ![4112, 128]⟩
abbrev S4224x256 : Shape := ⟨2, ![4224, 256]⟩
abbrev S1x4224x128 : Shape := ⟨3, ![1, 4224, 128]⟩
abbrev S512x256 : Shape := ⟨2, ![512, 256]⟩
abbrev S112x256 : Shape := ⟨2, ![112, 256]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x128x1 : Shape := ⟨3, ![1, 128, 1]⟩
abbrev S16x256 : Shape := ⟨2, ![16, 256]⟩
abbrev S16x128 : Shape := ⟨2, ![16, 128]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩
abbrev S512x512 : Shape := ⟨2, ![512, 512]⟩
abbrev S640x256 : Shape := ⟨2, ![640, 256]⟩
abbrev S640x128 : Shape := ⟨2, ![640, 128]⟩
abbrev S512x640 : Shape := ⟨2, ![512, 640]⟩
abbrev S1024x256 : Shape := ⟨2, ![1024, 256]⟩
abbrev S1024x128 : Shape := ⟨2, ![1024, 128]⟩
abbrev S512x1024 : Shape := ⟨2, ![512, 1024]⟩

abbrev nBuf : Space → Nat
  | .hbm => 154
  | .vmem => 23
  | .smem => 0
  | _ => 0

abbrev hbmTy0_0 (i : Nat) : BufTy := match i % 128 with
  | 0 => ⟨S4112x16x192, .f32⟩
  | 1 => ⟨S4112x16x256, .f32⟩
  | 2 => ⟨S4112x64, .f32⟩
  | 3 => ⟨S4112x16x128, .f32⟩
  | 4 => ⟨S4112, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4112x1, .f32⟩
  | 20 => ⟨S1x32, .f32⟩
  | 21 => ⟨S4112x32, .f32⟩
  | 22 => ⟨S4112x32, .f32⟩
  | 23 => ⟨S4112x32, .f32⟩
  | 24 => ⟨S4112x32, .f32⟩
  | 25 => ⟨S4112x32, .f32⟩
  | 26 => ⟨S4112x16x128, .f32⟩
  | 27 => ⟨S4112x16x64, .f32⟩
  | 28 => ⟨S4112x16x128, .f32⟩
  | 29 => ⟨S4112x16x128, .f32⟩
  | 30 => ⟨S4112x1x32, .f32⟩
  | 31 => ⟨S4112x1x32, .f32⟩
  | 32 => ⟨S4112x16x32, .f32⟩
  | 33 => ⟨S4112x16x32, .f32⟩
  | 34 => ⟨S4112x16x32, .f32⟩
  | 35 => ⟨S4112x16x32, .f32⟩
  | 36 => ⟨S4112x16x32, .f32⟩
  | 37 => ⟨S4112x16x32, .f32⟩
  | 38 => ⟨S4112x16x32, .f32⟩
  | 39 => ⟨S4112x16x32, .f32⟩
  | 40 => ⟨S4112x16x32, .f32⟩
  | 41 => ⟨S4112x16x32, .f32⟩
  | 42 => ⟨S4112x16x32, .f32⟩
  | 43 => ⟨S4112x16x32, .f32⟩
  | 44 => ⟨S4112x16x64, .f32⟩
  | 45 => ⟨S16x4112x4112, .f32⟩
  | 46 => ⟨S4112x4112x16, .f32⟩
  | 47 => ⟨S16x4112x4112, .f32⟩
  | 48 => ⟨S16x4112x4112, .f32⟩
  | 49 => ⟨S_, .f32⟩
  | 50 => ⟨S16x4112x4112, .f32⟩
  | 51 => ⟨S16x4112x4112, .f32⟩
  | 52 => ⟨S4112, .i32⟩
  | 53 => ⟨S_, .i32⟩
  | 54 => ⟨S4112, .i32⟩
  | 55 => ⟨S4112, .i1⟩
  | 56 => ⟨S_, .i32⟩
  | 57 => ⟨S4112, .i32⟩
  | 58 => ⟨S4112, .i32⟩
  | 59 => ⟨S_, .i32⟩
  | 60 => ⟨S_, .i32⟩
  | 61 => ⟨S4112, .i32⟩
  | 62 => ⟨S4112, .i32⟩
  | 63 => ⟨S4112, .i32⟩
  | 64 => ⟨S_, .i32⟩
  | 65 => ⟨S4112, .i32⟩
  | 66 => ⟨S4112, .i1⟩
  | 67 => ⟨S4112, .i32⟩
  | 68 => ⟨S4112, .i32⟩
  | 69 => ⟨S_, .i32⟩
  | 70 => ⟨S4112, .i32⟩
  | 71 => ⟨S4112, .i1⟩
  | 72 => ⟨S4112, .i1⟩
  | 73 => ⟨S_, .i32⟩
  | 74 => ⟨S4112, .i32⟩
  | 75 => ⟨S4112, .i32⟩
  | 76 => ⟨S4112, .i32⟩
  | 77 => ⟨S_, .i32⟩
  | 78 => ⟨S4112, .i32⟩
  | 79 => ⟨S4112, .i32⟩
  | 80 => ⟨S_, .i32⟩
  | 81 => ⟨S_, .i32⟩
  | 82 => ⟨S4112, .i32⟩
  | 83 => ⟨S4112, .i32⟩
  | 84 => ⟨S1x4112, .i32⟩
  | 85 => ⟨S4112x1, .i32⟩
  | 86 => ⟨S4112x4112, .i32⟩
  | 87 => ⟨S4112x4112, .i32⟩
  | 88 => ⟨S4112x4112, .i1⟩
  | 89 => ⟨S1x4112x4112, .i1⟩
  | 90 => ⟨S_, .f32⟩
  | 91 => ⟨S_, .f32⟩
  | 92 => ⟨S16x4112x4112, .i1⟩
  | 93 => ⟨S16x4112x4112, .f32⟩
  | 94 => ⟨S16x4112x4112, .f32⟩
  | 95 => ⟨S_, .f32⟩
  | 96 => ⟨S16x4112, .f32⟩
  | 97 => ⟨S16x4112x1, .f32⟩
  | 98 => ⟨S16x4112x4112, .f32⟩
  | 99 => ⟨S16x4112x4112, .f32⟩
  | 100 => ⟨S16x4112x4112, .f32⟩
  | 101 => ⟨S_, .f32⟩
  | 102 => ⟨S16x4112, .f32⟩
  | 103 => ⟨S16x4112x1, .f32⟩
  | 104 => ⟨S16x4112x4112, .f32⟩
  | 105 => ⟨S16x4112x4112, .f32⟩
  | 106 => ⟨S16x128x4112, .f32⟩
  | 107 => ⟨S4112x16x128, .f32⟩
  | 108 => ⟨S16x4112x1, .f32⟩
  | 109 => ⟨S16x4112x1, .f32⟩
  | 110 => ⟨S4112x16x192, .f32⟩
  | 111 => ⟨S_, .i32⟩
  | 112 => ⟨S_, .f32⟩
  | 113 => ⟨S4224x16x256, .f32⟩
  | 114 => ⟨S4224x4096, .f32⟩
  | 115 => ⟨S4224x4096, .bf16⟩
  | 116 => ⟨S_, .i32⟩
  | 117 => ⟨S_, .f32⟩
  | 118 => ⟨S4224x16x256, .f32⟩
  | 119 => ⟨S4224x4096, .f32⟩
  | 120 => ⟨S4224x4096, .bf16⟩
  | 121 => ⟨S_, .i32⟩
  | 122 => ⟨S_, .f32⟩
  | 123 => ⟨S4224x128, .f32⟩
  | 124 => ⟨S4224x128, .bf16⟩
  | 125 => ⟨S_, .i32⟩
  | 126 => ⟨S_, .f32⟩
  | 127 => ⟨S4224x16x128, .f32⟩
  | _ => ⟨S4112x16x192, .f32⟩

abbrev hbmTy0_1 (i : Nat) : BufTy := match i % 128 with
  | 0 => ⟨S4224x2048, .f32⟩
  | 1 => ⟨S4224x2048, .bf16⟩
  | 2 => ⟨S_, .i32⟩
  | 3 => ⟨S_, .f32⟩
  | 4 => ⟨S4224x16x128, .f32⟩
  | 5 => ⟨S4224x2048, .f32⟩
  | 6 => ⟨S4224x2048, .bf16⟩
  | 7 => ⟨S16x4112x128, .f32⟩
  | 8 => ⟨S_, .i32⟩
  | 9 => ⟨S_, .f32⟩
  | 10 => ⟨S16x4224x128, .f32⟩
  | 11 => ⟨S1x4112x1x32, .f32⟩
  | 12 => ⟨S1x4112x4x32, .f32⟩
  | 13 => ⟨S4112x128, .f32⟩
  | 14 => ⟨S_, .i32⟩
  | 15 => ⟨S_, .f32⟩
  | 16 => ⟨S4224x128, .f32⟩
  | 17 => ⟨S1x4112x1x32, .f32⟩
  | 18 => ⟨S1x4112x4x32, .f32⟩
  | 19 => ⟨S4112x128, .f32⟩
  | 20 => ⟨S_, .i32⟩
  | 21 => ⟨S_, .f32⟩
  | 22 => ⟨S4224x128, .f32⟩
  | 23 => ⟨S4224x4096, .bf16⟩
  | 24 => ⟨S4224x4096, .bf16⟩
  | 25 => ⟨S16x4224x128, .f32⟩
  | _ => ⟨S4112x16x192, .f32⟩

abbrev hbmTy (i : Nat) : BufTy := match i / 128 with
  | 0 => hbmTy0_0 i
  | 1 => hbmTy0_1 i
  | _ => ⟨S4112x16x192, .f32⟩

abbrev bufTy : (tb : Table) → Fin (tcTables nBuf tb) → BufTy
  | .hbm, ⟨i, _⟩ => hbmTy i
  | .local _ .vmem, ⟨0, _⟩ => ⟨S4224x256, .bf16⟩
  | .local _ .vmem, ⟨1, _⟩ => ⟨S4224x256, .bf16⟩
  | .local _ .vmem, ⟨2, _⟩ => ⟨S4224x256, .bf16⟩
  | .local _ .vmem, ⟨3, _⟩ => ⟨S4224x256, .bf16⟩
  | .local _ .vmem, ⟨4, _⟩ => ⟨S4224x128, .bf16⟩
  | .local _ .vmem, ⟨5, _⟩ => ⟨S4224x128, .bf16⟩
  | .local _ .vmem, ⟨6, _⟩ => ⟨S4224x128, .bf16⟩
  | .local _ .vmem, ⟨7, _⟩ => ⟨S1x4224x128, .f32⟩
  | .local _ .vmem, ⟨8, _⟩ => ⟨S1x4224x128, .f32⟩
  | .local _ .vmem, ⟨9, _⟩ => ⟨S4224x128, .bf16⟩
  | .local _ .vmem, ⟨10, _⟩ => ⟨S4224x128, .bf16⟩
  | .local _ .vmem, ⟨11, _⟩ => ⟨S4224x128, .f32⟩
  | .local _ .vmem, ⟨12, _⟩ => ⟨S4224x128, .f32⟩
  | .local _ .vmem, ⟨13, _⟩ => ⟨S4224x256, .bf16⟩
  | .local _ .vmem, ⟨14, _⟩ => ⟨S4224x256, .bf16⟩
  | .local _ .vmem, ⟨15, _⟩ => ⟨S4224x256, .bf16⟩
  | .local _ .vmem, ⟨16, _⟩ => ⟨S4224x256, .bf16⟩
  | .local _ .vmem, ⟨17, _⟩ => ⟨S1x4224x128, .f32⟩
  | .local _ .vmem, ⟨18, _⟩ => ⟨S1x4224x128, .f32⟩
  | .local _ .vmem, ⟨19, _⟩ => ⟨S4224x256, .bf16⟩
  | .local _ .vmem, ⟨20, _⟩ => ⟨S4224x256, .f32⟩
  | .local _ .vmem, ⟨21, _⟩ => ⟨S4224x128, .f32⟩
  | .local _ .vmem, ⟨22, _⟩ => ⟨S512x256, .f32⟩
  | _, _ => ⟨S4112x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_c : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_0 : Ref sig .tc := ⟨.hbm, 73, rfl⟩
abbrev main_call0_v12 : Ref sig .tc := ⟨.hbm, 74, rfl⟩
abbrev main_call0_v13 : Ref sig .tc := ⟨.hbm, 75, rfl⟩
abbrev main_v48 : Ref sig .tc := ⟨.hbm, 76, rfl⟩
abbrev main_c_6 : Ref sig .tc := ⟨.hbm, 77, rfl⟩
abbrev main_v49 : Ref sig .tc := ⟨.hbm, 78, rfl⟩
abbrev main_v50 : Ref sig .tc := ⟨.hbm, 79, rfl⟩
abbrev main_c_7 : Ref sig .tc := ⟨.hbm, 80, rfl⟩
abbrev main_call1_v0 : Ref sig .tc := ⟨.hbm, 81, rfl⟩
abbrev main_call1_v1 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v58 : Ref sig .tc := ⟨.hbm, 94, rfl⟩
abbrev main_cst_9 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_11 : Ref sig .tc := ⟨.hbm, 111, rfl⟩
abbrev main_call3_v0 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_12 : Ref sig .tc := ⟨.hbm, 116, rfl⟩
abbrev main_call4_v0 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_13 : Ref sig .tc := ⟨.hbm, 121, rfl⟩
abbrev main_call5_v0 : Ref sig .tc := ⟨.hbm, 122, rfl⟩
abbrev main_v79 : Ref sig .tc := ⟨.hbm, 123, rfl⟩
abbrev main_v80 : Ref sig .tc := ⟨.hbm, 124, rfl⟩
abbrev main_c_14 : Ref sig .tc := ⟨.hbm, 125, rfl⟩
abbrev main_call6_v0 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_15 : Ref sig .tc := ⟨.hbm, 130, rfl⟩
abbrev main_call7_v0 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_16 : Ref sig .tc := ⟨.hbm, 136, rfl⟩
abbrev main_call8_v0 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_17 : Ref sig .tc := ⟨.hbm, 142, rfl⟩
abbrev main_call9_v0 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_18 : Ref sig .tc := ⟨.hbm, 148, rfl⟩
abbrev main_call10_v0 : Ref sig .tc := ⟨.hbm, 149, rfl⟩
abbrev main_v96 : Ref sig .tc := ⟨.hbm, 150, rfl⟩
abbrev main_v97_0 : Ref sig .tc := ⟨.hbm, 151, rfl⟩
abbrev main_v97_1 : Ref sig .tc := ⟨.hbm, 152, rfl⟩
abbrev main_v97_2 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_55 : BitVec 32 := 0#32
  let c8_i32 : BitVec 32 := 8#32
  let v109 : BitVec 32 := Scalar.addi c0_i32_55 c8_i32
  let c1_i32_56 : BitVec 32 := 1#32
  ⟨c0_i32_55, v109, c1_i32_56⟩
def k0_mult1 (k0_t1 : Fin k0_t1_loop.trips) : BitVec 32 :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  v121
def k0_off1 (k0_t1 : Fin k0_t1_loop.trips) : Fin 2 → Nat :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v123 : Index := Scalar.indexCast v122
  let c0_68 : Index := 0#32
  ![v123.toNat, 0]
def k0_off2 (k0_t1 : Fin k0_t1_loop.trips) : Fin 2 → Nat :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v126 : Index := Scalar.indexCast v122
  let c0_69 : Index := 0#32
  ![v126.toNat, 0]
def k0_off3 (k0_t1 : Fin k0_t1_loop.trips) : Fin 3 → Nat :=
  let c0_70 : Index := 0#32
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v129 : Index := Scalar.indexCast v122
  let c0_71 : Index := 0#32
  ![0, v129.toNat, 0]
def k0_off4 (k0_t1 : Fin k0_t1_loop.trips) : Fin 2 → Nat :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v158 : Index := Scalar.indexCast v122
  let c128_82 : Index := 128#32
  ![v158.toNat, 128]
@[reducible] def k0_t2_loop (k0_t1 : Fin k0_t1_loop.trips) : Scf.Loop 32 :=
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_114 : BitVec 32 := 1#32
  ⟨c0_i32_112, v234, c1_i32_114⟩
def k0_mult2 (k0_t1 : Fin k0_t1_loop.trips) (k0_t2 : Fin (k0_t2_loop k0_t1).trips) : BitVec 32 :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  v290
def k0_off5 (k0_t1 : Fin k0_t1_loop.trips) (k0_t2 : Fin (k0_t2_loop k0_t1).trips) : Fin 2 → Nat :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v293 : Index := Scalar.indexCast v291
  let c0_144 : Index := 0#32
  ![v293.toNat, 0]
def k0_off6 (k0_t1 : Fin k0_t1_loop.trips) (k0_t2 : Fin (k0_t2_loop k0_t1).trips) : Fin 2 → Nat :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v295 : Index := Scalar.indexCast v291
  let c128_145 : Index := 128#32
  ![v295.toNat, 128]
def k0_off7 (k0_t1 : Fin k0_t1_loop.trips) (k0_t2 : Fin (k0_t2_loop k0_t1).trips) : Fin 2 → Nat :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v314 : Index := Scalar.indexCast v291
  let c0_152 : Index := 0#32
  ![v314.toNat, 0]
@[reducible] def k0_t3_loop (k0_t1 : Fin k0_t1_loop.trips) : Scf.Loop 32 :=
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let v231 : BitVec 32 := Scalar.addi c0_i32_112 v230
  let c1_i32_115 : BitVec 32 := 1#32
  ⟨v234, v231, c1_i32_115⟩
def k0_mult3 (k0_t1 : Fin k0_t1_loop.trips) (k0_t3 : Fin (k0_t3_loop k0_t1).trips) : BitVec 32 :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  v290
def k0_off8 (k0_t1 : Fin k0_t1_loop.trips) (k0_t3 : Fin (k0_t3_loop k0_t1).trips) : Fin 2 → Nat :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v293 : Index := Scalar.indexCast v291
  let c0_144 : Index := 0#32
  ![v293.toNat, 0]
def k0_off9 (k0_t1 : Fin k0_t1_loop.trips) (k0_t3 : Fin (k0_t3_loop k0_t1).trips) : Fin 2 → Nat :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v295 : Index := Scalar.indexCast v291
  let c128_145 : Index := 128#32
  ![v295.toNat, 128]
def k0_off10 (k0_t1 : Fin k0_t1_loop.trips) (k0_t3 : Fin (k0_t3_loop k0_t1).trips) : Fin 2 → Nat :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v314 : Index := Scalar.indexCast v291
  let c0_152 : Index := 0#32
  ![v314.toNat, 0]
def k0_cond1 (k0_t1 : Fin k0_t1_loop.trips) : BitVec 1 :=
  let c0_i32_55 : BitVec 32 := 0#32
  let c1_i32_56 : BitVec 32 := 1#32
  let arg16 : BitVec 32 := Scf.iv c0_i32_55 c1_i32_56 k0_t1
  let c2_i32_116 : BitVec 32 := 2#32
  let c0_i32_117 : BitVec 32 := 0#32
  let v235 : BitVec 1 := Scalar.cmpi .eq c2_i32_116 c0_i32_117
  let c1_i32_118 : BitVec 32 := 1#32
  let v236 : BitVec 32 := Scalar.select v235 c1_i32_118 c2_i32_116
  let v237 : BitVec 32 := Scalar.remsi arg16 v236
  let c0_i32_120 : BitVec 32 := 0#32
  let v239 : BitVec 1 := Scalar.cmpi .slt v237 c0_i32_120
  let c0_i32_121 : BitVec 32 := 0#32
  let v240 : BitVec 1 := Scalar.cmpi .slt v236 c0_i32_121
  let v241 : BitVec 1 := Scalar.xori v239 v240
  let c0_i32_119 : BitVec 32 := 0#32
  let v238 : BitVec 1 := Scalar.cmpi .ne v237 c0_i32_119
  let v242 : BitVec 1 := Scalar.andi v241 v238
  let v243 : BitVec 32 := Scalar.addi v237 v236
  let v244 : BitVec 32 := Scalar.select v242 v243 v237
  let c1_i32_122 : BitVec 32 := 1#32
  let v245 : BitVec 1 := Scalar.cmpi .eq v244 c1_i32_122
  let v246 : BitVec 32 := Scalar.extui v245
  let c0_i32_123 : BitVec 32 := 0#32
  let v247 : BitVec 1 := Scalar.cmpi .ne v246 c0_i32_123
  v247

def k0_mult4 (k0_t1 : Fin k0_t1_loop.trips) : BitVec 32 :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  v290
def k0_off11 (k0_t1 : Fin k0_t1_loop.trips) : Fin 2 → Nat :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  let v291 : BitVec 32 := v290
  let v293 : Index := Scalar.indexCast v291
  let c0_144 : Index := 0#32
  ![v293.toNat, 0]
def k0_off12 (k0_t1 : Fin k0_t1_loop.trips) : Fin 2 → Nat :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  let v291 : BitVec 32 := v290
  let v295 : Index := Scalar.indexCast v291
  let c128_145 : Index := 128#32
  ![v295.toNat, 128]
def k0_off13 (k0_t1 : Fin k0_t1_loop.trips) : Fin 2 → Nat :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  let v291 : BitVec 32 := v290
  let v314 : Index := Scalar.indexCast v291
  let c0_152 : Index := 0#32
  ![v314.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4224x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4224x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4224x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4224x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4224x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4112x16x192 : Shape := ⟨3, ![4112, 16, 192]⟩
abbrev S4112x16x256 : Shape := ⟨3, ![4112, 16, 256]⟩
abbrev S4112x64 : Shape := ⟨2, ![4112, 64]⟩
abbrev S4112x16x128 : Shape := ⟨3, ![4112, 16, 128]⟩
abbrev S4112 : Shape := ⟨1, ![4112]⟩
abbrev S32 : Shape := ⟨1, ![32]⟩
abbrev S_ : Shape := ⟨0, ![]⟩
abbrev S4112x1 : Shape := ⟨2, ![4112, 1]⟩
abbrev S1x32 : Shape := ⟨2, ![1, 32]⟩
abbrev S4112x32 : Shape := ⟨2, ![4112, 32]⟩
abbrev S1x4112x64 : Shape := ⟨3, ![1, 4112, 64]⟩
abbrev S16x4112x64 : Shape := ⟨3, ![16, 4112, 64]⟩
abbrev S4112x16x64 : Shape := ⟨3, ![4112, 16, 64]⟩
abbrev S4112x1x32 : Shape := ⟨3, ![4112, 1, 32]⟩
abbrev S4112x16x32 : Shape := ⟨3, ![4112, 16, 32]⟩
abbrev S16x4112x4112 : Shape := ⟨3, ![16, 4112, 4112]⟩
abbrev S1x4112 : Shape := ⟨2, ![1, 4112]⟩
abbrev S4112x4112 : Shape := ⟨2, ![4112, 4112]⟩
abbrev S1x4112x4112 : Shape := ⟨3, ![1, 4112, 4112]⟩
abbrev S16x4112 : Shape := ⟨2, ![16, 4112]⟩
abbrev S16x4112x1 : Shape := ⟨3, ![16, 4112, 1]⟩
abbrev S16x128x4112 : Shape := ⟨3, ![16, 128, 4112]⟩
abbrev S16x4112x128 : Shape := ⟨3, ![16, 4112, 128]⟩
abbrev S4224x16x256 : Shape := ⟨3, ![4224, 16, 256]⟩
abbrev S4224x4096 : Shape := ⟨2, ![4224, 4096]⟩
abbrev S16x4224x128 : Shape := ⟨3, ![16, 4224, 128]⟩

abbrev nBuf : Space → Nat
  | .hbm => 198
  | .vmem => 0
  | .smem => 0
  | _ => 0

abbrev hbmTy0_0 (i : Nat) : BufTy := match i % 128 with
  | 0 => ⟨S4112x16x192, .f32⟩
  | 1 => ⟨S4112x16x256, .f32⟩
  | 2 => ⟨S4112x64, .f32⟩
  | 3 => ⟨S4112x16x128, .f32⟩
  | 4 => ⟨S4112, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4112x1, .f32⟩
  | 20 => ⟨S1x32, .f32⟩
  | 21 => ⟨S4112x32, .f32⟩
  | 22 => ⟨S4112x32, .f32⟩
  | 23 => ⟨S4112x32, .f32⟩
  | 24 => ⟨S4112x32, .f32⟩
  | 25 => ⟨S4112x32, .f32⟩
  | 26 => ⟨S1x4112x64, .f32⟩
  | 27 => ⟨S16x4112x64, .f32⟩
  | 28 => ⟨S4112x16x128, .f32⟩
  | 29 => ⟨S4112x16x64, .f32⟩
  | 30 => ⟨S4112x16x128, .f32⟩
  | 31 => ⟨S4112x16x128, .f32⟩
  | 32 => ⟨S4112x1x32, .f32⟩
  | 33 => ⟨S4112x1x32, .f32⟩
  | 34 => ⟨S4112x16x32, .f32⟩
  | 35 => ⟨S4112x16x32, .f32⟩
  | 36 => ⟨S4112x16x32, .f32⟩
  | 37 => ⟨S4112x16x32, .f32⟩
  | 38 => ⟨S4112x16x32, .f32⟩
  | 39 => ⟨S4112x16x32, .f32⟩
  | 40 => ⟨S4112x16x32, .f32⟩
  | 41 => ⟨S4112x16x32, .f32⟩
  | 42 => ⟨S4112x16x32, .f32⟩
  | 43 => ⟨S4112x16x32, .f32⟩
  | 44 => ⟨S4112x16x32, .f32⟩
  | 45 => ⟨S4112x16x32, .f32⟩
  | 46 => ⟨S4112x16x64, .f32⟩
  | 47 => ⟨S16x4112x4112, .f32⟩
  | 48 => ⟨S16x4112x4112, .f32⟩
  | 49 => ⟨S16x4112x4112, .f32⟩
  | 50 => ⟨S_, .f32⟩
  | 51 => ⟨S16x4112x4112, .f32⟩
  | 52 => ⟨S16x4112x4112, .f32⟩
  | 53 => ⟨S4112, .i32⟩
  | 54 => ⟨S_, .i32⟩
  | 55 => ⟨S4112, .i32⟩
  | 56 => ⟨S4112, .i1⟩
  | 57 => ⟨S_, .i32⟩
  | 58 => ⟨S4112, .i32⟩
  | 59 => ⟨S4112, .i32⟩
  | 60 => ⟨S_, .i32⟩
  | 61 => ⟨S_, .i32⟩
  | 62 => ⟨S4112, .i32⟩
  | 63 => ⟨S4112, .i32⟩
  | 64 => ⟨S4112, .i32⟩
  | 65 => ⟨S_, .i32⟩
  | 66 => ⟨S4112, .i32⟩
  | 67 => ⟨S4112, .i1⟩
  | 68 => ⟨S4112, .i32⟩
  | 69 => ⟨S4112, .i32⟩
  | 70 => ⟨S_, .i32⟩
  | 71 => ⟨S4112, .i32⟩
  | 72 => ⟨S4112, .i1⟩
  | 73 => ⟨S4112, .i1⟩
  | 74 => ⟨S_, .i32⟩
  | 75 => ⟨S4112, .i32⟩
  | 76 => ⟨S4112, .i32⟩
  | 77 => ⟨S4112, .i32⟩
  | 78 => ⟨S_, .i32⟩
  | 79 => ⟨S4112, .i32⟩
  | 80 => ⟨S4112, .i32⟩
  | 81 => ⟨S_, .i32⟩
  | 82 => ⟨S_, .i32⟩
  | 83 => ⟨S4112, .i32⟩
  | 84 => ⟨S4112, .i32⟩
  | 85 => ⟨S1x4112, .i32⟩
  | 86 => ⟨S4112x1, .i32⟩
  | 87 => ⟨S4112x4112, .i32⟩
  | 88 => ⟨S4112x4112, .i32⟩
  | 89 => ⟨S4112x4112, .i1⟩
  | 90 => ⟨S1x4112x4112, .i1⟩
  | 91 => ⟨S_, .f32⟩
  | 92 => ⟨S_, .f32⟩
  | 93 => ⟨S16x4112x4112, .i1⟩
  | 94 => ⟨S16x4112x4112, .f32⟩
  | 95 => ⟨S16x4112x4112, .f32⟩
  | 96 => ⟨S_, .f32⟩
  | 97 => ⟨S16x4112x4112, .f32⟩
  | 98 => ⟨S_, .f32⟩
  | 99 => ⟨S16x4112, .f32⟩
  | 100 => ⟨S16x4112x1, .f32⟩
  | 101 => ⟨S16x4112x4112, .f32⟩
  | 102 => ⟨S16x4112x4112, .i1⟩
  | 103 => ⟨S16x4112x4112, .f32⟩
  | 104 => ⟨S_, .f32⟩
  | 105 => ⟨S16x4112, .f32⟩
  | 106 => ⟨S_, .f32⟩
  | 107 => ⟨S16x4112, .f32⟩
  | 108 => ⟨S16x4112, .f32⟩
  | 109 => ⟨S_, .f32⟩
  | 110 => ⟨S16x4112, .f32⟩
  | 111 => ⟨S16x4112, .i1⟩
  | 112 => ⟨S_, .f32⟩
  | 113 => ⟨S16x4112, .f32⟩
  | 114 => ⟨S16x4112, .i1⟩
  | 115 => ⟨S_, .f32⟩
  | 116 => ⟨S16x4112, .f32⟩
  | 117 => ⟨S_, .f32⟩
  | 118 => ⟨S16x4112, .f32⟩
  | 119 => ⟨S_, .f32⟩
  | 120 => ⟨S16x4112, .f32⟩
  | 121 => ⟨S16x4112, .f32⟩
  | 122 => ⟨S16x4112, .f32⟩
  | 123 => ⟨S16x4112x1, .f32⟩
  | 124 => ⟨S16x4112x4112, .f32⟩
  | 125 => ⟨S16x4112x4112, .f32⟩
  | 126 => ⟨S16x4112x4112, .f32⟩
  | 127 => ⟨S_, .f32⟩
  | _ => ⟨S4112x16x192, .f32⟩

abbrev hbmTy0_1 (i : Nat) : BufTy := match i % 128 with
  | 0 => ⟨S16x4112, .f32⟩
  | 1 => ⟨S16x4112x1, .f32⟩
  | 2 => ⟨S16x4112x4112, .f32⟩
  | 3 => ⟨S16x4112x4112, .f32⟩
  | 4 => ⟨S16x4112x1, .f32⟩
  | 5 => ⟨S_, .f32⟩
  | 6 => ⟨S16x4112x1, .f32⟩
  | 7 => ⟨S16x4112x1, .f32⟩
  | 8 => ⟨S16x128x4112, .f32⟩
  | 9 => ⟨S4112x16x128, .f32⟩
  | 10 => ⟨S16x128x4112, .f32⟩
  | 11 => ⟨S16x4112x4112, .f32⟩
  | 12 => ⟨S16x128x4112, .f32⟩
  | 13 => ⟨S4112x16x128, .f32⟩
  | 14 => ⟨S16x4112x4112, .f32⟩
  | 15 => ⟨S16x4112x4112, .f32⟩
  | 16 => ⟨S16x4112x4112, .f32⟩
  | 17 => ⟨S_, .f32⟩
  | 18 => ⟨S16x4112, .f32⟩
  | 19 => ⟨S16x4112x1, .f32⟩
  | 20 => ⟨S16x4112x1, .f32⟩
  | 21 => ⟨S16x4112x4112, .f32⟩
  | 22 => ⟨S16x4112x4112, .f32⟩
  | 23 => ⟨S_, .f32⟩
  | 24 => ⟨S16x4112, .f32⟩
  | 25 => ⟨S16x4112x4112, .f32⟩
  | 26 => ⟨S16x4112x4112, .f32⟩
  | 27 => ⟨S16x4112x4112, .f32⟩
  | 28 => ⟨S_, .f32⟩
  | 29 => ⟨S16x4112x4112, .f32⟩
  | 30 => ⟨S16x4112x4112, .f32⟩
  | 31 => ⟨S_, .f32⟩
  | 32 => ⟨S16x4112x4112, .f32⟩
  | 33 => ⟨S16x4112x4112, .f32⟩
  | 34 => ⟨S16x4112x64, .f32⟩
  | 35 => ⟨S16x4112x64, .f32⟩
  | 36 => ⟨S4112x16x64, .f32⟩
  | 37 => ⟨S16x4112x128, .f32⟩
  | 38 => ⟨S4112x16x128, .f32⟩
  | 39 => ⟨S16x4112x128, .f32⟩
  | 40 => ⟨S4112x16x128, .f32⟩
  | 41 => ⟨S4112x16x32, .f32⟩
  | 42 => ⟨S4112x16x32, .f32⟩
  | 43 => ⟨S4112x16x32, .f32⟩
  | 44 => ⟨S4112x16x32, .f32⟩
  | 45 => ⟨S4112x16x32, .f32⟩
  | 46 => ⟨S4112x16x32, .f32⟩
  | 47 => ⟨S4112x16x32, .f32⟩
  | 48 => ⟨S4112x16x32, .f32⟩
  | 49 => ⟨S4112x16x32, .f32⟩
  | 50 => ⟨S4112x16x32, .f32⟩
  | 51 => ⟨S4112x16x32, .f32⟩
  | 52 => ⟨S4112x16x32, .f32⟩
  | 53 => ⟨S4112x16x32, .f32⟩
  | 54 => ⟨S4112x16x64, .f32⟩
  | 55 => ⟨S4112x16x256, .f32⟩
  | 56 => ⟨S4112x16x192, .f32⟩
  | 57 => ⟨S_, .i32⟩
  | 58 => ⟨S_, .f32⟩
  | 59 => ⟨S4224x16x256, .f32⟩
  | 60 => ⟨S4224x4096, .f32⟩
  | 61 => ⟨S4224x4096, .bf16⟩
  | 62 => ⟨S_, .i32⟩
  | 63 => ⟨S_, .f32⟩
  | 64 => ⟨S4224x16x256, .f32⟩
  | 65 => ⟨S4224x4096, .f32⟩
  | 66 => ⟨S4224x4096, .bf16⟩
  | 67 => ⟨S_, .i32⟩
  | 68 => ⟨S_, .f32⟩
  | 69 => ⟨S16x4224x128, .f32⟩
  | _ => ⟨S4112x16x192, .f32⟩

abbrev hbmTy (i : Nat) : BufTy := match i / 128 with
  | 0 => hbmTy0_0 i
  | 1 => hbmTy0_1 i
  | _ => ⟨S4112x16x192, .f32⟩

abbrev bufTy : (tb : Table) → Fin (tcTables nBuf tb) → BufTy
  | .hbm, ⟨i, _⟩ => hbmTy i
  | _, _ => ⟨S4112x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v49 : Ref sig .tc := ⟨.hbm, 77, rfl⟩
abbrev main_c_6 : Ref sig .tc := ⟨.hbm, 78, rfl⟩
abbrev main_v50 : Ref sig .tc := ⟨.hbm, 79, rfl⟩
abbrev main_v51 : Ref sig .tc := ⟨.hbm, 80, rfl⟩
abbrev main_c_7 : Ref sig .tc := ⟨.hbm, 81, rfl⟩
abbrev main_call1_v0 : Ref sig .tc := ⟨.hbm, 82, rfl⟩
abbrev main_call1_v1 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_8 : Ref sig .tc := ⟨.hbm, 91, rfl⟩
abbrev main_call2_v0 : Ref sig .tc := ⟨.hbm, 92, rfl⟩
abbrev main_v59_1 : Ref sig .tc := ⟨.hbm, 93, rfl⟩
abbrev main_call2_v2 : Ref sig .tc := ⟨.hbm, 94, rfl⟩
abbrev main_v59_0 : Ref sig .tc := ⟨.hbm, 95, rfl⟩
abbrev main_call2_cst : Ref sig .tc := ⟨.hbm, 96, rfl⟩
abbrev main_v59_2 : Ref sig .tc := ⟨.hbm, 97, rfl⟩
abbrev main_cst_9 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_cst_11 : Ref sig .tc := ⟨.hbm, 106, rfl⟩
abbrev main_v66 : Ref sig .tc := ⟨.hbm, 107, rfl⟩
abbrev main_v67 : Ref sig .tc := ⟨.hbm, 108, rfl⟩
abbrev main_cst_12 : Ref sig .tc := ⟨.hbm, 109, rfl⟩
abbrev main_v68 : Ref sig .tc := ⟨.hbm, 110, rfl⟩
abbrev main_v69 : Ref sig .tc := ⟨.hbm, 111, rfl⟩
abbrev main_cst_13 : Ref sig .tc := ⟨.hbm, 112, rfl⟩
abbrev main_v70 : Ref sig .tc := ⟨.hbm, 113, rfl⟩
abbrev main_v71 : Ref sig .tc := ⟨.hbm, 114, rfl⟩
abbrev main_cst_14 : Ref sig .tc := ⟨.hbm, 115, rfl⟩
abbrev main_v72 : Ref sig .tc := ⟨.hbm, 116, rfl⟩
abbrev main_cst_15 : Ref sig .tc := ⟨.hbm, 117, rfl⟩
abbrev main_v73 : Ref sig .tc := ⟨.hbm, 118, rfl⟩
abbrev main_cst_16 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_17 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_18 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_19 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_20 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call3_cst : Ref sig .tc := ⟨.hbm, 156, rfl⟩
abbrev main_call3_v0 : Ref sig .tc := ⟨.hbm, 157, rfl⟩
abbrev main_v106 : Ref sig .tc := ⟨.hbm, 158, rfl⟩
abbrev main_cst_21 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_c_22 : Ref sig .tc := ⟨.hbm, 185, rfl⟩
abbrev main_call4_v0 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_c_23 : Ref sig .tc := ⟨.hbm, 190, rfl⟩
abbrev main_call5_v0 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_c_24 : Ref sig .tc := ⟨.hbm, 195, rfl⟩
abbrev main_call6_v0 : Ref sig .tc := ⟨.hbm, 196, rfl⟩
abbrev main_v138 : Ref sig .tc := ⟨.hbm, 197, rfl⟩

abbrev nD : Nat := 1
abbrev τ : Topo := Topo.v7x

variable {F : FTy → Type} [FloatOps F]
-- ==== FfnDw.lean ====
abbrev S4224x2048 : Shape := ⟨2, ![4224, 2048]⟩
abbrev S2x4224x5632 : Shape := ⟨3, ![2, 4224, 5632]⟩
abbrev S8x2048x1408 : Shape := ⟨3, ![8, 2048, 1408]⟩
abbrev S4224x512 : Shape := ⟨2, ![4224, 512]⟩
abbrev S1x4224x1408 : Shape := ⟨3, ![1, 4224, 1408]⟩
abbrev S1x512x1408 : Shape := ⟨3, ![1, 512, 1408]⟩
abbrev S4224x1408 : Shape := ⟨2, ![4224, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S8x2048x1408, .bf16⟩
  | .local _ .vmem, ⟨0, _⟩ => ⟨S4224x512, .bf16⟩
  | .local _ .vmem, ⟨1, _⟩ => ⟨S4224x512, .bf16⟩
  | .local _ .vmem, ⟨2, _⟩ => ⟨S1x4224x1408, .bf16⟩
  | .local _ .vmem, ⟨3, _⟩ => ⟨S1x4224x1408, .bf16⟩
  | .local _ .vmem, ⟨4, _⟩ => ⟨S1x512x1408, .bf16⟩
  | .local _ .vmem, ⟨5, _⟩ => ⟨S1x512x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwRefIdeal.lean ====
abbrev S4224x2048 : Shape := ⟨2, ![4224, 2048]⟩
abbrev S2x4224x5632 : Shape := ⟨3, ![2, 4224, 5632]⟩
abbrev S4224x2x5632 : Shape := ⟨3, ![4224, 2, 5632]⟩
abbrev S4224x11264 : Shape := ⟨2, ![4224, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S4224x2x5632, .bf16⟩
  | .hbm, ⟨3, _⟩ => ⟨S4224x11264, .bf16⟩
  | .hbm, ⟨4, _⟩ => ⟨S4224x11264, .f32⟩
  | .hbm, ⟨5, _⟩ => ⟨S_, .f32⟩
  | .hbm, ⟨6, _⟩ => ⟨S2048x11264, .f32⟩
  | .hbm, ⟨7, _⟩ => ⟨S4224x2048, .f32⟩
  | .hbm, ⟨8, _⟩ => ⟨S4224x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnDh.lean ====
abbrev S2x4224x5632 : Shape := ⟨3, ![2, 4224, 5632]⟩
abbrev S8x2048x1408 : Shape := ⟨3, ![8, 2048, 1408]⟩
abbrev S4224x2048 : Shape := ⟨2, ![4224, 2048]⟩
abbrev S2x384x5632 : Shape := ⟨3, ![2, 384, 5632]⟩
abbrev S8x512x1408 : Shape := ⟨3, ![8, 512, 1408]⟩
abbrev S384x512 : Shape := ⟨2, ![384, 512]⟩
abbrev S1x384x1408 : Shape := ⟨3, ![1, 384, 1408]⟩
abbrev S384x1408 : Shape := ⟨2, ![384, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4224x5632, .bf16⟩
  | .hbm, ⟨1, _⟩ => ⟨S8x2048x1408, .bf16⟩
  | .hbm, ⟨2, _⟩ => ⟨S4224x2048, .bf16⟩
  | .local _ .vmem, ⟨0, _⟩ => ⟨S2x384x5632, .bf16⟩
  | .local _ .vmem, ⟨1, _⟩ => ⟨S2x384x5632, .bf16⟩
  | .local _ .vmem, ⟨2, _⟩ => ⟨S8x512x1408, .bf16⟩
  | .local _ .vmem, ⟨3, _⟩ => ⟨S8x512x1408, .bf16⟩
  | .local _ .vmem, ⟨4, _⟩ => ⟨S384x512, .bf16⟩
  | .local _ .vmem, ⟨5, _⟩ => ⟨S384x512, .bf16⟩
  | _, _ => ⟨S2x4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDhRefIdeal.lean ====
abbrev S2x4224x5632 : Shape := ⟨3, ![2, 4224, 5632]⟩
abbrev S8x2048x1408 : Shape := ⟨3, ![8, 2048, 1408]⟩
abbrev S4224x2x5632 : Shape := ⟨3, ![4224, 2, 5632]⟩
abbrev S4224x11264 : Shape := ⟨2, ![4224, 11264]⟩
abbrev S2048x8x1408 : Shape := ⟨3, ![2048, 8, 1408]⟩
abbrev S2048x11264 : Shape := ⟨2, ![2048, 11264]⟩
abbrev S_ : Shape := ⟨0, ![]⟩
abbrev S4224x2048 : Shape := ⟨2, ![4224, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x4224x5632, .bf16⟩
  | .hbm, ⟨1, _⟩ => ⟨S8x2048x1408, .bf16⟩
  | .hbm, ⟨2, _⟩ => ⟨S4224x2x5632, .bf16⟩
  | .hbm, ⟨3, _⟩ => ⟨S4224x11264, .bf16⟩
  | .hbm, ⟨4, _⟩ => ⟨S4224x11264, .f32⟩
  | .hbm, ⟨5, _⟩ => ⟨S2048x8x1408, .bf16⟩
  | .hbm, ⟨6, _⟩ => ⟨S2048x11264, .bf16⟩
  | .hbm, ⟨7, _⟩ => ⟨S2048x11264, .f32⟩
  | .hbm, ⟨8, _⟩ => ⟨S_, .f32⟩
  | .hbm, ⟨9, _⟩ => ⟨S4224x2048, .f32⟩
  | .hbm, ⟨10, _⟩ => ⟨S4224x11264, .f32⟩
  | .hbm, ⟨11, _⟩ => ⟨S4224x2048, .f32⟩
  | .hbm, ⟨12, _⟩ => ⟨S4224x2048, .bf16⟩
  | _, _ => ⟨S2x4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfnDd.lean ====
abbrev S4224x5632 : Shape := ⟨2, ![4224, 5632]⟩
abbrev S4224x2048 : Shape := ⟨2, ![4224, 2048]⟩
abbrev S5632x2048 : Shape := ⟨2, ![5632, 2048]⟩
abbrev S4224x1408 : Shape := ⟨2, ![4224, 1408]⟩
abbrev S4224x512 : Shape := ⟨2, ![4224, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S5632x2048, .bf16⟩
  | .local _ .vmem, ⟨0, _⟩ => ⟨S4224x1408, .bf16⟩
  | .local _ .vmem, ⟨1, _⟩ => ⟨S4224x1408, .bf16⟩
  | .local _ .vmem, ⟨2, _⟩ => ⟨S4224x512, .bf16⟩
  | .local _ .vmem, ⟨3, _⟩ => ⟨S4224x512, .bf16⟩
  | .local _ .vmem, ⟨4, _⟩ => ⟨S1408x512, .bf16⟩
  | .local _ .vmem, ⟨5, _⟩ => ⟨S1408x512, .bf16⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDdRefIdeal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDa.lean ====
abbrev S4224x2048 : Shape := ⟨2, ![4224, 2048]⟩
abbrev S5632x2048 : Shape := ⟨2, ![5632, 2048]⟩
abbrev S2x4224x5632 : Shape := ⟨3, ![2, 4224, 5632]⟩
abbrev S704x2048 : Shape := ⟨2, ![704, 2048]⟩
abbrev S1408x2048 : Shape := ⟨2, ![1408, 2048]⟩
abbrev S2x704x1408 : Shape := ⟨3, ![2, 704, 1408]⟩
abbrev S704x1408 : Shape := ⟨2, ![704, 1408]⟩
abbrev S1x704x1408 : Shape := ⟨3, ![1, 704, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S2x4224x5632, .bf16⟩
  | .hbm, ⟨3, _⟩ => ⟨S2x4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x704x1408, .bf16⟩
  | .local _ .vmem, ⟨5, _⟩ => ⟨S2x704x1408, .bf16⟩
  | .local _ .vmem, ⟨6, _⟩ => ⟨S2x704x1408, .bf16⟩
  | .local _ .vmem, ⟨7, _⟩ => ⟨S2x704x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDaRefIdeal.lean ====
abbrev S4224x2048 : Shape := ⟨2, ![4224, 2048]⟩
abbrev S5632x2048 : Shape := ⟨2, ![5632, 2048]⟩
abbrev S2x4224x5632 : Shape := ⟨3, ![2, 4224, 5632]⟩
abbrev S1x4224x5632 : Shape := ⟨3, ![1, 4224, 5632]⟩
abbrev S4224x5632 : Shape := ⟨2, ![4224, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S2x4224x5632, .bf16⟩
  | .hbm, ⟨3, _⟩ => ⟨S5632x2048, .f32⟩
  | .hbm, ⟨4, _⟩ => ⟨S1x4224x5632, .bf16⟩
  | .hbm, ⟨5, _⟩ => ⟨S4224x5632, .bf16⟩
  | .hbm, ⟨6, _⟩ => ⟨S4224x5632, .f32⟩
  | .hbm, ⟨7, _⟩ => ⟨S1x4224x5632, .bf16⟩
  | .hbm, ⟨8, _⟩ => ⟨S4224x5632, .bf16⟩
  | .hbm, ⟨9, _⟩ => ⟨S4224x5632, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S_, .f32⟩
  | .hbm, ⟨16, _⟩ => ⟨S4224x5632, .f32⟩
  | .hbm, ⟨17, _⟩ => ⟨S4224x5632, .f32⟩
  | .hbm, ⟨18, _⟩ => ⟨S_, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S4224x5632, .f32⟩
  | .hbm, ⟨24, _⟩ => ⟨S4224x2048, .f32⟩
  | .hbm, ⟨25, _⟩ => ⟨S4224x2048, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x5632, .f32⟩
  | .hbm, ⟨30, _⟩ => ⟨S4224x5632, .f32⟩
  | .hbm, ⟨31, _⟩ => ⟨S4224x5632, .f32⟩
  | .hbm, ⟨32, _⟩ => ⟨S4224x5632, .f32⟩
  | .hbm, ⟨33, _⟩ => ⟨S1x4224x5632, .f32⟩
  | .hbm, ⟨34, _⟩ => ⟨S1x4224x5632, .f32⟩
  | .hbm, ⟨35, _⟩ => ⟨S2x4224x5632, .f32⟩
  | .hbm, ⟨36, _⟩ => ⟨S2x4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== FfnUp.lean ====
abbrev S4224x2048 : Shape := ⟨2, ![4224, 2048]⟩
abbrev S8x2048x1408 : Shape := ⟨3, ![8, 2048, 1408]⟩
abbrev S2x4224x5632 : Shape := ⟨3, ![2, 4224, 5632]⟩
abbrev S4224x5632 : Shape := ⟨2, ![4224, 5632]⟩
abbrev S704x2048 : Shape := ⟨2, ![704, 2048]⟩
abbrev S1x2048x1408 : Shape := ⟨3, ![1, 2048, 1408]⟩
abbrev S2x704x1408 : Shape := ⟨3, ![2, 704, 1408]⟩
abbrev S704x1408 : Shape := ⟨2, ![704, 1408]⟩
abbrev S2048x1408 : Shape := ⟨2, ![2048, 1408]⟩
abbrev S1x704x1408 : Shape := ⟨3, ![1, 704, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4224x2048, .bf16⟩
  | .hbm, ⟨1, _⟩ => ⟨S8x2048x1408, .bf16⟩
  | .hbm, ⟨2, _⟩ => ⟨S2x4224x5632, .bf16⟩
  | .hbm, ⟨3, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x704x1408, .bf16⟩
  | .local _ .vmem, ⟨7, _⟩ => ⟨S2x704x1408, .bf16⟩
  | .local _ .vmem, ⟨8, _⟩ => ⟨S704x1408, .bf16⟩
  | .local _ .vmem, ⟨9, _⟩ => ⟨S704x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S4224x2048 : Shape := ⟨2, ![4224, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4224x11264 : Shape := ⟨2, ![4224, 11264]⟩
abbrev S4224x5632 : Shape := ⟨2, ![4224, 5632]⟩
abbrev S1x4224x5632 : Shape := ⟨3, ![1, 4224, 5632]⟩
abbrev S2x4224x5632 : Shape := ⟨3, ![2, 4224, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S2048x11264, .f32⟩
  | .hbm, ⟨5, _⟩ => ⟨S4224x2048, .f32⟩
  | .hbm, ⟨6, _⟩ => ⟨S4224x11264, .f32⟩
  | .hbm, ⟨7, _⟩ => ⟨S4224x5632, .f32⟩
  | .hbm, ⟨8, _⟩ => ⟨S4224x5632, .f32⟩
  | .hbm, ⟨9, _⟩ => ⟨S1x4224x5632, .f32⟩
  | .hbm, ⟨10, _⟩ => ⟨S1x4224x5632, .f32⟩
  | .hbm, ⟨11, _⟩ => ⟨S2x4224x5632, .f32⟩
  | .hbm, ⟨12, _⟩ => ⟨S2x4224x5632, .bf16⟩
  | .hbm, ⟨13, _⟩ => ⟨S4224x5632, .f32⟩
  | .hbm, ⟨14, _⟩ => ⟨S4224x5632, .f32⟩
  | .hbm, ⟨15, _⟩ => ⟨S_, .f32⟩
  | .hbm, ⟨16, _⟩ => ⟨S4224x5632, .f32⟩
  | .hbm, ⟨17, _⟩ => ⟨S4224x5632, .f32⟩
  | .hbm, ⟨18, _⟩ => ⟨S_, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== FfnDown.lean ====
abbrev S4224x5632 : Shape := ⟨2, ![4224, 5632]⟩
abbrev S5632x2048 : Shape := ⟨2, ![5632, 2048]⟩
abbrev S4224x2048 : Shape := ⟨2, ![4224, 2048]⟩
abbrev S384x5632 : Shape := ⟨2, ![384, 5632]⟩
abbrev S5632x1024 : Shape := ⟨2, ![5632, 1024]⟩
abbrev S384x1024 : Shape := ⟨2, ![384, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x2048, .f32⟩
  | .local _ .vmem, ⟨0, _⟩ => ⟨S384x5632, .bf16⟩
  | .local _ .vmem, ⟨1, _⟩ => ⟨S384x5632, .bf16⟩
  | .local _ .vmem, ⟨2, _⟩ => ⟨S5632x1024, .bf16⟩
  | .local _ .vmem, ⟨3, _⟩ => ⟨S5632x1024, .bf16⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LruIn.lean ====
abbrev S4224x2048 : Shape := ⟨2, ![4224, 2048]⟩
abbrev S8x2048x512 : Shape := ⟨3, ![8, 2048, 512]⟩
abbrev S4224x4096 : Shape := ⟨2, ![4224, 4096]⟩
abbrev S1408x2048 : Shape := ⟨2, ![1408, 2048]⟩
abbrev S1x2048x512 : Shape := ⟨3, ![1, 2048, 512]⟩
abbrev S1408x512 : Shape := ⟨2, ![1408, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S8x2048x512, .bf16⟩
  | .hbm, ⟨2, _⟩ => ⟨S4224x4096, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1408x512, .f32⟩
  | .local _ .vmem, ⟨5, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInRefIdeal.lean ====
abbrev S4224x2048 : Shape := ⟨2, ![4224, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4224x4096 : Shape := ⟨2, ![4224, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8x2048x512, .bf16⟩
  | .hbm, ⟨2, _⟩ => ⟨S4224x2048, .f32⟩
  | .hbm, ⟨3, _⟩ => ⟨S2048x8x512, .bf16⟩
  | .hbm, ⟨4, _⟩ => ⟨S2048x4096, .bf16⟩
  | .hbm, ⟨5, _⟩ => ⟨S2048x4096, .f32⟩
  | .hbm, ⟨6, _⟩ => ⟨S4224x4096, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== LruDw.lean ====
abbrev S4224x2048 : Shape := ⟨2, ![4224, 2048]⟩
abbrev S2x4224x2048 : Shape := ⟨3, ![2, 4224, 2048]⟩
abbrev S8x2048x512 : Shape := ⟨3, ![8, 2048, 512]⟩
abbrev S4224x1024 : Shape := ⟨2, ![4224, 1024]⟩
abbrev S1x4224x512 : Shape := ⟨3, ![1, 4224, 512]⟩
abbrev S1x1024x512 : Shape := ⟨3, ![1, 1024, 512]⟩
abbrev S4224x512 : Shape := ⟨2, ![4224, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2x4224x2048, .bf16⟩
  | .hbm, ⟨2, _⟩ => ⟨S8x2048x512, .bf16⟩
  | .local _ .vmem, ⟨0, _⟩ => ⟨S4224x1024, .bf16⟩
  | .local _ .vmem, ⟨1, _⟩ => ⟨S4224x1024, .bf16⟩
  | .local _ .vmem, ⟨2, _⟩ => ⟨S1x4224x512, .bf16⟩
  | .local _ .vmem, ⟨3, _⟩ => ⟨S1x4224x512, .bf16⟩
  | .local _ .vmem, ⟨4, _⟩ => ⟨S1x1024x512, .bf16⟩
  | .local _ .vmem, ⟨5, _⟩ => ⟨S1x1024x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruDwRefIdeal.lean ====
abbrev S4224x2048 : Shape := ⟨2, ![4224, 2048]⟩
abbrev S2x4224x2048 : Shape := ⟨3, ![2, 4224, 2048]⟩
abbrev S4224x2x2048 : Shape := ⟨3, ![4224, 2, 2048]⟩
abbrev S4224x4096 : Shape := ⟨2, ![4224, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x2048, .bf16⟩
  | .hbm, ⟨2, _⟩ => ⟨S4224x2x2048, .bf16⟩
  | .hbm, ⟨3, _⟩ => ⟨S4224x4096, .bf16⟩
  | .hbm, ⟨4, _⟩ => ⟨S4224x4096, .f32⟩
  | .hbm, ⟨5, _⟩ => ⟨S_, .f32⟩
  | .hbm, ⟨6, _⟩ => ⟨S2048x4096, .f32⟩
  | .hbm, ⟨7, _⟩ => ⟨S4224x2048, .f32⟩
  | .hbm, ⟨8, _⟩ => ⟨S4224x4096, .f32⟩
  | .hbm, ⟨9, _⟩ => ⟨S4096x2048, .f32⟩
  | .hbm, ⟨10, _⟩ => ⟨S2048x4096, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Opt.lean ====
abbrev S4096x128 : Shape := ⟨2, ![4096, 128]⟩
abbrev S8x4096x128 : Shape := ⟨3, ![8, 4096, 128]⟩
abbrev S1024x128 : Shape := ⟨2, ![1024, 128]⟩
abbrev S8x1024x128 : Shape := ⟨3, ![8, 1024, 128]⟩
abbrev S1x1024x128 : Shape := ⟨3, ![1, 1024, 128]⟩

abbrev nBuf : Space → Nat
  | .hbm => 8
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S8x4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x1024x128, .f32⟩
  | .local _ .vmem, ⟨7, _⟩ => ⟨S8x1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptRefIdeal.lean ====
abbrev S4096x128 : Shape := ⟨2, ![4096, 128]⟩
abbrev S8x4096x128 : Shape := ⟨3, ![8, 4096, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S8x4096x128, .f32⟩
  | .hbm, ⟨4, _⟩ => ⟨S_, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== OptRow.lean ====
abbrev S8x2048 : Shape := ⟨2, ![8, 2048]⟩
abbrev S8x8x2048 : Shape := ⟨3, ![8, 8, 2048]⟩
abbrev S1x8x2048 : Shape := ⟨3, ![1, 8, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptRowRefIdeal.lean ====
abbrev S8x2048 : Shape := ⟨2, ![8, 2048]⟩
abbrev S8x8x2048 : Shape := ⟨3, ![8, 8, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x8x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== OptLatent.lean ====
abbrev S8x512 : Shape := ⟨2, ![8, 512]⟩
abbrev S8x8x512 : Shape := ⟨3, ![8, 8, 512]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .hbm, ⟨2, _⟩ => ⟨S8x512, .f32⟩
  | .hbm, ⟨3, _⟩ => ⟨S8x8x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptLatentRefIdeal.lean ====
abbrev S8x512 : Shape := ⟨2, ![8, 512]⟩
abbrev S8x8x512 : Shape := ⟨3, ![8, 8, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .hbm, ⟨2, _⟩ => ⟨S8x512, .f32⟩
  | .hbm, ⟨3, _⟩ => ⟨S8x8x512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S_, .f32⟩
  | .hbm, ⟨10, _⟩ => ⟨S8x512, .f32⟩
  | .hbm, ⟨11, _⟩ => ⟨S8x512, .f32⟩
  | .hbm, ⟨12, _⟩ => ⟨S8x512, .f32⟩
  | .hbm, ⟨13, _⟩ => ⟨S_, .f32⟩
  | .hbm, ⟨14, _⟩ => ⟨S8x512, .f32⟩
  | .hbm, ⟨15, _⟩ => ⟨S8x512, .f32⟩
  | .hbm, ⟨16, _⟩ => ⟨S8x512, .f32⟩
  | .hbm, ⟨17, _⟩ => ⟨S_, .f32⟩
  | .hbm, ⟨18, _⟩ => ⟨S8x512, .f32⟩
  | .hbm, ⟨19, _⟩ => ⟨S8x512, .f32⟩
  | .hbm, ⟨20, _⟩ => ⟨S8x512, .f32⟩
  | .hbm, ⟨21, _⟩ => ⟨S_, .f32⟩
  | .hbm, ⟨22, _⟩ => ⟨S8x512, .f32⟩
  | .hbm, ⟨23, _⟩ => ⟨S8x512, .f32⟩
  | .hbm, ⟨24, _⟩ => ⟨S_, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S_, .f32⟩
  | .hbm, ⟨29, _⟩ => ⟨S8x512, .f32⟩
  | .hbm, ⟨30, _⟩ => ⟨S8x512, .f32⟩
  | .hbm, ⟨31, _⟩ => ⟨S8x512, .f32⟩
  | .hbm, ⟨32, _⟩ => ⟨S_, .f32⟩
  | .hbm, ⟨33, _⟩ => ⟨S8x512, .f32⟩
  | .hbm, ⟨34, _⟩ => ⟨S8x512, .f32⟩
  | .hbm, ⟨35, _⟩ => ⟨S8x512, .f32⟩
  | .hbm, ⟨36, _⟩ => ⟨S_, .f32⟩
  | .hbm, ⟨37, _⟩ => ⟨S8x512, .f32⟩
  | .hbm, ⟨38, _⟩ => ⟨S8x512, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Trip.lean ====
/- One query tile of the attention's backward body: the trip of the outer loop, once where the tile index is odd and
   once where it is even, and the loop's invariant over the pieces that the trips leave. -/
module

public import proofs.«01_k».proof.Proof.Gen.KernelIdeal.Frame
public import proofs.«01_k».proof.Proof.Gen.KernelIdeal.Loops

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the frame kit's. -/
local notation "𝕄G" => MT nD τ sig Unit (Elt F) ℕ (UR sig nD τ) ℕ

/-- What one trip touches: the operands it reads at their contents, the three buffers it accumulates in at given ones, the scratch of the tile's query gradient at any. -/
abbrev TripRes (c : Dev nD) (arg1 : Memref sig .tc .vmem S4224x256 .bf16) (arg2 : Memref sig .tc .vmem S4224x256 .bf16) (arg4 : Memref sig .tc .vmem S4224x128 .bf16) (arg5 : Memref sig .tc .vmem S1x4224x128 .f32) (arg6 : Memref sig .tc .vmem S4224x128 .bf16) (arg7 : Memref sig .tc .vmem S4224x128 .f32) (arg8 : Memref sig .tc .vmem S4224x128 .f32) (arg12 : Memref sig .tc .vmem S4224x256 .bf16) (arg9 : Memref sig .tc .vmem S4224x256 .bf16) (arg13 : Memref sig .tc .vmem S4224x256 .f32) (arg14 : Memref sig .tc .vmem S4224x128 .f32) (arg15 : Memref sig .tc .vmem S512x256 .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (f_arg9 : BufTy.Contents (Elt F) arg9.view.ty) (f_arg13 : BufTy.Contents (Elt F) arg13.view.ty) (f_arg14 : BufTy.Contents (Elt F) arg14.view.ty) : sProp 𝕄G :=
  iprop((arg1.view.loc (c : Thread nD τ) ↦[arg1.view.set]{fullShare} X_arg1) ∗ (arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg12.view.loc (c : Thread nD τ) ↦[arg12.view.set]{fullShare} X_arg12) ∗ (arg9.view.loc (c : Thread nD τ) ↦[arg9.view.set]{fullShare} f_arg9) ∗ (arg13.view.loc (c : Thread nD τ) ↦[arg13.view.set]{fullShare} f_arg13) ∗ (arg14.view.loc (c : Thread nD τ) ↦[arg14.view.set]{fullShare} f_arg14) ∗ (∃ f, (arg15.view.loc (c : Thread nD τ) ↦[arg15.view.set]{fullShare} f)))

/-- A trip where the tile index is odd: the odd block before the tile is taken too. The pieces are the run's own finds, functions of the contents the trip starts from. -/
@[irreducible] def tripOdd (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (k : Fin k0_t1_loop.trips) (hc : k0_cond1 k = 1#1) :
    Σ' (L_arg9 : BufTy.Contents (Elt F) arg13.view.ty → BufTy.Contents (Elt F) arg14.view.ty → List (View.Piece (Elt F) S4224x256 .bf16)) (L_arg13 : BufTy.Contents (Elt F) arg13.view.ty → BufTy.Contents (Elt F) arg14.view.ty → List (View.Piece (Elt F) S4224x256 .f32)), { L_arg14 : BufTy.Contents (Elt F) arg13.view.ty → BufTy.Contents (Elt F) arg14.view.ty → List (View.Piece (Elt F) S4224x128 .f32) // ∀ (E : Set ℕ) (f_arg9 : BufTy.Contents (Elt F) arg9.view.ty) (f_arg13 : BufTy.Contents (Elt F) arg13.view.ty) (f_arg14 : BufTy.Contents (Elt F) arg14.view.ty),
      TripRes (F := F) c arg1 arg2 arg4 arg5 arg6 arg7 arg8 arg12 arg9 arg13 arg14 arg15 X_arg1 X_arg2 X_arg4 X_arg5 X_arg6 X_arg7 X_arg8 X_arg12 f_arg9 f_arg13 f_arg14
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => TripRes (F := F) c arg1 arg2 arg4 arg5 arg6 arg7 arg8 arg12 arg9 arg13 arg14 arg15 X_arg1 X_arg2 X_arg4 X_arg5 X_arg6 X_arg7 X_arg8 X_arg12 (arg9.view.writes (Elt F) f_arg9 (L_arg9 f_arg13 f_arg14)) (arg13.view.writes (Elt F) f_arg13 (L_arg13 f_arg13 f_arg14)) (arg14.view.writes (Elt F) f_arg14 (L_arg14 f_arg13 f_arg14))) } := by
  have hk : k.val < 8 := Nat.lt_of_lt_of_le k.isLt k0_t1_abs.2.1
  refine ⟨?_, ?_, ?_, fun E f_arg9 f_arg13 f_arg14 => ?run⟩
  case run =>
    unfold k0_t1_body
    iintro ⟨HR_arg1, HR_arg2, HR_arg4, HR_arg5, HR_arg6, HR_arg7, HR_arg8, HR_arg12, HW_arg9, HW_arg13, HW_arg14, ⟨%f_arg15, HW_arg15⟩⟩
    sl_exec
    sl_step
    sl_close

/-- A trip where the tile index is even. The pieces are the run's own finds, functions of the contents the trip starts from. -/
@[irreducible] def tripEven (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (k : Fin k0_t1_loop.trips) (hc : ¬ k0_cond1 k = 1#1) :
    Σ' (L_arg9 : BufTy.Contents (Elt F) arg13.view.ty → BufTy.Contents (Elt F) arg14.view.ty → List (View.Piece (Elt F) S4224x256 .bf16)) (L_arg13 : BufTy.Contents (Elt F) arg13.view.ty → BufTy.Contents (Elt F) arg14.view.ty → List (View.Piece (Elt F) S4224x256 .f32)), { L_arg14 : BufTy.Contents (Elt F) arg13.view.ty → BufTy.Contents (Elt F) arg14.view.ty → List (View.Piece (Elt F) S4224x128 .f32) // ∀ (E : Set ℕ) (f_arg9 : BufTy.Contents (Elt F) arg9.view.ty) (f_arg13 : BufTy.Contents (Elt F) arg13.view.ty) (f_arg14 : BufTy.Contents (Elt F) arg14.view.ty),
      TripRes (F := F) c arg1 arg2 arg4 arg5 arg6 arg7 arg8 arg12 arg9 arg13 arg14 arg15 X_arg1 X_arg2 X_arg4 X_arg5 X_arg6 X_arg7 X_arg8 X_arg12 f_arg9 f_arg13 f_arg14
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => TripRes (F := F) c arg1 arg2 arg4 arg5 arg6 arg7 arg8 arg12 arg9 arg13 arg14 arg15 X_arg1 X_arg2 X_arg4 X_arg5 X_arg6 X_arg7 X_arg8 X_arg12 (arg9.view.writes (Elt F) f_arg9 (L_arg9 f_arg13 f_arg14)) (arg13.view.writes (Elt F) f_arg13 (L_arg13 f_arg13 f_arg14)) (arg14.view.writes (Elt F) f_arg14 (L_arg14 f_arg13 f_arg14))) } := by
  have hk : k.val < 8 := Nat.lt_of_lt_of_le k.isLt k0_t1_abs.2.1
  refine ⟨?_, ?_, ?_, fun E f_arg9 f_arg13 f_arg14 => ?run⟩
  case run =>
    unfold k0_t1_body
    iintro ⟨HR_arg1, HR_arg2, HR_arg4, HR_arg5, HR_arg6, HR_arg7, HR_arg8, HR_arg12, HW_arg9, HW_arg13, HW_arg14, ⟨%f_arg15, HW_arg15⟩⟩
    sl_exec
    sl_step
    sl_close

end Cert.Proof.KI

end
-- ==== Proof.Inv.lean ====
/- The outer loop of the attention's backward body: the pieces its trips leave, and its invariant. -/
module

public import proofs.«01_k».proof.Proof.Trip

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the frame kit's. -/
local notation "𝕄G" => MT nD τ sig Unit (Elt F) ℕ (UR sig nD τ) ℕ

/-- The pieces one trip leaves, at the contents it starts from. -/
@[irreducible] def tripL (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (k : Fin k0_t1_loop.trips) (f_arg13 : BufTy.Contents (Elt F) arg13.view.ty) (f_arg14 : BufTy.Contents (Elt F) arg14.view.ty) : List (View.Piece (Elt F) S4224x256 .bf16) × List (View.Piece (Elt F) S4224x256 .f32) × List (View.Piece (Elt F) S4224x128 .f32) :=
  if hc : k0_cond1 k = 1#1 then ((tripOdd (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).1 f_arg13 f_arg14, (tripOdd (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.1 f_arg13 f_arg14, (tripOdd (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.1 f_arg13 f_arg14)
  else ((tripEven (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).1 f_arg13 f_arg14, (tripEven (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.1 f_arg13 f_arg14, (tripEven (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.1 f_arg13 f_arg14)

theorem tripL_odd (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (k : Fin k0_t1_loop.trips) (f_arg13 : BufTy.Contents (Elt F) arg13.view.ty) (f_arg14 : BufTy.Contents (Elt F) arg14.view.ty) (hc : k0_cond1 k = 1#1) :
    tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14 = ((tripOdd (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).1 f_arg13 f_arg14, (tripOdd (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.1 f_arg13 f_arg14, (tripOdd (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.1 f_arg13 f_arg14) := by
  unfold tripL; exact dif_pos hc

theorem tripL_even (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (k : Fin k0_t1_loop.trips) (f_arg13 : BufTy.Contents (Elt F) arg13.view.ty) (f_arg14 : BufTy.Contents (Elt F) arg14.view.ty) (hc : ¬ k0_cond1 k = 1#1) :
    tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14 = ((tripEven (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).1 f_arg13 f_arg14, (tripEven (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.1 f_arg13 f_arg14, (tripEven (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.1 f_arg13 f_arg14) := by
  unfold tripL; exact dif_neg hc

/-- One trip by its pieces, whichever the parity of the tile index. -/
theorem trip_wp (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (k : Fin k0_t1_loop.trips) (E : Set ℕ) (f_arg9 : BufTy.Contents (Elt F) arg9.view.ty) (f_arg13 : BufTy.Contents (Elt F) arg13.view.ty) (f_arg14 : BufTy.Contents (Elt F) arg14.view.ty) :
    TripRes (F := F) c arg1 arg2 arg4 arg5 arg6 arg7 arg8 arg12 arg9 arg13 arg14 arg15 X_arg1 X_arg2 X_arg4 X_arg5 X_arg6 X_arg7 X_arg8 X_arg12 f_arg9 f_arg13 f_arg14
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => TripRes (F := F) c arg1 arg2 arg4 arg5 arg6 arg7 arg8 arg12 arg9 arg13 arg14 arg15 X_arg1 X_arg2 X_arg4 X_arg5 X_arg6 X_arg7 X_arg8 X_arg12 (arg9.view.writes (Elt F) f_arg9 (tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14).1) (arg13.view.writes (Elt F) f_arg13 (tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14).2.1) (arg14.view.writes (Elt F) f_arg14 (tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14).2.2)) := by
  by_cases hc : k0_cond1 k = 1#1
  · rw [tripL_odd (hc := hc)]; exact (tripOdd (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.2 E f_arg9 f_arg13 f_arg14
  · rw [tripL_even (hc := hc)]; exact (tripEven (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.2 E f_arg9 f_arg13 f_arg14

/-- What trip `k` adds to the pieces of the trips before it. -/
@[irreducible] def pbStep (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (G_arg13 : BufTy.Contents (Elt F) arg13.view.ty) (G_arg14 : BufTy.Contents (Elt F) arg14.view.ty) (k : ℕ) (prev : List (View.Piece (Elt F) S4224x256 .bf16) × List (View.Piece (Elt F) S4224x256 .f32) × List (View.Piece (Elt F) S4224x128 .f32)) : List (View.Piece (Elt F) S4224x256 .bf16) × List (View.Piece (Elt F) S4224x256 .f32) × List (View.Piece (Elt F) S4224x128 .f32) :=
  if h : k < k0_t1_loop.trips then
    let L := tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 ⟨k, h⟩ (arg13.view.writes (Elt F) G_arg13 prev.2.1) (arg14.view.writes (Elt F) G_arg14 prev.2.2)
    (L.1 ++ prev.1, L.2.1 ++ prev.2.1, L.2.2 ++ prev.2.2)
  else prev

/-- The pieces of the trips before `k`, last first, from the contents at the loop's entry. -/
def pb (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (G_arg13 : BufTy.Contents (Elt F) arg13.view.ty) (G_arg14 : BufTy.Contents (Elt F) arg14.view.ty) : ℕ → List (View.Piece (Elt F) S4224x256 .bf16) × List (View.Piece (Elt F) S4224x256 .f32) × List (View.Piece (Elt F) S4224x128 .f32)
  | 0 => ([], [], [])
  | k + 1 => pbStep c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 k (pb c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 k)

theorem pb_zero (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (G_arg13 : BufTy.Contents (Elt F) arg13.view.ty) (G_arg14 : BufTy.Contents (Elt F) arg14.view.ty) : pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 0 = ([], [], []) := rfl

theorem pb_succ (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (G_arg13 : BufTy.Contents (Elt F) arg13.view.ty) (G_arg14 : BufTy.Contents (Elt F) arg14.view.ty) (k : Fin k0_t1_loop.trips) :
    pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 (k.val + 1)
      = (let prev := pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 k.val
         let L := tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k (arg13.view.writes (Elt F) G_arg13 prev.2.1) (arg14.view.writes (Elt F) G_arg14 prev.2.2)
         (L.1 ++ prev.1, L.2.1 ++ prev.2.1, L.2.2 ++ prev.2.2)) := by
  rw [pb.eq_2]; unfold pbStep; exact dif_pos k.isLt

/-- The invariant before trip `k`. -/
abbrev inv (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (G_arg9 : BufTy.Contents (Elt F) arg9.view.ty) (G_arg13 : BufTy.Contents (Elt F) arg13.view.ty) (G_arg14 : BufTy.Contents (Elt F) arg14.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg12.view.loc (c : Thread nD τ) ↦[arg12.view.set]{fullShare} X_arg12) ∗ (∃ f, (arg9.view.loc (c : Thread nD τ) ↦[arg9.view.set]{fullShare} f) ∗ ⌜f = arg9.view.writes (Elt F) G_arg9 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 k).1⌝) ∗ (∃ f, (arg13.view.loc (c : Thread nD τ) ↦[arg13.view.set]{fullShare} f) ∗ ⌜f = arg13.view.writes (Elt F) G_arg13 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 k).2.1⌝) ∗ (∃ f, (arg14.view.loc (c : Thread nD τ) ↦[arg14.view.set]{fullShare} f) ∗ ⌜f = arg14.view.writes (Elt F) G_arg14 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 k).2.2⌝) ∗ (∃ f, (arg15.view.loc (c : Thread nD τ) ↦[arg15.view.set]{fullShare} f)))

set_option warn.classDefReducibility false in
/-- The outer loop by its invariant. -/
@[sl_loop] def loopInv_k0_t1 (c : Dev nD) (E : Set ℕ) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (G_arg9 : BufTy.Contents (Elt F) arg9.view.ty) (G_arg13 : BufTy.Contents (Elt F) arg13.view.ty) (G_arg14 : BufTy.Contents (Elt F) arg14.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 where
  inv := inv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg9 G_arg13 G_arg14
  step k acc := by
    iintro ⟨HR_arg1, HR_arg2, HR_arg4, HR_arg5, HR_arg6, HR_arg7, HR_arg8, HR_arg12, ⟨%f_arg9, HW_arg9, %h_arg9⟩, ⟨%f_arg13, HW_arg13, %h_arg13⟩, ⟨%f_arg14, HW_arg14, %h_arg14⟩, ⟨%f_arg15, HW_arg15⟩⟩
    iapply (wp_wand_r Idealize.ShloMosaic.frame (wpE (defs₀ (F := F)) Variants.none (c : Thread nD τ) none) E)
    isplitl [HR_arg1 HR_arg2 HR_arg4 HR_arg5 HR_arg6 HR_arg7 HR_arg8 HR_arg12 HW_arg9 HW_arg13 HW_arg14 HW_arg15]
    · iapply (trip_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k E f_arg9 f_arg13 f_arg14)
      isplitl [HR_arg1]; · iexact HR_arg1
      isplitl [HR_arg2]; · iexact HR_arg2
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg12]; · iexact HR_arg12
      isplitl [HW_arg9]; · iexact HW_arg9
      isplitl [HW_arg13]; · iexact HW_arg13
      isplitl [HW_arg14]; · iexact HW_arg14
      iexists _; iexact HW_arg15
    · iintro %_ ⟨HR_arg1, HR_arg2, HR_arg4, HR_arg5, HR_arg6, HR_arg7, HR_arg8, HR_arg12, HW_arg9, HW_arg13, HW_arg14, ⟨%f_arg15, HW_arg15⟩⟩
      isplitl [HR_arg1]; · iexact HR_arg1
      isplitl [HR_arg2]; · iexact HR_arg2
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg12]; · iexact HR_arg12
      rw [pb_succ]
      isplitl [HW_arg9]
      · iexists _; isplitl [HW_arg9]; · iexact HW_arg9
        ipureintro; rw [h_arg9, h_arg13, h_arg14, ← View.writes_append]
      isplitl [HW_arg13]
      · iexists _; isplitl [HW_arg13]; · iexact HW_arg13
        ipureintro; rw [h_arg13, h_arg14, ← View.writes_append]
      isplitl [HW_arg14]
      · iexists _; isplitl [HW_arg14]; · iexact HW_arg14
        ipureintro; rw [h_arg13, h_arg14, ← View.writes_append]
      iexists _; iexact HW_arg15

end Cert.Proof.KI

end
-- ==== Proof.Body.lean ====
/- The attention's backward body on any staging memrefs, and the frame of the kernel. -/
module

public import proofs.«01_k».proof.Proof.Inv
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the frame kit's. -/
local notation "𝕄G" => MT nD τ sig Unit (Elt F) ℕ (UR sig nD τ) ℕ

open Idealize.ShloMosaic.Rounds

variable (m : (ℓ : Loc nD τ sig) → Buf (Elt F) ℓ) (ρ : Dev nD → PrngReg)

set_option maxHeartbeats 1000000 in
/-- The whole body: from the inputs' contents to the pieces it leaves in the three outputs, which the run finds. -/
noncomputable def bodyRun (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (x0 : Vec F S4224x256 .bf16) (x1 : Vec F S4224x256 .bf16) (x2 : Vec F S4224x128 .bf16) (x3 : Vec F S4224x128 .bf16) (x4 : Vec F S1x4224x128 .f32) (x5 : Vec F S4224x128 .bf16) (x6 : Vec F S4224x128 .f32) (x7 : Vec F S4224x128 .f32) :
    Σ' (L_arg9 : List (View.Piece (Elt F) S4224x256 .bf16)) (L_arg10 : List (View.Piece (Elt F) S4224x256 .bf16)), { L_arg11 : List (View.Piece (Elt F) S1x4224x128 .f32) // ∀ (E : Set ℕ) (K : PUnit → sProp 𝕄G),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L_arg9) ∗ (∃ f, arg10.view.loc (c : Thread nD τ) ↦[arg10.view.set]{fullShare} arg10.view.writes (Elt F) f L_arg10) ∗ (∃ f, arg11.view.loc (c : Thread nD τ) ↦[arg11.view.set]{fullShare} arg11.view.writes (Elt F) f L_arg11) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
        ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Proof.KI

end
-- ==== Proof.Cover.lean ====
/- The stores of the query gradient cover their block: the meta rows, every tile, the padding. -/
module

public import proofs.«01_k».proof.Proof.Body
public import Idealize.ShloMosaic.Lib.WritesUnit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the frame kit's. -/
local notation "𝕄G" => MT nD τ sig Unit (Elt F) ℕ (UR sig nD τ) ℕ

/-- Where tile `k` starts. -/
theorem off1_eq (k : Fin k0_t1_loop.trips) : k0_off1 k = ![512 * k.val + 16, 0] := by
  revert k; decide +kernel

theorem trips_t1 : k0_t1_loop.trips = 8 := by decide +kernel

/-- A trip's pieces hold its tile's rows. -/
theorem tripL_cover (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (k : Fin k0_t1_loop.trips) (f_arg13 : BufTy.Contents (Elt F) arg13.view.ty) (f_arg14 : BufTy.Contents (Elt F) arg14.view.ty) (y : S4224x256.Idx)
    (h : 512 * k.val + 16 ≤ (y 0).val ∧ (y 0).val < 512 * k.val + 16 + 512) :
    ∃ pc ∈ (tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14).1, y ∈ pc.1.set := by
  by_cases hc : k0_cond1 k = 1#1
  · rw [tripL_odd (hc := hc)]; unfold tripOdd; dsimp only
    refine ⟨_, List.mem_singleton.mpr rfl, ?_⟩
    rw [Rect.mem_set_unit, off1_eq]
    exact Rect.unit_rows_mem (W := 512) y rfl rfl h
  · rw [tripL_even (hc := hc)]; unfold tripEven; dsimp only
    refine ⟨_, List.mem_singleton.mpr rfl, ?_⟩
    rw [Rect.mem_set_unit, off1_eq]
    exact Rect.unit_rows_mem (W := 512) y rfl rfl h

/-- The pieces of the first `n` trips hold the rows of the first `n` tiles. -/
theorem pb_cover (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (G_arg13 : BufTy.Contents (Elt F) arg13.view.ty) (G_arg14 : BufTy.Contents (Elt F) arg14.view.ty) (n : ℕ) (hn : n ≤ k0_t1_loop.trips) (y : S4224x256.Idx)
    (h : 16 ≤ (y 0).val ∧ (y 0).val < 512 * n + 16) :
    ∃ pc ∈ (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 n).1, y ∈ pc.1.set := by
  induction n with
  | zero => omega
  | succ n ih =>
    have e := pb_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 ⟨n, hn⟩
    dsimp only at e
    rw [e]
    by_cases h' : (y 0).val < 512 * n + 16
    · obtain ⟨pc, hm, hy⟩ := ih (Nat.le_of_succ_le hn) ⟨h.1, h'⟩
      exact ⟨pc, List.mem_append_right _ hm, hy⟩
    · obtain ⟨pc, hm, hy⟩ := tripL_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 ⟨n, hn⟩ (arg13.view.writes (Elt F) G_arg13 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 n).2.1)
        (arg14.view.writes (Elt F) G_arg14 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 G_arg13 G_arg14 n).2.2) y ⟨by dsimp only; omega, by dsimp only; omega⟩
      exact ⟨pc, List.mem_append_left _ hm, hy⟩

/-- The pieces of the query gradient cover its block. -/
theorem cover_9 (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (x0 : Vec F S4224x256 .bf16) (x1 : Vec F S4224x256 .bf16) (x2 : Vec F S4224x128 .bf16) (x3 : Vec F S4224x128 .bf16) (x4 : Vec F S1x4224x128 .f32) (x5 : Vec F S4224x128 .bf16) (x6 : Vec F S4224x128 .f32) (x7 : Vec F S4224x128 .f32) (y : S4224x256.Idx) :
    ∃ pc ∈ (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1, y ∈ pc.1.set := by
  unfold bodyRun
  dsimp only
  have hy : (y 0).val < 4224 := (y 0).isLt
  by_cases h1 : (y 0).val < 16
  · refine ⟨_, List.mem_append_right _ (List.mem_cons_self ..), ?_⟩
    rw [Rect.mem_set_unit]
    exact Rect.unit_rows_mem (W := 16) y rfl rfl ⟨Nat.zero_le _, by omega⟩
  by_cases h2 : 4112 ≤ (y 0).val
  · refine ⟨_, List.mem_append_right _ (List.mem_cons_of_mem _ (List.mem_cons_self ..)), ?_⟩
    rw [Rect.mem_set_unit]
    exact Rect.unit_rows_mem (W := 112) y rfl rfl ⟨h2, by omega⟩
  · obtain ⟨pc, hm, hy⟩ := pb_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ k0_t1_loop.trips le_rfl y ⟨by omega, by rw [trips_t1]; omega⟩
    exact ⟨pc, List.mem_append_left _ hm, hy⟩

end Cert.Proof.KI

end
-- ==== Proof.Run.lean ====
/- The frame of the kernel: its body at every point, its launch. -/
module

public import proofs.«01_k».proof.Proof.Cover
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the frame kit's. -/
local notation "𝕄G" => MT nD τ sig Unit (Elt F) ℕ (UR sig nD τ) ℕ

open Idealize.ShloMosaic.Rounds

variable (m : (ℓ : Loc nD τ sig) → Buf (Elt F) ℓ) (ρ : Dev nD → PrngReg)

/-- The pieces of output 9 cover its block. -/
theorem cover_10 (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (x0 : Vec F S4224x256 .bf16) (x1 : Vec F S4224x256 .bf16) (x2 : Vec F S4224x128 .bf16) (x3 : Vec F S4224x128 .bf16) (x4 : Vec F S1x4224x128 .f32) (x5 : Vec F S4224x128 .bf16) (x6 : Vec F S4224x128 .f32) (x7 : Vec F S4224x128 .f32) (y : S4224x256.Idx) :
    ∃ pc ∈ (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1, y ∈ pc.1.set :=
  View.cover_of_tiledL (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1 S4224x256.size (by sl_kernel_rfl) y

/-- The pieces of output 10 cover its block. -/
theorem cover_11 (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (x0 : Vec F S4224x256 .bf16) (x1 : Vec F S4224x256 .bf16) (x2 : Vec F S4224x128 .bf16) (x3 : Vec F S4224x128 .bf16) (x4 : Vec F S1x4224x128 .f32) (x5 : Vec F S4224x128 .bf16) (x6 : Vec F S4224x128 .f32) (x7 : Vec F S4224x128 .f32) (y : S1x4224x128.Idx) :
    ∃ pc ∈ (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1, y ∈ pc.1.set :=
  View.cover_of_tiledL (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1 S1x4224x128.size (by sl_kernel_rfl) y

/-- Window 0's staging memref at point `t`, and its wholeness. -/
abbrev ms_0 (t : Fin cfg0.N) : Memref sig .tc .vmem S4224x256 .bf16 := win0_0.stage (cfg0.slots t 0)
abbrev hs_0 (t : Fin cfg0.N) : (ms_0 t).IsWhole := hstage0_0 ((cfg0.slots t 0).cast nbuf0_0)
/-- Window 1's staging memref at point `t`, and its wholeness. -/
abbrev ms_1 (t : Fin cfg0.N) : Memref sig .tc .vmem S4224x256 .bf16 := win0_1.stage (cfg0.slots t 1)
abbrev hs_1 (t : Fin cfg0.N) : (ms_1 t).IsWhole := hstage0_1 ((cfg0.slots t 1).cast nbuf0_1)
/-- Window 2's staging memref at point `t`, and its wholeness. -/
abbrev ms_2 (t : Fin cfg0.N) : Memref sig .tc .vmem S4224x128 .bf16 := win0_2.stage (cfg0.slots t 2)
abbrev hs_2 (t : Fin cfg0.N) : (ms_2 t).IsWhole := hstage0_2 ((cfg0.slots t 2).cast nbuf0_2)
/-- Window 3's staging memref at point `t`, and its wholeness. -/
abbrev ms_3 (t : Fin cfg0.N) : Memref sig .tc .vmem S4224x128 .bf16 := win0_3.stage (cfg0.slots t 3)
abbrev hs_3 (t : Fin cfg0.N) : (ms_3 t).IsWhole := hstage0_3 ((cfg0.slots t 3).cast nbuf0_3)
/-- Window 4's staging memref at point `t`, and its wholeness. -/
abbrev ms_4 (t : Fin cfg0.N) : Memref sig .tc .vmem S1x4224x128 .f32 := win0_4.stage (cfg0.slots t 4)
abbrev hs_4 (t : Fin cfg0.N) : (ms_4 t).IsWhole := hstage0_4 ((cfg0.slots t 4).cast nbuf0_4)
/-- Window 5's staging memref at point `t`, and its wholeness. -/
abbrev ms_5 (t : Fin cfg0.N) : Memref sig .tc .vmem S4224x128 .bf16 := win0_5.stage (cfg0.slots t 5)
abbrev hs_5 (t : Fin cfg0.N) : (ms_5 t).IsWhole := hstage0_5 ((cfg0.slots t 5).cast nbuf0_5)
/-- Window 6's staging memref at point `t`, and its wholeness. -/
abbrev ms_6 (t : Fin cfg0.N) : Memref sig .tc .vmem S4224x128 .f32 := win0_6.stage (cfg0.slots t 6)
abbrev hs_6 (t : Fin cfg0.N) : (ms_6 t).IsWhole := hstage0_6 ((cfg0.slots t 6).cast nbuf0_6)
/-- Window 7's staging memref at point `t`, and its wholeness. -/
abbrev ms_7 (t : Fin cfg0.N) : Memref sig .tc .vmem S4224x128 .f32 := win0_7.stage (cfg0.slots t 7)
abbrev hs_7 (t : Fin cfg0.N) : (ms_7 t).IsWhole := hstage0_7 ((cfg0.slots t 7).cast nbuf0_7)
/-- Window 8's staging memref at point `t`, and its wholeness. -/
abbrev ms_8 (t : Fin cfg0.N) : Memref sig .tc .vmem S4224x256 .bf16 := win0_8.stage (cfg0.slots t 8)
abbrev hs_8 (t : Fin cfg0.N) : (ms_8 t).IsWhole := hstage0_8 ((cfg0.slots t 8).cast nbuf0_8)
/-- Window 9's staging memref at point `t`, and its wholeness. -/
abbrev ms_9 (t : Fin cfg0.N) : Memref sig .tc .vmem S4224x256 .bf16 := win0_9.stage (cfg0.slots t 9)
abbrev hs_9 (t : Fin cfg0.N) : (ms_9 t).IsWhole := hstage0_9 ((cfg0.slots t 9).cast nbuf0_9)
/-- Window 10's staging memref at point `t`, and its wholeness. -/
abbrev ms_10 (t : Fin cfg0.N) : Memref sig .tc .vmem S1x4224x128 .f32 := win0_10.stage (cfg0.slots t 10)
abbrev hs_10 (t : Fin cfg0.N) : (ms_10 t).IsWhole := hstage0_10 ((cfg0.slots t 10).cast nbuf0_10)
/-- A scratch operand. -/
abbrev sc_0 : Memref sig .tc .vmem S4224x256 .bf16 := Memref.whole cc0_scratch0
/-- A scratch operand. -/
abbrev sc_1 : Memref sig .tc .vmem S4224x256 .f32 := Memref.whole cc0_scratch1
/-- A scratch operand. -/
abbrev sc_2 : Memref sig .tc .vmem S4224x128 .f32 := Memref.whole cc0_scratch2
/-- A scratch operand. -/
abbrev sc_3 : Memref sig .tc .vmem S512x256 .f32 := Memref.whole cc0_scratch3
/-- A staging buffer of output window 8, through which its contents are stated. -/
abbrev VO_8 : View sig .tc .vmem S4224x256 .bf16 := (Memref.whole cc0_stg8_0 : Memref sig .tc .vmem S4224x256 .bf16).view
/-- A staging buffer of output window 9, through which its contents are stated. -/
abbrev VO_9 : View sig .tc .vmem S4224x256 .bf16 := (Memref.whole cc0_stg9_0 : Memref sig .tc .vmem S4224x256 .bf16).view
/-- A staging buffer of output window 10, through which its contents are stated. -/
abbrev VO_10 : View sig .tc .vmem S1x4224x128 .f32 := (Memref.whole cc0_stg10_0 : Memref sig .tc .vmem S1x4224x128 .f32).view

/-- The scratch buffers as memrefs owned at some contents. -/
theorem PhiA_eq (c : Dev nD) :
    (Pipeline.ΦA spec0 c : sProp 𝕄G) = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d)) ∗ (∃ r, prngReg c r)) := by
  unfold Pipeline.ΦA; rw [scopedRest0_eq]; simp only [sc_0, sc_1, sc_2, sc_3, owns_whole]; try rfl

/-- The body's run at point `t`: the point's memrefs and input blocks. -/
abbrev runAt (c : Dev nD) (t : Fin cfg0.N) := bodyRun (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 (Memref.isWhole_whole _) sc_1 (Memref.isWhole_whole _) sc_2 (Memref.isWhole_whole _) sc_3 (Memref.isWhole_whole _) (iblk m c 0 t) (iblk m c 1 t) (iblk m c 2 t) (iblk m c 3 t) (iblk m c 4 t) (iblk m c 5 t) (iblk m c 6 t) (iblk m c 7 t)

/-- What output window 8's staging buffer holds after the body at point `t`. -/
def outsAt_8 (c : Dev nD) (t : Fin cfg0.N) : Vec F S4224x256 .bf16 :=
  VO_8.read (Elt F) (VO_8.writes (Elt F) VO_8.junk (runAt m c t).1)

/-- What output window 9's staging buffer holds after the body at point `t`. -/
def outsAt_9 (c : Dev nD) (t : Fin cfg0.N) : Vec F S4224x256 .bf16 :=
  VO_9.read (Elt F) (VO_9.writes (Elt F) VO_9.junk (runAt m c t).2.1)

/-- What output window 10's staging buffer holds after the body at point `t`. -/
def outsAt_10 (c : Dev nD) (t : Fin cfg0.N) : Vec F S1x4224x128 .f32 :=
  VO_10.read (Elt F) (VO_10.writes (Elt F) VO_10.junk (runAt m c t).2.2.1)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt_8 m c t
    | ⟨9, _⟩ => outsAt_9 m c t
    | ⟨10, _⟩ => outsAt_10 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outsAt_8 m c t := by dsimp only [dats]
theorem after_9 (c : Dev nD) (t : Fin cfg0.N) : (dats m 0 c).after 9 t = outsAt_9 m c t := by dsimp only [dats]
theorem after_10 (c : Dev nD) (t : Fin cfg0.N) : (dats m 0 c).after 10 t = outsAt_10 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (ms_0 t) fullShare ((dats m 0 c).before 0 t d)) ∗ (∃ d, owns (c : Thread nD τ) (ms_1 t) fullShare ((dats m 0 c).before 1 t d)) ∗ (∃ d, owns (c : Thread nD τ) (ms_2 t) fullShare ((dats m 0 c).before 2 t d)) ∗ (∃ d, owns (c : Thread nD τ) (ms_3 t) fullShare ((dats m 0 c).before 3 t d)) ∗ (∃ d, owns (c : Thread nD τ) (ms_4 t) fullShare ((dats m 0 c).before 4 t d)) ∗ (∃ d, owns (c : Thread nD τ) (ms_5 t) fullShare ((dats m 0 c).before 5 t d)) ∗ (∃ d, owns (c : Thread nD τ) (ms_6 t) fullShare ((dats m 0 c).before 6 t d)) ∗ (∃ d, owns (c : Thread nD τ) (ms_7 t) fullShare ((dats m 0 c).before 7 t d)) ∗ (∃ d, owns (c : Thread nD τ) (ms_8 t) fullShare ((dats m 0 c).before 8 t d)) ∗ (∃ d, owns (c : Thread nD τ) (ms_9 t) fullShare ((dats m 0 c).before 9 t d)) ∗ (∃ d, owns (c : Thread nD τ) (ms_10 t) fullShare ((dats m 0 c).before 10 t d)))

/-- and what it returns. -/
def bodyPost (c : Dev nD) (t : Fin cfg0.N) : sProp 𝕄G :=
  iprop((dats m 0 c).Φ t.succ ∗ (dats m 0 c).owesAt () t.succ
    ∗ owns (c : Thread nD τ) (ms_0 t) fullShare ((dats m 0 c).after 0 t) ∗ owns (c : Thread nD τ) (ms_1 t) fullShare ((dats m 0 c).after 1 t) ∗ owns (c : Thread nD τ) (ms_2 t) fullShare ((dats m 0 c).after 2 t) ∗ owns (c : Thread nD τ) (ms_3 t) fullShare ((dats m 0 c).after 3 t) ∗ owns (c : Thread nD τ) (ms_4 t) fullShare ((dats m 0 c).after 4 t) ∗ owns (c : Thread nD τ) (ms_5 t) fullShare ((dats m 0 c).after 5 t) ∗ owns (c : Thread nD τ) (ms_6 t) fullShare ((dats m 0 c).after 6 t) ∗ owns (c : Thread nD τ) (ms_7 t) fullShare ((dats m 0 c).after 7 t) ∗ owns (c : Thread nD τ) (ms_8 t) fullShare ((dats m 0 c).after 8 t) ∗ owns (c : Thread nD τ) (ms_9 t) fullShare ((dats m 0 c).after 9 t) ∗ owns (c : Thread nD τ) (ms_10 t) fullShare ((dats m 0 c).after 10 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA_eq]
  unfold outsAt_8 outsAt_9 outsAt_10
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runAt m c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, ⟨%e10, H10⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (fun y => cover_9 (F := F) _ _ _ _ _ _ _ _ _ _ _ _ _ _ _ _ _ _ _ _ _ _ _ _ _ _ _ _ _ _ _ _ _ _ _ _ _ _ _ _ y)
  isplitl [H9]
  · unfold owns; iexists _; isplitr
    swap; · iexact H9
    ipureintro; exact View.read_writes_of_cover _ _ _ _ _ (fun y => cover_10 (F := F) _ _ _ _ _ _ _ _ _ _ _ _ _ _ _ _ _ _ _ _ _ _ _ _ _ _ _ _ _ _ _ _ _ _ _ _ _ _ _ _ y)
  unfold owns; iexists _; isplitr
  swap; · iexact H10
  ipureintro; exact View.read_writes_of_cover _ _ _ _ _ (fun y => cover_11 (F := F) _ _ _ _ _ _ _ _ _ _ _ _ _ _ _ _ _ _ _ _ _ _ _ _ _ _ _ _ _ _ _ _ _ _ _ _ _ _ _ _ y)

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body's triple is what the pipeline asks for at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the pipeline's arrays at the proof data's and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame at any values: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.KI

end
-- ==== Proof.Words.lean ====
/- The printed kernel and its idealized text are the same program on the device's words. -/
module

public import proofs.«01_k».proof.Defs
public import proofs.«01_k».proof.Proof.Gen.Kernel
public import proofs.«01_k».proof.Proof.Gen.KernelIdeal
public import proofs.«01_k».proof.Proof.Run

@[expose] public section

set_option maxRecDepth 16384

noncomputable section

namespace Cert.Proof

open Idealize.ShloMosaic Idealize.ShloMosaic.TcCoe Idealize.SL.Sem

/-- The two kernels' bodies are one text. -/
theorem body_same : Cert.Kernel.cc0_attn_bwd (F := Bits) = Cert.KernelIdeal.cc0_attn_bwd (F := Bits) := by rfl

/-- The two tables of bodies agree. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    show Cert.Kernel.cc0_attn_bwd (F := Bits) _ _ _ _ _ _ _ _ _ _ _ _ _ _ _ _ _ _ _ _ _ _ _ _ _ _ _ _ _ _ _ = _
    rw [body_same]
    rfl

/-- The two tables of pipelines agree. -/
theorem defs_same : Cert.Kernel.defs (F := Bits) = Cert.KernelIdeal.defs (F := Bits) := by
  unfold Cert.Kernel.defs Cert.KernelIdeal.defs
  rw [bodies_same]
  rfl

set_option maxHeartbeats 2000000 in
/-- The two host programs agree. -/
theorem main_same : Cert.Kernel.main (F := Bits) = Cert.KernelIdeal.main (F := Bits) := by rfl

/-- The kernel's frame on the device's words: the run is the one over any values. -/
theorem frame_kernel : Cert.quiescent_Kernel (hKernel := Cert.Kernel.Gen.facts) := by
  intro m ρ _
  rw [defs_same, main_same]
  exact (θ_run Cert.KernelIdeal.defs _ _).mono (fun _ h => h) (KI.frame (F := Bits) m ρ)

end Cert.Proof

end
-- ==== Proof.Table.lean ====
/- Arrays of rank two read as tables: `Is w f` says that the array `w` holds `f r c` at row `r` and column `c`. Each
   operation of the kernel is read as a table of its operands' tables, over the reals with infinities. -/
module

public import Idealize.ShloMosaic.Lib.MatmulPlain
public import Idealize.ShloMosaic.Lib.VecWindow
public import Idealize.ShloMosaic.Lib.Pointwise
public import Idealize.ShloMosaic.Lib.KernelVsHost
public import Idealize.ShloMosaic.Lib.ValueLayout
public import Idealize.ShloMosaic.Lib.ValueLayoutCasts

@[expose] public section

noncomputable section

namespace Cert.Proof.Table

open Idealize.ShloMosaic Idealize.ShloMosaic.ValueIdx
open scoped BigOperators

/-- The shape of `m` rows and `n` columns. -/
abbrev Sh (m n : ℕ) : Shape := ⟨2, ![m, n]⟩

variable {m n k : ℕ} {α : Type}

/-- The array `w` holds `f r c` at row `r`, column `c`. -/
def Is (w : (Sh m n).Idx → α) (f : ℕ → ℕ → α) : Prop := ∀ j, w j = f (j 0).val (j 1).val

/-- Two tables that agree inside the array are read alike. -/
theorem Is.congr {w : (Sh m n).Idx → α} {f g : ℕ → ℕ → α} (h : Is w f) (e : ∀ r c, r < m → c < n → f r c = g r c) : Is w g :=
  fun j => (h j).trans (e _ _ (j 0).isLt (j 1).isLt)

/-- The array read at the index of given coordinates. -/
theorem Is.at {w : (Sh m n).Idx → α} {f : ℕ → ℕ → α} (h : Is w f) (j : (Sh m n).Idx) {r c : ℕ} (hr : (j 0).val = r) (hc : (j 1).val = c) :
    w j = f r c := by rw [h j, hr, hc]

section Pointwise

variable {φ : FTy} {a b : FVec Ideal (Sh m n) φ} {f g : ℕ → ℕ → EReal}

theorem Is.mul (ha : Is (α := EReal) a f) (hb : Is (α := EReal) b g) : Is (α := EReal) (mulf a b) (fun r c => f r c * g r c) :=
  fun j => by show a j * b j = _; rw [ha j, hb j]

theorem Is.add (ha : Is (α := EReal) a f) (hb : Is (α := EReal) b g) : Is (α := EReal) (addf a b) (fun r c => f r c + g r c) :=
  fun j => by show a j + b j = _; rw [ha j, hb j]

theorem Is.sub (ha : Is (α := EReal) a f) (hb : Is (α := EReal) b g) : Is (α := EReal) (subf a b) (fun r c => f r c - g r c) :=
  fun j => by show a j - b j = _; rw [ha j, hb j]

theorem Is.exp (ha : Is (α := EReal) a f) : Is (α := EReal) (Idealize.ShloMosaic.exp a) (fun r c => Ideal.exp (f r c)) :=
  fun j => by show Ideal.exp (a j) = _; rw [ha j]

theorem Is.narrow {ψ : FTy} (h : ψ.bits < φ.bits) (ha : Is (α := EReal) a f) : Is (α := EReal) (truncf ψ a h) f := ha

theorem Is.widen {ψ : FTy} (h : φ.bits < ψ.bits) (ha : Is (α := EReal) a f) : Is (α := EReal) (extf ψ a h) f := ha

end Pointwise

theorem Is.cast {w : (Sh m n).Idx → α} {f : ℕ → ℕ → α} (hw : Is w f) (h : (Sh m n).ShapeCasts (Sh m n)) : Is (shapeCast (Sh m n) w h) f := by
  rw [shapeCast_self]; exact hw

theorem Is.splat (x : α) : Is (m := m) (n := n) (broadcast (Sh m n) x) (fun _ _ => x) := fun _ => rfl

theorem Is.select {c : IVec (Sh m n) 1} {a b : (Sh m n).Idx → α} {C : ℕ → ℕ → BitVec 1} {f g : ℕ → ℕ → α} (hc : Is c C) (ha : Is a f) (hb : Is b g) :
    Is (Idealize.ShloMosaic.select c a b) (fun r s => if C r s = 1 then f r s else g r s) :=
  fun j => by show (if c j = 1 then a j else b j) = _; rw [hc j, ha j, hb j]

/-- A column spread over the columns. -/
theorem Is.spread {w : (Sh m 1).Idx → α} {f : ℕ → ℕ → α} (hw : Is w f) (h : (Sh m 1).Broadcasts (Sh m n)) :
    Is (broadcastTo (Sh m n) w h) (fun r _ => f r 0) := fun j => by
  refine (broadcastTo_apply w h j (ValueIdx.ix2 (j 0) (0 : Fin 1)) fun a => ?_).trans (hw.at _ rfl rfl)
  match a with
  | ⟨0, _⟩ =>
    have h2 : (j 0).val < m := (j 0).isLt
    show (j 0).val = if m = 1 then 0 else (j 0).val
    split <;> omega
  | ⟨1, _⟩ => rfl

/-- A window of rows and columns cut out. -/
theorem Is.cut {w : (Sh m n).Idx → α} {f : ℕ → ℕ → α} {m' n' o p : ℕ} (hw : Is w f) (h : (Sh m n).Slices ![o, p] (Sh m' n')) :
    Is (extractStridedSlice (Sh m' n') ![o, p] w h) (fun r c => f (o + r) (p + c)) := fun j => by
  unfold extractStridedSlice
  exact hw.at _ rfl rfl

/-- Two arrays one above the other. -/
theorem Is.stack {m₁ m₂ : ℕ} {a : (Sh m₁ n).Idx → α} {b : (Sh m₂ n).Idx → α} {f g : ℕ → ℕ → α} (ha : Is a f) (hb : Is b g)
    (h : Shape.Concatenates [Sh m₁ n, Sh m₂ n] (Sh m n) 0) :
    Is (concatenate (Sh m n) 0 [⟨Sh m₁ n, a⟩, ⟨Sh m₂ n, b⟩] h) (fun r c => if r < m₁ then f r c else g (r - m₁) c) := fun j => by
  rw [concatenate_pair_apply]
  by_cases hlt : (j 0).val < m₁
  · refine (dif_pos hlt).trans ?_
    show _ = if (j 0).val < m₁ then _ else _
    rw [if_pos hlt]; exact ha.at _ rfl rfl
  · refine (dif_neg hlt).trans ?_
    show _ = if (j 0).val < m₁ then _ else _
    rw [if_neg hlt]; exact hb.at _ rfl rfl

/-- Two arrays side by side. -/
theorem Is.beside {n₁ n₂ : ℕ} {a : (Sh m n₁).Idx → α} {b : (Sh m n₂).Idx → α} {f g : ℕ → ℕ → α} (ha : Is a f) (hb : Is b g)
    (h : Shape.Concatenates [Sh m n₁, Sh m n₂] (Sh m n) 1) :
    Is (concatenate (Sh m n) 1 [⟨Sh m n₁, a⟩, ⟨Sh m n₂, b⟩] h) (fun r c => if c < n₁ then f r c else g r (c - n₁)) := fun j => by
  rw [concatenate_pair_apply]
  by_cases hlt : (j 1).val < n₁
  · refine (dif_pos hlt).trans ?_
    show _ = if (j 1).val < n₁ then _ else _
    rw [if_pos hlt]; exact ha.at _ rfl rfl
  · refine (dif_neg hlt).trans ?_
    show _ = if (j 1).val < n₁ then _ else _
    rw [if_neg hlt]; exact hb.at _ rfl rfl

/-- A rotation of the columns by `s`. -/
theorem Is.roll {w : (Sh m n).Idx → α} {f : ℕ → ℕ → α} (s : BitVec 32) (hw : Is w f) (h : (Sh m n).Rotates 1 none) :
    Is (dynamicRotate 1 s none w h) (fun r c => f r ((c + n - s.toNat % n) % n)) := fun j => by
  have hn : 0 < n := lt_of_le_of_lt (Nat.zero_le _) (j 1).isLt
  refine (dynamicRotate_apply 1 s w h j (ValueIdx.ix2 (j 0) ⟨((j 1).val + n - s.toNat % n) % n, Nat.mod_lt _ hn⟩) fun b => ?_).trans (hw.at _ rfl rfl)
  match b with
  | ⟨0, _⟩ => rfl
  | ⟨1, _⟩ => rfl

/-- The sums of the rows, as a column. -/
theorem Is.rowSum {m' : ℕ} {a : FVec Ideal (Sh m n) .f32} {f : ℕ → ℕ → EReal} (ha : Is (α := EReal) a f) (h : (Sh m n).Reduces [1] ⟨1, ![m]⟩) (h1) (h2)
    (h3 : (⟨1, ![m]⟩ : Shape).ShapeCasts (Sh m 1)) :
    Is (α := EReal) (shapeCast (Sh m 1) (multiReduction .add [1] ⟨1, ![m]⟩ a 0x00000000#32 h h1 h2) h3) (fun r _ => ∑ d ∈ Finset.range n, f r d) := fun j => by
  refine (congrArg (shapeCast (Sh m 1) _ h3) (ValueIdx.eq_ix2 j)).trans ((shapeCast_a_a1_apply _ h3 (j 0) (j 1)).trans ?_)
  show FloatOps.reduceAdd _ h a (ValueIdx.ix1 (j 0)) = _
  rw [Ideal.reduceAdd_def, Ideal.reduceAdd_r2_a1]
  show _ = ∑ d ∈ Finset.range n, _
  rw [Finset.sum_range]
  exact Finset.sum_congr rfl fun t _ => ha.at _ rfl rfl

/-- A leading axis of one dropped. -/
theorem Is.dropUnit {w : (⟨3, ![1, m, n]⟩ : Shape).Idx → α} {f : ℕ → ℕ → α} (hw : ∀ j, w j = f (j 1).val (j 2).val)
    (h : (⟨3, ![1, m, n]⟩ : Shape).ShapeCasts (Sh m n)) : Is (shapeCast (Sh m n) w h) f := fun j =>
  (congrArg (shapeCast (Sh m n) w h) (ValueIdx.eq_ix2 j)).trans ((shapeCast_1ab_ab_apply w h (j 0) (j 1)).trans (hw _))

/-- A leading axis of one added. -/
theorem Is.addUnit {w : (Sh m n).Idx → α} {f : ℕ → ℕ → α} (hw : Is w f) (h : (Sh m n).ShapeCasts (⟨3, ![1, m, n]⟩ : Shape)) :
    ∀ j, shapeCast (⟨3, ![1, m, n]⟩ : Shape) w h j = f (j 1).val (j 2).val := fun j =>
  (congrArg (shapeCast _ w h) (ValueIdx.eq_ix3 j)).trans ((shapeCast_ab_1ab_apply w h (j 0) (j 1) (j 2)).trans (hw.at _ rfl rfl))

/-! ## Products -/

/-- The dimension numbers of `aᵀ b`. -/
def tn (M K N : ℕ) : DotDims (Sh K M) (Sh K N) (Sh M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [], rfl, Nat.two_pos,
    fun b => by fin_cases b <;> rfl⟩

section Products

variable {M K N : ℕ} {φ₁ φ₂ : FTy} {f g : ℕ → ℕ → EReal}

theorem contr_rank (M K N : ℕ) : (tn M K N).contr.rank = 1 := rfl
theorem contr_size (M K N : ℕ) : (tn M K N).contr.size ⟨0, by rw [contr_rank]; exact Nat.one_pos⟩ = K := rfl

/-- `aᵀ b`, entry by entry. -/
theorem Is.mm_tn {a : FVec Ideal (Sh K M) φ₁} {b : FVec Ideal (Sh K N) φ₂} (d : DotDims (Sh K M) (Sh K N) (Sh M N)) (hd : d = tn M K N)
    (ha : Is (α := EReal) a f) (hb : Is (α := EReal) b g) (z) (hz : z = constant (F := Ideal) (Sh M N) .f32 0x00000000#32) :
    Is (α := EReal) (matmul d none a b z) (fun r c => ∑ t ∈ Finset.range K, f t r * g t c) := fun j => by
  subst hd hz
  show FloatOps.matmul (tn M K N) none a b _ j = ∑ t ∈ Finset.range K, _
  rw [Finset.sum_range]
  rw [Ideal.matmul_constant_zero_apply, ← Equiv.sum_comp (contrEquiv1 _ K (contr_rank M K N) (contr_size M K N)).symm]
  refine Finset.sum_congr rfl fun t _ => ?_
  have hk := contrEquiv1_symm_val _ K (contr_rank M K N) (contr_size M K N) t
  exact congrArg₂ (· * ·) (ha.at _ hk rfl) (hb.at _ hk rfl)

/-- `a bᵀ`, entry by entry. -/
theorem Is.mm_nt {a : FVec Ideal (Sh M K) φ₁} {b : FVec Ideal (Sh N K) φ₂} (d : DotDims (Sh M K) (Sh N K) (Sh M N)) (hd : d = DotDims.transposedRhs M K N)
    (ha : Is (α := EReal) a f) (hb : Is (α := EReal) b g) (z) (hz : z = constant (F := Ideal) (Sh M N) .f32 0x00000000#32) :
    Is (α := EReal) (matmul d none a b z) (fun r c => ∑ t ∈ Finset.range K, f r t * g c t) := fun j => by
  subst hd hz
  show FloatOps.matmul (DotDims.transposedRhs M K N) none a b _ j = ∑ t ∈ Finset.range K, _
  rw [Finset.sum_range]
  rw [Ideal.matmul_constant_zero_apply, ← Equiv.sum_comp (DotDims.transposedRhsContr M K N).symm]
  refine Finset.sum_congr rfl fun t _ => ?_
  have hk := contrEquiv1_symm_val _ K (DotDims.transposedRhs_contr_rank M K N) (DotDims.transposedRhs_contr_size M K N) t
  exact congrArg₂ (· * ·) (ha.at _ rfl hk) (hb.at _ rfl hk)

/-- `a b`, entry by entry. -/
theorem Is.mm_nn {a : FVec Ideal (Sh M K) φ₁} {b : FVec Ideal (Sh K N) φ₂} (d : DotDims (Sh M K) (Sh K N) (Sh M N)) (hd : d = DotDims.plain M K N)
    (ha : Is (α := EReal) a f) (hb : Is (α := EReal) b g) (z) (hz : z = constant (F := Ideal) (Sh M N) .f32 0x00000000#32) :
    Is (α := EReal) (matmul d none a b z) (fun r c => ∑ t ∈ Finset.range K, f r t * g t c) := fun j => by
  subst hd hz
  show FloatOps.matmul (DotDims.plain M K N) none a b _ j = ∑ t ∈ Finset.range K, _
  rw [Finset.sum_range]
  rw [Ideal.matmul_constant_zero_apply, ← Equiv.sum_comp (DotDims.plainContr M K N).symm]
  refine Finset.sum_congr rfl fun t _ => ?_
  have hk := contrEquiv1_symm_val _ K (DotDims.plain_contr_rank M K N) (DotDims.plain_contr_size M K N) t
  exact congrArg₂ (· * ·) (ha.at _ rfl hk) (hb.at _ hk rfl)

end Products

/-! ## Windows of a buffer -/

/-- A load of a window. -/
theorem Is.window {w : (Sh m n).Idx → α} {f : ℕ → ℕ → α} {m' n' o p : ℕ} (hw : Is w f) (inb : ∀ a, (![o, p] : Fin 2 → ℕ) a + (![m', n'] : Fin 2 → ℕ) a ≤ (Sh m n).size a) :
    Is (m := m') (n := n') (VecWindow.window w ![o, p] ![m', n'] inb) (fun r c => f (o + r) (p + c)) := fun j =>
  hw.at _ (by show o + 1 * (j 0).val = _; rw [Nat.one_mul]) (by show p + 1 * (j 1).val = _; rw [Nat.one_mul])

/-- A store of whole rows. -/
theorem Is.put {w : (Sh m n).Idx → α} {f g : ℕ → ℕ → α} {m' o : ℕ} (hw : Is w f) {x : (Sh m' n).Idx → α} (hx : Is x g) :
    Is (VecWindow.put w ![o, 0] ![m', n] x) (fun r c => if o ≤ r ∧ r < o + m' then g (r - o) c else f r c) := fun j => by
  show (if h : ∀ a, _ then x (Rect.unitLocal (s := Sh m n) (off := ![o, 0]) (size := ![m', n]) j h) else w j) = if o ≤ (j 0).val ∧ (j 0).val < o + m' then _ else _
  by_cases h : o ≤ (j 0).val ∧ (j 0).val < o + m'
  · have h' : ∀ a : Fin 2, (![o, 0] : Fin 2 → ℕ) a ≤ (j a).val ∧ (j a).val < (![o, 0] : Fin 2 → ℕ) a + (![m', n] : Fin 2 → ℕ) a := by
      intro a; fin_cases a
      · exact h
      · exact ⟨Nat.zero_le _, by show (j 1).val < 0 + n; rw [Nat.zero_add]; exact (j 1).isLt⟩
    rw [dif_pos h', if_pos h]
    exact hx.at _ rfl rfl
  · rw [dif_neg (fun h' => h (h' 0)), if_neg h]; exact hw j

end Cert.Proof.Table

end
-- ==== Proof.Real.lean ====
/- Arrays of real numbers, and the host operations over them. -/
module

public import Idealize.ShloMosaic.Lib.Pointwise
public import proofs.«01_k».proof.Proof.Table

@[expose] public section

set_option maxRecDepth 16384

noncomputable section

namespace Cert.Proof

open Idealize.ShloMosaic
open scoped BigOperators

/-- A vector whose elements are the reals `f`. -/
def Re1 {a : ℕ} (w : (⟨1, ![a]⟩ : Shape).Idx → EReal) (f : ℕ → ℝ) : Prop := ∀ i, w i = ((f (i 0).val : ℝ) : EReal)
/-- A matrix whose elements are the reals `f`. -/
def Re2 {a b : ℕ} (w : (⟨2, ![a, b]⟩ : Shape).Idx → EReal) (f : ℕ → ℕ → ℝ) : Prop := ∀ i, w i = ((f (i 0).val (i 1).val : ℝ) : EReal)
/-- A three-dimensional array whose elements are the reals `f`. -/
def Re3 {a b c : ℕ} (w : (⟨3, ![a, b, c]⟩ : Shape).Idx → EReal) (f : ℕ → ℕ → ℕ → ℝ) : Prop :=
  ∀ i, w i = ((f (i 0).val (i 1).val (i 2).val : ℝ) : EReal)

/-- A product of reals. -/
theorem mulR {x y : EReal} {a b : ℝ} (hx : x = (a : EReal)) (hy : y = (b : EReal)) : x * y = ((a * b : ℝ) : EReal) := by rw [hx, hy, EReal.coe_mul]
/-- A sum of reals. -/
theorem addR {x y : EReal} {a b : ℝ} (hx : x = (a : EReal)) (hy : y = (b : EReal)) : x + y = ((a + b : ℝ) : EReal) := by rw [hx, hy, EReal.coe_add]
/-- A difference of reals. -/
theorem subR {x y : EReal} {a b : ℝ} (hx : x = (a : EReal)) (hy : y = (b : EReal)) : x - y = ((a - b : ℝ) : EReal) := by rw [hx, hy, EReal.coe_sub]
/-- The opposite of a real. -/
theorem negR {x : EReal} {a : ℝ} (hx : x = (a : EReal)) : -x = ((-a : ℝ) : EReal) := by rw [hx, EReal.coe_neg]
/-- A quotient of reals. -/
theorem divR {x y : EReal} {a b : ℝ} (h : b ≠ 0) (hx : x = (a : EReal)) (hy : y = (b : EReal)) : Ideal.div x y = ((a / b : ℝ) : EReal) := by
  rw [hx, hy, Ideal.div_coe h, ← EReal.coe_mul, mul_one_div]
/-- A finite sum of reals. -/
theorem sumR {s : Finset ℕ} {F : ℕ → EReal} {f : ℕ → ℝ} (h : ∀ k ∈ s, F k = (f k : EReal)) : ∑ k ∈ s, F k = ((∑ k ∈ s, f k : ℝ) : EReal) := by
  induction s using Finset.induction_on with
  | empty => simp
  | insert a s ha ih =>
    rw [Finset.sum_insert ha, Finset.sum_insert ha, ih fun k hk => h k (Finset.mem_insert_of_mem hk), h a (Finset.mem_insert_self _ _), EReal.coe_add]
/-- The same over the first `n` indices. -/
theorem sumFin {n : ℕ} {F : Fin n → EReal} {f : ℕ → ℝ} (h : ∀ k : Fin n, F k = (f k.val : EReal)) : ∑ k, F k = ((∑ k ∈ Finset.range n, f k : ℝ) : EReal) := by
  rw [← sumR (s := Finset.range n) (F := fun k => if hk : k < n then F ⟨k, hk⟩ else 0) (f := f) fun k hk => (dif_pos (Finset.mem_range.mp hk)).trans (h _), Finset.sum_range]
  exact Finset.sum_congr rfl fun k _ => Eq.symm (dif_pos (c := k.val < n) (t := fun hk => F ⟨k.val, hk⟩) (e := fun _ => 0) k.isLt)

/-- A matrix of real elements. -/
theorem Re2.of_real {a b : ℕ} {w : (⟨2, ![a, b]⟩ : Shape).Idx → EReal} (h : ∀ i, ∃ r : ℝ, w i = (r : EReal)) : ∃ f, Re2 w f :=
  ⟨fun i j => if hh : i < a ∧ j < b then (w (ValueIdx.ix2 ⟨i, hh.1⟩ ⟨j, hh.2⟩)).toReal else 0, fun i => by
    obtain ⟨r, hr⟩ := h i
    have e2 : ValueIdx.ix2 ⟨(i 0).val, (i 0).isLt⟩ ⟨(i 1).val, (i 1).isLt⟩ = i := (ValueIdx.eq_ix2 i).symm
    refine Eq.trans ?_ (congrArg (fun r : ℝ => (r : EReal)) (dif_pos (show (i 0).val < a ∧ (i 1).val < b from ⟨(i 0).isLt, (i 1).isLt⟩))).symm
    exact hr.trans (congrArg (fun r : ℝ => (r : EReal)) ((congrArg (fun z => (w z).toReal) e2).trans (by rw [hr]; rfl)).symm)⟩

/-- A three-dimensional array of real elements. -/
theorem Re3.of_real {a b c : ℕ} {w : (⟨3, ![a, b, c]⟩ : Shape).Idx → EReal} (h : ∀ i, ∃ r : ℝ, w i = (r : EReal)) : ∃ f, Re3 w f :=
  ⟨fun i j k => if hh : i < a ∧ j < b ∧ k < c then (w (ValueIdx.ix3 ⟨i, hh.1⟩ ⟨j, hh.2.1⟩ ⟨k, hh.2.2⟩)).toReal else 0, fun i => by
    obtain ⟨r, hr⟩ := h i
    have e2 : ValueIdx.ix3 ⟨(i 0).val, (i 0).isLt⟩ ⟨(i 1).val, (i 1).isLt⟩ ⟨(i 2).val, (i 2).isLt⟩ = i := (ValueIdx.eq_ix3 i).symm
    refine Eq.trans ?_ (congrArg (fun r : ℝ => (r : EReal)) (dif_pos (show (i 0).val < a ∧ (i 1).val < b ∧ (i 2).val < c from ⟨(i 0).isLt, (i 1).isLt, (i 2).isLt⟩))).symm
    exact hr.trans (congrArg (fun r : ℝ => (r : EReal)) ((congrArg (fun z => (w z).toReal) e2).trans (by rw [hr]; rfl)).symm)⟩

/-- Two arrays one after the other along the last axis. -/
theorem Re3.beside {a b c c₁ c₂ : ℕ} {x : (⟨3, ![a, b, c₁]⟩ : Shape).Idx → EReal} {y : (⟨3, ![a, b, c₂]⟩ : Shape).Idx → EReal} {f g : ℕ → ℕ → ℕ → ℝ}
    (hx : Re3 x f) (hy : Re3 y g) (h : Shape.Concatenates [(⟨3, ![a, b, c₁]⟩ : Shape), ⟨3, ![a, b, c₂]⟩] ⟨3, ![a, b, c]⟩ 2) :
    Re3 (concatenate ⟨3, ![a, b, c]⟩ 2 [⟨_, x⟩, ⟨_, y⟩] h) (fun t r d => if d < c₁ then f t r d else g t r (d - c₁)) := fun j => by
  rw [concatenate_pair_apply]
  by_cases hlt : (j 2).val < c₁
  · refine (dif_pos hlt).trans ?_
    show _ = (((if (j 2).val < c₁ then _ else _ : ℝ)) : EReal)
    rw [if_pos hlt]; exact hx _
  · refine (dif_neg hlt).trans ?_
    show _ = (((if (j 2).val < c₁ then _ else _ : ℝ)) : EReal)
    rw [if_neg hlt]; exact hy _

/-- An array padded with zeros behind it. -/
theorem Re3.pad {a b c a' b' c' p q r : ℕ} {x : (⟨3, ![a, b, c]⟩ : Shape).Idx → EReal} {f : ℕ → ℕ → ℕ → ℝ} (hx : Re3 x f) {u : Shape} {v : u.Idx → EReal} (hv : ∀ i, v i = 0)
    (h : (⟨3, ![a, b, c]⟩ : Shape).Pads ![0, 0, 0] ![p, q, r] ![0, 0, 0] ⟨3, ![a', b', c']⟩) (hu : 0 < u.numel) :
    Re3 (Idealize.ShloMosaic.pad ⟨3, ![a', b', c']⟩ ![0, 0, 0] ![p, q, r] ![0, 0, 0] x v h hu) (fun i j k => if i < a ∧ j < b ∧ k < c then f i j k else 0) := fun j => by
  unfold Idealize.ShloMosaic.pad
  by_cases hin : (j 0).val < a ∧ (j 1).val < b ∧ (j 2).val < c
  · refine (dif_pos (by intro i; match i with
      | ⟨0, _⟩ => exact ⟨Nat.zero_le _, Nat.mod_one _, by show ((j 0).val - 0) / 1 < a; simpa using hin.1⟩
      | ⟨1, _⟩ => exact ⟨Nat.zero_le _, Nat.mod_one _, by show ((j 1).val - 0) / 1 < b; simpa using hin.2.1⟩
      | ⟨2, _⟩ => exact ⟨Nat.zero_le _, Nat.mod_one _, by show ((j 2).val - 0) / 1 < c; simpa using hin.2.2⟩)).trans ?_
    refine (hx _).trans ?_
    refine congrArg _ (Eq.trans ?_ (if_pos hin).symm)
    show f (((j 0).val - 0) / 1) (((j 1).val - 0) / 1) (((j 2).val - 0) / 1) = _
    simp only [Nat.sub_zero, Nat.div_one]
  · refine (dif_neg (fun hc => hin ⟨by simpa using (hc 0).2.2, by simpa using (hc 1).2.2, by simpa using (hc 2).2.2⟩)).trans ((hv _).trans ?_)
    exact congrArg (fun r : ℝ => (r : EReal)) (if_neg hin).symm

/-- A matrix padded with zeros behind it. -/
theorem Re2.pad {a b a' b' p q : ℕ} {x : (⟨2, ![a, b]⟩ : Shape).Idx → EReal} {f : ℕ → ℕ → ℝ} (hx : Re2 x f) {u : Shape} {v : u.Idx → EReal} (hv : ∀ i, v i = 0)
    (h : (⟨2, ![a, b]⟩ : Shape).Pads ![0, 0] ![p, q] ![0, 0] ⟨2, ![a', b']⟩) (hu : 0 < u.numel) :
    Re2 (Idealize.ShloMosaic.pad ⟨2, ![a', b']⟩ ![0, 0] ![p, q] ![0, 0] x v h hu) (fun i j => if i < a ∧ j < b then f i j else 0) := fun j => by
  unfold Idealize.ShloMosaic.pad
  by_cases hin : (j 0).val < a ∧ (j 1).val < b
  · refine (dif_pos (by intro i; match i with
      | ⟨0, _⟩ => exact ⟨Nat.zero_le _, Nat.mod_one _, by show ((j 0).val - 0) / 1 < a; simpa using hin.1⟩
      | ⟨1, _⟩ => exact ⟨Nat.zero_le _, Nat.mod_one _, by show ((j 1).val - 0) / 1 < b; simpa using hin.2⟩)).trans ?_
    refine (hx _).trans ?_
    refine congrArg _ (Eq.trans ?_ (if_pos hin).symm)
    show f (((j 0).val - 0) / 1) (((j 1).val - 0) / 1) = _
    simp only [Nat.sub_zero, Nat.div_one]
  · refine (dif_neg (fun hc => hin ⟨by simpa using (hc 0).2.2, by simpa using (hc 1).2.2⟩)).trans ((hv _).trans ?_)
    exact congrArg (fun r : ℝ => (r : EReal)) (if_neg hin).symm

/-- The last two axes of an array joined. -/
theorem Re3.join {a b c n : ℕ} {x : (⟨3, ![a, b, c]⟩ : Shape).Idx → EReal} {f : ℕ → ℕ → ℕ → ℝ} (hx : Re3 x f) (hn : n = b * c)
    (h : (⟨3, ![a, b, c]⟩ : Shape).ShapeCasts ⟨2, ![a, n]⟩) : Re2 (shapeCast ⟨2, ![a, n]⟩ x h) (fun i j => f i (j / c) (j % c)) := fun j => by
  have hc : 0 < c := by
    rcases Nat.eq_zero_or_pos c with h0 | h0
    · have := (j 1).isLt; subst hn; subst h0; exact absurd this (by simp)
    · exact h0
  have h1 : (j 1).val < b * c := hn ▸ (j 1).isLt
  refine (shapeCast_apply x h j (ValueIdx.ix3 (j 0) ⟨(j 1).val / c, (Nat.div_lt_iff_lt_mul hc).mpr h1⟩ ⟨(j 1).val % c, Nat.mod_lt _ hc⟩) ?_).trans (hx _)
  rw [Shape.rowMajor_val_three, Shape.rowMajor_val_two]
  show ((j 0).val * b + (j 1).val / c) * c + (j 1).val % c = (j 0).val * n + (j 1).val
  refine Eq.trans ?_ (congrArg (fun q => (j 0).val * q + (j 1).val) hn.symm)
  show _ = (j 0).val * (b * c) + (j 1).val
  rw [add_mul, mul_assoc, add_assoc, Nat.div_add_mod']

/-- A finite real's logarithm. -/
theorem logR {x : EReal} {a : ℝ} (h : 0 < a) (hx : x = (a : EReal)) : Ideal.log x = ((Real.log a : ℝ) : EReal) := by
  rw [hx]; show (if a ≤ 0 then (⊥ : EReal) else _) = _; rw [if_neg (not_le.mpr h)]

/-- The exponential of a real, or of minus infinity. -/
theorem expR {x : EReal} {a : ℝ} {p : Prop} [Decidable p] (hx : x = if p then (a : EReal) else ⊥) : Ideal.exp x = ((if p then Real.exp a else 0 : ℝ) : EReal) := by
  rw [hx]; split_ifs <;> rfl

/-- A choice between two reals. -/
theorem iteR {x y : EReal} {a b : ℝ} {p : Prop} [Decidable p] (hx : x = (a : EReal)) (hy : y = (b : EReal)) : (if p then x else y) = ((if p then a else b : ℝ) : EReal) := by
  split_ifs <;> assumption

/-- The greatest of finitely many values, each real or minus infinity and one of them real, is real. -/
theorem foldR {ι : Type} (s : Finset ι) (f : ι → EReal) (h : ∀ k ∈ s, f k = ⊥ ∨ ∃ r : ℝ, f k = (r : EReal)) :
    s.fold max ⊥ f = ⊥ ∨ ∃ r : ℝ, s.fold max ⊥ f = (r : EReal) := by
  classical
  induction s using Finset.induction_on with
  | empty => left; rfl
  | insert a s ha ih =>
    rw [Finset.fold_insert ha]
    rcases max_choice (f a) (s.fold max ⊥ f) with e | e <;> rw [e]
    · exact h a (Finset.mem_insert_self _ _)
    · exact ih fun k hk => h k (Finset.mem_insert_of_mem hk)

/-- The fold is at least each value. -/
theorem le_foldR {ι : Type} (s : Finset ι) (f : ι → EReal) {k : ι} (hk : k ∈ s) : f k ≤ s.fold max ⊥ f := by
  classical
  induction s using Finset.induction_on with
  | empty => exact absurd hk (Finset.notMem_empty _)
  | insert a s ha ih =>
    rw [Finset.fold_insert ha]
    rcases Finset.mem_insert.mp hk with rfl | hk
    · exact le_max_left _ _
    · exact (ih hk).trans (le_max_right _ _)

end Cert.Proof

end
-- ==== Proof.Finite.lean ====
/- The finiteness precondition makes every argument's elements real numbers. -/
module

public import proofs.«01_k».proof.Defs
public import proofs.«01_k».proof.Proof.Real

@[expose] public section

set_option maxRecDepth 16384

noncomputable section

namespace Cert.Pre_finite

/-- The scalar bound is broadcast over each argument. -/
theorem shapes_fit : Facts := ⟨by decide, by decide, by decide, by decide⟩

end Cert.Pre_finite

namespace Cert.Proof

open Idealize.ShloMosaic

/-- The words of the bound are those of plus infinity. -/
theorem bits_top : Ideal.ofBits .f32 0x7F800000#32 = (⊤ : EReal) := by simp [Ideal.ofBits, Ideal.ieee]

/-- A value whose magnitude is below plus infinity is a real number. -/
theorem real_of_bounded (x : EReal) (h : BitVec.ofBool (decide (max x (-x) < Ideal.ofBits .f32 0x7F800000#32)) = 1#1) : ∃ r : ℝ, x = (r : EReal) := by
  rw [bits_top] at h
  have hlt : max x (-x) < ⊤ := by
    by_contra hn
    rw [decide_eq_false hn] at h
    exact absurd h (by decide)
  induction x using EReal.rec with
  | bot => simp at hlt
  | coe r => exact ⟨r, rfl⟩
  | top => simp at hlt

/-- An array whose magnitudes all compare below plus infinity holds real numbers. -/
theorem reals_of_bounded {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32 : FVec Ideal Cert.Pre_finite.S_ .f32)) = fun _ => 1#1) :
    ∀ i, ∃ r : ℝ, (x i : EReal) = (r : EReal) := fun i =>
  real_of_bounded (x i) (congrFun h i)

end Cert.Proof

end
-- ==== Proof.Pays.lean ====
/- The kernel's payloads as tables: what each store of the body writes, from the tables of what the body has loaded. -/
module

public import proofs.«01_k».proof.Proof.Table
public import proofs.«01_k».proof.Proof.Gen.KernelIdeal.Skeleton

@[expose] public section

noncomputable section

namespace Cert.Proof.Table

open Cert.KernelIdeal Cert.KernelIdeal.Gen
open Idealize.ShloMosaic Idealize.ShloMosaic.ValueIdx
open scoped BigOperators

/-- The scale of the scores. -/
def sc : EReal := Ideal.ofBits .f32 0x3D93CD3A#32

variable (Q K V DO O : ℕ → ℕ → EReal) (L D : ℕ → ℕ → EReal)

/-- The weight of key `u` for query `t` before the mask. -/
def P (t u : ℕ) : EReal := Ideal.exp ((∑ d ∈ Finset.range 256, Q t d * K u d) * sc - L t 0)

/-- The gradient of the score of key `u` for query `t` before the mask. -/
def DS (t u : ℕ) : EReal := P Q K L t u * ((∑ d ∈ Finset.range 128, DO t d * V u d) - D t 0) * sc

section

variable {Q K V DO O L D}
variable {vq : FVec Ideal (Sh 512 256) .bf16} {vd : FVec Ideal (Sh 512 128) .bf16} {vl vD : FVec Ideal (Sh 512 1) .f32}

theorem pay4_is {vk : FVec Ideal (Sh 1024 256) .bf16} (hq : Is (α := EReal) vq Q) (hl : Is (α := EReal) vl L) (hk : Is (α := EReal) vk K) :
    Is (α := EReal) (k0_pay4 (F := Ideal) vq vl vk) (P Q K L) := by
  unfold k0_pay4
  exact (((Is.mm_nt _ rfl hq hk _ rfl).mul (Is.splat _)).sub (hl.spread _)).exp

theorem pay5_is {vk : FVec Ideal (Sh 1024 256) .bf16} {vv : FVec Ideal (Sh 1024 128) .bf16} (hq : Is (α := EReal) vq Q) (hd : Is (α := EReal) vd DO)
    (hl : Is (α := EReal) vl L) (hD : Is (α := EReal) vD D) (hk : Is (α := EReal) vk K) (hv : Is (α := EReal) vv V) :
    Is (α := EReal) (k0_pay5 (F := Ideal) vq vd vl vD vk vv) (DS Q K V DO L D) := by
  unfold k0_pay5
  exact (((pay4_is hq hl hk).mul ((Is.mm_nt _ rfl hd (hv.cast _) _ rfl).sub (hD.spread _))).mul (Is.splat _)).narrow _

theorem pay6_is {vk : FVec Ideal (Sh 1024 256) .bf16} {vo : FVec Ideal (Sh 1024 128) .f32} {f : ℕ → ℕ → EReal} (hq : Is (α := EReal) vq Q) (hd : Is (α := EReal) vd DO)
    (hl : Is (α := EReal) vl L) (hk : Is (α := EReal) vk K) (ho : Is (α := EReal) vo f) :
    Is (α := EReal) (k0_pay6 (F := Ideal) vq vd vl vk vo) (fun u d => f u d + ∑ r ∈ Finset.range 512, P Q K L r u * DO r d) := by
  unfold k0_pay6
  exact (ho.add (Is.mm_tn _ rfl ((pay4_is hq hl hk).narrow _) hd _ rfl)).cast _

theorem pay7_is {vk : FVec Ideal (Sh 1024 256) .bf16} {vv : FVec Ideal (Sh 1024 128) .bf16} {vo : FVec Ideal (Sh 1024 256) .f32} {f : ℕ → ℕ → EReal}
    (hq : Is (α := EReal) vq Q) (hd : Is (α := EReal) vd DO)
    (hl : Is (α := EReal) vl L) (hD : Is (α := EReal) vD D) (hk : Is (α := EReal) vk K) (hv : Is (α := EReal) vv V) (ho : Is (α := EReal) vo f) :
    Is (α := EReal) (k0_pay7 (F := Ideal) vq vd vl vD vk vv vo) (fun u d => f u d + ∑ r ∈ Finset.range 512, DS Q K V DO L D r u * Q r d) := by
  unfold k0_pay7
  exact (ho.add (Is.mm_tn _ rfl (pay5_is hq hd hl hD hk hv) hq _ rfl)).cast _

theorem pay34_is {vk : FVec Ideal (Sh 1024 256) .bf16} {vo : FVec Ideal (Sh 512 256) .f32} {vs : FVec Ideal (Sh 512 1024) .bf16} {f g : ℕ → ℕ → EReal}
    (ho : Is (α := EReal) vo f) (hk : Is (α := EReal) vk K) (hs : Is (α := EReal) vs g) :
    Is (α := EReal) (k0_pay34 (F := Ideal) vo vk vs) (fun r d => f r d + ∑ u ∈ Finset.range 1024, g r u * K u d) := by
  unfold k0_pay34
  exact (ho.add (Is.mm_nn _ rfl hs hk _ rfl)).cast _

theorem pay12_is {vk : FVec Ideal (Sh 512 256) .bf16} (hq : Is (α := EReal) vq Q) (hl : Is (α := EReal) vl L) (hk : Is (α := EReal) vk K) :
    Is (α := EReal) (k0_pay12 (F := Ideal) vq vl vk) (P Q K L) := by
  unfold k0_pay12
  exact (((Is.mm_nt _ rfl hq hk _ rfl).mul (Is.splat _)).sub (hl.spread _)).exp

theorem pay13_is {vk : FVec Ideal (Sh 512 256) .bf16} {vv : FVec Ideal (Sh 512 128) .bf16} (hq : Is (α := EReal) vq Q) (hd : Is (α := EReal) vd DO)
    (hl : Is (α := EReal) vl L) (hD : Is (α := EReal) vD D) (hk : Is (α := EReal) vk K) (hv : Is (α := EReal) vv V) :
    Is (α := EReal) (k0_pay13 (F := Ideal) vq vd vl vD vk vv) (DS Q K V DO L D) := by
  unfold k0_pay13
  exact (((pay12_is hq hl hk).mul ((Is.mm_nt _ rfl hd (hv.cast _) _ rfl).sub (hD.spread _))).mul (Is.splat _)).narrow _

theorem pay14_is {vk : FVec Ideal (Sh 512 256) .bf16} {vo : FVec Ideal (Sh 512 128) .f32} {f : ℕ → ℕ → EReal} (hq : Is (α := EReal) vq Q) (hd : Is (α := EReal) vd DO)
    (hl : Is (α := EReal) vl L) (hk : Is (α := EReal) vk K) (ho : Is (α := EReal) vo f) :
    Is (α := EReal) (k0_pay14 (F := Ideal) vq vd vl vk vo) (fun u d => f u d + ∑ r ∈ Finset.range 512, P Q K L r u * DO r d) := by
  unfold k0_pay14
  exact (ho.add (Is.mm_tn _ rfl ((pay12_is hq hl hk).narrow _) hd _ rfl)).cast _

theorem pay15_is {vk : FVec Ideal (Sh 512 256) .bf16} {vv : FVec Ideal (Sh 512 128) .bf16} {vo : FVec Ideal (Sh 512 256) .f32} {f : ℕ → ℕ → EReal}
    (hq : Is (α := EReal) vq Q) (hd : Is (α := EReal) vd DO)
    (hl : Is (α := EReal) vl L) (hD : Is (α := EReal) vD D) (hk : Is (α := EReal) vk K) (hv : Is (α := EReal) vv V) (ho : Is (α := EReal) vo f) :
    Is (α := EReal) (k0_pay15 (F := Ideal) vq vd vl vD vk vv vo) (fun u d => f u d + ∑ r ∈ Finset.range 512, DS Q K V DO L D r u * Q r d) := by
  unfold k0_pay15
  exact (ho.add (Is.mm_tn _ rfl (pay13_is hq hd hl hD hk hv) hq _ rfl)).cast _

theorem pay36_is {vk : FVec Ideal (Sh 512 256) .bf16} {vo : FVec Ideal (Sh 512 256) .f32} {vs : FVec Ideal (Sh 512 512) .bf16} {f g : ℕ → ℕ → EReal} (z) (hz : z = constant (F := Ideal) (Sh 512 256) .f32 0x00000000#32)
    (ho : Is (α := EReal) vo f) (hk : Is (α := EReal) vk K) (hs : Is (α := EReal) vs g) :
    Is (α := EReal) (k0_pay36 (F := Ideal) vo vk vs z) (fun r d => f r d + ∑ u ∈ Finset.range 512, g r u * K u d) := by
  unfold k0_pay36
  exact (ho.add (Is.mm_nn _ rfl hs hk _ hz)).cast _

theorem pay16_is (hq : Is (α := EReal) vq Q) : Is (α := EReal) (k0_pay16 (F := Ideal) vq) Q := by unfold k0_pay16; exact hq.cast _

theorem pay17_is (hd : Is (α := EReal) vd DO) : Is (α := EReal) (k0_pay17 (F := Ideal) vd) DO := by unfold k0_pay17; exact hd.cast _

theorem pay18_is {v : FVec Ideal ⟨3, ![1, 512, 1]⟩ .f32} (h : ∀ j, v j = L (j 1).val (j 2).val) : Is (α := EReal) (k0_pay18 (F := Ideal) v) L := by
  unfold k0_pay18; exact Is.dropUnit h _

theorem pay19_is {vo : FVec Ideal (Sh 512 128) .bf16} (hd : Is (α := EReal) vd DO) (ho : Is (α := EReal) vo O) :
    Is (α := EReal) (k0_pay19 (F := Ideal) vd vo) (fun t _ => ∑ d ∈ Finset.range 128, DO t d * O t d) := by
  unfold k0_pay19
  exact Is.rowSum (m' := 0) (((pay17_is hd).widen _).mul ((ho.cast _).widen _)) _ _ _ _

/-- The mask of the tile's meta keys and of its own keys: 1 where the key is seen. -/
def M640 (r u : ℕ) : BitVec 1 := if u < 128 then (if u < 16 then 1 else 0) else if (u - 128) / 64 ≤ r / 64 then 1 else 0

theorem bits20 : ∀ u : Fin 128, IntOp.cmpi .slt (BitVec.ofNat 32 (0 * 128 + u.val)) 16#32 = if u.val < 16 then (1 : BitVec 1) else 0 := by decide +kernel

theorem bits21 : ∀ u : Fin 512, IntOp.shrsi .vector (BitVec.ofNat 32 (0 * 512 + u.val)) 6#32 = BitVec.ofNat 32 (u.val / 64) := by decide +kernel

theorem bits21' : ∀ u : Fin 512, IntOp.shrsi .vector (IntOp.addi 0#32 (BitVec.ofNat 32 (0 * 512 + u.val))) 6#32 = BitVec.ofNat 32 (u.val / 64) := by decide +kernel

theorem bits21'' : ∀ a b : Fin 8, IntOp.cmpi .sle (BitVec.ofNat 32 a.val) (BitVec.ofNat 32 b.val) = if a.val ≤ b.val then (1 : BitVec 1) else 0 := by decide +kernel

theorem pay20_is : Is k0_pay20 (fun _ u => if u < 16 then 1 else 0) := fun j => bits20 (j 1)

theorem pay21_is : Is k0_pay21 (fun r u => if u / 64 ≤ r / 64 then 1 else 0) := fun j => by
  have h0 : (j 0).val < 512 := (j 0).isLt
  have h1 : (j 1).val < 512 := (j 1).isLt
  show IntOp.cmpi .sle (IntOp.shrsi .vector (BitVec.ofNat 32 (0 * 512 + (j 1).val)) 6#32) (IntOp.shrsi .vector (IntOp.addi 0#32 (BitVec.ofNat 32 (0 * 512 + (j 0).val))) 6#32) = _
  rw [bits21 ⟨_, h1⟩, bits21' ⟨_, h0⟩]
  exact bits21'' ⟨(j 1).val / 64, by omega⟩ ⟨(j 0).val / 64, by omega⟩

theorem pay22_is {a : FVec Ideal (Sh 128 256) .bf16} {b : FVec Ideal (Sh 512 256) .bf16} {f g : ℕ → ℕ → EReal} (ha : Is (α := EReal) a f) (hb : Is (α := EReal) b g) :
    Is (α := EReal) (k0_pay22 (F := Ideal) a b) (fun u d => if u < 128 then f u d else g (u - 128) d) := by
  unfold k0_pay22; exact ha.stack hb _

end

/-- The weights of the tile for its meta keys and its own, masked. -/
def Pm (t u : ℕ) : EReal := if M640 t u = 1 then P Q K L t u else 0

/-- The gradients of the scores of the tile for its meta keys and its own, masked. -/
def DSm (t u : ℕ) : EReal := if M640 t u = 1 then DS Q K V DO L D t u else 0

section

variable {Q K V DO O L D}
variable {vq : FVec Ideal (Sh 512 256) .bf16} {vd : FVec Ideal (Sh 512 128) .bf16} {vl vD : FVec Ideal (Sh 512 1) .f32}
variable {vk : FVec Ideal (Sh 640 256) .bf16} {v1 : FVec Ideal (Sh 128 128) .bf16} {v2 : FVec Ideal (Sh 512 128) .bf16} {V1 V2 : ℕ → ℕ → EReal}

theorem pay25_is (hq : Is (α := EReal) vq Q) (hl : Is (α := EReal) vl L) (hk : Is (α := EReal) vk K) :
    Is (α := EReal) (k0_pay25 (F := Ideal) vq vl k0_pay20 k0_pay21 vk) (Pm Q K L) := by
  unfold k0_pay25
  refine (Is.select (pay20_is.beside pay21_is _) (((Is.mm_nt _ rfl hq hk _ rfl).mul (Is.splat _)).sub (hl.spread _)).exp (Is.splat _)).congr fun t u _ _ => ?_
  show (if (if u < 128 then _ else _) = 1 then P Q K L t u else Ideal.ofBits .f32 0x00000000#32) = if M640 t u = 1 then _ else _
  rw [Ideal.ofBits_zero_f32]; rfl

/-- The values of the tile's meta keys above those of its own. -/
def V640 (V1 V2 : ℕ → ℕ → EReal) (u d : ℕ) : EReal := if u < 128 then V1 u d else V2 (u - 128) d

theorem pay26_is (hq : Is (α := EReal) vq Q) (hd : Is (α := EReal) vd DO) (hl : Is (α := EReal) vl L) (hD : Is (α := EReal) vD D) (hk : Is (α := EReal) vk K)
    (h1 : Is (α := EReal) v1 V1) (h2 : Is (α := EReal) v2 V2) :
    Is (α := EReal) (k0_pay26 (F := Ideal) vq vd vl vD k0_pay20 k0_pay21 vk v1 v2) (DSm Q K (V640 V1 V2) DO L D) := by
  unfold k0_pay26
  refine Is.congr ((((pay25_is hq hl hk).mul ((Is.mm_nt _ rfl hd (h1.stack h2 _) _ rfl).sub (hD.spread _))).mul (Is.splat _)).narrow _) fun t u _ _ => ?_
  show Pm Q K L t u * _ * sc = DSm Q K _ DO L D t u
  unfold Pm DSm
  split
  · rfl
  · rw [zero_mul, zero_mul]

theorem pay27_is (hq : Is (α := EReal) vq Q) (hd : Is (α := EReal) vd DO) (hl : Is (α := EReal) vl L) (hk : Is (α := EReal) vk K) :
    Is (α := EReal) (k0_pay27 (F := Ideal) vq vd vl k0_pay20 k0_pay21 vk) (fun u d => ∑ r ∈ Finset.range 512, Pm Q K L r u * DO r d) := by
  unfold k0_pay27
  exact Is.mm_tn _ rfl ((pay25_is hq hl hk).narrow _) hd _ rfl

theorem pay28_is (hq : Is (α := EReal) vq Q) (hd : Is (α := EReal) vd DO) (hl : Is (α := EReal) vl L) (hD : Is (α := EReal) vD D) (hk : Is (α := EReal) vk K)
    (h1 : Is (α := EReal) v1 V1) (h2 : Is (α := EReal) v2 V2) :
    Is (α := EReal) (k0_pay28 (F := Ideal) vq vd vl vD k0_pay20 k0_pay21 vk v1 v2) (fun u d => ∑ r ∈ Finset.range 512, DSm Q K (V640 V1 V2) DO L D r u * Q r d) := by
  unfold k0_pay28
  exact Is.mm_tn _ rfl (pay26_is hq hd hl hD hk h1 h2) hq _ rfl

theorem pay29_is {vo : FVec Ideal (Sh 128 128) .f32} {f : ℕ → ℕ → EReal} (hq : Is (α := EReal) vq Q) (hd : Is (α := EReal) vd DO) (hl : Is (α := EReal) vl L) (hk : Is (α := EReal) vk K) (ho : Is (α := EReal) vo f) :
    Is (α := EReal) (k0_pay29 (F := Ideal) vq vd vl k0_pay20 k0_pay21 vk vo) (fun u d => f u d + ∑ r ∈ Finset.range 512, Pm Q K L r u * DO r d) := by
  unfold k0_pay29
  refine ((ho.add ((pay27_is hq hd hl hk).cut _)).cast _).congr fun u d _ _ => ?_
  rw [Nat.zero_add, Nat.zero_add]

theorem pay30_is {vo : FVec Ideal (Sh 128 256) .f32} {f : ℕ → ℕ → EReal} (hq : Is (α := EReal) vq Q) (hd : Is (α := EReal) vd DO) (hl : Is (α := EReal) vl L) (hD : Is (α := EReal) vD D) (hk : Is (α := EReal) vk K)
    (h1 : Is (α := EReal) v1 V1) (h2 : Is (α := EReal) v2 V2) (ho : Is (α := EReal) vo f) :
    Is (α := EReal) (k0_pay30 (F := Ideal) vq vd vl vD k0_pay20 k0_pay21 vk v1 v2 vo) (fun u d => f u d + ∑ r ∈ Finset.range 512, DSm Q K (V640 V1 V2) DO L D r u * Q r d) := by
  unfold k0_pay30
  refine ((ho.add ((pay28_is hq hd hl hD hk h1 h2).cut _)).cast _).congr fun u d _ _ => ?_
  rw [Nat.zero_add, Nat.zero_add]

theorem pay31_is {vo : FVec Ideal (Sh 512 128) .f32} {f : ℕ → ℕ → EReal} (hq : Is (α := EReal) vq Q) (hd : Is (α := EReal) vd DO) (hl : Is (α := EReal) vl L) (hk : Is (α := EReal) vk K) (ho : Is (α := EReal) vo f) :
    Is (α := EReal) (k0_pay31 (F := Ideal) vq vd vl k0_pay20 k0_pay21 vk vo) (fun u d => f u d + ∑ r ∈ Finset.range 512, Pm Q K L r (128 + u) * DO r d) := by
  unfold k0_pay31
  refine ((ho.add ((pay27_is hq hd hl hk).cut _)).cast _).congr fun u d _ _ => ?_
  rw [Nat.zero_add]

theorem pay32_is {vo : FVec Ideal (Sh 512 256) .f32} {va : FVec Ideal (Sh 640 256) .f32} {f g : ℕ → ℕ → EReal} (hg : Is (α := EReal) va g) (ho : Is (α := EReal) vo f) :
    Is (α := EReal) (k0_pay32 (F := Ideal) va vo) (fun u d => f u d + g (128 + u) d) := by
  unfold k0_pay32
  refine ((ho.add (hg.cut _)).cast _).congr fun u d _ _ => ?_
  rw [Nat.zero_add]

theorem pay33_is {vs : FVec Ideal (Sh 512 640) .bf16} {g : ℕ → ℕ → EReal} (hk : Is (α := EReal) vk K) (hs : Is (α := EReal) vs g) :
    Is (α := EReal) (k0_pay33 (F := Ideal) vk vs) (fun r d => ∑ u ∈ Finset.range 640, g r u * K u d) := by
  unfold k0_pay33
  exact (Is.mm_nn _ rfl hs hk _ rfl).cast _

/-! ## The rotation back of the query gradient -/

/-- The query gradient of a row: its first 128 lanes as they are, the others rotated back. -/
def unrope (g C S : ℕ → ℕ → EReal) (t d : ℕ) : EReal :=
  if d < 128 then g t d
  else g t d * C t (d - 128) - (if (d - 128) % 64 < 32 then 0 - g t (128 + (d - 128 + 32) % 128) else g t (128 + (d - 128 + 96) % 128)) * S t (d - 128)

theorem bits41 : ∀ u : Fin 128, (let x := IntOp.remsi .vector (BitVec.ofNat 32 (0 * 128 + u.val)) 64#32
    IntOp.cmpi .slt (if IntOp.andi (IntOp.xori (IntOp.cmpi .slt x 0#32) (0#1)) (IntOp.cmpi .ne x 0#32) = 1 then IntOp.addi x 64#32 else x) 32#32) = if u.val % 64 < 32 then (1 : BitVec 1) else 0 := by decide +kernel

theorem pay41_is : Is k0_pay41 (fun _ u => if u % 64 < 32 then 1 else 0) := fun j => bits41 (j 1)

theorem pay1_is {vg : FVec Ideal (Sh 512 256) .f32} {vc vs : FVec Ideal (Sh 512 128) .f32} {g C S : ℕ → ℕ → EReal}
    (hg : Is (α := EReal) vg g) (hc : Is (α := EReal) vc C) (hs : Is (α := EReal) vs S) :
    Is (α := EReal) (k0_pay1 (F := Ideal) (k0_pay37 (F := Ideal) vs) (k0_pay38 (F := Ideal) vg) (k0_pay39 (F := Ideal) vg) (k0_pay40 (F := Ideal) vg vc) k0_pay41 (k0_pay42 (F := Ideal) vg) (Scalar.ofBits .f32 0x00000000#32))
      (unrope g C S) := by
  unfold k0_pay1 k0_pay37 k0_pay38 k0_pay40 k0_pay42 k0_pay39
  refine Is.congr (((hg.cut _).beside ((((hg.cut _).mul (hc.cast _))).sub ((pay41_is.select ((Is.splat _).sub ((hg.cut _).roll 96#32 _)) ((hg.cut _).roll 32#32 _)).mul (hs.cast _))) _).narrow _) fun t d _ hd => ?_
  show (if d < 128 then g (0 + t) (0 + d) else g (0 + t) (128 + (d - 128)) * C t (d - 128) - (if (if (d - 128) % 64 < 32 then (1 : BitVec 1) else 0) = 1 then Ideal.ofBits .f32 0x00000000#32 - g (0 + t) (128 + ((d - 128) + 128 - 96 % 128) % 128) else g (0 + t) (128 + ((d - 128) + 128 - 32 % 128) % 128)) * S t (d - 128)) = unrope g C S t d
  unfold unrope
  rw [Ideal.ofBits_zero_f32, Nat.zero_add, Nat.zero_add]
  by_cases h : d < 128
  · rw [if_pos h, if_pos h]
  · rw [if_neg h, if_neg h, show 128 + (d - 128) = d from by omega, show d - 128 + 128 - 96 % 128 = d - 128 + 32 from by omega, show d - 128 + 128 - 32 % 128 = d - 128 + 96 from by omega]
    by_cases h2 : (d - 128) % 64 < 32
    · simp only [if_pos h2, if_true]
    · simp only [if_neg h2]; rfl

end

/-! ## The meta rows -/

/-- The weights of the meta rows for the meta keys, zero elsewhere. -/
def P0 (t u : ℕ) : EReal := if u < 16 ∧ t < 16 then P Q K L t u else 0

/-- The gradients of the scores of the meta rows for the meta keys, zero elsewhere. -/
def DS0 (t u : ℕ) : EReal := if u < 16 ∧ t < 16 then DS Q K V DO L D t u else 0

section

variable {Q K V DO O L D}
variable {vq vk : FVec Ideal (Sh 128 256) .bf16} {vd vv : FVec Ideal (Sh 128 128) .bf16} {vl : FVec Ideal ⟨3, ![1, 128, 1]⟩ .f32} {v30 : FVec Ideal ⟨1, ![128]⟩ .f32}

theorem pay43_is {w : FVec Ideal (Sh 4224 128) .bf16} (h : Is (α := EReal) w Q) : Is (α := EReal) (k0_pay43 (F := Ideal) w) Q := by
  unfold k0_pay43; exact (h.cast _).cast _

theorem pay44_is {w : FVec Ideal (Sh 4224 128) .bf16} (h : Is (α := EReal) w Q) : Is (α := EReal) (k0_pay44 (F := Ideal) w) Q := by
  unfold k0_pay44; exact (h.cast _).cast _

theorem pay45_is : Is (α := EReal) (k0_pay45 (F := Ideal)) (fun _ _ => 0) := by
  unfold k0_pay45; exact ((Is.splat _).cast _).congr fun _ _ _ _ => Ideal.ofBits_zero_f32

theorem pay46_is : Is (α := EReal) (k0_pay46 (F := Ideal)) (fun _ _ => 0) := by
  unfold k0_pay46; exact ((Is.splat _).cast _).congr fun _ _ _ _ => Ideal.ofBits_zero_f32

theorem pay47_is : Is (α := EReal) (k0_pay47 (F := Ideal)) (fun _ _ => 0) := by
  unfold k0_pay47; exact (Is.splat _).congr fun _ _ _ _ => Ideal.ofBits_zero_bf16

theorem pay49_is (hd : Is (α := EReal) vd DO) : Is (α := EReal) (k0_pay49 (F := Ideal) vd) DO := by unfold k0_pay49; exact hd.cast _

theorem pay51_is (hq : Is (α := EReal) vq Q) : Is (α := EReal) (k0_pay51 (F := Ideal) vq) Q := by unfold k0_pay51; exact hq.cast _

theorem pay50_is {vo : FVec Ideal (Sh 128 128) .bf16} (hd : Is (α := EReal) vd DO) (ho : Is (α := EReal) vo O) (h3 : (⟨1, ![128]⟩ : Shape).ShapeCasts (Sh 128 1)) :
    Is (α := EReal) (shapeCast (Sh 128 1) (k0_pay50 (F := Ideal) vd vo) h3) (fun t _ => ∑ d ∈ Finset.range 128, DO t d * O t d) := by
  unfold k0_pay50
  exact Is.rowSum (m' := 0) (((pay49_is hd).widen _).mul ((ho.cast _).widen _)) _ _ _ _

theorem bits48 : ∀ u v : Fin 128, IntOp.andi (IntOp.cmpi .slt (BitVec.ofNat 32 (0 * 128 + u.val)) 16#32) (IntOp.cmpi .slt (BitVec.ofNat 32 (0 * 128 + v.val)) 16#32) = if u.val < 16 ∧ v.val < 16 then (1 : BitVec 1) else 0 := by decide +kernel

theorem pay52_is (hq : Is (α := EReal) vq Q) (hl : ∀ j, vl j = L (j 1).val (j 2).val) (hk : Is (α := EReal) vk K) :
    Is (α := EReal) (k0_pay52 (F := Ideal) k0_pay48 vq vl vk) (P0 Q K L) := by
  unfold k0_pay52
  refine (Is.select (m := 128) (n := 128) (C := fun t u => if u < 16 ∧ t < 16 then 1 else 0) (fun j => bits48 (j 1) (j 0)) (((Is.mm_nt _ rfl (pay51_is hq) hk _ rfl).mul (Is.splat _)).sub ((Is.dropUnit hl _).spread _)).exp (Is.splat _)).congr fun t u _ _ => ?_
  show (if (if u < 16 ∧ t < 16 then (1 : BitVec 1) else 0) = 1 then P Q K L t u else Ideal.ofBits .f32 0x00000000#32) = if u < 16 ∧ t < 16 then _ else _
  rw [Ideal.ofBits_zero_f32]
  by_cases h : u < 16 ∧ t < 16
  · rw [if_pos h, if_pos h, if_pos rfl]
  · rw [if_neg h, if_neg h]; rfl

theorem pay53_is (hq : Is (α := EReal) vq Q) (hd : Is (α := EReal) vd DO) (hD : ∀ h, Is (α := EReal) (shapeCast (Sh 128 1) v30 h) D) (hl : ∀ j, vl j = L (j 1).val (j 2).val) (hk : Is (α := EReal) vk K) (hv : Is (α := EReal) vv V) :
    Is (α := EReal) (k0_pay53 (F := Ideal) k0_pay48 vd v30 vq vl vk vv) (DS0 Q K V DO L D) := by
  unfold k0_pay53
  refine Is.congr ((((pay52_is hq hl hk).mul ((Is.mm_nt _ rfl hd (hv.cast _) _ rfl).sub ((hD _).spread _))).mul (Is.splat _)).narrow _) fun t u _ _ => ?_
  show P0 Q K L t u * _ * sc = DS0 Q K V DO L D t u
  unfold P0 DS0
  split
  · rfl
  · rw [zero_mul, zero_mul]

theorem pay54_is (hq : Is (α := EReal) vq Q) (hd : Is (α := EReal) vd DO) (hD : ∀ h, Is (α := EReal) (shapeCast (Sh 128 1) v30 h) D) (hl : ∀ j, vl j = L (j 1).val (j 2).val) (hk : Is (α := EReal) vk K) (hv : Is (α := EReal) vv V) :
    Is (α := EReal) (k0_pay54 (F := Ideal) k0_pay48 vd v30 vq vl vk vv) (fun u d => ∑ r ∈ Finset.range 128, DS0 Q K V DO L D r u * Q r d) := by
  unfold k0_pay54
  exact Is.mm_tn _ rfl (pay53_is hq hd hD hl hk hv) (pay51_is hq) _ rfl

theorem pay55_is {vo : FVec Ideal (Sh 128 128) .f32} {f : ℕ → ℕ → EReal} (hq : Is (α := EReal) vq Q) (hd : Is (α := EReal) vd DO) (hl : ∀ j, vl j = L (j 1).val (j 2).val) (hk : Is (α := EReal) vk K) (ho : Is (α := EReal) vo f) :
    Is (α := EReal) (k0_pay55 (F := Ideal) k0_pay48 vd vq vl vk vo) (fun u d => f u d + ∑ r ∈ Finset.range 128, P0 Q K L r u * DO r d) := by
  unfold k0_pay55
  exact (ho.add (Is.mm_tn _ rfl ((pay52_is hq hl hk).narrow _) hd _ rfl)).cast _

theorem pay56_is {va vo : FVec Ideal (Sh 128 256) .f32} {f g : ℕ → ℕ → EReal} (hg : Is (α := EReal) va g) (ho : Is (α := EReal) vo f) :
    Is (α := EReal) (k0_pay56 (F := Ideal) va vo) (fun u d => f u d + g u d) := by
  unfold k0_pay56; exact (ho.add hg).cast _

theorem pay57_is {vs : FVec Ideal (Sh 128 128) .bf16} {vc vn : FVec Ideal (Sh 16 128) .f32} {g C S : ℕ → ℕ → EReal}
    (hk : Is (α := EReal) vk K) (hs : Is (α := EReal) vs g) (hc : Is (α := EReal) vc C) (hn : Is (α := EReal) vn S) :
    Is (α := EReal) (k0_pay57 (F := Ideal) vk vs vc vn) (unrope (fun r d => ∑ u ∈ Finset.range 128, g r u * K u d) C S) := by
  unfold k0_pay57
  have hg := Is.cut (m' := 16) (n' := 256) (o := 0) (p := 0) (Is.mm_nn dot_S128x128_S128x256_S128x256_1_0_0_1_n_n rfl hs hk _ rfl) slices_S128x256_o0_0_S16x256
  have hm : Is (m := 16) (n := 128) (α := BitVec 1) _ (fun _ u => if u % 64 < 32 then 1 else 0) := fun j => bits41 (j 1)
  refine Is.congr (((hg.cut _).beside ((((hg.cut _).mul (hc.cast _))).sub ((hm.select ((Is.splat _).sub ((hg.cut _).roll 96#32 _)) ((hg.cut _).roll 32#32 _)).mul (hn.cast _))) _).narrow _) fun t d _ hd => ?_
  generalize hG : (fun r d => ∑ u ∈ Finset.range 128, g r u * K u d) = G
  show (if d < 128 then (fun r d => ∑ u ∈ Finset.range 128, g r u * K u d) (0 + (0 + t)) (0 + (0 + d)) else (fun r d => ∑ u ∈ Finset.range 128, g r u * K u d) (0 + (0 + t)) (0 + (128 + (d - 128))) * C t (d - 128) - (if (if (d - 128) % 64 < 32 then (1 : BitVec 1) else 0) = 1 then Ideal.ofBits .f32 0x00000000#32 - (fun r d => ∑ u ∈ Finset.range 128, g r u * K u d) (0 + (0 + t)) (0 + (128 + ((d - 128) + 128 - 96 % 128) % 128)) else (fun r d => ∑ u ∈ Finset.range 128, g r u * K u d) (0 + (0 + t)) (0 + (128 + ((d - 128) + 128 - 32 % 128) % 128))) * S t (d - 128)) = unrope G C S t d
  rw [hG]
  unfold unrope
  simp only [Ideal.ofBits_zero_f32, Nat.zero_add]
  by_cases h : d < 128
  · rw [if_pos h, if_pos h]
  · rw [if_neg h, if_neg h, show 128 + (d - 128) = d from by omega, show d - 128 + 128 - 96 % 128 = d - 128 + 32 from by omega, show d - 128 + 128 - 32 % 128 = d - 128 + 96 from by omega]
    by_cases h2 : (d - 128) % 64 < 32
    · simp only [if_pos h2, if_true]
    · simp only [if_neg h2]; rfl

theorem pay2_is {va : FVec Ideal (Sh 4224 256) .f32} {vb : FVec Ideal (Sh 4224 128) .f32} {f g : ℕ → ℕ → EReal} (hf : Is (α := EReal) va f) (hg : Is (α := EReal) vb g) :
    Is (α := EReal) (k0_pay2 (F := Ideal) va vb) (fun u d => if d < 128 then f u d else g u (d - 128)) := by
  unfold k0_pay2
  refine Is.congr (((hf.cut _).beside hg _).narrow _) fun u d _ _ => ?_
  simp only [Nat.zero_add]

theorem pay3_is {va : FVec Ideal (Sh 4224 256) .f32} {f : ℕ → ℕ → EReal} (hf : Is (α := EReal) va f) (j : (⟨3, ![1, 4224, 128]⟩ : Shape).Idx) :
    k0_pay3 (F := Ideal) va j = f (j 1).val (128 + (j 2).val) := by
  unfold k0_pay3
  refine (Is.addUnit (hf.cut _) _ j).trans ?_
  simp only [Nat.zero_add]

end

end Cert.Proof.Table

end
-- ==== Proof.Tile.lean ====
/- Which keys a query sees, and how the parts of a query tile make up the sum over them. -/
module

public import proofs.«01_k».proof.Proof.Pays

@[expose] public section

noncomputable section

namespace Cert.Proof.Table

open Idealize.ShloMosaic
open scoped BigOperators

/-- Query `t` sees the 16 meta keys and, past the meta rows, the keys of its own block of 64 and of those before it. -/
def seen (t u : ℕ) : Prop := u < 16 ∨ (16 ≤ u ∧ 16 ≤ t ∧ (u - 16) / 64 ≤ (t - 16) / 64)

instance (t u : ℕ) : Decidable (seen t u) := by unfold seen; infer_instance

/-- The weight of key `u` for query `t`, zero where it is not seen. -/
def PA (Q K L : ℕ → ℕ → EReal) (t u : ℕ) : EReal := if seen t u then P Q K L t u else 0

/-- The gradient of the score of key `u` for query `t`, zero where it is not seen. -/
def DA (Q K V DO L D : ℕ → ℕ → EReal) (t u : ℕ) : EReal := if seen t u then DS Q K V DO L D t u else 0

/-- The row of the buffer that row `u` of the stacked meta and diagonal keys is. -/
def rowOf (k u : ℕ) : ℕ := if u < 128 then u else 16 + 512 * k + (u - 128)

/-- The stacked rows of the meta keys hold the 16 meta keys. -/
theorem tile_meta {k r : ℕ} (x y : ℕ → EReal)
    (hy : ∀ u, u < 640 → y u = if M640 r u = 1 then x (rowOf k u) else 0) (u : ℕ) :
    (if 0 ≤ u ∧ u < 0 + 128 then y (u - 0) else 0) = if u < 16 then x u else 0 := by
  by_cases h : u < 128
  · rw [if_pos (by omega), Nat.sub_zero, hy u (by omega), rowOf, if_pos h, M640, if_pos h]
    by_cases h' : u < 16
    · rw [if_pos h', if_pos rfl, if_pos h']
    · rw [if_neg h', if_neg h']; rfl
  · rw [if_neg (by omega), if_neg (by omega)]

/-- The other stacked rows hold the tile's own keys, up to the query's block. -/
theorem tile_diag {k r : ℕ} (hr : r < 512) (x y : ℕ → EReal)
    (hy : ∀ u, u < 640 → y u = if M640 r u = 1 then x (rowOf k u) else 0) (u : ℕ) :
    (if 16 + 512 * k ≤ u ∧ u < 16 + 512 * k + 512 then y (128 + (u - (16 + 512 * k))) else 0) = if 16 + 512 * k ≤ u ∧ u < 16 + 512 * k + 512 ∧ (u - 16) / 64 ≤ (512 * k + r) / 64 then x u else 0 := by
  by_cases h : 16 + 512 * k ≤ u ∧ u < 16 + 512 * k + 512
  · have hn : ¬ 128 + (u - (16 + 512 * k)) < 128 := by omega
    rw [if_pos h, hy _ (by omega), rowOf, M640, if_neg hn, if_neg hn, show 16 + 512 * k + (128 + (u - (16 + 512 * k)) - 128) = u from by omega]
    by_cases h' : (128 + (u - (16 + 512 * k)) - 128) / 64 ≤ r / 64
    · rw [if_pos h', if_pos rfl, if_pos (by omega)]
    · rw [if_neg h', if_neg (c := _ ∧ _) (by omega)]; rfl
  · rw [if_neg h, if_neg (by omega)]

/-- The parts of an even tile make up the keys its query sees. -/
theorem tile_even {k r : ℕ} (hk : k % 2 = 0) (hr : r < 512) (x y : ℕ → EReal)
    (hy : ∀ u, u < 640 → y u = if M640 r u = 1 then x (rowOf k u) else 0) (u : ℕ) :
    (if 0 ≤ u ∧ u < 0 + 128 then y (u - 0) else 0) + (if 16 + 512 * k ≤ u ∧ u < 16 + 512 * k + 512 then y (128 + (u - (16 + 512 * k))) else 0)
      + (if 16 ≤ u ∧ u < 16 + 1024 * (k / 2) then x u else 0) = if seen (16 + 512 * k + r) u then x u else 0 := by
  rw [tile_meta x y hy, tile_diag hr x y hy]
  by_cases hs : seen (16 + 512 * k + r) u
  · rw [if_pos hs]
    unfold seen at hs
    by_cases h1 : u < 16
    · rw [if_pos h1, if_neg (by omega), if_neg (by omega), add_zero, add_zero]
    · rw [if_neg h1, zero_add]
      by_cases h2 : u < 16 + 512 * k
      · rw [if_neg (by omega), if_pos (by omega), zero_add]
      · rw [if_pos (by omega), if_neg (by omega), add_zero]
  · rw [if_neg hs]
    unfold seen at hs
    rw [if_neg (by omega), if_neg (by omega), if_neg (by omega), add_zero, add_zero]

/-- The parts of an odd tile make up the keys its query sees. -/
theorem tile_odd {k r : ℕ} (hk : k % 2 = 1) (hr : r < 512) (x y : ℕ → EReal)
    (hy : ∀ u, u < 640 → y u = if M640 r u = 1 then x (rowOf k u) else 0) (u : ℕ) :
    (if 0 ≤ u ∧ u < 0 + 128 then y (u - 0) else 0) + (if 16 + 512 * k ≤ u ∧ u < 16 + 512 * k + 512 then y (128 + (u - (16 + 512 * k))) else 0)
      + (if 16 ≤ u ∧ u < 16 + 1024 * (k / 2) then x u else 0) + (if 16 + 512 * (k - 1) ≤ u ∧ u < 16 + 512 * (k - 1) + 512 then x u else 0) = if seen (16 + 512 * k + r) u then x u else 0 := by
  rw [tile_meta x y hy, tile_diag hr x y hy]
  by_cases hs : seen (16 + 512 * k + r) u
  · rw [if_pos hs]
    unfold seen at hs
    by_cases h1 : u < 16
    · rw [if_pos h1, if_neg (by omega), if_neg (by omega), if_neg (by omega), add_zero, add_zero, add_zero]
    · rw [if_neg h1, zero_add]
      by_cases h2 : u < 16 + 512 * k
      · rw [if_neg (by omega), zero_add]
        by_cases h3 : u < 16 + 512 * (k - 1)
        · rw [if_pos (by omega), if_neg (by omega), add_zero]
        · rw [if_neg (by omega), if_pos (by omega), zero_add]
      · rw [if_pos (by omega), if_neg (by omega), if_neg (by omega), add_zero, add_zero]
  · rw [if_neg hs]
    unfold seen at hs
    rw [if_neg (by omega), if_neg (by omega), if_neg (by omega), if_neg (by omega), add_zero, add_zero, add_zero]

/-- A sum over a window, as a sum over everything of the terms of the window. -/
theorem sum_window (f : ℕ → EReal) (a n N : ℕ) (h : a + n ≤ N) :
    ∑ u ∈ Finset.range n, f (a + u) = ∑ u ∈ Finset.range N, if a ≤ u ∧ u < a + n then f u else 0 := by
  obtain ⟨b, rfl⟩ := Nat.exists_eq_add_of_le h
  rw [Finset.sum_range_add, Finset.sum_range_add]
  rw [Finset.sum_eq_zero (s := Finset.range a) fun u hu => if_neg (by have := Finset.mem_range.mp hu; omega), zero_add]
  rw [Finset.sum_eq_zero (s := Finset.range b) fun u hu => if_neg (by omega), add_zero]
  exact Finset.sum_congr rfl fun u hu => (if_pos (by have := Finset.mem_range.mp hu; omega)).symm

theorem ite_sum (c : Prop) [Decidable c] (n : ℕ) (f : ℕ → EReal) : (if c then ∑ r ∈ Finset.range n, f r else 0) = ∑ r ∈ Finset.range n, if c then f r else 0 := by
  split
  · rfl
  · rw [Finset.sum_const_zero]

section

variable {Q K V DO L D K' V' : ℕ → ℕ → EReal}

theorem P_key {t u v : ℕ} (h : ∀ d, K' u d = K v d) : P Q K' L t u = P Q K L t v := by
  unfold P; simp only [h]

theorem DS_key {t u v : ℕ} (h : ∀ d, K' u d = K v d) (h' : ∀ d, V' u d = V v d) : DS Q K' V' DO L D t u = DS Q K V DO L D t v := by
  unfold DS; rw [P_key h]; simp only [h']

/-- The keys of the meta rows above those of tile `k`. -/
def K640 (K : ℕ → ℕ → EReal) (k u d : ℕ) : EReal := K (rowOf k u) d

/-- Rows of a table from the first of tile `k`. -/
def rows (Q : ℕ → ℕ → EReal) (k r d : ℕ) : EReal := Q (16 + 512 * k + r) d

theorem Pm_eq (k r u : ℕ) : Pm (rows Q k) (K640 K k) (rows L k) r u = if M640 r u = 1 then P Q K L (16 + 512 * k + r) (rowOf k u) else 0 := by
  unfold Pm
  rw [P_key (K := K) (v := rowOf k u) fun _ => rfl]; rfl

theorem DSm_eq (k r u : ℕ) : DSm (rows Q k) (K640 K k) (K640 V k) (rows DO k) (rows L k) (rows D k) r u = if M640 r u = 1 then DS Q K V DO L D (16 + 512 * k + r) (rowOf k u) else 0 := by
  unfold DSm
  rw [DS_key (K := K) (V := V) (v := rowOf k u) (fun _ => rfl) fun _ => rfl]; rfl

theorem DA_mul (t u : ℕ) (z : EReal) : DA Q K V DO L D t u * z = if seen t u then DS Q K V DO L D t u * z else 0 := by
  unfold DA; split
  · rfl
  · rw [zero_mul]

theorem PA_mul (t u : ℕ) (z : EReal) : PA Q K L t u * z = if seen t u then P Q K L t u * z else 0 := by
  unfold PA; split
  · rfl
  · rw [zero_mul]

/-- A sum over the query rows of an even tile, from its parts. -/
theorem even_rows {k : ℕ} (hk : k % 2 = 0) {x y : ℕ → ℕ → EReal} (hy : ∀ r u, u < 640 → y r u = if M640 r u = 1 then x r (rowOf k u) else 0) (f : EReal) (u : ℕ) :
    f + (if 0 ≤ u ∧ u < 0 + 128 then ∑ r ∈ Finset.range 512, y r (u - 0) else 0) + (if 16 + 512 * k ≤ u ∧ u < 16 + 512 * k + 512 then ∑ r ∈ Finset.range 512, y r (128 + (u - (16 + 512 * k))) else 0)
      + (if 16 ≤ u ∧ u < 16 + 1024 * (k / 2) then ∑ r ∈ Finset.range 512, x r u else 0) = f + ∑ r ∈ Finset.range 512, if seen (16 + 512 * k + r) u then x r u else 0 := by
  rw [ite_sum, ite_sum, ite_sum, add_assoc f, add_assoc f, ← Finset.sum_add_distrib, ← Finset.sum_add_distrib]
  exact congrArg _ (Finset.sum_congr rfl fun r hr => tile_even hk (Finset.mem_range.mp hr) (x r) (y r) (hy r) u)

/-- A sum over the query rows of an odd tile, from its parts. -/
theorem odd_rows {k : ℕ} (hk : k % 2 = 1) {x y : ℕ → ℕ → EReal} (hy : ∀ r u, u < 640 → y r u = if M640 r u = 1 then x r (rowOf k u) else 0) (f : EReal) (u : ℕ) :
    f + (if 0 ≤ u ∧ u < 0 + 128 then ∑ r ∈ Finset.range 512, y r (u - 0) else 0) + (if 16 + 512 * k ≤ u ∧ u < 16 + 512 * k + 512 then ∑ r ∈ Finset.range 512, y r (128 + (u - (16 + 512 * k))) else 0)
      + (if 16 ≤ u ∧ u < 16 + 1024 * (k / 2) then ∑ r ∈ Finset.range 512, x r u else 0)
      + (if 16 + 512 * (k - 1) ≤ u ∧ u < 16 + 512 * (k - 1) + 512 then ∑ r ∈ Finset.range 512, x r u else 0) = f + ∑ r ∈ Finset.range 512, if seen (16 + 512 * k + r) u then x r u else 0 := by
  rw [ite_sum, ite_sum, ite_sum, ite_sum, add_assoc f, add_assoc f, add_assoc f, ← Finset.sum_add_distrib, ← Finset.sum_add_distrib, ← Finset.sum_add_distrib]
  exact congrArg _ (Finset.sum_congr rfl fun r hr => tile_odd hk (Finset.mem_range.mp hr) (x r) (y r) (hy r) u)

/-- The sum over the stacked keys, as indicators over the buffer's rows. -/
theorem sum640 {k : ℕ} (hk : k < 8) (y : ℕ → EReal) :
    ∑ u ∈ Finset.range 640, y u = ∑ u ∈ Finset.range 4224, ((if 0 ≤ u ∧ u < 0 + 128 then y (u - 0) else 0) + (if 16 + 512 * k ≤ u ∧ u < 16 + 512 * k + 512 then y (128 + (u - (16 + 512 * k))) else 0)) := by
  rw [Finset.sum_add_distrib, ← sum_window (fun u => y (u - 0)) 0 128 4224 (by omega), ← sum_window (fun u => y (128 + (u - (16 + 512 * k)))) (16 + 512 * k) 512 4224 (by omega),
    show (640 : ℕ) = 128 + 512 from rfl, Finset.sum_range_add]
  refine congrArg₂ _ (Finset.sum_congr rfl fun u _ => ?_) (Finset.sum_congr rfl fun u _ => ?_)
  · show y u = y (0 + u - 0)
    rw [Nat.zero_add, Nat.sub_zero]
  · show y (128 + u) = y (128 + (16 + 512 * k + u - (16 + 512 * k)))
    rw [Nat.add_sub_cancel_left]

/-- A sum over the keys an even tile's query sees, from its parts. -/
theorem even_keys {k r : ℕ} (hk : k % 2 = 0) (hk8 : k < 8) (hr : r < 512) {x y : ℕ → EReal} (hy : ∀ u, u < 640 → y u = if M640 r u = 1 then x (rowOf k u) else 0) :
    ∑ u ∈ Finset.range 640, y u + ∑ u ∈ Finset.range (1024 * (k / 2)), x (16 + u) = ∑ u ∈ Finset.range 4224, if seen (16 + 512 * k + r) u then x u else 0 := by
  rw [sum640 hk8, sum_window x 16 (1024 * (k / 2)) 4224 (by omega), ← Finset.sum_add_distrib]
  exact Finset.sum_congr rfl fun u _ => tile_even hk hr x y hy u

/-- A sum over the keys an odd tile's query sees, from its parts. -/
theorem odd_keys {k r : ℕ} (hk : k % 2 = 1) (hk8 : k < 8) (hr : r < 512) {x y : ℕ → EReal} (hy : ∀ u, u < 640 → y u = if M640 r u = 1 then x (rowOf k u) else 0) :
    ∑ u ∈ Finset.range 640, y u + ∑ u ∈ Finset.range (1024 * (k / 2)), x (16 + u) + ∑ u ∈ Finset.range 512, x (16 + 512 * (k - 1) + u) = ∑ u ∈ Finset.range 4224, if seen (16 + 512 * k + r) u then x u else 0 := by
  rw [sum640 hk8, sum_window x 16 (1024 * (k / 2)) 4224 (by omega), sum_window x (16 + 512 * (k - 1)) 512 4224 (by omega), ← Finset.sum_add_distrib, ← Finset.sum_add_distrib]
  exact Finset.sum_congr rfl fun u _ => tile_odd hk hr x y hy u

end

end Cert.Proof.Table

end
-- ==== Proof.RefVal.lean ====
/- The reference's values as real numbers. -/
module

public import proofs.«01_k».proof.Proof.Gen.ReferenceIdeal.Read
public import proofs.«01_k».proof.Proof.Real
public import Idealize.ShloMosaic.Lib.IdealHost
public import proofs.«01_k».proof.Proof.Tile

@[expose] public section

set_option maxRecDepth 16384

noncomputable section

namespace Cert.Proof.RV

open Cert.ReferenceIdeal Cert.ReferenceIdeal.Gen Cert.ReferenceIdeal.Read
open Idealize.ShloMosaic Idealize.ShloMosaic.TcCoe
open scoped BigOperators
open Finset (range)
open Cert.Proof.Table

/-- Every index's value is real. -/
theorem real_ofBits {b : BitVec 32} (h : (b.extractLsb' 23 8).toNat ≠ 255) : ∃ r : ℝ, Ideal.ofBits .f32 b = (r : EReal) := by
  show ∃ r : ℝ, Ideal.ieee 8 23 b = (r : EReal)
  unfold Ideal.ieee
  simp only
  rw [if_neg (by simpa using h)]
  split_ifs <;> exact ⟨_, rfl⟩

/-- The scale of the scores, as a real number. -/
def sr : ℝ := sc.toReal

theorem sc_eq : sc = (sr : EReal) := by
  obtain ⟨r, hr⟩ := real_ofBits (b := 0x3D93CD3A#32) (by decide)
  unfold sr sc; rw [hr]; rfl

/-- The angles are real. -/
theorem angle (i : S4112x32.Idx) : ∃ r : ℝ, val_main_v15 (F := Ideal) i = (r : EReal) := by
  have c0 : ∀ i, ∃ r : ℝ, val_main_v13 (F := Ideal) i = (r : EReal) := fun i => by
    rw [val_main_v13_apply, val_main_v11_apply]; exact ⟨_, rfl⟩
  have c1 : ∀ i, ∃ r : ℝ, val_main_v1 (F := Ideal) i = (r : EReal) := fun i => ⟨_, rfl⟩
  have c2 : ∀ i, ∃ r : ℝ, val_main_v2 (F := Ideal) i = (r : EReal) := fun i => by
    rw [val_main_v2_apply]; exact real_ofBits (b := 0x40000000#32) (by decide)
  have c4 : ∀ i, ∃ r : ℝ, val_main_v4 (F := Ideal) i = (r : EReal) := fun i => by
    rw [val_main_v4_apply]; exact real_ofBits (b := 0x00000000#32) (by decide)
  have c7 : ∀ i, val_main_v7 (F := Ideal) i = ((64 : ℝ) : EReal) := fun i => by
    rw [val_main_v7_apply, val_main_cst_1_apply]
    show Ideal.ofBits .f32 0x42800000#32 = _
    simp [Ideal.ofBits, Ideal.ieee]; refine (EReal.coe_mul _ _).symm.trans ?_; norm_num
  have c9 : ∀ i, ∃ r : ℝ, val_main_v9 (F := Ideal) i = (r : EReal) := fun i => by
    rw [val_main_v9_apply]; exact real_ofBits (b := 0x461C4000#32) (by decide)
  have c8 : ∀ i, ∃ r : ℝ, val_main_v8 (F := Ideal) i = (r : EReal) := fun i => by
    obtain ⟨a, ha⟩ := c1 i; obtain ⟨b, hb⟩ := c2 i; obtain ⟨d, hd⟩ := c4 i
    exact ⟨_, divR (by norm_num) (negR (addR hd (mulR hb ha))) (c7 i)⟩
  have c10 : ∀ i, ∃ r : ℝ, val_main_v10 (F := Ideal) i = (r : EReal) := fun i => by
    obtain ⟨a, ha⟩ := c9 i; obtain ⟨b, hb⟩ := c8 i
    rw [val_main_v10_apply, ha, hb]; exact ⟨_, rfl⟩
  obtain ⟨a, ha⟩ := c0 i
  obtain ⟨b, hb⟩ := c10 (idx_main_v12 (idx_main_v14 i))
  exact ⟨_, mulR ha ((val_main_v14_apply _).trans ((val_main_v12_apply _).trans hb))⟩

/-- The cosines. -/
theorem exists_cos : ∃ f : ℕ → ℕ → ℝ, Re2 (val_main_v16 (F := Ideal)) f := Re2.of_real fun i => by
  obtain ⟨r, hr⟩ := angle i
  exact ⟨Real.cos r, by rw [val_main_v16_apply, hr]; rfl⟩

/-- The sines. -/
theorem exists_sin : ∃ f : ℕ → ℕ → ℝ, Re2 (val_main_v17 (F := Ideal)) f := Re2.of_real fun i => by
  obtain ⟨r, hr⟩ := angle i
  exact ⟨Real.sin r, by rw [val_main_v17_apply, hr]; rfl⟩

/-- The cosine of position `t` at frequency `k`. -/
def cs : ℕ → ℕ → ℝ := exists_cos.choose
/-- The sine of position `t` at frequency `k`. -/
def sn : ℕ → ℕ → ℝ := exists_sin.choose

theorem v16 : Re2 (val_main_v16 (F := Ideal)) cs := exists_cos.choose_spec
theorem v17 : Re2 (val_main_v17 (F := Ideal)) sn := exists_sin.choose_spec

/-! ## The real functions -/

section Fns
variable (a0 a1 a3 : ℕ → ℕ → ℕ → ℝ) (a2 : ℕ → ℕ → ℝ) (mx : ℕ → ℕ → ℝ)

/-- The rotary part of query `t`, rotated. -/
def rop (t h e : ℕ) : ℝ := if e < 32 then a0 t h (128 + e) * cs t e - a0 t h (128 + (32 + e)) * sn t e
  else a0 t h (128 + (32 + (e - 32))) * cs t (e - 32) + a0 t h (128 + (e - 32)) * sn t (e - 32)
/-- The score of key `u` for query `t`. -/
def sco (h t u : ℕ) : ℝ := (∑ d ∈ range 128, a0 t h d * a1 u h d + ∑ e ∈ range 64, rop a0 t h e * a2 u e) * sr
/-- Its exponential, zero where the key is not seen. -/
def ex (h t u : ℕ) : ℝ := if seen t u then Real.exp (sco a0 a1 a2 h t u - mx h t) else 0
/-- The sum of the exponentials of query `t`. -/
def den (h t : ℕ) : ℝ := ∑ u ∈ range 4112, ex a0 a1 a2 mx h t u
/-- The weight of key `u` for query `t`. -/
def pr (h t u : ℕ) : ℝ := ex a0 a1 a2 mx h t u / den a0 a1 a2 mx h t
/-- The gradient of the weight. -/
def dp (h t u : ℕ) : ℝ := ∑ d ∈ range 128, a3 t h d * a1 u h (128 + d)
/-- The gradient of the score, as the reference takes it. -/
def ds (h t u : ℕ) : ℝ := (if seen t u then (dp a1 a3 h t u / den a0 a1 a2 mx h t + ∑ _k ∈ range 1,
    -(∑ u ∈ range 4112, dp a1 a3 h t u * (1 / (den a0 a1 a2 mx h t * den a0 a1 a2 mx h t)) * ex a0 a1 a2 mx h t u)) * ex a0 a1 a2 mx h t u else 0) * sr
/-- The gradient of the rotated part of query `t`. -/
def gq (t h e : ℕ) : ℝ := ∑ u ∈ range 4112, ds a0 a1 a3 a2 mx h t u * a2 u e
/-- The gradient of query `t`. -/
def dqR (t h d : ℕ) : ℝ := if d < 128 then ∑ u ∈ range 4112, ds a0 a1 a3 a2 mx h t u * a1 u h d
  else if d - 128 < 32 then gq a0 a1 a3 a2 mx t h (32 + (d - 128)) * sn t (d - 128) + gq a0 a1 a3 a2 mx t h (d - 128) * cs t (d - 128)
  else gq a0 a1 a3 a2 mx t h (32 + (d - 128 - 32)) * cs t (d - 128 - 32) + -gq a0 a1 a3 a2 mx t h (d - 128 - 32) * sn t (d - 128 - 32)
/-- The gradients of key and value `u`. -/
def dkvR (u h d : ℕ) : ℝ := if d < 128 then ∑ t ∈ range 4112, ds a0 a1 a3 a2 mx h t u * a0 t h d else ∑ t ∈ range 4112, a3 t h (d - 128) * pr a0 a1 a2 mx h t u
/-- The gradient of the rotary key `u`, head by head. -/
def dkrR (h u e : ℕ) : ℝ := ∑ t ∈ range 4112, ds a0 a1 a3 a2 mx h t u * rop a0 t h e

end Fns

/-! ## The mask -/

/-- The chunk of position `t`: the 16 meta positions are chunk 0. -/
def chunk (t : ℕ) : ℕ := if t < 16 then 0 else 1 + (t - 16) / 64

/-- The chunk of each position, as the reference computes it on words. -/
theorem v52 (i : S4112.Idx) : val_main_v52 (F := Ideal) i = BitVec.ofNat 32 (chunk (i 0).val) := by
  simp only [val_main_v52_apply, val_main_v46_apply, val_main_call1_v1_apply, val_main_call1_v0_apply, val_main_c_7_apply, val_main_v51_apply, val_main_v50_apply, val_main_c_6_apply, val_main_v49_apply, val_main_call0_v11_apply, val_main_call0_v6_apply, val_main_call0_v3, val_main_call0_v5_apply, val_main_call0_v4, val_main_call0_v0_apply, val_main_c_5_apply, val_main_call0_v10_apply, val_main_call0_v8_apply, val_main_call0_v7_apply, val_main_call0_v9_apply, val_main_call0_c_apply, val_main_call0_v13_apply, val_main_call0_v12_apply, val_main_call0_c_0_apply, val_main_call0_v2_apply, val_main_call0_v1_apply, val_main_v48_apply, val_main_v47_apply, val_main_c_4_apply, val_main_v45_apply, val_main_c_apply, val_main_v44_apply, signi]
  have key : ∀ t : Fin 4112, Scalar.select (IntOp.cmpi CmpIPredicate.slt (BitVec.ofNat 32 t.val) 16#32) (0#32)
      (IntOp.addi (1#32)
        (Scalar.select
          (IntOp.andi
            (IntOp.cmpi CmpIPredicate.ne
              (if IntOp.subi (BitVec.ofNat 32 t.val) 16#32 = 0 then (0 : BitVec 32)
              else if (IntOp.subi (BitVec.ofNat 32 t.val) 16#32).msb = true then -1 else 1)
              (if 64#32 = 0 then (0 : BitVec 32) else if (64#32).msb = true then -1 else 1))
            (IntOp.cmpi CmpIPredicate.ne (IntOp.remsi ArithUnit.host (IntOp.subi (BitVec.ofNat 32 t.val) 16#32) 64#32)
              0#32))
          (IntOp.subi (IntOp.divsi ArithUnit.host (IntOp.subi (BitVec.ofNat 32 t.val) 16#32) 64#32) 1#32)
          (IntOp.divsi ArithUnit.host (IntOp.subi (BitVec.ofNat 32 t.val) 16#32) 64#32))) =
      BitVec.ofNat 32 (chunk t.val) := by
    decide +kernel
  exact key (i 0)

theorem seen_chunk (t u : ℕ) : seen t u ↔ chunk u ≤ chunk t := by
  unfold seen chunk
  split_ifs <;> omega

theorem v57 (i : S4112x4112.Idx) : val_main_v57 (F := Ideal) i = if seen (i 0).val (i 1).val then 1#1 else 0#1 := by
  rw [val_main_v57_apply, val_main_v55_apply, val_main_v53_apply, val_main_v56_apply, val_main_v54_apply, v52, v52]
  show IntOp.cmpi .sle (BitVec.ofNat 32 (chunk (i 1).val)) (BitVec.ofNat 32 (chunk (i 0).val)) = _
  have h0 : (i 0).val < 4112 := (i 0).isLt
  have h1 : (i 1).val < 4112 := (i 1).isLt
  have hb : ∀ t, t < 4112 → chunk t < 65 := fun t ht => by unfold chunk; split_ifs <;> omega
  have e0 := hb _ h0
  have e1 := hb _ h1
  rw [if_congr (seen_chunk (i 0).val (i 1).val) rfl rfl]
  generalize chunk (i 0).val = p at *
  generalize chunk (i 1).val = q at *
  clear h0 h1 hb
  revert p q
  have key : ∀ (p q : Fin 65), IntOp.cmpi .sle (BitVec.ofNat 32 q.val) (BitVec.ofNat 32 p.val) = if q.val ≤ p.val then 1#1 else 0#1 := by decide +kernel
  exact fun p hp q hq => key ⟨p, hp⟩ ⟨q, hq⟩

theorem mask (i : S16x4112x4112.Idx) : val_main_v59_1 (F := Ideal) i = if seen (i 1).val (i 2).val then 1#1 else 0#1 := by
  rw [val_main_v59_1_apply, val_main_v58_apply, v57]

theorem select_mask {α : Type} (i : S16x4112x4112.Idx) (x y : α) : Scalar.select (val_main_v59_1 (F := Ideal) i) x y = if seen (i 1).val (i 2).val then x else y := by
  rw [mask]; split_ifs <;> rfl

/-! ## The values -/

variable {x0 : (⟨S4112x16x192, .f32⟩ : BufTy).Contents (Elt Ideal)} {x1 : (⟨S4112x16x256, .f32⟩ : BufTy).Contents (Elt Ideal)} {x2 : (⟨S4112x64, .f32⟩ : BufTy).Contents (Elt Ideal)} {x3 : (⟨S4112x16x128, .f32⟩ : BufTy).Contents (Elt Ideal)}
variable {a0 a1 a3 : ℕ → ℕ → ℕ → ℝ} {a2 mx : ℕ → ℕ → ℝ}

theorem v18 (h2 : Re2 x2 a2) : Re3 (val_main_v18 (F := Ideal) x2) (fun _ u e => a2 u e) := fun i =>
  (val_main_v18_apply _ i).trans (h2 _)

theorem v19 (h2 : Re2 x2 a2) : Re3 (val_main_v19 (F := Ideal) x2) (fun _ u e => a2 u e) := fun i =>
  (val_main_v19_apply _ i).trans (v18 h2 _)

theorem v20 (h0 : Re3 x0 a0) : Re3 (val_main_v20 (F := Ideal) x0) (fun t h d => a0 t h d) := fun i =>
  (val_main_v20_apply _ i).trans (h0 _)

theorem v21 (h0 : Re3 x0 a0) : Re3 (val_main_v21 (F := Ideal) x0) (fun t h d => a0 t h (128 + d)) := fun i =>
  (val_main_v21_apply _ i).trans (h0 _)

theorem v22 (h1 : Re3 x1 a1) : Re3 (val_main_v22 (F := Ideal) x1) (fun u h d => a1 u h d) := fun i =>
  (val_main_v22_apply _ i).trans (h1 _)

theorem v23 (h1 : Re3 x1 a1) : Re3 (val_main_v23 (F := Ideal) x1) (fun u h d => a1 u h (128 + d)) := fun i =>
  (val_main_v23_apply _ i).trans (h1 _)

theorem v24  : Re3 (val_main_v24 (F := Ideal) ) (fun t _ k => cs t k) := fun i =>
  (val_main_v24_apply i).trans (v16 _)

theorem v25  : Re3 (val_main_v25 (F := Ideal) ) (fun t _ k => sn t k) := fun i =>
  (val_main_v25_apply i).trans (v17 _)

theorem v26 (h0 : Re3 x0 a0) : Re3 (val_main_v26 (F := Ideal) x0) (fun t h e => a0 t h (128 + e)) := fun i =>
  (val_main_v26_apply _ i).trans (v21 h0 _)

theorem v27 (h0 : Re3 x0 a0) : Re3 (val_main_v27 (F := Ideal) x0) (fun t h e => a0 t h (128 + (32 + e))) := fun i =>
  (val_main_v27_apply _ i).trans (v21 h0 _)

theorem v28  : Re3 (val_main_v28 (F := Ideal) ) (fun t _ k => cs t k) := fun i =>
  (val_main_v28_apply i).trans (v24 _)

theorem v33  : Re3 (val_main_v33 (F := Ideal) ) (fun t _ k => cs t k) := fun i =>
  (val_main_v33_apply i).trans (v24 _)

theorem v120  : Re3 (val_main_v120 (F := Ideal) ) (fun t _ k => cs t k) := fun i =>
  (val_main_v120_apply i).trans (v24 _)

theorem v126  : Re3 (val_main_v126 (F := Ideal) ) (fun t _ k => cs t k) := fun i =>
  (val_main_v126_apply i).trans (v24 _)

theorem v30  : Re3 (val_main_v30 (F := Ideal) ) (fun t _ k => sn t k) := fun i =>
  (val_main_v30_apply i).trans (v25 _)

theorem v35  : Re3 (val_main_v35 (F := Ideal) ) (fun t _ k => sn t k) := fun i =>
  (val_main_v35_apply i).trans (v25 _)

theorem v118  : Re3 (val_main_v118 (F := Ideal) ) (fun t _ k => sn t k) := fun i =>
  (val_main_v118_apply i).trans (v25 _)

theorem v123  : Re3 (val_main_v123 (F := Ideal) ) (fun t _ k => sn t k) := fun i =>
  (val_main_v123_apply i).trans (v25 _)

theorem v29 (h0 : Re3 x0 a0) : Re3 (val_main_v29 (F := Ideal) x0) (fun t h e => a0 t h (128 + e) * cs t e) := fun i =>
  mulR (v26 h0 i) (v28 i)

theorem v31 (h0 : Re3 x0 a0) : Re3 (val_main_v31 (F := Ideal) x0) (fun t h e => a0 t h (128 + (32 + e)) * sn t e) := fun i =>
  mulR (v27 h0 i) (v30 i)

theorem v32 (h0 : Re3 x0 a0) : Re3 (val_main_v32 (F := Ideal) x0) (fun t h e => a0 t h (128 + e) * cs t e - a0 t h (128 + (32 + e)) * sn t e) := fun i =>
  subR (v29 h0 i) (v31 h0 i)

theorem v34 (h0 : Re3 x0 a0) : Re3 (val_main_v34 (F := Ideal) x0) (fun t h e => a0 t h (128 + (32 + e)) * cs t e) := fun i =>
  mulR (v27 h0 i) (v33 i)

theorem v36 (h0 : Re3 x0 a0) : Re3 (val_main_v36 (F := Ideal) x0) (fun t h e => a0 t h (128 + e) * sn t e) := fun i =>
  mulR (v26 h0 i) (v35 i)

theorem v37 (h0 : Re3 x0 a0) : Re3 (val_main_v37 (F := Ideal) x0) (fun t h e => a0 t h (128 + (32 + e)) * cs t e + a0 t h (128 + e) * sn t e) := fun i =>
  addR (v34 h0 i) (v36 h0 i)

theorem v38 (h0 : Re3 x0 a0) : Re3 (val_main_v38 (F := Ideal) x0) (fun t h e => rop a0 t h e) := fun i =>
  Re3.beside (v32 h0) (v37 h0) concatenates_S4112x16x32_S4112x16x32_S4112x16x64_d2 i

theorem v39 (h0 : Re3 x0 a0) (h1 : Re3 x1 a1) : Re3 (val_main_v39 (F := Ideal) x0 x1) (fun h t u => ∑ d ∈ range 128, a0 t h d * a1 u h d) := fun i =>
  (val_main_v39_apply _ _ i).trans (sumFin fun k => mulR (v20 h0 _) (v22 h1 _))

theorem v40 (h0 : Re3 x0 a0) (h2 : Re2 x2 a2) : Re3 (val_main_v40 (F := Ideal) x0 x2) (fun h t u => ∑ e ∈ range 64, rop a0 t h e * a2 u e) := fun i =>
  (val_main_v40_apply _ _ i).trans (sumFin fun k => mulR (v38 h0 _) (v19 h2 _))

theorem v42  : Re3 (val_main_v42 (F := Ideal) ) (fun _ _ _ => sr) := fun i =>
  (val_main_v42_apply i).trans sc_eq

theorem v43 (h0 : Re3 x0 a0) (h1 : Re3 x1 a1) (h2 : Re2 x2 a2) : Re3 (val_main_v43 (F := Ideal) x0 x1 x2) (fun h t u => sco a0 a1 a2 h t u) := fun i =>
  mulR (addR (v39 h0 h1 i) (v40 h0 h2 i)) (v42 i)

theorem bits_bot : Ideal.ofBits .f32 0xFF800000#32 = (⊥ : EReal) := by simp [Ideal.ofBits, Ideal.ieee]

/-- The masked scores. -/
theorem v59 (h0 : Re3 x0 a0) (h1 : Re3 x1 a1) (h2 : Re2 x2 a2) (i : S16x4112x4112.Idx) :
    val_main_v59_0 (F := Ideal) x0 x1 x2 i = if seen (i 1).val (i 2).val then ((sco a0 a1 a2 (i 0).val (i 1).val (i 2).val : ℝ) : EReal) else ⊥ := by
  rw [val_main_v59_0_apply, select_mask, v43 h0 h1 h2 i, val_main_call2_v2_apply, val_main_call2_v0_apply, val_main_cst_8_apply]
  exact congrArg (fun y : EReal => if seen (i 1).val (i 2).val then _ else y) bits_bot

/-- The row maxima are real: each query sees itself. -/
theorem exists_max (h0 : Re3 x0 a0) (h1 : Re3 x1 a1) (h2 : Re2 x2 a2) : ∃ mx : ℕ → ℕ → ℝ, Re2 (val_main_v67 (F := Ideal) x0 x1 x2) mx := by
  have e : ∀ i, ∃ r : ℝ, val_main_v67 (F := Ideal) x0 x1 x2 i = (r : EReal) := fun i => by
    have h67 : val_main_v67 (F := Ideal) x0 x1 x2 i = max ⊥ (val_main_v60 (F := Ideal) x0 x1 x2 i) := by
      rw [val_main_v67_apply, val_main_v66_apply, val_main_cst_11_apply]
      exact congrArg (fun y : EReal => max y (val_main_v60 (F := Ideal) x0 x1 x2 i)) bits_bot
    rw [h67, max_eq_right bot_le]
    have hf : val_main_v60 (F := Ideal) x0 x1 x2 i = Finset.univ.fold max ⊥ (fun k : Fin 4112 => (val_main_v59_0 (F := Ideal) x0 x1 x2 (ValueIdx.ix3 (i 0) (i 1) k) : EReal)) := by
      unfold val_main_v60
      generalize val_main_v59_0 (F := Ideal) x0 x1 x2 = y
      have hc : (val_main_cst_9 (F := Ideal) (Shape.Idx.first h_S_) : EReal) = ⊥ := bits_bot
      idx_vars i
      pointwise
      rw [hc]
      exact congrArg (fun f => Finset.fold max ⊥ f Finset.univ) (funext fun k => congrArg y (funext fun a => by fin_cases a <;> rfl))
    rw [hf]
    rcases foldR Finset.univ (fun k : Fin 4112 => (val_main_v59_0 (F := Ideal) x0 x1 x2 (ValueIdx.ix3 (i 0) (i 1) k) : EReal)) (fun k _ => by
      rw [v59 h0 h1 h2]; split_ifs
      · exact Or.inr ⟨_, rfl⟩
      · exact Or.inl rfl) with hb | hr
    · have h := le_foldR Finset.univ (fun k : Fin 4112 => (val_main_v59_0 (F := Ideal) x0 x1 x2 (ValueIdx.ix3 (i 0) (i 1) k) : EReal)) (k := i 1) (Finset.mem_univ _)
      rw [hb, v59 h0 h1 h2, if_pos (show seen (i 1).val (i 1).val by unfold seen; omega)] at h
      exact absurd (le_bot_iff.mp h) (EReal.coe_ne_bot _)
    · exact hr
  exact Re2.of_real e

/-- The sum of the exponentials is positive. -/
theorem den_pos (h t : ℕ) (ht : t < 4112) : 0 < den a0 a1 a2 mx h t := by
  unfold den
  refine Finset.sum_pos' (fun u _ => ?_) ⟨t, Finset.mem_range.mpr ht, ?_⟩
  · unfold ex; split_ifs
    · exact (Real.exp_pos _).le
    · exact le_refl _
  · unfold ex; rw [if_pos (by unfold seen; omega)]; exact Real.exp_pos _

theorem v77 (h0 : Re3 x0 a0) (h1 : Re3 x1 a1) (h2 : Re2 x2 a2) (hm : Re2 (val_main_v67 (F := Ideal) x0 x1 x2) mx) : Re3 (val_main_v77 (F := Ideal) x0 x1 x2) (fun h t _ => mx h t) := fun i =>
  (val_main_v77_apply _ _ _ i).trans (hm _)

theorem v78 (h0 : Re3 x0 a0) (h1 : Re3 x1 a1) (h2 : Re2 x2 a2) (hm : Re2 (val_main_v67 (F := Ideal) x0 x1 x2) mx) : Re3 (val_main_v78 (F := Ideal) x0 x1 x2) (fun h t _ => mx h t) := fun i =>
  (val_main_v78_apply _ _ _ i).trans (v77 h0 h1 h2 hm _)

theorem v80 (h0 : Re3 x0 a0) (h1 : Re3 x1 a1) (h2 : Re2 x2 a2) (hm : Re2 (val_main_v67 (F := Ideal) x0 x1 x2) mx) : Re3 (val_main_v80 (F := Ideal) x0 x1 x2) (fun h t u => ex a0 a1 a2 mx h t u) := fun i =>
  (val_main_v80_apply _ _ _ i).trans (expR (p := seen (i 1).val (i 2).val) (by
    rw [val_main_v79_apply, v59 h0 h1 h2 i, v78 h0 h1 h2 hm i]
    split_ifs
    · exact subR rfl rfl
    · exact EReal.bot_sub _))

theorem v81 (h0 : Re3 x0 a0) (h1 : Re3 x1 a1) (h2 : Re2 x2 a2) (hm : Re2 (val_main_v67 (F := Ideal) x0 x1 x2) mx) : Re2 (val_main_v81 (F := Ideal) x0 x1 x2) (fun h t => den a0 a1 a2 mx h t) := fun i =>
  (val_main_v81_apply _ _ _ i).trans ((congrArg (fun z : EReal => z + _) (by exact Ideal.ofBits_zero_f32 : (val_main_cst_17 (F := Ideal) (Shape.Idx.first h_S_) : EReal) = 0)).trans ((zero_add _).trans (sumFin fun k => v80 h0 h1 h2 hm _)))

theorem v82 (h0 : Re3 x0 a0) (h1 : Re3 x1 a1) (h2 : Re2 x2 a2) (hm : Re2 (val_main_v67 (F := Ideal) x0 x1 x2) mx) : Re3 (val_main_v82 (F := Ideal) x0 x1 x2) (fun h t _ => den a0 a1 a2 mx h t) := fun i =>
  (val_main_v82_apply _ _ _ i).trans (v81 h0 h1 h2 hm _)

theorem v83 (h0 : Re3 x0 a0) (h1 : Re3 x1 a1) (h2 : Re2 x2 a2) (hm : Re2 (val_main_v67 (F := Ideal) x0 x1 x2) mx) : Re3 (val_main_v83 (F := Ideal) x0 x1 x2) (fun h t _ => den a0 a1 a2 mx h t) := fun i =>
  (val_main_v83_apply _ _ _ i).trans (v82 h0 h1 h2 hm _)

theorem v100 (h0 : Re3 x0 a0) (h1 : Re3 x1 a1) (h2 : Re2 x2 a2) (hm : Re2 (val_main_v67 (F := Ideal) x0 x1 x2) mx) : Re3 (val_main_v100 (F := Ideal) x0 x1 x2) (fun h t _ => den a0 a1 a2 mx h t) := fun i =>
  (val_main_v100_apply _ _ _ i).trans (v82 h0 h1 h2 hm _)

theorem v84 (h0 : Re3 x0 a0) (h1 : Re3 x1 a1) (h2 : Re2 x2 a2) (hm : Re2 (val_main_v67 (F := Ideal) x0 x1 x2) mx) (hl : ∀ h t, t < 4112 → den a0 a1 a2 mx h t ≠ 0) : Re3 (val_main_v84 (F := Ideal) x0 x1 x2) (fun h t u => pr a0 a1 a2 mx h t u) := fun i =>
  divR (hl _ _ (i 1).isLt) (v80 h0 h1 h2 hm i) (v83 h0 h1 h2 hm i)

theorem v85 (h0 : Re3 x0 a0) (h1 : Re3 x1 a1) (h2 : Re2 x2 a2) (hm : Re2 (val_main_v67 (F := Ideal) x0 x1 x2) mx) : Re3 (val_main_v85 (F := Ideal) x0 x1 x2) (fun h t _ => den a0 a1 a2 mx h t * den a0 a1 a2 mx h t) := fun i =>
  mulR (v82 h0 h1 h2 hm i) (v82 h0 h1 h2 hm i)

theorem v87 (h0 : Re3 x0 a0) (h1 : Re3 x1 a1) (h2 : Re2 x2 a2) (hm : Re2 (val_main_v67 (F := Ideal) x0 x1 x2) mx) (hl : ∀ h t, t < 4112 → den a0 a1 a2 mx h t ≠ 0) : Re3 (val_main_v87 (F := Ideal) x0 x1 x2) (fun h t _ => 1 / (den a0 a1 a2 mx h t * den a0 a1 a2 mx h t)) := fun i =>
  divR (mul_ne_zero (hl _ _ (i 1).isLt) (hl _ _ (i 1).isLt)) ((val_main_v86_apply i).trans (Ideal.ofBits_one_f32.trans EReal.coe_one.symm)) (v85 h0 h1 h2 hm i)

theorem v88 (h0 : Re3 x0 a0) (h1 : Re3 x1 a1) (h2 : Re2 x2 a2) (hm : Re2 (val_main_v67 (F := Ideal) x0 x1 x2) mx) (hl : ∀ h t, t < 4112 → den a0 a1 a2 mx h t ≠ 0) : Re3 (val_main_v88 (F := Ideal) x0 x1 x2) (fun h d t => ∑ u ∈ range 4112, a1 u h (128 + d) * pr a0 a1 a2 mx h t u) := fun i =>
  (val_main_v88_apply _ _ _ i).trans (sumFin fun k => mulR (v23 h1 _) (v84 h0 h1 h2 hm hl _))

theorem v89 (h0 : Re3 x0 a0) (h1 : Re3 x1 a1) (h2 : Re2 x2 a2) (hm : Re2 (val_main_v67 (F := Ideal) x0 x1 x2) mx) (hl : ∀ h t, t < 4112 → den a0 a1 a2 mx h t ≠ 0) : Re3 (val_main_v89 (F := Ideal) x0 x1 x2) (fun t h d => ∑ u ∈ range 4112, a1 u h (128 + d) * pr a0 a1 a2 mx h t u) := fun i =>
  (val_main_v89_apply _ _ _ i).trans (v88 h0 h1 h2 hm hl _)

theorem v90 (h3 : Re3 x3 a3) : Re3 (val_main_v90 (F := Ideal) x3) (fun h d t => a3 t h d) := fun i =>
  (val_main_v90_apply _ i).trans (h3 _)

theorem v91 (h1 : Re3 x1 a1) (h3 : Re3 x3 a3) : Re3 (val_main_v91 (F := Ideal) x1 x3) (fun h t u => dp a1 a3 h t u) := fun i =>
  (val_main_v91_apply _ _ i).trans (sumFin fun k => mulR (v90 h3 _) (v23 h1 _))

theorem v92 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v92 (F := Ideal) x0 x1 x2 x3) (fun h d u => ∑ t ∈ range 4112, a3 t h d * pr a0 a1 a2 mx h t u) := fun i =>
  (val_main_v92_apply _ _ _ _ i).trans (sumFin fun k => mulR (v90 h3 _) (v84 h0 h1 h2 hm hl _))

theorem v93 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v93 (F := Ideal) x0 x1 x2 x3) (fun u h d => ∑ t ∈ range 4112, a3 t h d * pr a0 a1 a2 mx h t u) := fun i =>
  (val_main_v93_apply _ _ _ _ i).trans (v92 h0 h1 h2 h3 hm hl _)

theorem v94 (h0 : Re3 x0 a0) (h1 : Re3 x1 a1) (h2 : Re2 x2 a2) (hm : Re2 (val_main_v67 (F := Ideal) x0 x1 x2) mx) (hl : ∀ h t, t < 4112 → den a0 a1 a2 mx h t ≠ 0) : Re3 (val_main_v94 (F := Ideal) x0 x1 x2) (fun h t _ => 1 / (den a0 a1 a2 mx h t * den a0 a1 a2 mx h t)) := fun i =>
  (val_main_v94_apply _ _ _ i).trans (v87 h0 h1 h2 hm hl _)

theorem v96 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v96 (F := Ideal) x0 x1 x2 x3) (fun h t u => dp a1 a3 h t u * (1 / (den a0 a1 a2 mx h t * den a0 a1 a2 mx h t)) * ex a0 a1 a2 mx h t u) := fun i =>
  mulR (mulR (v91 h1 h3 i) (v94 h0 h1 h2 hm hl i)) (v80 h0 h1 h2 hm i)

theorem v97 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re2 (val_main_v97 (F := Ideal) x0 x1 x2 x3) (fun h t => ∑ u ∈ range 4112, dp a1 a3 h t u * (1 / (den a0 a1 a2 mx h t * den a0 a1 a2 mx h t)) * ex a0 a1 a2 mx h t u) := fun i =>
  (val_main_v97_apply _ _ _ _ i).trans ((congrArg (fun z : EReal => z + _) (by exact Ideal.ofBits_zero_f32 : (val_main_cst_19 (F := Ideal) (Shape.Idx.first h_S_) : EReal) = 0)).trans ((zero_add _).trans (sumFin fun k => v96 h0 h1 h2 h3 hm hl _)))

theorem v98 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v98 (F := Ideal) x0 x1 x2 x3) (fun h t _ => ∑ u ∈ range 4112, dp a1 a3 h t u * (1 / (den a0 a1 a2 mx h t * den a0 a1 a2 mx h t)) * ex a0 a1 a2 mx h t u) := fun i =>
  (val_main_v98_apply _ _ _ _ i).trans ((congrArg _ (show idx_main_v98 i = ValueIdx.ix2 (i 0) (i 1) from funext fun a => Fin.ext (by
    have e0 : (i 0).val < 16 := (i 0).isLt
    have e1 : (i 1).val < 4112 := (i 1).isLt
    have e2 : (i 2).val < 1 := (i 2).isLt
    match a with
    | ⟨0, _⟩ => show (((i 0).val * 4112 + (i 1).val) * 1 + (i 2).val) / 4112 = (i 0).val; omega
    | ⟨1, _⟩ => show (((i 0).val * 4112 + (i 1).val) * 1 + (i 2).val) % 4112 = (i 1).val; omega))).trans (v97 h0 h1 h2 h3 hm hl _))

theorem v99 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v99 (F := Ideal) x0 x1 x2 x3) (fun h t _ => -(∑ u ∈ range 4112, dp a1 a3 h t u * (1 / (den a0 a1 a2 mx h t * den a0 a1 a2 mx h t)) * ex a0 a1 a2 mx h t u)) := fun i =>
  negR (v98 h0 h1 h2 h3 hm hl i)

theorem v101 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v101 (F := Ideal) x0 x1 x2 x3) (fun h t u => dp a1 a3 h t u / den a0 a1 a2 mx h t) := fun i =>
  divR (hl _ _ (i 1).isLt) (v91 h1 h3 i) (v100 h0 h1 h2 hm i)

theorem v102 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re2 (val_main_v102 (F := Ideal) x0 x1 x2 x3) (fun h t => ∑ _k ∈ range 1, -(∑ u ∈ range 4112, dp a1 a3 h t u * (1 / (den a0 a1 a2 mx h t * den a0 a1 a2 mx h t)) * ex a0 a1 a2 mx h t u)) := fun i =>
  (val_main_v102_apply _ _ _ _ i).trans ((congrArg (fun z : EReal => z + _) (by exact Ideal.ofBits_zero_f32 : (val_main_cst_20 (F := Ideal) (Shape.Idx.first h_S_) : EReal) = 0)).trans ((zero_add _).trans (sumFin fun k => v99 h0 h1 h2 h3 hm hl _)))

theorem v103 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v103 (F := Ideal) x0 x1 x2 x3) (fun h t _ => ∑ _k ∈ range 1, -(∑ u ∈ range 4112, dp a1 a3 h t u * (1 / (den a0 a1 a2 mx h t * den a0 a1 a2 mx h t)) * ex a0 a1 a2 mx h t u)) := fun i =>
  (val_main_v103_apply _ _ _ _ i).trans (v102 h0 h1 h2 h3 hm hl _)

theorem v105 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v105 (F := Ideal) x0 x1 x2 x3) (fun h t u => (dp a1 a3 h t u / den a0 a1 a2 mx h t + ∑ _k ∈ range 1, -(∑ u ∈ range 4112, dp a1 a3 h t u * (1 / (den a0 a1 a2 mx h t * den a0 a1 a2 mx h t)) * ex a0 a1 a2 mx h t u)) * ex a0 a1 a2 mx h t u) := fun i =>
  mulR (addR (v101 h0 h1 h2 h3 hm hl i) (v103 h0 h1 h2 h3 hm hl i)) (v80 h0 h1 h2 hm i)

theorem v108 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v108 (F := Ideal) x0 x1 x2 x3) (fun h t u => ds a0 a1 a3 a2 mx h t u) := fun i =>
  mulR ((val_main_v106_apply _ _ _ _ i).trans ((select_mask i _ _).trans (iteR (v105 h0 h1 h2 h3 hm hl i) ((val_main_call3_v0_apply i).trans ((val_main_call3_cst_apply _).trans (Ideal.ofBits_zero_f32.trans EReal.coe_zero.symm)))))) ((val_main_v107_apply i).trans sc_eq)

theorem v109 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v109 (F := Ideal) x0 x1 x2 x3) (fun h u e => dkrR a0 a1 a3 a2 mx h u e) := fun i =>
  (val_main_v109_apply _ _ _ _ i).trans (sumFin fun k => mulR (v108 h0 h1 h2 h3 hm hl _) (v38 h0 _))

theorem v110 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v110 (F := Ideal) x0 x1 x2 x3) (fun h t e => gq a0 a1 a3 a2 mx t h e) := fun i =>
  (val_main_v110_apply _ _ _ _ i).trans (sumFin fun k => mulR (v108 h0 h1 h2 h3 hm hl _) (v19 h2 _))

theorem v111 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v111 (F := Ideal) x0 x1 x2 x3) (fun t h e => gq a0 a1 a3 a2 mx t h e) := fun i =>
  (val_main_v111_apply _ _ _ _ i).trans (v110 h0 h1 h2 h3 hm hl _)

theorem v112 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v112 (F := Ideal) x0 x1 x2 x3) (fun h u d => ∑ t ∈ range 4112, ds a0 a1 a3 a2 mx h t u * a0 t h d) := fun i =>
  (val_main_v112_apply _ _ _ _ i).trans (sumFin fun k => mulR (v108 h0 h1 h2 h3 hm hl _) (v20 h0 _))

theorem v113 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v113 (F := Ideal) x0 x1 x2 x3) (fun u h d => ∑ t ∈ range 4112, ds a0 a1 a3 a2 mx h t u * a0 t h d) := fun i =>
  (val_main_v113_apply _ _ _ _ i).trans (v112 h0 h1 h2 h3 hm hl _)

theorem v114 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v114 (F := Ideal) x0 x1 x2 x3) (fun h t d => ∑ u ∈ range 4112, ds a0 a1 a3 a2 mx h t u * a1 u h d) := fun i =>
  (val_main_v114_apply _ _ _ _ i).trans (sumFin fun k => mulR (v108 h0 h1 h2 h3 hm hl _) (v22 h1 _))

theorem v115 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v115 (F := Ideal) x0 x1 x2 x3) (fun t h d => ∑ u ∈ range 4112, ds a0 a1 a3 a2 mx h t u * a1 u h d) := fun i =>
  (val_main_v115_apply _ _ _ _ i).trans (v114 h0 h1 h2 h3 hm hl _)

theorem v116 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v116 (F := Ideal) x0 x1 x2 x3) (fun t h e => gq a0 a1 a3 a2 mx t h e) := fun i =>
  (val_main_v116_apply _ _ _ _ i).trans (v111 h0 h1 h2 h3 hm hl _)

theorem v117 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v117 (F := Ideal) x0 x1 x2 x3) (fun t h e => gq a0 a1 a3 a2 mx t h (32 + e)) := fun i =>
  (val_main_v117_apply _ _ _ _ i).trans (v111 h0 h1 h2 h3 hm hl _)

theorem v125 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v125 (F := Ideal) x0 x1 x2 x3) (fun t h e => gq a0 a1 a3 a2 mx t h (32 + e) * cs t e + -gq a0 a1 a3 a2 mx t h e * sn t e) := fun i =>
  addR (mulR (v117 h0 h1 h2 h3 hm hl i) (v120 i)) (mulR (negR (v116 h0 h1 h2 h3 hm hl i)) (v123 i))

theorem v128 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v128 (F := Ideal) x0 x1 x2 x3) (fun t h e => gq a0 a1 a3 a2 mx t h (32 + e) * sn t e + gq a0 a1 a3 a2 mx t h e * cs t e) := fun i =>
  addR (mulR (v117 h0 h1 h2 h3 hm hl i) (v118 i)) (mulR (v116 h0 h1 h2 h3 hm hl i) (v126 i))

theorem v129 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v129 (F := Ideal) x0 x1 x2 x3) (fun t h e => if e < 32 then gq a0 a1 a3 a2 mx t h (32 + e) * sn t e + gq a0 a1 a3 a2 mx t h e * cs t e else gq a0 a1 a3 a2 mx t h (32 + (e - 32)) * cs t (e - 32) + -gq a0 a1 a3 a2 mx t h (e - 32) * sn t (e - 32)) := fun i =>
  Re3.beside (v128 h0 h1 h2 h3 hm hl) (v125 h0 h1 h2 h3 hm hl) concatenates_S4112x16x32_S4112x16x32_S4112x16x64_d2 i

theorem v130 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v130 (F := Ideal) x0 x1 x2 x3) (fun u h d => dkvR a0 a1 a3 a2 mx u h d) := fun i =>
  Re3.beside (v113 h0 h1 h2 h3 hm hl) (v93 h0 h1 h2 h3 hm hl) concatenates_S4112x16x128_S4112x16x128_S4112x16x256_d2 i

theorem v131 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v131 (F := Ideal) x0 x1 x2 x3) (fun t h d => dqR a0 a1 a3 a2 mx t h d) := fun i =>
  Re3.beside (v115 h0 h1 h2 h3 hm hl) (v129 h0 h1 h2 h3 hm hl) concatenates_S4112x16x128_S4112x16x64_S4112x16x192_d2 i

theorem v132 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v132 (F := Ideal) x0 x1 x2 x3) (fun t h d => if t < 4112 ∧ h < 16 ∧ d < 192 then dqR a0 a1 a3 a2 mx t h d else 0) := fun i =>
  Re3.pad (v131 h0 h1 h2 h3 hm hl) (fun i => by show (((0#32 : BitVec 32).toInt : ℝ) : EReal) = 0; norm_num) pads_S4112x16x192_S4224x16x256_01120_000_0640 h_S_ i

theorem v134 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re2 (val_main_v134 (F := Ideal) x0 x1 x2 x3) (fun t c => if t < 4112 ∧ c / 256 < 16 ∧ c % 256 < 192 then dqR a0 a1 a3 a2 mx t (c / 256) (c % 256) else 0) := fun i =>
  Re3.join (v132 h0 h1 h2 h3 hm hl) rfl shapeCasts_S4224x16x256_S4224x4096 i

theorem v135 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v135 (F := Ideal) x0 x1 x2 x3) (fun t h d => if t < 4112 ∧ h < 16 ∧ d < 256 then dkvR a0 a1 a3 a2 mx t h d else 0) := fun i =>
  Re3.pad (v130 h0 h1 h2 h3 hm hl) (fun i => by show (((0#32 : BitVec 32).toInt : ℝ) : EReal) = 0; norm_num) pads_S4112x16x256_S4224x16x256_01120_000_000 h_S_ i

theorem v137 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re2 (val_main_v137 (F := Ideal) x0 x1 x2 x3) (fun t c => if t < 4112 ∧ c / 256 < 16 ∧ c % 256 < 256 then dkvR a0 a1 a3 a2 mx t (c / 256) (c % 256) else 0) := fun i =>
  Re3.join (v135 h0 h1 h2 h3 hm hl) rfl shapeCasts_S4224x16x256_S4224x4096 i

theorem v138 (h0 : Re3 x0 a0) (h1 : Re3 x1 a1) (h2 : Re2 x2 a2) (h3 : Re3 x3 a3) (hm : Re2 (val_main_v67 (F := Ideal) x0 x1 x2) mx) (hl : ∀ h t, t < 4112 → den a0 a1 a2 mx h t ≠ 0) : Re3 (val_main_v138 (F := Ideal) x0 x1 x2 x3) (fun h u e => if h < 16 ∧ u < 4112 ∧ e < 64 then dkrR a0 a1 a3 a2 mx h u e else 0) := fun i =>
  Re3.pad (v109 h0 h1 h2 h3 hm hl) (fun i => by show (((0#32 : BitVec 32).toInt : ℝ) : EReal) = 0; norm_num) pads_S16x4112x64_S16x4224x128_000_01120_0640 h_S_ i

end Cert.Proof.RV

end
-- ==== Proof.Access.lean ====
/- Loads and stores of whole rows through a view, read as tables. -/
module

public import proofs.«01_k».proof.Proof.Table

@[expose] public section

noncomputable section

namespace Cert.Proof.Table

open Idealize.ShloMosaic

variable {sig : RefSig} {κ : Kind} {sp : Space} {e : EltTy} {m n : ℕ}

/-- A load of a window of a buffer whose table is known. -/
theorem Is.load {v : View sig κ sp (Sh m n) e} {X : v.ty.Contents (Elt Ideal)} {f : ℕ → ℕ → Elt Ideal e} (hX : Is (v.read (Elt Ideal) X) f)
    {off : Fin 2 → ℕ} {m' n' o p : ℕ} (inb : ∀ a, off a + (![m', n'] : Fin 2 → ℕ) a ≤ (Sh m n).size a) (h : off = ![o, p]) :
    Is (m := m') (n := n') (v.readAt (Elt Ideal) (Rect.unit (s := Sh m n) off ![m', n'] inb).toLoadRect X) (fun r c => f (o + r) (p + c)) := by
  subst h
  rw [View.readAt_unit v X inb rfl inb]
  exact hX.window inb

/-- A load of whole rows. -/
theorem Is.loadRows {v : View sig κ sp (Sh m n) e} {X : v.ty.Contents (Elt Ideal)} {f : ℕ → ℕ → Elt Ideal e} (hX : Is (v.read (Elt Ideal) X) f)
    {off : Fin 2 → ℕ} {m' n' o : ℕ} (inb : ∀ a, off a + (![m', n'] : Fin 2 → ℕ) a ≤ (Sh m n).size a) (h : off = ![o, 0]) :
    Is (m := m') (n := n') (v.readAt (Elt Ideal) (Rect.unit (s := Sh m n) off ![m', n'] inb).toLoadRect X) (fun r c => f (o + r) c) :=
  (hX.load inb h).congr fun _ _ _ _ => by rw [Nat.zero_add]

/-- A store of whole rows over the stores before it. -/
theorem Is.storeRows {v : View sig κ sp (Sh m n) e} {X : v.ty.Contents (Elt Ideal)} {f g : ℕ → ℕ → Elt Ideal e} {L : List (View.Piece (Elt Ideal) (Sh m n) e)}
    (hX : Is (v.read (Elt Ideal) (v.writes (Elt Ideal) X L)) f)
    {off : Fin 2 → ℕ} {m' o : ℕ} (inb : ∀ a, off a + (![m', n] : Fin 2 → ℕ) a ≤ (Sh m n).size a) (h : off = ![o, 0])
    {w : (Sh m' n).Idx → Elt Ideal e} (hw : Is w g) :
    Is (v.read (Elt Ideal) (v.writes (Elt Ideal) X (⟨Rect.unit (s := Sh m n) off ![m', n] inb, w⟩ :: L))) (fun r c => if o ≤ r ∧ r < o + m' then g (r - o) c else f r c) := by
  subst h
  rw [View.read_writes_cons_put v X inb w L rfl]
  exact hX.put hw

/-- A store of the whole buffer. -/
theorem Is.storeAll {v : View sig κ sp (Sh m n) e} {X : v.ty.Contents (Elt Ideal)} {g : ℕ → ℕ → Elt Ideal e} {L : List (View.Piece (Elt Ideal) (Sh m n) e)}
    {off : Fin 2 → ℕ} (inb : ∀ a, off a + (![m, n] : Fin 2 → ℕ) a ≤ (Sh m n).size a)
    {w : (Sh m n).Idx → Elt Ideal e} (hw : Is w g) :
    Is (v.read (Elt Ideal) (v.writes (Elt Ideal) X (⟨Rect.unit (s := Sh m n) off ![m, n] inb, w⟩ :: L))) g := by
  rw [View.read_writes_full v X inb w L]
  exact hw

/-- A store that adds to whole rows what they hold already. -/
theorem Is.addRows {v : View sig κ sp (Sh m n) .f32} {X : v.ty.Contents (Elt Ideal)} {f x : ℕ → ℕ → EReal} {L : List (View.Piece (Elt Ideal) (Sh m n) .f32)}
    (hX : Is (α := EReal) (v.read (Elt Ideal) (v.writes (Elt Ideal) X L)) f)
    {off : Fin 2 → ℕ} {m' o : ℕ} (inb : ∀ a, off a + (![m', n] : Fin 2 → ℕ) a ≤ (Sh m n).size a) (h : off = ![o, 0])
    {w : (Sh m' n).Idx → EReal} (hw : Is w (fun r c => f (o + r) c + x r c)) :
    Is (α := EReal) (v.read (Elt Ideal) (v.writes (Elt Ideal) X (⟨Rect.unit (s := Sh m n) off ![m', n] inb, w⟩ :: L)))
      (fun r c => f r c + if o ≤ r ∧ r < o + m' then x (r - o) c else 0) :=
  (Is.storeRows (e := .f32) hX inb h hw).congr fun r c _ _ => by
    by_cases hr : o ≤ r ∧ r < o + m'
    · rw [if_pos hr, if_pos hr, show o + (r - o) = r from by omega]
    · rw [if_neg hr, if_neg hr, add_zero]

end Cert.Proof.Table

end
-- ==== Proof.Inner.lean ====
/- The inner loop of a query tile: what its trips over pairs of key tiles have added after any number of them. -/
module

public import proofs.«01_k».proof.Proof.Access
public import proofs.«01_k».proof.Proof.Pays
public import proofs.«01_k».proof.Proof.Gen.KernelIdeal.Loops

@[expose] public section

set_option maxRecDepth 16384

noncomputable section

namespace Cert.Proof.KI

open Cert.KernelIdeal Cert.KernelIdeal.Gen
open Idealize.ShloMosaic Idealize.ShloMosaic.TcCoe
open Cert.Proof.Table
open scoped BigOperators

theorem off5_eq : ∀ (k : Fin k0_t1_loop.trips) (j : Fin (k0_t2_loop k).trips), k0_off5 k j = ![16 + 1024 * j.val, 0] := by decide +kernel
theorem off6_eq : ∀ (k : Fin k0_t1_loop.trips) (j : Fin (k0_t2_loop k).trips), k0_off6 k j = ![16 + 1024 * j.val, 128] := by decide +kernel
theorem off7_eq : ∀ (k : Fin k0_t1_loop.trips) (j : Fin (k0_t2_loop k).trips), k0_off7 k j = ![16 + 1024 * j.val, 0] := by decide +kernel
theorem trips_t2 : ∀ k : Fin k0_t1_loop.trips, (k0_t2_loop k).trips = k.val / 2 := by decide +kernel
theorem trips_t3 : ∀ k : Fin k0_t1_loop.trips, (k0_t3_loop k).trips = 0 := by decide +kernel

/-- The indicator of the key rows of the first `n` pairs of tiles grows by the rows of the next pair. -/
theorem pairs_succ (n u : ℕ) (x y : EReal) (h : 16 + 1024 * n ≤ u → u < 16 + 1024 * n + 1024 → y = x) :
    (if 16 ≤ u ∧ u < 16 + 1024 * n then x else 0) + (if 16 + 1024 * n ≤ u ∧ u < 16 + 1024 * n + 1024 then y else 0) = if 16 ≤ u ∧ u < 16 + 1024 * (n + 1) then x else 0 := by
  by_cases h2 : 16 + 1024 * n ≤ u ∧ u < 16 + 1024 * n + 1024
  · rw [if_neg (by omega), if_pos h2, if_pos (by omega), zero_add, h h2.1 h2.2]
  · rw [if_neg h2, add_zero]
    by_cases h3 : 16 ≤ u ∧ u < 16 + 1024 * n
    · rw [if_pos h3, if_pos (by omega)]
    · rw [if_neg h3, if_neg (by omega)]

/-- What the buffers hold after the first `n` pairs of key tiles. -/
theorem t2_is (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (k : Fin k0_t1_loop.trips) (arg16 v122 : BitVec 32) (v125 : FVec Ideal S512x256 .bf16) (v128 : FVec Ideal S512x128 .bf16) (v131 v139 : FVec Ideal S512x1 .f32) (v155 : FVec Ideal S640x256 .bf16) (v177 : FVec Ideal S512x640 .bf16) (v180 : FVec Ideal S640x256 .f32) (X_arg2 : BufTy.Contents (Elt Ideal) arg2.view.ty) (X_arg12 : BufTy.Contents (Elt Ideal) arg12.view.ty) (G_arg13 : BufTy.Contents (Elt Ideal) arg13.view.ty) (G_arg14 : BufTy.Contents (Elt Ideal) arg14.view.ty) (G_arg15 : BufTy.Contents (Elt Ideal) arg15.view.ty)
    {Q K KV DO L D f13 f14 f15 : ℕ → ℕ → EReal}
    (hq : Is (α := EReal) v125 Q) (hd : Is (α := EReal) v128 DO) (hl : Is (α := EReal) v131 L) (hD : Is (α := EReal) v139 D)
    (hK : Is (α := EReal) (arg12.view.read (Elt Ideal) X_arg12) K) (hV : Is (α := EReal) (arg2.view.read (Elt Ideal) X_arg2) KV)
    (h13 : Is (α := EReal) (arg13.view.read (Elt Ideal) G_arg13) f13) (h14 : Is (α := EReal) (arg14.view.read (Elt Ideal) G_arg14) f14) (h15 : Is (α := EReal) (arg15.view.read (Elt Ideal) G_arg15) f15)
    (n : ℕ) (hn : n ≤ (k0_t2_loop k).trips) :
    Is (α := EReal) (arg13.view.read (Elt Ideal) (arg13.view.writes (Elt Ideal) G_arg13 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 G_arg13 G_arg14 G_arg15 n).1)) (fun u d => f13 u d + if 16 ≤ u ∧ u < 16 + 1024 * n then ∑ r ∈ Finset.range 512, DS Q K (fun u d => KV u (128 + d)) DO L D r u * Q r d else 0)
    ∧ Is (α := EReal) (arg14.view.read (Elt Ideal) (arg14.view.writes (Elt Ideal) G_arg14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 G_arg13 G_arg14 G_arg15 n).2.1)) (fun u d => f14 u d + if 16 ≤ u ∧ u < 16 + 1024 * n then ∑ r ∈ Finset.range 512, P Q K L r u * DO r d else 0)
    ∧ Is (α := EReal) (arg15.view.read (Elt Ideal) (arg15.view.writes (Elt Ideal) G_arg15 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 G_arg13 G_arg14 G_arg15 n).2.2)) (fun r d => f15 r d + ∑ u ∈ Finset.range (1024 * n), DS Q K (fun u d => KV u (128 + d)) DO L D r (16 + u) * K (16 + u) d) := by
  induction n with
  | zero =>
    refine ⟨h13.congr fun u d _ _ => ?_, h14.congr fun u d _ _ => ?_, h15.congr fun u d _ _ => ?_⟩
    · rw [if_neg (by omega), add_zero]
    · rw [if_neg (by omega), add_zero]
    · rw [Nat.mul_zero, Finset.sum_range_zero, add_zero]
  | succ n ih =>
    obtain ⟨i13, i14, i15⟩ := ih (by omega)
    have hs := pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 G_arg13 G_arg14 G_arg15 ⟨n, by omega⟩
    dsimp only at hs
    rw [hs]
    dsimp only
    rw [View.writes_append, View.writes_append, View.writes_append]
    generalize (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 G_arg13 G_arg14 G_arg15 n) = prev at i13 i14 i15 ⊢
    unfold trip_k0_t2
    dsimp only [trip_k0_t2.sl.r, trip_k0_t2.sl.r_1, trip_k0_t2.sl.r_2]
    have o5 := off5_eq k ⟨n, by omega⟩
    have o6 := off6_eq k ⟨n, by omega⟩
    have o7 := off7_eq k ⟨n, by omega⟩
    dsimp only at o5 o6 o7
    have lK := Is.loadRows (m' := 1024) (n' := 256) hK (k0_off5_inb k ⟨n, by omega⟩) o5
    have lV := Is.load (m' := 1024) (n' := 128) hV (k0_off6_inb k ⟨n, by omega⟩) o6
    refine ⟨?_, ?_, ?_⟩
    · refine (Is.addRows (L := []) i13 (k0_off5_inb k ⟨n, by omega⟩) o5 (pay7_is hq hd hl hD lK lV (Is.loadRows i13 _ o5))).congr fun u d _ _ => ?_
      rw [add_assoc]
      refine congrArg _ (pairs_succ n u _ _ fun h1 h2 => Finset.sum_congr rfl fun r _ => ?_)
      show DS Q K (fun u d => KV u (128 + d)) DO L D r (16 + 1024 * n + (u - (16 + 1024 * n))) * Q r d = _
      rw [Nat.add_sub_of_le h1]
    · refine (Is.addRows (L := []) i14 (k0_off7_inb k ⟨n, by omega⟩) o7 (pay6_is hq hd hl lK (Is.loadRows i14 _ o7))).congr fun u d _ _ => ?_
      rw [add_assoc]
      refine congrArg _ (pairs_succ n u _ _ fun h1 h2 => Finset.sum_congr rfl fun r _ => ?_)
      show P Q K L r (16 + 1024 * n + (u - (16 + 1024 * n))) * DO r d = _
      rw [Nat.add_sub_of_le h1]
    · refine (Is.storeAll (L := []) _ (pay34_is (Is.loadRows (m' := 512) (n' := 256) (o := 0) i15 _ rfl) lK (pay5_is hq hd hl hD lK lV))).congr fun r d _ _ => ?_
      show f15 (0 + r) d + _ + ∑ u ∈ Finset.range 1024, DS Q K (fun u d => KV u (128 + d)) DO L D r (16 + 1024 * n + u) * K (16 + 1024 * n + u) d = _
      rw [Nat.zero_add, Nat.mul_succ, Finset.sum_range_add, add_assoc]
      simp only [Nat.add_assoc]

end Cert.Proof.KI

end
-- ==== Proof.Main.lean ====
/- What a query tile's buffers hold after its diagonal and meta keys and the pairs of tiles before it. -/
module

public import proofs.«01_k».proof.Proof.Inner
public import proofs.«01_k».proof.Proof.Tile

@[expose] public section

set_option maxRecDepth 16384

noncomputable section

namespace Cert.Proof.KI

open Cert.KernelIdeal Cert.KernelIdeal.Gen
open Idealize.ShloMosaic Idealize.ShloMosaic.TcCoe
open Cert.Proof.Table
open scoped BigOperators

theorem V640_eq (V : ℕ → ℕ → EReal) (k : ℕ) : V640 V (rows V k) = K640 V k := by
  funext u d
  unfold V640 K640 rowOf rows
  split <;> rfl

theorem off1_val (k : Fin k0_t1_loop.trips) : k0_off1 k = ![16 + 512 * k.val, 0] := by
  rw [k0_off1_eq k, Nat.add_comm]
theorem off2_val (k : Fin k0_t1_loop.trips) : k0_off2 k = ![16 + 512 * k.val, 0] := by
  rw [k0_off2_eq k, Nat.add_comm]

/-- The buffers after the pairs of tiles, before the last tile of an odd one. -/
theorem main_is (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (k : Fin k0_t1_loop.trips) (arg16 v122 : BitVec 32) (v125 : FVec Ideal S512x256 .bf16) (v128 : FVec Ideal S512x128 .bf16) (v131 v139 : FVec Ideal S512x1 .f32) (v155 : FVec Ideal S640x256 .bf16) (v177 : FVec Ideal S512x640 .bf16) (v180 : FVec Ideal S640x256 .f32) (v1 : FVec Ideal S128x128 .bf16) (v2 : FVec Ideal S512x128 .bf16) (X_arg2 : BufTy.Contents (Elt Ideal) arg2.view.ty) (X_arg12 : BufTy.Contents (Elt Ideal) arg12.view.ty) (f_arg13 : BufTy.Contents (Elt Ideal) arg13.view.ty) (f_arg14 : BufTy.Contents (Elt Ideal) arg14.view.ty)
    {Q K KV DO L D f13 f14 : ℕ → ℕ → EReal}
    (hq : Is (α := EReal) v125 (rows Q k.val)) (hd : Is (α := EReal) v128 (rows DO k.val)) (hl : Is (α := EReal) v131 (rows L k.val)) (hD : Is (α := EReal) v139 (rows D k.val))
    (h155 : Is (α := EReal) v155 (K640 K k.val)) (h1 : Is (α := EReal) v1 (fun u d => KV u (128 + d))) (h2 : Is (α := EReal) v2 (rows (fun u d => KV u (128 + d)) k.val))
    (h177 : Is (α := EReal) v177 (DSm (rows Q k.val) (K640 K k.val) (K640 (fun u d => KV u (128 + d)) k.val) (rows DO k.val) (rows L k.val) (rows D k.val))) (h180 : Is (α := EReal) v180 (fun u d => ∑ r ∈ Finset.range 512, DSm (rows Q k.val) (K640 K k.val) (K640 (fun u d => KV u (128 + d)) k.val) (rows DO k.val) (rows L k.val) (rows D k.val) r u * rows Q k.val r d))
    (hK : Is (α := EReal) (arg12.view.read (Elt Ideal) X_arg12) K) (hV : Is (α := EReal) (arg2.view.read (Elt Ideal) X_arg2) KV)
    (h13 : Is (α := EReal) (arg13.view.read (Elt Ideal) f_arg13) f13) (h14 : Is (α := EReal) (arg14.view.read (Elt Ideal) f_arg14) f14)
    (n : ℕ) (hn : n = (k0_t2_loop k).trips) :
    Is (α := EReal) (arg13.view.read (Elt Ideal) (arg13.view.writes (Elt Ideal) f_arg13 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 (arg13.view.writes (Elt Ideal) f_arg13 (⟨Rect.unit (s := S4224x256) (k0_off1 k) S512x256.size (k0_off1_inb k), k0_pay32 v180 (View.readAt (Elt Ideal) arg13.view (Rect.unit (s := S4224x256) (k0_off1 k) S512x256.size (k0_off1_inb k)).toLoadRect (arg13.view.writes (Elt Ideal) f_arg13 ([⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])))⟩ :: [⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])) (arg14.view.writes (Elt Ideal) f_arg14 (⟨Rect.unit (s := S4224x128) (k0_off2 k) S512x128.size (k0_off2_inb k), k0_pay31 v125 v128 v131 k0_pay20 k0_pay21 v155 (View.readAt (Elt Ideal) arg14.view (Rect.unit (s := S4224x128) (k0_off2 k) S512x128.size (k0_off2_inb k)).toLoadRect (arg14.view.writes (Elt Ideal) f_arg14 ([⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])))⟩ :: [⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])) (arg15.view.writes (Elt Ideal) arg15.view.junk ([⟨Rect.unit (s := S512x256) ![0, 0] S512x256.size inb_S512x256_S512x256_0_0, k0_pay33 v155 v177⟩])) n).1 ++ ⟨Rect.unit (s := S4224x256) (k0_off1 k) S512x256.size (k0_off1_inb k), k0_pay32 v180 (View.readAt (Elt Ideal) arg13.view (Rect.unit (s := S4224x256) (k0_off1 k) S512x256.size (k0_off1_inb k)).toLoadRect (arg13.view.writes (Elt Ideal) f_arg13 ([⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])))⟩ :: [⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])))
      (fun u d => f13 u d + (if 0 ≤ u ∧ u < 0 + 128 then ∑ r ∈ Finset.range 512, DSm (rows Q k.val) (K640 K k.val) (K640 (fun u d => KV u (128 + d)) k.val) (rows DO k.val) (rows L k.val) (rows D k.val) r (u - 0) * rows Q k.val r d else 0)
        + (if 16 + 512 * k.val ≤ u ∧ u < 16 + 512 * k.val + 512 then ∑ r ∈ Finset.range 512, DSm (rows Q k.val) (K640 K k.val) (K640 (fun u d => KV u (128 + d)) k.val) (rows DO k.val) (rows L k.val) (rows D k.val) r (128 + (u - (16 + 512 * k.val))) * rows Q k.val r d else 0)
        + (if 16 ≤ u ∧ u < 16 + 1024 * (k.val / 2) then ∑ r ∈ Finset.range 512, DS Q K (fun u d => KV u (128 + d)) DO L D (16 + 512 * k.val + r) u * rows Q k.val r d else 0))
    ∧ Is (α := EReal) (arg14.view.read (Elt Ideal) (arg14.view.writes (Elt Ideal) f_arg14 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 (arg13.view.writes (Elt Ideal) f_arg13 (⟨Rect.unit (s := S4224x256) (k0_off1 k) S512x256.size (k0_off1_inb k), k0_pay32 v180 (View.readAt (Elt Ideal) arg13.view (Rect.unit (s := S4224x256) (k0_off1 k) S512x256.size (k0_off1_inb k)).toLoadRect (arg13.view.writes (Elt Ideal) f_arg13 ([⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])))⟩ :: [⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])) (arg14.view.writes (Elt Ideal) f_arg14 (⟨Rect.unit (s := S4224x128) (k0_off2 k) S512x128.size (k0_off2_inb k), k0_pay31 v125 v128 v131 k0_pay20 k0_pay21 v155 (View.readAt (Elt Ideal) arg14.view (Rect.unit (s := S4224x128) (k0_off2 k) S512x128.size (k0_off2_inb k)).toLoadRect (arg14.view.writes (Elt Ideal) f_arg14 ([⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])))⟩ :: [⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])) (arg15.view.writes (Elt Ideal) arg15.view.junk ([⟨Rect.unit (s := S512x256) ![0, 0] S512x256.size inb_S512x256_S512x256_0_0, k0_pay33 v155 v177⟩])) n).2.1 ++ ⟨Rect.unit (s := S4224x128) (k0_off2 k) S512x128.size (k0_off2_inb k), k0_pay31 v125 v128 v131 k0_pay20 k0_pay21 v155 (View.readAt (Elt Ideal) arg14.view (Rect.unit (s := S4224x128) (k0_off2 k) S512x128.size (k0_off2_inb k)).toLoadRect (arg14.view.writes (Elt Ideal) f_arg14 ([⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])))⟩ :: [⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])))
      (fun u d => f14 u d + (if 0 ≤ u ∧ u < 0 + 128 then ∑ r ∈ Finset.range 512, Pm (rows Q k.val) (K640 K k.val) (rows L k.val) r (u - 0) * rows DO k.val r d else 0)
        + (if 16 + 512 * k.val ≤ u ∧ u < 16 + 512 * k.val + 512 then ∑ r ∈ Finset.range 512, Pm (rows Q k.val) (K640 K k.val) (rows L k.val) r (128 + (u - (16 + 512 * k.val))) * rows DO k.val r d else 0)
        + (if 16 ≤ u ∧ u < 16 + 1024 * (k.val / 2) then ∑ r ∈ Finset.range 512, P Q K L (16 + 512 * k.val + r) u * rows DO k.val r d else 0))
    ∧ Is (α := EReal) (arg15.view.read (Elt Ideal) (arg15.view.writes (Elt Ideal) arg15.view.junk ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 (arg13.view.writes (Elt Ideal) f_arg13 (⟨Rect.unit (s := S4224x256) (k0_off1 k) S512x256.size (k0_off1_inb k), k0_pay32 v180 (View.readAt (Elt Ideal) arg13.view (Rect.unit (s := S4224x256) (k0_off1 k) S512x256.size (k0_off1_inb k)).toLoadRect (arg13.view.writes (Elt Ideal) f_arg13 ([⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])))⟩ :: [⟨Rect.unit (s := S4224x256) ![0, 0] S128x256.size inb_S4224x256_S128x256_0_0, k0_pay30 v125 v128 v131 v139 k0_pay20 k0_pay21 v155 v1 v2 (View.readAt (Elt Ideal) arg13.view (Rect.unit (s := S4224x256) ![0, 0] S128x256.size inb_S4224x256_S128x256_0_0).toLoadRect (f_arg13))⟩])) (arg14.view.writes (Elt Ideal) f_arg14 (⟨Rect.unit (s := S4224x128) (k0_off2 k) S512x128.size (k0_off2_inb k), k0_pay31 v125 v128 v131 k0_pay20 k0_pay21 v155 (View.readAt (Elt Ideal) arg14.view (Rect.unit (s := S4224x128) (k0_off2 k) S512x128.size (k0_off2_inb k)).toLoadRect (arg14.view.writes (Elt Ideal) f_arg14 ([⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])))⟩ :: [⟨Rect.unit (s := S4224x128) ![0, 0] S128x128.size inb_S4224x128_S128x128_0_0, k0_pay29 v125 v128 v131 k0_pay20 k0_pay21 v155 (View.readAt (Elt Ideal) arg14.view (Rect.unit (s := S4224x128) ![0, 0] S128x128.size inb_S4224x128_S128x128_0_0).toLoadRect (f_arg14))⟩])) (arg15.view.writes (Elt Ideal) arg15.view.junk ([⟨Rect.unit (s := S512x256) ![0, 0] S512x256.size inb_S512x256_S512x256_0_0, k0_pay33 v155 v177⟩])) n).2.2 ++ [⟨Rect.unit (s := S512x256) ![0, 0] S512x256.size inb_S512x256_S512x256_0_0, k0_pay33 v155 v177⟩])))
      (fun r d => ∑ u ∈ Finset.range 640, DSm (rows Q k.val) (K640 K k.val) (K640 (fun u d => KV u (128 + d)) k.val) (rows DO k.val) (rows L k.val) (rows D k.val) r u * K (rowOf k.val u) d + ∑ u ∈ Finset.range (1024 * (k.val / 2)), DS Q K (fun u d => KV u (128 + d)) DO L D (16 + 512 * k.val + r) (16 + u) * K (16 + u) d) := by
  have a13 := Is.addRows (L := []) (v := arg13.view) (X := f_arg13) h13 inb_S4224x256_S128x256_0_0 rfl ((V640_eq (fun u d => KV u (128 + d)) k.val) ▸ pay30_is hq hd hl hD h155 h1 h2 (Is.loadRows h13 inb_S4224x256_S128x256_0_0 rfl))
  have b13 := Is.addRows a13 (k0_off1_inb k) (off1_val k) (pay32_is h180 (Is.loadRows a13 (k0_off1_inb k) (off1_val k)))
  have a14 := Is.addRows (L := []) (v := arg14.view) (X := f_arg14) h14 inb_S4224x128_S128x128_0_0 rfl (pay29_is hq hd hl h155 (Is.loadRows h14 inb_S4224x128_S128x128_0_0 rfl))
  have b14 := Is.addRows a14 (k0_off2_inb k) (off2_val k) (pay31_is hq hd hl h155 (Is.loadRows a14 (k0_off2_inb k) (off2_val k)))
  have b15 := Is.storeAll (L := []) (v := arg15.view) (X := arg15.view.junk) inb_S512x256_S512x256_0_0 (pay33_is h155 h177)
  obtain ⟨c13, c14, c15⟩ := t2_is c i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 X_arg2 X_arg12 _ _ _ hq hd hl hD hK hV b13 b14 b15 n (Nat.le_of_eq hn)
  rw [View.writes_append, View.writes_append, View.writes_append]
  have hn2 : n = k.val / 2 := hn.trans (trips_t2 k)
  rw [← hn2]
  exact ⟨c13, c14, c15⟩

end Cert.Proof.KI

end
-- ==== Proof.TripVal.lean ====
/- What one trip of the loop over query tiles adds to the gradients, and the rows of the query gradient it leaves. -/
module

public import proofs.«01_k».proof.Proof.Main
public import proofs.«01_k».proof.Proof.Inv

@[expose] public section

set_option maxRecDepth 16384
set_option maxHeartbeats 400000

noncomputable section

namespace Cert.Proof.KI

open Cert.KernelIdeal Cert.KernelIdeal.Gen
open Idealize.ShloMosaic Idealize.ShloMosaic.TcCoe
open Cert.Proof.Table
open scoped BigOperators

theorem off3_val (k : Fin k0_t1_loop.trips) : k0_off3 k = ![0, 16 + 512 * k.val, 0] := by
  rw [k0_off3_eq k, Nat.add_comm]
theorem off4_val (k : Fin k0_t1_loop.trips) : k0_off4 k = ![16 + 512 * k.val, 128] := by
  rw [k0_off4_eq k, Nat.add_comm]
theorem off11_val : ∀ k : Fin k0_t1_loop.trips, k0_cond1 k = 1#1 → k0_off11 k = ![16 + 512 * (k.val - 1), 0] := by decide +kernel
theorem off12_val : ∀ k : Fin k0_t1_loop.trips, k0_cond1 k = 1#1 → k0_off12 k = ![16 + 512 * (k.val - 1), 128] := by decide +kernel
theorem off13_val : ∀ k : Fin k0_t1_loop.trips, k0_cond1 k = 1#1 → k0_off13 k = ![16 + 512 * (k.val - 1), 0] := by decide +kernel
theorem cond1_odd : ∀ k : Fin k0_t1_loop.trips, k0_cond1 k = 1#1 → k.val % 2 = 1 := by decide +kernel
theorem cond1_even : ∀ k : Fin k0_t1_loop.trips, k0_cond1 k ≠ 1#1 → k.val % 2 = 0 := by decide +kernel
theorem trips8 : ∀ k : Fin k0_t1_loop.trips, k.val < 8 := by decide +kernel

/-- The sums along rows of the products of two tables. -/
def dots (DO O : ℕ → ℕ → EReal) (t _ : ℕ) : EReal := ∑ d ∈ Finset.range 128, DO t d * O t d

theorem ite_zero {c : Prop} [Decidable c] {a b : EReal} (h : c → a = b) : (if c then a else 0) = if c then b else 0 := by
  by_cases hc : c
  · rw [if_pos hc, if_pos hc, h hc]
  · rw [if_neg hc, if_neg hc]

theorem pay23_is {w : FVec Ideal (Sh 128 128) .bf16} {V : ℕ → ℕ → EReal} (h : Is (α := EReal) w V) : Is (α := EReal) (k0_pay23 (F := Ideal) w) V := by unfold k0_pay23; exact h.cast _

theorem pay24_is {w : FVec Ideal (Sh 512 128) .bf16} {V : ℕ → ℕ → EReal} (h : Is (α := EReal) w V) : Is (α := EReal) (k0_pay24 (F := Ideal) w) V := by unfold k0_pay24; exact h.cast _

/-- The rotation of a tile's rows is the rotation of those rows of the buffer. -/
theorem unrope_rows {k r : ℕ} {g G C S : ℕ → ℕ → EReal} (hg : ∀ d, g r d = G (16 + 512 * k + r) d) (d : ℕ) :
    unrope g (fun r c => C (16 + 512 * k + r) c) (fun r c => S (16 + 512 * k + r) c) r d = rows (unrope G C S) k r d := by
  unfold unrope rows
  simp only [hg]

/-- The last of the inner loops makes no trip. -/
theorem t3_nil (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (k : Fin k0_t1_loop.trips) (arg16 v122 : BitVec 32) (v125 : FVec Ideal S512x256 .bf16) (v128 : FVec Ideal S512x128 .bf16) (v131 v139 : FVec Ideal S512x1 .f32) (v155 : FVec Ideal S640x256 .bf16) (v177 : FVec Ideal S512x640 .bf16) (v180 : FVec Ideal S640x256 .f32) (v234 : BitVec 32) (X_arg2 : BufTy.Contents (Elt Ideal) arg2.view.ty) (X_arg12 : BufTy.Contents (Elt Ideal) arg12.view.ty) (G_arg13 : BufTy.Contents (Elt Ideal) arg13.view.ty) (G_arg14 : BufTy.Contents (Elt Ideal) arg14.view.ty) (G_arg15 : BufTy.Contents (Elt Ideal) arg15.view.ty) (n : ℕ) (hn : n = (k0_t3_loop k).trips) :
    pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k arg16 v122 v125 v128 v131 v139 v155 v177 v180 v234 X_arg2 X_arg12 G_arg13 G_arg14 G_arg15 n = ([], [], []) := by
  rw [hn.trans (trips_t3 k)]
  rfl

/-- The load of a column of row statistics. -/
theorem lse_load (k : Fin k0_t1_loop.trips) (arg5 : Memref sig .tc .vmem S1x4224x128 .f32) (X_arg5 : BufTy.Contents (Elt Ideal) arg5.view.ty) {L : ℕ → ℕ → EReal}
    (h5 : ∀ j, arg5.view.read (Elt Ideal) X_arg5 j = L (j 1).val (j 2).val) (inb : ∀ a, k0_off3 k a + S1x512x1.size a ≤ S1x4224x128.size a) (j : S1x512x1.Idx) :
    View.readAt (Elt Ideal) arg5.view (Rect.unit (s := S1x4224x128) (k0_off3 k) S1x512x1.size inb).toLoadRect X_arg5 j = rows L k.val (j 1).val (j 2).val := by
  refine (h5 _).trans ?_
  have e1 : (((Rect.unit (s := S1x4224x128) (k0_off3 k) S1x512x1.size inb).toLoadRect.idx j) 1).val = 16 + 512 * k.val + (j 1).val := by
    show k0_off3 k 1 + 1 * (j 1).val = _
    rw [off3_val, Nat.one_mul]; rfl
  have e2 : (((Rect.unit (s := S1x4224x128) (k0_off3 k) S1x512x1.size inb).toLoadRect.idx j) 2).val = (j 2).val := by
    show k0_off3 k 2 + 1 * (j 2).val = _
    rw [off3_val, Nat.one_mul]; exact Nat.zero_add _
  rw [e1, e2]; rfl

/-- One trip over an odd query tile. -/
theorem tripOdd_is (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt Ideal) arg1.view.ty) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg12 : BufTy.Contents (Elt Ideal) arg12.view.ty) (k : Fin k0_t1_loop.trips) (hc : k0_cond1 k = 1#1) (f_arg13 : BufTy.Contents (Elt Ideal) arg13.view.ty) (f_arg14 : BufTy.Contents (Elt Ideal) arg14.view.ty) {Q K KV DO O L C S f13 f14 : ℕ → ℕ → EReal}
    (h1 : Is (α := EReal) (arg1.view.read (Elt Ideal) X_arg1) Q) (h2 : Is (α := EReal) (arg2.view.read (Elt Ideal) X_arg2) KV) (h4 : Is (α := EReal) (arg4.view.read (Elt Ideal) X_arg4) O)
    (h5 : ∀ j, arg5.view.read (Elt Ideal) X_arg5 j = L (j 1).val (j 2).val) (h6 : Is (α := EReal) (arg6.view.read (Elt Ideal) X_arg6) DO)
    (h7 : Is (α := EReal) (arg7.view.read (Elt Ideal) X_arg7) C) (h8 : Is (α := EReal) (arg8.view.read (Elt Ideal) X_arg8) S) (h12 : Is (α := EReal) (arg12.view.read (Elt Ideal) X_arg12) K)
    (h13 : Is (α := EReal) (arg13.view.read (Elt Ideal) f_arg13) f13) (h14 : Is (α := EReal) (arg14.view.read (Elt Ideal) f_arg14) f14) :
    Is (α := EReal) (arg13.view.read (Elt Ideal) (arg13.view.writes (Elt Ideal) f_arg13 ((tripOdd (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.1 f_arg13 f_arg14))) (fun u d => f13 u d + ∑ r ∈ Finset.range 512, DA Q K (fun u d => KV u (128 + d)) DO L (dots DO O) (16 + 512 * k.val + r) u * rows Q k.val r d)
    ∧ Is (α := EReal) (arg14.view.read (Elt Ideal) (arg14.view.writes (Elt Ideal) f_arg14 ((tripOdd (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.1 f_arg13 f_arg14))) (fun u d => f14 u d + ∑ r ∈ Finset.range 512, PA Q K L (16 + 512 * k.val + r) u * rows DO k.val r d)
    ∧ ∃ w, (tripOdd (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).1 f_arg13 f_arg14 = [⟨Rect.unit (s := S4224x256) (k0_off1 k) S512x256.size (k0_off1_inb k), w⟩] ∧ Is (α := EReal) w (rows (unrope (fun t d => ∑ u ∈ Finset.range 4224, DA Q K (fun u d => KV u (128 + d)) DO L (dots DO O) t u * K u d) C S) k.val) := by
  have hr : k.val < 8 := trips8 k
  have hq := pay16_is (Is.loadRows (m' := 512) (n' := 256) h1 (k0_off1_inb k) (off1_val k))
  have hd := pay17_is (Is.loadRows (m' := 512) (n' := 128) h6 (k0_off2_inb k) (off2_val k))
  have hl := pay18_is (L := rows L k.val) (lse_load k arg5 X_arg5 h5 (k0_off3_inb k))
  have hD := pay19_is (Is.loadRows (m' := 512) (n' := 128) h6 (k0_off2_inb k) (off2_val k)) (Is.loadRows (m' := 512) (n' := 128) h4 (k0_off2_inb k) (off2_val k))
  have h155 : Is (α := EReal) (tripOdd.sl.r_4 (F := Ideal) arg12 X_arg12 k) (K640 K k.val) := (pay22_is (Is.loadRows (m' := 128) (n' := 256) (o := 0) h12 inb_S4224x256_S128x256_0_0 rfl) (Is.loadRows (m' := 512) (n' := 256) h12 (k0_off1_inb k) (off1_val k))).congr fun u d _ _ => by
    unfold K640 rowOf
    rw [Nat.zero_add]
    split <;> rfl
  have e1 : Is (α := EReal) (tripOdd.sl.r_5 (F := Ideal) arg2 X_arg2) (fun u d => KV u (128 + d)) := (pay23_is (Is.load (m' := 128) (n' := 128) (o := 0) (p := 128) h2 inb_S4224x256_S128x128_0_128 rfl)).congr fun u d _ _ => by rw [Nat.zero_add]
  have e2 : Is (α := EReal) (tripOdd.sl.r_6 (F := Ideal) arg2 X_arg2 k) (rows (fun u d => KV u (128 + d)) k.val) := pay24_is (Is.load (m' := 512) (n' := 128) h2 (k0_off4_inb k) (off4_val k))
  have hq' : Is (α := EReal) (tripOdd.sl.r (F := Ideal) arg1 X_arg1 k) (rows Q k.val) := hq
  have hd' : Is (α := EReal) (tripOdd.sl.r_1 (F := Ideal) arg6 X_arg6 k) (rows DO k.val) := hd
  have hl' : Is (α := EReal) (tripOdd.sl.r_2 (F := Ideal) arg5 X_arg5 k) (rows L k.val) := hl
  have hD' : Is (α := EReal) (tripOdd.sl.r_3 (F := Ideal) arg4 arg6 X_arg4 X_arg6 k) (rows (dots DO O) k.val) := hD
  have h177 : Is (α := EReal) (tripOdd.sl.r_7 (F := Ideal) arg1 arg2 arg4 arg5 arg6 arg12 X_arg1 X_arg2 X_arg4 X_arg5 X_arg6 X_arg12 k) (DSm (rows Q k.val) (K640 K k.val) (K640 (fun u d => KV u (128 + d)) k.val) (rows DO k.val) (rows L k.val) (rows (dots DO O) k.val)) :=
    V640_eq (fun u d => KV u (128 + d)) k.val ▸ pay26_is hq' hd' hl' hD' h155 e1 e2
  have h180 : Is (α := EReal) (tripOdd.sl.r_8 (F := Ideal) arg1 arg2 arg4 arg5 arg6 arg12 X_arg1 X_arg2 X_arg4 X_arg5 X_arg6 X_arg12 k) (fun u d => ∑ r ∈ Finset.range 512, DSm (rows Q k.val) (K640 K k.val) (K640 (fun u d => KV u (128 + d)) k.val) (rows DO k.val) (rows L k.val) (rows (dots DO O) k.val) r u * rows Q k.val r d) :=
    V640_eq (fun u d => KV u (128 + d)) k.val ▸ pay28_is hq' hd' hl' hD' h155 e1 e2
  obtain ⟨m13, m14, m15⟩ := main_is c i arg1 harg1 arg2 harg2 arg3 harg3 arg4 harg4 arg5 harg5 arg6 harg6 arg7 harg7 arg8 harg8 arg9 harg9 arg10 harg10 arg11 harg11 arg12 harg12 arg13 harg13 arg14 harg14 arg15 harg15 k (tripOdd.sl.arg16 k) (tripOdd.sl.v121 k) _ _ _ _ _ _ _ _ _ X_arg2 X_arg12 f_arg13 f_arg14 hq' hd' hl' hD' h155 e1 e2 h177 h180 h12 h2 h13 h14 _ rfl
  have y13 : ∀ (d r u : ℕ), u < 640 → DSm (rows Q k.val) (K640 K k.val) (K640 (fun u d => KV u (128 + d)) k.val) (rows DO k.val) (rows L k.val) (rows (dots DO O) k.val) r u * rows Q k.val r d = if M640 r u = 1 then DS Q K (fun u d => KV u (128 + d)) DO L (dots DO O) (16 + 512 * k.val + r) (rowOf k.val u) * rows Q k.val r d else 0 := fun d r u _ => by
    rw [DSm_eq, ite_mul, zero_mul]
  have y14 : ∀ (d r u : ℕ), u < 640 → Pm (rows Q k.val) (K640 K k.val) (rows L k.val) r u * rows DO k.val r d = if M640 r u = 1 then P Q K L (16 + 512 * k.val + r) (rowOf k.val u) * rows DO k.val r d else 0 := fun d r u _ => by
    rw [Pm_eq, ite_mul, zero_mul]
  have y15 : ∀ (r d u : ℕ), u < 640 → DSm (rows Q k.val) (K640 K k.val) (K640 (fun u d => KV u (128 + d)) k.val) (rows DO k.val) (rows L k.val) (rows (dots DO O) k.val) r u * K (rowOf k.val u) d = if M640 r u = 1 then DS Q K (fun u d => KV u (128 + d)) DO L (dots DO O) (16 + 512 * k.val + r) (rowOf k.val u) * K (rowOf k.val u) d else 0 := fun r d u _ => by
    rw [DSm_eq, ite_mul, zero_mul]
  have lK := Is.loadRows (m' := 512) (n' := 256) h12 (k0_off11_inb k hc) (off11_val k hc)
  have lV := Is.load (m' := 512) (n' := 128) h2 (k0_off12_inb k hc) (off12_val k hc)
  unfold tripOdd
  dsimp only [tripOdd.sl.r_11, tripOdd.sl.r_12, tripOdd.sl.r_13, tripOdd.sl.r_14, tripOdd.sl.r_15, tripOdd.sl.cst_136, View.readCov, tripOdd.sl.v322, tripOdd.sl.v315, tripOdd.sl.v292, tripOdd.sl.v248, tripOdd.sl.HW_arg15_1_1, tripOdd.sl.HW_arg13_1, tripOdd.sl.HW_arg14_1, tripOdd.sl.HW_arg15_1]
  rw [t3_nil]
  · refine ⟨?_, ?_, ?_⟩
    · refine (Is.addRows m13 (k0_off11_inb k hc) (off11_val k hc) (pay15_is hq' hd' hl' hD' lK lV (Is.loadRows m13 (k0_off11_inb k hc) (off11_val k hc)))).congr fun u d _ _ => ?_
      refine (congrArg _ (ite_zero fun h => Finset.sum_congr rfl fun r _ => congrArg (· * _) (DS_key (K := K) (V := fun u d => KV u (128 + d)) (v := u) (fun d => ?_) fun d => ?_))).trans ((odd_rows (cond1_odd k hc) (x := fun r u => DS Q K (fun u d => KV u (128 + d)) DO L (dots DO O) (16 + 512 * k.val + r) u * rows Q k.val r d) (y := fun r u => DSm (rows Q k.val) (K640 K k.val) (K640 (fun u d => KV u (128 + d)) k.val) (rows DO k.val) (rows L k.val) (rows (dots DO O) k.val) r u * rows Q k.val r d) (y13 d) (f13 u d) u).trans (congrArg _ (Finset.sum_congr rfl fun r _ => (DA_mul _ _ _).symm)))
      · show K (_ + (u - _)) d = _
        rw [Nat.add_sub_of_le h.1]
      · show KV (_ + (u - _)) _ = _
        rw [Nat.add_sub_of_le h.1]
    · refine (Is.addRows m14 (k0_off13_inb k hc) (off13_val k hc) (pay14_is hq' hd' hl' lK (Is.loadRows m14 (k0_off13_inb k hc) (off13_val k hc)))).congr fun u d _ _ => ?_
      refine (congrArg _ (ite_zero fun h => Finset.sum_congr rfl fun r _ => congrArg (· * _) (P_key (K := K) (v := u) (fun d => ?_)))).trans ((odd_rows (cond1_odd k hc) (x := fun r u => P Q K L (16 + 512 * k.val + r) u * rows DO k.val r d) (y := fun r u => Pm (rows Q k.val) (K640 K k.val) (rows L k.val) r u * rows DO k.val r d) (y14 d) (f14 u d) u).trans (congrArg _ (Finset.sum_congr rfl fun r _ => (PA_mul _ _ _).symm)))
      show K (_ + (u - _)) d = _
      rw [Nat.add_sub_of_le h.1]
    · have n15 := pay36_is _ rfl (Is.loadRows (m' := 512) (n' := 256) (o := 0) m15 inb_S512x256_S512x256_0_0 rfl) lK (pay13_is hq' hd' hl' hD' lK lV)
      refine ⟨_, rfl, ?_⟩
      refine (pay1_is (Is.loadRows (m' := 512) (n' := 256) (o := 0) (Is.storeAll (v := arg15.view) (X := arg15.view.junk) inb_S512x256_S512x256_0_0 n15) inb_S512x256_S512x256_0_0 rfl) (Is.loadRows (m' := 512) (n' := 128) h7 (k0_off2_inb k) (off2_val k)) (Is.loadRows (m' := 512) (n' := 128) h8 (k0_off2_inb k) (off2_val k))).congr fun r d hr' _ => ?_
      refine unrope_rows (fun d => ?_) d
      rw [Nat.zero_add, Nat.zero_add]
      exact (odd_keys (cond1_odd k hc) hr hr' (x := fun u => DS Q K (fun u d => KV u (128 + d)) DO L (dots DO O) (16 + 512 * k.val + r) u * K u d) (y := fun u => DSm (rows Q k.val) (K640 K k.val) (K640 (fun u d => KV u (128 + d)) k.val) (rows DO k.val) (rows L k.val) (rows (dots DO O) k.val) r u * K (rowOf k.val u) d) (y15 r d)).trans (Finset.sum_congr rfl fun u _ => (DA_mul _ _ _).symm)
  · rfl

/-- One trip over an even query tile. -/
theorem tripEven_is (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt Ideal) arg1.view.ty) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg12 : BufTy.Contents (Elt Ideal) arg12.view.ty) (k : Fin k0_t1_loop.trips) (hc : ¬ k0_cond1 k = 1#1) (f_arg13 : BufTy.Contents (Elt Ideal) arg13.view.ty) (f_arg14 : BufTy.Contents (Elt Ideal) arg14.view.ty) {Q K KV DO O L C S f13 f14 : ℕ → ℕ → EReal}
    (h1 : Is (α := EReal) (arg1.view.read (Elt Ideal) X_arg1) Q) (h2 : Is (α := EReal) (arg2.view.read (Elt Ideal) X_arg2) KV) (h4 : Is (α := EReal) (arg4.view.read (Elt Ideal) X_arg4) O)
    (h5 : ∀ j, arg5.view.read (Elt Ideal) X_arg5 j = L (j 1).val (j 2).val) (h6 : Is (α := EReal) (arg6.view.read (Elt Ideal) X_arg6) DO)
    (h7 : Is (α := EReal) (arg7.view.read (Elt Ideal) X_arg7) C) (h8 : Is (α := EReal) (arg8.view.read (Elt Ideal) X_arg8) S) (h12 : Is (α := EReal) (arg12.view.read (Elt Ideal) X_arg12) K)
    (h13 : Is (α := EReal) (arg13.view.read (Elt Ideal) f_arg13) f13) (h14 : Is (α := EReal) (arg14.view.read (Elt Ideal) f_arg14) f14) :
    Is (α := EReal) (arg13.view.read (Elt Ideal) (arg13.view.writes (Elt Ideal) f_arg13 ((tripEven (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.1 f_arg13 f_arg14))) (fun u d => f13 u d + ∑ r ∈ Finset.range 512, DA Q K (fun u d => KV u (128 + d)) DO L (dots DO O) (16 + 512 * k.val + r) u * rows Q k.val r d)
    ∧ Is (α := EReal) (arg14.view.read (Elt Ideal) (arg14.view.writes (Elt Ideal) f_arg14 ((tripEven (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).2.2.1 f_arg13 f_arg14))) (fun u d => f14 u d + ∑ r ∈ Finset.range 512, PA Q K L (16 + 512 * k.val + r) u * rows DO k.val r d)
    ∧ ∃ w, (tripEven (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc).1 f_arg13 f_arg14 = [⟨Rect.unit (s := S4224x256) (k0_off1 k) S512x256.size (k0_off1_inb k), w⟩] ∧ Is (α := EReal) w (rows (unrope (fun t d => ∑ u ∈ Finset.range 4224, DA Q K (fun u d => KV u (128 + d)) DO L (dots DO O) t u * K u d) C S) k.val) := by
  have hr : k.val < 8 := trips8 k
  have hq := pay16_is (Is.loadRows (m' := 512) (n' := 256) h1 (k0_off1_inb k) (off1_val k))
  have hd := pay17_is (Is.loadRows (m' := 512) (n' := 128) h6 (k0_off2_inb k) (off2_val k))
  have hl := pay18_is (L := rows L k.val) (lse_load k arg5 X_arg5 h5 (k0_off3_inb k))
  have hD := pay19_is (Is.loadRows (m' := 512) (n' := 128) h6 (k0_off2_inb k) (off2_val k)) (Is.loadRows (m' := 512) (n' := 128) h4 (k0_off2_inb k) (off2_val k))
  have h155 : Is (α := EReal) (tripEven.sl.r_4 (F := Ideal) arg12 X_arg12 k) (K640 K k.val) := (pay22_is (Is.loadRows (m' := 128) (n' := 256) (o := 0) h12 inb_S4224x256_S128x256_0_0 rfl) (Is.loadRows (m' := 512) (n' := 256) h12 (k0_off1_inb k) (off1_val k))).congr fun u d _ _ => by
    unfold K640 rowOf
    rw [Nat.zero_add]
    split <;> rfl
  have e1 : Is (α := EReal) (tripEven.sl.r_5 (F := Ideal) arg2 X_arg2) (fun u d => KV u (128 + d)) := (pay23_is (Is.load (m' := 128) (n' := 128) (o := 0) (p := 128) h2 inb_S4224x256_S128x128_0_128 rfl)).congr fun u d _ _ => by rw [Nat.zero_add]
  have e2 : Is (α := EReal) (tripEven.sl.r_6 (F := Ideal) arg2 X_arg2 k) (rows (fun u d => KV u (128 + d)) k.val) := pay24_is (Is.load (m' := 512) (n' := 128) h2 (k0_off4_inb k) (off4_val k))
  have hq' : Is (α := EReal) (tripEven.sl.r (F := Ideal) arg1 X_arg1 k) (rows Q k.val) := hq
  have hd' : Is (α := EReal) (tripEven.sl.r_1 (F := Ideal) arg6 X_arg6 k) (rows DO k.val) := hd
  have hl' : Is (α := EReal) (tripEven.sl.r_2 (F := Ideal) arg5 X_arg5 k) (rows L k.val) := hl
  have hD' : Is (α := EReal) (tripEven.sl.r_3 (F := Ideal) arg4 arg6 X_arg4 X_arg6 k) (rows (dots DO O) k.val) := hD
  have h177 : Is (α := EReal) (tripEven.sl.r_7 (F := Ideal) arg1 arg2 arg4 arg5 arg6 arg12 X_arg1 X_arg2 X_arg4 X_arg5 X_arg6 X_arg12 k) (DSm (rows Q k.val) (K640 K k.val) (K640 (fun u d => KV u (128 + d)) k.val) (rows DO k.val) (rows L k.val) (rows (dots DO O) k.val)) :=
    V640_eq (fun u d => KV u (128 + d)) k.val ▸ pay26_is hq' hd' hl' hD' h155 e1 e2
  have h180 : Is (α := EReal) (tripEven.sl.r_8 (F := Ideal) arg1 arg2 arg4 arg5 arg6 arg12 X_arg1 X_arg2 X_arg4 X_arg5 X_arg6 X_arg12 k) (fun u d => ∑ r ∈ Finset.range 512, DSm (rows Q k.val) (K640 K k.val) (K640 (fun u d => KV u (128 + d)) k.val) (rows DO k.val) (rows L k.val) (rows (dots DO O) k.val) r u * rows Q k.val r d) :=
    V640_eq (fun u d => KV u (128 + d)) k.val ▸ pay28_is hq' hd' hl' hD' h155 e1 e2
  obtain ⟨m13, m14, m15⟩ := main_is c i arg1 harg1 arg2 harg2 arg3 harg3 arg4 harg4 arg5 harg5 arg6 harg6 arg7 harg7 arg8 harg8 arg9 harg9 arg10 harg10 arg11 harg11 arg12 harg12 arg13 harg13 arg14 harg14 arg15 harg15 k (tripEven.sl.arg16 k) (tripEven.sl.v121 k) _ _ _ _ _ _ _ _ _ X_arg2 X_arg12 f_arg13 f_arg14 hq' hd' hl' hD' h155 e1 e2 h177 h180 h12 h2 h13 h14 _ rfl
  have y13 : ∀ (d r u : ℕ), u < 640 → DSm (rows Q k.val) (K640 K k.val) (K640 (fun u d => KV u (128 + d)) k.val) (rows DO k.val) (rows L k.val) (rows (dots DO O) k.val) r u * rows Q k.val r d = if M640 r u = 1 then DS Q K (fun u d => KV u (128 + d)) DO L (dots DO O) (16 + 512 * k.val + r) (rowOf k.val u) * rows Q k.val r d else 0 := fun d r u _ => by
    rw [DSm_eq, ite_mul, zero_mul]
  have y14 : ∀ (d r u : ℕ), u < 640 → Pm (rows Q k.val) (K640 K k.val) (rows L k.val) r u * rows DO k.val r d = if M640 r u = 1 then P Q K L (16 + 512 * k.val + r) (rowOf k.val u) * rows DO k.val r d else 0 := fun d r u _ => by
    rw [Pm_eq, ite_mul, zero_mul]
  have y15 : ∀ (r d u : ℕ), u < 640 → DSm (rows Q k.val) (K640 K k.val) (K640 (fun u d => KV u (128 + d)) k.val) (rows DO k.val) (rows L k.val) (rows (dots DO O) k.val) r u * K (rowOf k.val u) d = if M640 r u = 1 then DS Q K (fun u d => KV u (128 + d)) DO L (dots DO O) (16 + 512 * k.val + r) (rowOf k.val u) * K (rowOf k.val u) d else 0 := fun r d u _ => by
    rw [DSm_eq, ite_mul, zero_mul]
  unfold tripEven
  dsimp only [tripEven.sl.r_9, tripEven.sl.r_10, tripEven.sl.r_11, tripEven.sl.r_12, tripEven.sl.r_13, tripEven.sl.cst_136, View.readCov, tripEven.sl.v248, tripEven.sl.HW_arg13_1, tripEven.sl.HW_arg14_1, tripEven.sl.HW_arg15_1]
  rw [t3_nil]
  · refine ⟨?_, ?_, ?_⟩
    · exact m13.congr fun u d _ _ => (even_rows (cond1_even k hc) (x := fun r u => DS Q K (fun u d => KV u (128 + d)) DO L (dots DO O) (16 + 512 * k.val + r) u * rows Q k.val r d) (y := fun r u => DSm (rows Q k.val) (K640 K k.val) (K640 (fun u d => KV u (128 + d)) k.val) (rows DO k.val) (rows L k.val) (rows (dots DO O) k.val) r u * rows Q k.val r d) (y13 d) (f13 u d) u).trans (congrArg _ (Finset.sum_congr rfl fun r _ => (DA_mul _ _ _).symm))
    · exact m14.congr fun u d _ _ => (even_rows (cond1_even k hc) (x := fun r u => P Q K L (16 + 512 * k.val + r) u * rows DO k.val r d) (y := fun r u => Pm (rows Q k.val) (K640 K k.val) (rows L k.val) r u * rows DO k.val r d) (y14 d) (f14 u d) u).trans (congrArg _ (Finset.sum_congr rfl fun r _ => (PA_mul _ _ _).symm))
    · refine ⟨_, rfl, ?_⟩
      refine (pay1_is (Is.loadRows (m' := 512) (n' := 256) (o := 0) m15 inb_S512x256_S512x256_0_0 rfl) (Is.loadRows (m' := 512) (n' := 128) h7 (k0_off2_inb k) (off2_val k)) (Is.loadRows (m' := 512) (n' := 128) h8 (k0_off2_inb k) (off2_val k))).congr fun r d hr' _ => ?_
      refine unrope_rows (fun d => ?_) d
      rw [Nat.zero_add]
      exact (even_keys (cond1_even k hc) hr hr' (x := fun u => DS Q K (fun u d => KV u (128 + d)) DO L (dots DO O) (16 + 512 * k.val + r) u * K u d) (y := fun u => DSm (rows Q k.val) (K640 K k.val) (K640 (fun u d => KV u (128 + d)) k.val) (rows DO k.val) (rows L k.val) (rows (dots DO O) k.val) r u * K (rowOf k.val u) d) (y15 r d)).trans (Finset.sum_congr rfl fun u _ => (DA_mul _ _ _).symm)
  · rfl

end Cert.Proof.KI

end
-- ==== Proof.Outer.lean ====
/- What the loop over query tiles adds to the gradients, and the rows of the query gradient it leaves. -/
module

public import proofs.«01_k».proof.Proof.TripVal

@[expose] public section

set_option maxRecDepth 16384

noncomputable section

namespace Cert.Proof.KI

open Cert.KernelIdeal Cert.KernelIdeal.Gen
open Idealize.ShloMosaic Idealize.ShloMosaic.TcCoe
open Cert.Proof.Table
open scoped BigOperators

/-- One trip over a query tile. -/
theorem tripL_is (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt Ideal) arg1.view.ty) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg12 : BufTy.Contents (Elt Ideal) arg12.view.ty) (k : Fin k0_t1_loop.trips) (f_arg13 : BufTy.Contents (Elt Ideal) arg13.view.ty) (f_arg14 : BufTy.Contents (Elt Ideal) arg14.view.ty) {Q K KV DO O L C S f13 f14 : ℕ → ℕ → EReal}
    (h1 : Is (α := EReal) (arg1.view.read (Elt Ideal) X_arg1) Q) (h2 : Is (α := EReal) (arg2.view.read (Elt Ideal) X_arg2) KV) (h4 : Is (α := EReal) (arg4.view.read (Elt Ideal) X_arg4) O)
    (h5 : ∀ j, arg5.view.read (Elt Ideal) X_arg5 j = L (j 1).val (j 2).val) (h6 : Is (α := EReal) (arg6.view.read (Elt Ideal) X_arg6) DO)
    (h7 : Is (α := EReal) (arg7.view.read (Elt Ideal) X_arg7) C) (h8 : Is (α := EReal) (arg8.view.read (Elt Ideal) X_arg8) S) (h12 : Is (α := EReal) (arg12.view.read (Elt Ideal) X_arg12) K)
    (h13 : Is (α := EReal) (arg13.view.read (Elt Ideal) f_arg13) f13) (h14 : Is (α := EReal) (arg14.view.read (Elt Ideal) f_arg14) f14) :
    Is (α := EReal) (arg13.view.read (Elt Ideal) (arg13.view.writes (Elt Ideal) f_arg13 ((tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14).2.1))) (fun u d => f13 u d + ∑ r ∈ Finset.range 512, DA Q K (fun u d => KV u (128 + d)) DO L (dots DO O) (16 + 512 * k.val + r) u * rows Q k.val r d)
    ∧ Is (α := EReal) (arg14.view.read (Elt Ideal) (arg14.view.writes (Elt Ideal) f_arg14 ((tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14).2.2))) (fun u d => f14 u d + ∑ r ∈ Finset.range 512, PA Q K L (16 + 512 * k.val + r) u * rows DO k.val r d)
    ∧ ∃ w, (tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k f_arg13 f_arg14).1 = [⟨Rect.unit (s := S4224x256) (k0_off1 k) S512x256.size (k0_off1_inb k), w⟩] ∧ Is (α := EReal) w (rows (unrope (fun t d => ∑ u ∈ Finset.range 4224, DA Q K (fun u d => KV u (128 + d)) DO L (dots DO O) t u * K u d) C S) k.val) := by
  by_cases hc : k0_cond1 k = 1#1
  · rw [tripL_odd (hc := hc)]
    exact tripOdd_is c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc f_arg13 f_arg14 h1 h2 h4 h5 h6 h7 h8 h12 h13 h14
  · rw [tripL_even (hc := hc)]
    exact tripEven_is c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 k hc f_arg13 f_arg14 h1 h2 h4 h5 h6 h7 h8 h12 h13 h14

/-- The buffers after the first `n` tiles. -/
theorem outer_is (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (X_arg1 : BufTy.Contents (Elt Ideal) arg1.view.ty) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg12 : BufTy.Contents (Elt Ideal) arg12.view.ty) (f_arg13 : BufTy.Contents (Elt Ideal) arg13.view.ty) (f_arg14 : BufTy.Contents (Elt Ideal) arg14.view.ty) {Q K KV DO O L C S f13 f14 : ℕ → ℕ → EReal}
    (h1 : Is (α := EReal) (arg1.view.read (Elt Ideal) X_arg1) Q) (h2 : Is (α := EReal) (arg2.view.read (Elt Ideal) X_arg2) KV) (h4 : Is (α := EReal) (arg4.view.read (Elt Ideal) X_arg4) O)
    (h5 : ∀ j, arg5.view.read (Elt Ideal) X_arg5 j = L (j 1).val (j 2).val) (h6 : Is (α := EReal) (arg6.view.read (Elt Ideal) X_arg6) DO)
    (h7 : Is (α := EReal) (arg7.view.read (Elt Ideal) X_arg7) C) (h8 : Is (α := EReal) (arg8.view.read (Elt Ideal) X_arg8) S) (h12 : Is (α := EReal) (arg12.view.read (Elt Ideal) X_arg12) K)
    (h13 : Is (α := EReal) (arg13.view.read (Elt Ideal) f_arg13) f13) (h14 : Is (α := EReal) (arg14.view.read (Elt Ideal) f_arg14) f14)
    {v9 : View sig .tc .vmem S4224x256 .bf16} {X_arg9 : v9.ty.Contents (Elt Ideal)} {L9 : List (View.Piece (Elt Ideal) S4224x256 .bf16)} {g : ℕ → ℕ → EReal} (h9 : Is (α := EReal) (v9.read (Elt Ideal) (v9.writes (Elt Ideal) X_arg9 L9)) g)
    (n : ℕ) (hn : n ≤ k0_t1_loop.trips) :
    Is (α := EReal) (arg13.view.read (Elt Ideal) (arg13.view.writes (Elt Ideal) f_arg13 ((pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 f_arg13 f_arg14 n).2.1))) (fun u d => f13 u d + ∑ t ∈ Finset.range (512 * n), DA Q K (fun u d => KV u (128 + d)) DO L (dots DO O) (16 + t) u * Q (16 + t) d)
    ∧ Is (α := EReal) (arg14.view.read (Elt Ideal) (arg14.view.writes (Elt Ideal) f_arg14 ((pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 f_arg13 f_arg14 n).2.2))) (fun u d => f14 u d + ∑ t ∈ Finset.range (512 * n), PA Q K L (16 + t) u * DO (16 + t) d)
    ∧ Is (α := EReal) (v9.read (Elt Ideal) (v9.writes (Elt Ideal) X_arg9 ((pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 f_arg13 f_arg14 n).1 ++ L9))) (fun t d => if 16 ≤ t ∧ t < 16 + 512 * n then unrope (fun t d => ∑ u ∈ Finset.range 4224, DA Q K (fun u d => KV u (128 + d)) DO L (dots DO O) t u * K u d) C S t d else g t d) := by
  induction n with
  | zero =>
    refine ⟨h13.congr fun u d _ _ => ?_, h14.congr fun u d _ _ => ?_, h9.congr fun u d _ _ => ?_⟩
    · rw [Nat.mul_zero, Finset.sum_range_zero, add_zero]
    · rw [Nat.mul_zero, Finset.sum_range_zero, add_zero]
    · rw [if_neg (by omega)]
  | succ n ih =>
    obtain ⟨i13, i14, i9⟩ := ih (Nat.le_of_succ_le hn)
    have e := pb_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 f_arg13 f_arg14 ⟨n, hn⟩
    dsimp only at e
    rw [e]
    dsimp only
    obtain ⟨j13, j14, w, hw, j9⟩ := tripL_is c i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg2 X_arg4 X_arg5 X_arg6 X_arg7 X_arg8 X_arg12 ⟨n, hn⟩ _ _ h1 h2 h4 h5 h6 h7 h8 h12 i13 i14
    rw [View.writes_append, View.writes_append, hw]
    refine ⟨j13.congr fun u d _ _ => ?_, j14.congr fun u d _ _ => ?_, ?_⟩
    · rw [Nat.mul_succ, Finset.sum_range_add, add_assoc]
      refine congrArg _ (congrArg _ (Finset.sum_congr rfl fun r _ => ?_))
      unfold rows
      rw [Nat.add_assoc]
    · rw [Nat.mul_succ, Finset.sum_range_add, add_assoc]
      refine congrArg _ (congrArg _ (Finset.sum_congr rfl fun r _ => ?_))
      unfold rows
      rw [Nat.add_assoc]
    · refine (Is.storeRows i9 (k0_off1_inb ⟨n, hn⟩) (off1_val ⟨n, hn⟩) j9).congr fun t d _ _ => ?_
      dsimp only
      by_cases h : 16 + 512 * n ≤ t ∧ t < 16 + 512 * n + 512
      · rw [if_pos h, if_pos (by omega)]
        unfold rows
        rw [Nat.add_sub_of_le h.1]
      · rw [if_neg h]
        by_cases h' : 16 ≤ t ∧ t < 16 + 512 * n
        · rw [if_pos h', if_pos (by omega)]
        · rw [if_neg h', if_neg (by omega)]

end Cert.Proof.KI

end
-- ==== Proof.Outputs.lean ====
/- What the body leaves in its output blocks, from the tables of its input blocks. -/
module

public import proofs.«01_k».proof.Proof.Outer
public import proofs.«01_k».proof.Proof.Body

@[expose] public section

set_option maxRecDepth 16384
set_option maxHeartbeats 400000

noncomputable section

namespace Cert.Proof.Table

open Idealize.ShloMosaic
open scoped BigOperators

variable {sig : RefSig} {κ : Kind} {sp : Space} {e : EltTy} {m n : ℕ}

/-- Every array of two axes has a table. -/
theorem exists_table (w : (Sh m n).Idx → EReal) : ∃ f, Is (α := EReal) w f :=
  ⟨fun r c => if h : r < m ∧ c < n then w (ValueIdx.ix2 ⟨r, h.1⟩ ⟨c, h.2⟩) else 0, fun j => by
    have h0 : (j 0).val < m := (j 0).isLt
    have h1 : (j 1).val < n := (j 1).isLt
    show w j = if h : (j 0).val < m ∧ (j 1).val < n then w (ValueIdx.ix2 ⟨(j 0).val, h.1⟩ ⟨(j 1).val, h.2⟩) else 0
    rw [dif_pos ⟨h0, h1⟩]
    exact congrArg w (ValueIdx.eq_ix2 j)⟩

/-- A store of whole columns over the stores before it. -/
theorem Is.storeCols {v : View sig κ sp (Sh m n) e} {X : v.ty.Contents (Elt Ideal)} {f g : ℕ → ℕ → Elt Ideal e} {L : List (View.Piece (Elt Ideal) (Sh m n) e)}
    (hX : Is (v.read (Elt Ideal) (v.writes (Elt Ideal) X L)) f)
    {n' o : ℕ} (inb : ∀ a, (![0, o] : Fin 2 → ℕ) a + (![m, n'] : Fin 2 → ℕ) a ≤ (Sh m n).size a)
    {w : (Sh m n').Idx → Elt Ideal e} (hw : Is w g) :
    Is (v.read (Elt Ideal) (v.writes (Elt Ideal) X (⟨Rect.unit (s := Sh m n) ![0, o] ![m, n'] inb, w⟩ :: L))) (fun r c => if o ≤ c ∧ c < o + n' then g r (c - o) else f r c) := fun j => by
  rw [View.read_writes_cons_put v X inb w L rfl]
  show (if h : ∀ a, _ then w (Rect.unitLocal (s := Sh m n) (off := ![0, o]) (size := ![m, n']) j h) else v.read (Elt Ideal) (v.writes (Elt Ideal) X L) j) = if o ≤ (j 1).val ∧ (j 1).val < o + n' then _ else _
  by_cases h : o ≤ (j 1).val ∧ (j 1).val < o + n'
  · have h' : ∀ a : Fin 2, (![0, o] : Fin 2 → ℕ) a ≤ (j a).val ∧ (j a).val < (![0, o] : Fin 2 → ℕ) a + (![m, n'] : Fin 2 → ℕ) a := by
      intro a; fin_cases a
      · exact ⟨Nat.zero_le _, by show (j 0).val < 0 + m; rw [Nat.zero_add]; exact (j 0).isLt⟩
      · exact h
    rw [dif_pos h', if_pos h]
    exact hw.at _ rfl rfl
  · rw [dif_neg (fun h' => h (h' 1)), if_neg h]; exact hX j

/-- The keys: their first 128 lanes, and the rotary lanes all heads share. -/
def keys (KV KR : ℕ → ℕ → EReal) (u d : ℕ) : EReal := if d < 128 then KV u d else KR u (d - 128)

section

variable {Q K V DO L D : ℕ → ℕ → EReal}

/-- The meta rows' share of a sum over the query rows. -/
theorem seen_meta {t u : ℕ} (h : t < 16) : seen t u ↔ u < 16 := by
  unfold seen; omega

theorem DS0_rows (u d : ℕ) : (if 0 ≤ u ∧ u < 0 + 128 then ∑ r ∈ Finset.range 128, DS0 Q K V DO L D r (u - 0) * Q r d else 0) = ∑ r ∈ Finset.range 16, DA Q K V DO L D r u * Q r d := by
  by_cases h : u < 128
  · rw [if_pos (by omega), Nat.sub_zero, show (128 : ℕ) = 16 + 112 from rfl, Finset.sum_range_add]
    rw [Finset.sum_eq_zero (s := Finset.range 112) fun r hr => by unfold DS0; rw [if_neg (by omega), zero_mul], add_zero]
    refine Finset.sum_congr rfl fun r hr => ?_
    have := Finset.mem_range.mp hr
    unfold DS0 DA
    by_cases h' : u < 16
    · rw [if_pos ⟨h', this⟩, if_pos ((seen_meta this).mpr h')]
    · rw [if_neg fun c => h' c.1, if_neg fun c => h' ((seen_meta this).mp c)]
  · rw [if_neg (by omega)]
    refine (Finset.sum_eq_zero fun r hr => ?_).symm
    have := Finset.mem_range.mp hr
    unfold DA
    rw [if_neg fun c => absurd ((seen_meta this).mp c) (by omega), zero_mul]

theorem P0_rows (u d : ℕ) : (if 0 ≤ u ∧ u < 0 + 128 then ∑ r ∈ Finset.range 128, P0 Q K L r (u - 0) * DO r d else 0) = ∑ r ∈ Finset.range 16, PA Q K L r u * DO r d := by
  by_cases h : u < 128
  · rw [if_pos (by omega), Nat.sub_zero, show (128 : ℕ) = 16 + 112 from rfl, Finset.sum_range_add]
    rw [Finset.sum_eq_zero (s := Finset.range 112) fun r hr => by unfold P0; rw [if_neg (by omega), zero_mul], add_zero]
    refine Finset.sum_congr rfl fun r hr => ?_
    have := Finset.mem_range.mp hr
    unfold P0 PA
    by_cases h' : u < 16
    · rw [if_pos ⟨h', this⟩, if_pos ((seen_meta this).mpr h')]
    · rw [if_neg fun c => h' c.1, if_neg fun c => h' ((seen_meta this).mp c)]
  · rw [if_neg (by omega)]
    refine (Finset.sum_eq_zero fun r hr => ?_).symm
    have := Finset.mem_range.mp hr
    unfold PA
    rw [if_neg fun c => absurd ((seen_meta this).mp c) (by omega), zero_mul]

/-- The meta rows' sums over the keys. -/
theorem DS0_keys {r : ℕ} (hr : r < 16) (d : ℕ) : ∑ u ∈ Finset.range 128, DS0 Q K V DO L D r u * K u d = ∑ u ∈ Finset.range 4224, DA Q K V DO L D r u * K u d := by
  rw [show (4224 : ℕ) = 128 + 4096 from rfl, Finset.sum_range_add]
  rw [Finset.sum_eq_zero (s := Finset.range 4096) fun u hu => by unfold DA; rw [if_neg fun c => absurd ((seen_meta hr).mp c) (by omega), zero_mul], add_zero]
  refine Finset.sum_congr rfl fun u hu => ?_
  unfold DS0 DA
  by_cases h' : u < 16
  · rw [if_pos ⟨h', hr⟩, if_pos ((seen_meta hr).mpr h')]
  · rw [if_neg fun c => h' c.1, if_neg fun c => h' ((seen_meta hr).mp c)]

end

end Cert.Proof.Table

namespace Cert.Proof.KI

open Cert.KernelIdeal Cert.KernelIdeal.Gen
open Idealize.ShloMosaic Idealize.ShloMosaic.TcCoe
open Cert.Proof.Table
open scoped BigOperators

theorem trips8' : k0_t1_loop.trips = 8 := by decide +kernel

/-- The load of the meta rows' statistics. -/
theorem meta_lse (arg5 : Memref sig .tc .vmem S1x4224x128 .f32) (X_arg5 : BufTy.Contents (Elt Ideal) arg5.view.ty) {L : ℕ → ℕ → EReal}
    (h5 : ∀ j, arg5.view.read (Elt Ideal) X_arg5 j = L (j 1).val (j 2).val) (inb : ∀ a, (![0, 0, 0] : Fin 3 → ℕ) a + S1x128x1.size a ≤ S1x4224x128.size a) (j : S1x128x1.Idx) :
    View.readAt (Elt Ideal) arg5.view (Rect.unit (s := S1x4224x128) ![0, 0, 0] S1x128x1.size inb).toLoadRect X_arg5 j = L (j 1).val (j 2).val := by
  refine (h5 _).trans ?_
  have e1 : (((Rect.unit (s := S1x4224x128) ![0, 0, 0] S1x128x1.size inb).toLoadRect.idx j) 1).val = (j 1).val := by
    show 0 + 1 * (j 1).val = _
    rw [Nat.one_mul, Nat.zero_add]
  have e2 : (((Rect.unit (s := S1x4224x128) ![0, 0, 0] S1x128x1.size inb).toLoadRect.idx j) 2).val = (j 2).val := by
    show 0 + 1 * (j 2).val = _
    rw [Nat.one_mul, Nat.zero_add]
  rw [e1, e2]

/-- The rows of the query gradient. -/
def dqOf (Q KV KR O L DO C S : ℕ → ℕ → EReal) (t d : ℕ) : EReal :=
  if t < 4112 then unrope (fun t d => ∑ u ∈ Finset.range 4224, DA Q (keys KV KR) (fun u d => KV u (128 + d)) DO L (dots DO O) t u * keys KV KR u d) C S t d else 0

/-- The gradient of the keys, both parts. -/
def dkOf (Q KV KR O L DO : ℕ → ℕ → EReal) (u d : ℕ) : EReal := ∑ t ∈ Finset.range 4112, DA Q (keys KV KR) (fun u d => KV u (128 + d)) DO L (dots DO O) t u * Q t d

/-- The gradient of the values. -/
def dvOf (Q KV KR L DO : ℕ → ℕ → EReal) (u d : ℕ) : EReal := ∑ t ∈ Finset.range 4112, PA Q (keys KV KR) L t u * DO t d

/-- The body's output blocks. -/
theorem body_is (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x4224x128 .f32) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S4224x128 .f32) (harg8 : arg8.IsWhole) (arg9 : Memref sig .tc .vmem S4224x256 .bf16) (harg9 : arg9.IsWhole) (arg10 : Memref sig .tc .vmem S4224x256 .bf16) (harg10 : arg10.IsWhole) (arg11 : Memref sig .tc .vmem S1x4224x128 .f32) (harg11 : arg11.IsWhole) (arg12 : Memref sig .tc .vmem S4224x256 .bf16) (harg12 : arg12.IsWhole) (arg13 : Memref sig .tc .vmem S4224x256 .f32) (harg13 : arg13.IsWhole) (arg14 : Memref sig .tc .vmem S4224x128 .f32) (harg14 : arg14.IsWhole) (arg15 : Memref sig .tc .vmem S512x256 .f32) (harg15 : arg15.IsWhole) (x0 : Vec Ideal S4224x256 .bf16) (x1 : Vec Ideal S4224x256 .bf16) (x2 : Vec Ideal S4224x128 .bf16) (x3 : Vec Ideal S4224x128 .bf16) (x4 : Vec Ideal S1x4224x128 .f32) (x5 : Vec Ideal S4224x128 .bf16) (x6 : Vec Ideal S4224x128 .f32) (x7 : Vec Ideal S4224x128 .f32) {Q KV KR O L DO C S : ℕ → ℕ → EReal}
    (h0 : Is (α := EReal) x0 Q) (h1 : Is (α := EReal) x1 KV) (h2 : Is (α := EReal) x2 KR) (h3 : Is (α := EReal) x3 O) (h4 : ∀ j, x4 j = L (j 1).val (j 2).val)
    (h5 : Is (α := EReal) x5 DO) (h6 : Is (α := EReal) x6 C) (h7 : Is (α := EReal) x7 S)
    (v9 v10 : View sig .tc .vmem S4224x256 .bf16) (v11 : View sig .tc .vmem S1x4224x128 .f32) (X9 : v9.ty.Contents (Elt Ideal)) (X10 : v10.ty.Contents (Elt Ideal)) (X11 : v11.ty.Contents (Elt Ideal)) :
    Is (α := EReal) (v9.read (Elt Ideal) (v9.writes (Elt Ideal) X9 (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1)) (dqOf Q KV KR O L DO C S)
    ∧ Is (α := EReal) (v10.read (Elt Ideal) (v10.writes (Elt Ideal) X10 (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1)) (fun u d => if d < 128 then dkOf Q KV KR O L DO u d else dvOf Q KV KR L DO u (d - 128))
    ∧ ∀ j, v11.read (Elt Ideal) (v11.writes (Elt Ideal) X11 (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1) j = dkOf Q KV KR O L DO (j 1).val (128 + (j 2).val) := by
  have u1 : Is (α := EReal) (arg1.view.read (Elt Ideal) (harg1.unread x0)) Q := by rw [harg1.read_unread]; exact h0
  have u2 : Is (α := EReal) (arg2.view.read (Elt Ideal) (harg2.unread x1)) KV := by rw [harg2.read_unread]; exact h1
  have u3 : Is (α := EReal) (arg3.view.read (Elt Ideal) (harg3.unread x2)) KR := by rw [harg3.read_unread]; exact h2
  have u4 : Is (α := EReal) (arg4.view.read (Elt Ideal) (harg4.unread x3)) O := by rw [harg4.read_unread]; exact h3
  have u5 : ∀ j, arg5.view.read (Elt Ideal) (harg5.unread x4) j = L (j 1).val (j 2).val := by rw [harg5.read_unread]; exact h4
  have u6 : Is (α := EReal) (arg6.view.read (Elt Ideal) (harg6.unread x5)) DO := by rw [harg6.read_unread]; exact h5
  have u7 : Is (α := EReal) (arg7.view.read (Elt Ideal) (harg7.unread x6)) C := by rw [harg7.read_unread]; exact h6
  have u8 : Is (α := EReal) (arg8.view.read (Elt Ideal) (harg8.unread x7)) S := by rw [harg8.read_unread]; exact h7
  have hz : ∀ {m n : ℕ} {w : (Sh m n).Idx → EReal} {f : ℕ → ℕ → EReal}, Is w (fun r c => f (0 + r) c) → Is w f := fun h => h.congr fun r c _ _ => by rw [Nat.zero_add]
  obtain ⟨g12, hg12⟩ := exists_table (m := 4224) (n := 256) (arg12.view.read (Elt Ideal) arg12.view.junk)
  have a12 := Is.storeCols (L := []) (v := arg12.view) (X := arg12.view.junk) (e := .bf16) (o := 0) hg12 inb_S4224x256_S4224x128_0_0 (pay43_is (hz (Is.loadRows (m' := 4224) (n' := 128) (o := 0) u2 inb_S4224x256_S4224x128_0_0 rfl)))
  have b12 := Is.storeCols (v := arg12.view) (e := .bf16) (o := 128) a12 inb_S4224x256_S4224x128_0_128 (pay44_is (hz (Is.loadRows (m' := 4224) (n' := 128) (o := 0) u3 inb_S4224x128_S4224x128_0_0 rfl)))
  have c12 : Is (α := EReal) (arg12.view.read (Elt Ideal) (arg12.view.writes (Elt Ideal) arg12.view.junk (bodyRun.sl.H12_2 (F := Ideal) c arg2 harg2 arg3 harg3 x1 x2))) (keys KV KR) := b12.congr fun u d hu hd => by
    unfold keys
    by_cases h : d < 128
    · rw [if_neg (by omega), if_pos (by omega), if_pos h]; rfl
    · rw [if_pos (by omega), if_neg h]
  have k128 := hz (Is.loadRows (m' := 128) (n' := 256) (o := 0) c12 inb_S4224x256_S128x256_0_0 rfl)
  have q128 := hz (Is.loadRows (m' := 128) (n' := 256) (o := 0) u1 inb_S4224x256_S128x256_0_0 rfl)
  have d128 := hz (Is.loadRows (m' := 128) (n' := 128) (o := 0) u6 inb_S4224x128_S128x128_0_0 rfl)
  have o128 := hz (Is.loadRows (m' := 128) (n' := 128) (o := 0) u4 inb_S4224x128_S128x128_0_0 rfl)
  have v128 := (Is.load (m' := 128) (n' := 128) (o := 0) (p := 128) u2 inb_S4224x256_S128x128_0_128 rfl).congr (g := fun u d => KV u (128 + d)) fun u d _ _ => by rw [Nat.zero_add]
  have hd := pay49_is d128
  have hD : ∀ h, Is (α := EReal) (shapeCast (Sh 128 1) (bodyRun.sl.r_1 (F := Ideal) c arg4 harg4 arg6 harg6 x3 x5) h) (dots DO O) := fun h => pay50_is d128 o128 h
  have hl := meta_lse arg5 (harg5.unread x4) u5 inb_S1x4224x128_S1x128x1_0_0_0
  have a13 := Is.storeAll (L := []) (v := arg13.view) (X := arg13.view.junk) (e := .f32) inb_S4224x256_S4224x256_0_0 pay45_is
  have b13 := Is.addRows a13 inb_S4224x256_S128x256_0_0 rfl (pay56_is (pay54_is q128 hd hD hl k128 v128) (Is.loadRows (m' := 128) (n' := 256) (o := 0) a13 inb_S4224x256_S128x256_0_0 rfl))
  have a14 := Is.storeAll (L := []) (v := arg14.view) (X := arg14.view.junk) (e := .f32) inb_S4224x128_S4224x128_0_0 pay46_is
  have b14 := Is.addRows a14 inb_S4224x128_S128x128_0_0 rfl (pay55_is q128 hd hl k128 (Is.loadRows (m' := 128) (n' := 128) (o := 0) a14 inb_S4224x128_S128x128_0_0 rfl))
  obtain ⟨g9, hg9⟩ := exists_table (m := 4224) (n := 256) (v9.read (Elt Ideal) X9)
  have a9 := Is.storeRows (L := []) (v := v9) (e := .bf16) hg9 (o := 4112) inb_S4224x256_S112x256_4112_0 rfl pay47_is
  have b9 := Is.storeRows (v := v9) (e := .bf16) a9 (o := 0) inb_S4224x256_S16x256_0_0 rfl (pay57_is k128 (pay53_is q128 hd hD hl k128 v128) (hz (Is.loadRows (m' := 16) (n' := 128) (o := 0) u7 inb_S4224x128_S16x128_0_0 rfl)) (hz (Is.loadRows (m' := 16) (n' := 128) (o := 0) u8 inb_S4224x128_S16x128_0_0 rfl)))
  obtain ⟨r13, r14, r9⟩ := outer_is c i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (harg4.unread x3) (harg5.unread x4) (harg6.unread x5) (harg7.unread x6) (harg8.unread x7) _ _ _ u1 u2 u4 u5 u6 u7 u8 c12 b13 b14 b9 k0_t1_loop.trips le_rfl
  rw [← View.writes_append] at r13 r14
  have s13 := r13.congr (g := dkOf Q KV KR O L DO) fun u d _ _ => by
    rw [DS0_rows, trips8', zero_add]
    exact (Finset.sum_range_add _ 16 4096).symm
  have s14 := r14.congr (g := dvOf Q KV KR L DO) fun u d _ _ => by
    rw [P0_rows, trips8', zero_add]
    exact (Finset.sum_range_add _ 16 4096).symm
  unfold bodyRun
  dsimp only
  refine ⟨r9.congr fun t d ht _ => ?_, ?_, ?_⟩
  · unfold dqOf
    rw [trips8']
    by_cases h1 : t < 16
    · rw [if_neg (by omega), if_pos (by omega), if_pos (by omega), Nat.sub_zero]
      unfold unrope
      simp only [DS0_keys h1]
    · by_cases h2 : t < 4112
      · rw [if_pos (by omega), if_pos h2]
      · rw [if_neg (by omega), if_neg (by omega), if_pos (by omega), if_neg h2]
  · exact Is.storeAll (L := []) (v := v10) (X := X10) (e := .bf16) inb_S4224x256_S4224x256_0_0 (pay2_is (hz (Is.loadRows (m' := 4224) (n' := 256) (o := 0) s13 inb_S4224x256_S4224x256_0_0 rfl)) (hz (Is.loadRows (m' := 4224) (n' := 128) (o := 0) s14 inb_S4224x128_S4224x128_0_0 rfl)))
  · intro j
    rw [View.read_writes_full v11 X11 inb_S1x4224x128_S1x4224x128_0_0_0]
    exact pay3_is (hz (Is.loadRows (m' := 4224) (n' := 256) (o := 0) s13 inb_S4224x256_S4224x256_0_0 rfl)) j

end Cert.Proof.KI

end
-- ==== Proof.Arith.lean ====
/- The kernel's formulas and the reference's over real arrays. -/
module

public import proofs.«01_k».proof.Proof.RefVal
public import proofs.«01_k».proof.Proof.Outputs

@[expose] public section

set_option maxRecDepth 16384

noncomputable section

namespace Cert.Proof.RV

open Idealize.ShloMosaic
open scoped BigOperators
open Finset (range)
open Cert.Proof.Table

/-- A real table as a table of extended reals. -/
def up (f : ℕ → ℕ → ℝ) : ℕ → ℕ → EReal := fun t d => ((f t d : ℝ) : EReal)

variable (a0 a1 a3 : ℕ → ℕ → ℕ → ℝ) (a2 : ℕ → ℕ → ℝ) (mx : ℕ → ℕ → ℝ) (h : ℕ)

/-- The queries of head `h`, rotated and padded. -/
def Qt (t d : ℕ) : ℝ := if t < 4112 ∧ d < 192 then (if d < 128 then a0 t h d else rop a0 t h (d - 128)) else 0
/-- Its keys and values, padded. -/
def KVt (u d : ℕ) : ℝ := if u < 4112 then a1 u h d else 0
/-- The rotary keys, padded. -/
def KRt (u e : ℕ) : ℝ := if u < 4112 ∧ e < 64 then a2 u e else 0
/-- The outputs of the forward pass. -/
def Ot (t d : ℕ) : ℝ := if t < 4112 then ∑ u ∈ range 4112, a1 u h (128 + d) * pr a0 a1 a2 mx h t u else 0
/-- The logarithm of each query's sum. -/
def Lt (t _l : ℕ) : ℝ := if t < 4112 then mx h t + Real.log (den a0 a1 a2 mx h t) else 0
/-- The output's gradient. -/
def DOt (t d : ℕ) : ℝ := if t < 4112 then a3 t h d else 0
/-- The cosines, four times beside each other. -/
def Ct (t d : ℕ) : ℝ := if t < 4112 then cs t (d % 32) else 0
/-- The sines, four times beside each other. -/
def St (t d : ℕ) : ℝ := if t < 4112 then sn t (d % 32) else 0
/-- The whole keys of head `h`. -/
def Kt (u d : ℕ) : ℝ := if d < 128 then KVt a1 h u d else KRt a2 u (d - 128)
/-- The sum of a query's weighted gradients. -/
def dlt (t : ℕ) : ℝ := ∑ u ∈ range 4112, dp a1 a3 h t u * pr a0 a1 a2 mx h t u

theorem keys_up : keys (up (KVt a1 h)) (up (KRt a2)) = up (Kt a1 a2 h) := by
  funext u d
  unfold keys up Kt
  split_ifs <;> rfl

/-- A score of the kernel's, over all 256 lanes. -/
theorem score_sum {t u : ℕ} (ht : t < 4112) (hu : u < 4112) :
    ∑ d ∈ range 256, Qt a0 h t d * Kt a1 a2 h u d = ∑ d ∈ range 128, a0 t h d * a1 u h d + ∑ e ∈ range 64, rop a0 t h e * a2 u e := by
  rw [show (256 : ℕ) = 128 + (64 + 64) from rfl, Finset.sum_range_add, Finset.sum_range_add]
  have e1 : ∑ d ∈ range 128, Qt a0 h t d * Kt a1 a2 h u d = ∑ d ∈ range 128, a0 t h d * a1 u h d := Finset.sum_congr rfl fun d hd => by
    have hd := Finset.mem_range.mp hd
    unfold Qt Kt KVt
    rw [if_pos ⟨ht, by omega⟩, if_pos hd, if_pos hd, if_pos hu]
  have e2 : ∑ e ∈ range 64, Qt a0 h t (128 + e) * Kt a1 a2 h u (128 + e) = ∑ e ∈ range 64, rop a0 t h e * a2 u e := Finset.sum_congr rfl fun e he => by
    have he := Finset.mem_range.mp he
    unfold Qt Kt KRt
    rw [if_pos ⟨ht, by omega⟩, if_neg (by omega), if_neg (by omega), Nat.add_sub_cancel_left, if_pos ⟨hu, he⟩]
  have e3 : ∑ e ∈ range 64, Qt a0 h t (128 + (64 + e)) * Kt a1 a2 h u (128 + (64 + e)) = 0 := Finset.sum_eq_zero fun e he => by
    unfold Qt
    rw [if_neg (by omega), zero_mul]
  rw [e1, e2, e3, add_zero]

theorem not_seen {t u : ℕ} (ht : t < 4112) (hu : ¬u < 4112) : ¬seen t u := by
  unfold seen; omega

variable {a0 a1 a3 a2 mx h}

/-- The kernel's weight is the reference's. -/
theorem PA_eq {t u : ℕ} (ht : t < 4112) :
    PA (up (Qt a0 h)) (up (Kt a1 a2 h)) (up (Lt a0 a1 a2 mx h)) t u = ((if u < 4112 then pr a0 a1 a2 mx h t u else 0 : ℝ) : EReal) := by
  unfold PA
  by_cases hu : u < 4112
  · rw [if_pos hu]
    by_cases hs : seen t u
    · rw [if_pos hs]
      unfold P
      have es : (∑ d ∈ range 256, up (Qt a0 h) t d * up (Kt a1 a2 h) u d) * sc - up (Lt a0 a1 a2 mx h) t 0
          = ((sco a0 a1 a2 h t u - (mx h t + Real.log (den a0 a1 a2 mx h t)) : ℝ) : EReal) := by
        refine subR (mulR ((sumR fun d _ => mulR rfl rfl).trans (congrArg _ (score_sum a0 a1 a2 h ht hu))) sc_eq) ?_
        unfold up Lt
        rw [if_pos ht]
      rw [es]
      show ((Real.exp _ : ℝ) : EReal) = _
      refine congrArg (fun r : ℝ => (r : EReal)) ?_
      unfold pr ex
      rw [if_pos hs, ← sub_sub, Real.exp_sub, Real.exp_log (den_pos h t ht)]
    · rw [if_neg hs]
      unfold pr ex
      rw [if_neg hs, zero_div]; rfl
  · rw [if_neg hu, if_neg (not_seen ht hu)]; rfl

/-- A row's product of output and gradient is the sum of its weighted gradients. -/
theorem dots_eq {t : ℕ} (ht : t < 4112) (l : ℕ) : Cert.Proof.KI.dots (up (DOt a3 h)) (up (Ot a0 a1 a2 mx h)) t l = ((dlt a0 a1 a3 a2 mx h t : ℝ) : EReal) := by
  unfold Cert.Proof.KI.dots
  refine (sumR (f := fun d => DOt a3 h t d * Ot a0 a1 a2 mx h t d) fun d _ => mulR rfl rfl).trans (congrArg _ ?_)
  unfold DOt Ot dlt dp
  simp only [if_pos ht]
  simp only [Finset.mul_sum, Finset.sum_mul]
  rw [Finset.sum_comm]
  exact Finset.sum_congr rfl fun u _ => Finset.sum_congr rfl fun d _ => by ring

/-- The gradient of the score, as the kernel writes it. -/
theorem ds_eq {t u : ℕ} (ht : t < 4112) : ds a0 a1 a3 a2 mx h t u = pr a0 a1 a2 mx h t u * (dp a1 a3 h t u - dlt a0 a1 a3 a2 mx h t) * sr := by
  have hl := (den_pos (a0 := a0) (a1 := a1) (a2 := a2) (mx := mx) h t ht).ne'
  have e : (∑ u ∈ range 4112, dp a1 a3 h t u * (1 / (den a0 a1 a2 mx h t * den a0 a1 a2 mx h t)) * ex a0 a1 a2 mx h t u) = dlt a0 a1 a3 a2 mx h t / den a0 a1 a2 mx h t := by
    unfold dlt pr
    rw [Finset.sum_div]
    exact Finset.sum_congr rfl fun u _ => by field_simp
  unfold ds
  rw [Finset.sum_range_one, e]
  by_cases hs : seen t u
  · rw [if_pos hs]; unfold pr; field_simp; ring
  · rw [if_neg hs]; unfold pr ex; rw [if_neg hs, zero_div, zero_mul, zero_mul, zero_mul]

/-- The kernel's gradient of the score is the reference's. -/
theorem DA_eq {t u : ℕ} (ht : t < 4112) :
    DA (up (Qt a0 h)) (up (Kt a1 a2 h)) (fun u d => up (KVt a1 h) u (128 + d)) (up (DOt a3 h)) (up (Lt a0 a1 a2 mx h)) (Cert.Proof.KI.dots (up (DOt a3 h)) (up (Ot a0 a1 a2 mx h))) t u
      = ((if u < 4112 then ds a0 a1 a3 a2 mx h t u else 0 : ℝ) : EReal) := by
  have hp := PA_eq (a0 := a0) (a1 := a1) (a2 := a2) (mx := mx) (h := h) (u := u) ht
  unfold PA at hp
  unfold DA
  by_cases hs : seen t u
  · have hu : u < 4112 := by by_contra hu; exact not_seen ht hu hs
    rw [if_pos hs] at hp ⊢
    rw [if_pos hu] at hp ⊢
    unfold DS
    rw [ds_eq ht]
    refine mulR (mulR hp (subR ?_ (dots_eq ht 0))) sc_eq
    refine (sumR (f := fun d => DOt a3 h t d * KVt a1 h u (128 + d)) fun d _ => mulR rfl rfl).trans (congrArg _ ?_)
    unfold DOt KVt dp
    simp only [if_pos ht, if_pos hu]
  · rw [if_neg hs]
    refine (congrArg (fun r : ℝ => (r : EReal)) (?_ : (0 : ℝ) = _))
    split_ifs
    · rw [ds_eq ht]; unfold pr ex; rw [if_neg hs, zero_div, zero_mul, zero_mul]
    · rfl

/-- A sum over the padded keys is one over the keys. -/
theorem sum_keys (f g : ℕ → ℝ) : ∑ u ∈ range 4224, (if u < 4112 then f u else 0) * g u = ∑ u ∈ range 4112, f u * g u := by
  rw [show (4224 : ℕ) = 4112 + 112 from rfl, Finset.sum_range_add]
  rw [Finset.sum_eq_zero (s := range 112) fun u _ => by rw [if_neg (by omega), zero_mul], add_zero]
  exact Finset.sum_congr rfl fun u hu => by rw [if_pos (Finset.mem_range.mp hu)]

/-- The gradient of the rotated query, lane by lane. -/
def Gt (a0 a1 a3 : ℕ → ℕ → ℕ → ℝ) (a2 mx : ℕ → ℕ → ℝ) (h t d : ℕ) : ℝ :=
  if d < 128 then ∑ u ∈ range 4112, ds a0 a1 a3 a2 mx h t u * a1 u h d else if d < 192 then gq a0 a1 a3 a2 mx t h (d - 128) else 0

theorem G_eq {t : ℕ} (ht : t < 4112) (d : ℕ) :
    ∑ u ∈ range 4224, DA (up (Qt a0 h)) (up (Kt a1 a2 h)) (fun u d => up (KVt a1 h) u (128 + d)) (up (DOt a3 h)) (up (Lt a0 a1 a2 mx h)) (Cert.Proof.KI.dots (up (DOt a3 h)) (up (Ot a0 a1 a2 mx h))) t u * up (Kt a1 a2 h) u d
      = ((Gt a0 a1 a3 a2 mx h t d : ℝ) : EReal) := by
  refine (sumR fun u _ => mulR (DA_eq ht) rfl).trans (congrArg _ ?_)
  refine (sum_keys _ _).trans ?_
  unfold Gt Kt KVt KRt gq
  split_ifs with h1 h2
  · exact Finset.sum_congr rfl fun u hu => by rw [if_pos (Finset.mem_range.mp hu)]
  · exact Finset.sum_congr rfl fun u hu => by rw [if_pos ⟨Finset.mem_range.mp hu, by omega⟩]
  · exact Finset.sum_eq_zero fun u _ => by rw [if_neg (by omega), mul_zero]

/-- The kernel's gradient of the queries is the reference's. -/
theorem dq_eq {t d : ℕ} (hd : d < 256) :
    Cert.Proof.KI.dqOf (up (Qt a0 h)) (up (KVt a1 h)) (up (KRt a2)) (up (Ot a0 a1 a2 mx h)) (up (Lt a0 a1 a2 mx h)) (up (DOt a3 h)) (up Ct) (up St) t d
      = ((if t < 4112 ∧ d < 192 then dqR a0 a1 a3 a2 mx t h d else 0 : ℝ) : EReal) := by
  unfold Cert.Proof.KI.dqOf
  by_cases ht : t < 4112
  · rw [if_pos ht, keys_up]
    unfold unrope
    simp only [G_eq ht]
    by_cases h1 : d < 128
    · rw [if_pos h1, if_pos ⟨ht, by omega⟩]
      refine congrArg (fun r : ℝ => (r : EReal)) ?_
      unfold Gt dqR
      rw [if_pos h1, if_pos h1]
    · rw [if_neg h1]
      have e : ∀ {x y : ℝ} {p : Prop} [Decidable p], (if p then (0 : EReal) - (x : EReal) else (y : EReal)) = ((if p then 0 - x else y : ℝ) : EReal) := by
        intro x y p _; split_ifs
        · exact subR EReal.coe_zero.symm rfl
        · rfl
      rw [e]
      refine (subR (mulR rfl rfl) (mulR rfl rfl)).trans (congrArg (fun r : ℝ => (r : EReal)) ?_)
      unfold Ct St
      rw [if_pos ht, if_pos ht]
      by_cases h2 : d < 192
      · rw [if_pos (show t < 4112 ∧ d < 192 from ⟨ht, h2⟩)]
        unfold dqR
        rw [if_neg h1]
        by_cases h3 : d - 128 < 32
        · rw [if_pos h3, if_pos (show (d - 128) % 64 < 32 by omega)]
          rw [show (d - 128) % 32 = d - 128 by omega, show (d - 128 + 32) % 128 = 32 + (d - 128) by omega]
          have e1 : Gt a0 a1 a3 a2 mx h t d = gq a0 a1 a3 a2 mx t h (d - 128) := by unfold Gt; rw [if_neg h1, if_pos h2]
          have e2 : Gt a0 a1 a3 a2 mx h t (128 + (32 + (d - 128))) = gq a0 a1 a3 a2 mx t h (32 + (d - 128)) := by
            unfold Gt
            rw [if_neg (show ¬128 + (32 + (d - 128)) < 128 by omega), if_pos (show 128 + (32 + (d - 128)) < 192 by omega), Nat.add_sub_cancel_left]
          rw [e1, e2]
          ring
        · rw [if_neg h3, if_neg (show ¬(d - 128) % 64 < 32 by omega)]
          rw [show (d - 128) % 32 = d - 128 - 32 by omega, show (d - 128 + 96) % 128 = d - 128 - 32 by omega]
          have e1 : Gt a0 a1 a3 a2 mx h t d = gq a0 a1 a3 a2 mx t h (32 + (d - 128 - 32)) := by
            unfold Gt
            rw [if_neg h1, if_pos h2, show 32 + (d - 128 - 32) = d - 128 by omega]
          have e2 : Gt a0 a1 a3 a2 mx h t (128 + (d - 128 - 32)) = gq a0 a1 a3 a2 mx t h (d - 128 - 32) := by
            unfold Gt
            rw [if_neg (show ¬128 + (d - 128 - 32) < 128 by omega), if_pos (show 128 + (d - 128 - 32) < 192 by omega), Nat.add_sub_cancel_left]
          rw [e1, e2]
          ring
      · rw [if_neg (show ¬(t < 4112 ∧ d < 192) from fun hh => h2 hh.2)]
        have z : ∀ k, 192 ≤ k → Gt a0 a1 a3 a2 mx h t k = 0 := fun k hk => by
          unfold Gt
          rw [if_neg (show ¬k < 128 by omega), if_neg (show ¬k < 192 by omega)]
        rw [z d (by omega)]
        by_cases h3 : (d - 128) % 64 < 32
        · rw [if_pos h3, z _ (by omega)]; ring
        · rw [if_neg h3, z _ (by omega)]; ring
  · rw [if_neg ht, if_neg (by omega)]; rfl

/-- The kernel's gradient of the whole keys, lane by lane. -/
theorem dk_eq {u d : ℕ} :
    Cert.Proof.KI.dkOf (up (Qt a0 h)) (up (KVt a1 h)) (up (KRt a2)) (up (Ot a0 a1 a2 mx h)) (up (Lt a0 a1 a2 mx h)) (up (DOt a3 h)) u d
      = ((if u < 4112 ∧ d < 192 then (if d < 128 then dkvR a0 a1 a3 a2 mx u h d else dkrR a0 a1 a3 a2 mx h u (d - 128)) else 0 : ℝ) : EReal) := by
  unfold Cert.Proof.KI.dkOf
  rw [keys_up]
  refine (sumR (f := fun t => (if u < 4112 then ds a0 a1 a3 a2 mx h t u else 0) * Qt a0 h t d) fun t ht => mulR (DA_eq (Finset.mem_range.mp ht)) rfl).trans (congrArg (fun r : ℝ => (r : EReal)) ?_)
  by_cases hu : u < 4112
  · simp only [if_pos hu]
    by_cases h2 : d < 192
    · rw [if_pos ⟨hu, h2⟩]
      unfold Qt
      by_cases h1 : d < 128
      · rw [if_pos h1]; unfold dkvR; rw [if_pos h1]
        exact Finset.sum_congr rfl fun t ht => by rw [if_pos ⟨Finset.mem_range.mp ht, h2⟩, if_pos h1]
      · rw [if_neg h1]; unfold dkrR
        exact Finset.sum_congr rfl fun t ht => by rw [if_pos ⟨Finset.mem_range.mp ht, h2⟩, if_neg h1]
    · rw [if_neg (by omega)]
      exact Finset.sum_eq_zero fun t _ => by unfold Qt; rw [if_neg (by omega), mul_zero]
  · rw [if_neg (by omega)]
    exact Finset.sum_eq_zero fun t _ => by rw [if_neg hu, zero_mul]

/-- The kernel's gradient of the values is the reference's. -/
theorem dv_eq {u d : ℕ} :
    Cert.Proof.KI.dvOf (up (Qt a0 h)) (up (KVt a1 h)) (up (KRt a2)) (up (Lt a0 a1 a2 mx h)) (up (DOt a3 h)) u d
      = ((if u < 4112 then dkvR a0 a1 a3 a2 mx u h (128 + d) else 0 : ℝ) : EReal) := by
  unfold Cert.Proof.KI.dvOf
  rw [keys_up]
  refine (sumR (f := fun t => (if u < 4112 then pr a0 a1 a2 mx h t u else 0) * DOt a3 h t d) fun t ht => mulR (PA_eq (Finset.mem_range.mp ht)) rfl).trans (congrArg (fun r : ℝ => (r : EReal)) ?_)
  by_cases hu : u < 4112
  · rw [if_pos hu]
    unfold dkvR
    rw [if_neg (by omega), Nat.add_sub_cancel_left]
    exact Finset.sum_congr rfl fun t ht => by unfold DOt; rw [if_pos hu, if_pos (Finset.mem_range.mp ht), mul_comm]
  · rw [if_neg hu]
    exact Finset.sum_eq_zero fun t _ => by rw [if_neg hu, zero_mul]

end Cert.Proof.RV

end
-- ==== Proof.Host.lean ====
/- The buffers the kernel's region finds, as the reference's values. -/
module

public import proofs.«01_k».proof.Proof.Gen.KernelIdeal.Frame
public import proofs.«01_k».proof.Proof.Gen.ReferenceIdeal.Read
public import Idealize.ShloMosaic.Lib.StableHlo.RunRead
public import Idealize.ShloMosaic.Lib.Pointwise

@[expose] public section

set_option maxRecDepth 16384

noncomputable section

namespace Cert.Proof.Host

open Cert.KernelIdeal Cert.KernelIdeal.Gen
open Idealize.ShloMosaic Idealize.ShloMosaic.TcCoe
open scoped BigOperators

variable (m : (ℓ : Loc nD τ sig) → Buf (Elt Ideal) ℓ) (c : Dev nD)

/-- The host operations before the region. -/
abbrev line : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]

/-- What they write, in order. -/
abbrev Ws : List (Ref sig .tc) := [main_v0, main_v1, main_cst, main_v2, main_v3, main_cst_0, main_v4, main_v5, main_v6, main_cst_1, main_v7, main_v8, main_cst_2, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_cst_3, main_v41, main_v42, main_v43, main_c, main_v44, main_v45, main_c_4, main_v46, main_v47, main_c_5, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v48, main_c_6, main_v49, main_v50, main_c_7, main_call1_v0, main_call1_v1, main_v51, main_v52, main_v53, main_v54, main_v55, main_v56, main_v57, main_cst_8, main_call2_v0, main_call2_v1, main_call2_v2, main_v58, main_cst_9, main_v59, main_v60, main_v61, main_v62, main_v63, main_cst_10, main_v64, main_v65, main_v66, main_v67, main_v68, main_v69, main_v70, main_v71, main_v72, main_c_11, main_call3_v0, main_v73, main_v74, main_v75, main_c_12, main_call4_v0, main_v76, main_v77, main_v78, main_c_13, main_call5_v0, main_v79, main_v80, main_c_14, main_call6_v0, main_v81, main_v82, main_v83, main_c_15, main_call7_v0, main_v84, main_v85, main_v86, main_v87, main_c_16, main_call8_v0, main_v88, main_v89, main_v90, main_v91, main_c_17, main_call9_v0, main_v92, main_v93, main_v94, main_v95, main_c_18, main_call10_v0, main_v96]

/-- The contents before operation `i`. -/
def U (i : ℕ) : Valuation τ sig (Elt Ideal) := StableHlo.upto line (fun b => m (c, b)) i

theorem line_writes : line.map HloOp.writes = Ws.map fun w => {Proc.devRef (τ := τ) .tc w} := rfl

/-- The buffer an operation writes, written by none after it. -/
theorem at_ (i : ℕ) {op : HloOp τ sig (Elt Ideal)} {rest : List (HloOp τ sig (Elt Ideal))} {r : Ref sig .tc} (h : line.drop i = op :: rest) (hr : r ∉ Ws.drop (i + 1)) :
    V m c r = op.result (U m c i) (Proc.devRef .tc r) := by
  refine StableHlo.after_last_write (ops := line) (Ws.drop (i + 1)) h ?_ hr _
  have e := congrArg (List.drop (i + 1)) line_writes
  rw [← List.map_drop, ← List.map_drop, ← List.drop_drop, show List.drop 1 (List.drop i line) = rest by rw [h]; rfl] at e
  exact e

theorem append_ (l k : List (HloOp τ sig (Elt Ideal))) (v : Valuation τ sig (Elt Ideal)) : StableHlo.after (l ++ k) v = StableHlo.after k (StableHlo.after l v) := by
  induction l generalizing v with
  | nil => rfl
  | cons op l ih => exact ih _

/-- The buffer no operation from `i` on writes. -/
theorem keep (i : ℕ) {x : Ref sig .tc} (hx : x ∉ Ws.drop i) : U m c i (Proc.devRef .tc x) = V m c x := by
  have e := StableHlo.after_unwritten (ops := line.drop i) (Ws.drop i) (by rw [List.map_drop, line_writes, List.map_drop]) hx (U m c i)
  rw [← e]
  show StableHlo.after (line.drop i) (StableHlo.after (line.take i) _) _ = StableHlo.after line _ _
  exact congrFun (((append_ _ _ _).symm).trans (by rw [List.take_append_drop])) _

/-- The rotary scores, the product's factors in the other order. -/
theorem rope_scores (x : (⟨S4112x64, .f32⟩ : BufTy).Contents (Elt Ideal)) (y : (⟨S4112x16x192, .f32⟩ : BufTy).Contents (Elt Ideal)) (j : S16x4112x4112.Idx) :
    transpose S16x4112x4112 [2, 1, 0] (Host.dotGeneral (F := Ideal) (φ₁ := .f32) (φ₂ := .f32) dot_S4112x64_S4112x16x64_S4112x4112x16_1_2_0_01_n_n none x (Cert.ReferenceIdeal.Read.val_main_v38 (F := Ideal) y)) transposes_S4112x4112x16_S16x4112x4112_2_1_0 j = Cert.ReferenceIdeal.Read.val_main_v40 (F := Ideal) y x j := by
  rw [Cert.ReferenceIdeal.Read.val_main_v40_apply]
  simp only [Cert.ReferenceIdeal.Read.val_main_v19_apply, Cert.ReferenceIdeal.Read.val_main_v18_apply]
  generalize Cert.ReferenceIdeal.Read.val_main_v38 (F := Ideal) y = q
  idx_vars j
  pointwise
  exact Finset.sum_congr rfl fun k _ => (mul_comm _ _).trans (congrArg₂ (fun a b : EReal => a * b) (congrArg q (funext fun a => by fin_cases a <;> rfl)) (congrArg x (funext fun a => by fin_cases a <;> rfl)))

/-- The row maximum taken against minus infinity is the row maximum. -/
theorem row_max (x : (⟨S4112x16x192, .f32⟩ : BufTy).Contents (Elt Ideal)) (y : (⟨S4112x16x256, .f32⟩ : BufTy).Contents (Elt Ideal)) (z : (⟨S4112x64, .f32⟩ : BufTy).Contents (Elt Ideal)) (j : S16x4112.Idx) :
    Host.reduce (FloatOps.maximumf (F := Ideal) (φ := .f32)) (Cert.ReferenceIdeal.Read.val_main_v59_0 (F := Ideal) x y z) (Cert.ReferenceIdeal.Read.val_main_cst_9 (F := Ideal)) reducesTo_S16x4112x4112_S16x4112_d2 h_S_ j = Cert.ReferenceIdeal.Read.val_main_v67 (F := Ideal) x y z j := by
  rw [Cert.ReferenceIdeal.Read.val_main_v67_apply]
  symm
  refine (max_eq_right ?_ : max (Cert.ReferenceIdeal.Read.val_main_v66 (F := Ideal) j) (Cert.ReferenceIdeal.Read.val_main_v60 (F := Ideal) x y z j) = _)
  rw [Cert.ReferenceIdeal.Read.val_main_v66_apply]
  have e : Cert.ReferenceIdeal.Read.val_main_cst_11 (F := Ideal) (Cert.ReferenceIdeal.Read.idx_main_v66 j) = (⊥ : EReal) := by
    rw [Cert.ReferenceIdeal.Read.val_main_cst_11_apply]
    show Ideal.ofBits .f32 0xFF800000#32 = ⊥
    simp [Ideal.ofBits, Ideal.ieee]
  rw [e]; exact bot_le

theorem h_v0 : V m c main_v0 = (Cert.ReferenceIdeal.Read.val_main_v0 (F := Ideal)) := by
  refine (at_ m c 0 (r := main_v0) rfl (by decide)).trans ((StableHlo.nullary_result' _ _ (F := U m c 0)).trans ?_)
  all_goals rfl

theorem h_v1 : V m c main_v1 = (Cert.ReferenceIdeal.Read.val_main_v1 (F := Ideal)) := by
  refine (at_ m c 1 (r := main_v1) rfl (by decide)).trans ((StableHlo.nullary_result' _ _ (F := U m c 1)).trans ?_)
  all_goals rfl

theorem h_cst : V m c main_cst = (Cert.ReferenceIdeal.Read.val_main_cst (F := Ideal)) := by
  refine (at_ m c 2 (r := main_cst) rfl (by decide)).trans ((StableHlo.nullary_result' _ _ (F := U m c 2)).trans ?_)
  all_goals rfl

theorem h_v2 : V m c main_v2 = (Cert.ReferenceIdeal.Read.val_main_v2 (F := Ideal)) := by
  refine (at_ m c 3 (r := main_v2) rfl (by decide)).trans ((StableHlo.unary_result' _ _ _ (F := U m c 3)).trans ?_)
  rw [keep m c 3 (x := main_cst) (by decide), h_cst m c]
  all_goals rfl

theorem h_v3 : V m c main_v3 = (Cert.ReferenceIdeal.Read.val_main_v3 (F := Ideal)) := by
  refine (at_ m c 4 (r := main_v3) rfl (by decide)).trans ((StableHlo.binary_result' _ _ _ _ (F := U m c 4)).trans ?_)
  rw [keep m c 4 (x := main_v2) (by decide), keep m c 4 (x := main_v1) (by decide), h_v2 m c, h_v1 m c]
  all_goals rfl

theorem h_cst_0 : V m c main_cst_0 = (Cert.ReferenceIdeal.Read.val_main_cst_0 (F := Ideal)) := by
  refine (at_ m c 5 (r := main_cst_0) rfl (by decide)).trans ((StableHlo.nullary_result' _ _ (F := U m c 5)).trans ?_)
  all_goals rfl

theorem h_v4 : V m c main_v4 = (Cert.ReferenceIdeal.Read.val_main_v4 (F := Ideal)) := by
  refine (at_ m c 6 (r := main_v4) rfl (by decide)).trans ((StableHlo.unary_result' _ _ _ (F := U m c 6)).trans ?_)
  rw [keep m c 6 (x := main_cst_0) (by decide), h_cst_0 m c]
  all_goals rfl

theorem h_v5 : V m c main_v5 = (Cert.ReferenceIdeal.Read.val_main_v5 (F := Ideal)) := by
  refine (at_ m c 7 (r := main_v5) rfl (by decide)).trans ((StableHlo.binary_result' _ _ _ _ (F := U m c 7)).trans ?_)
  rw [keep m c 7 (x := main_v4) (by decide), keep m c 7 (x := main_v3) (by decide), h_v4 m c, h_v3 m c]
  all_goals rfl

theorem h_v6 : V m c main_v6 = (Cert.ReferenceIdeal.Read.val_main_v6 (F := Ideal)) := by
  refine (at_ m c 8 (r := main_v6) rfl (by decide)).trans ((StableHlo.unary_result' _ _ _ (F := U m c 8)).trans ?_)
  rw [keep m c 8 (x := main_v5) (by decide), h_v5 m c]
  all_goals rfl

theorem h_cst_1 : V m c main_cst_1 = (Cert.ReferenceIdeal.Read.val_main_cst_1 (F := Ideal)) := by
  refine (at_ m c 9 (r := main_cst_1) rfl (by decide)).trans ((StableHlo.nullary_result' _ _ (F := U m c 9)).trans ?_)
  all_goals rfl

theorem h_v7 : V m c main_v7 = (Cert.ReferenceIdeal.Read.val_main_v7 (F := Ideal)) := by
  refine (at_ m c 10 (r := main_v7) rfl (by decide)).trans ((StableHlo.unary_result' _ _ _ (F := U m c 10)).trans ?_)
  rw [keep m c 10 (x := main_cst_1) (by decide), h_cst_1 m c]
  all_goals rfl

theorem h_v8 : V m c main_v8 = (Cert.ReferenceIdeal.Read.val_main_v8 (F := Ideal)) := by
  refine (at_ m c 11 (r := main_v8) rfl (by decide)).trans ((StableHlo.binary_result' _ _ _ _ (F := U m c 11)).trans ?_)
  rw [keep m c 11 (x := main_v6) (by decide), keep m c 11 (x := main_v7) (by decide), h_v6 m c, h_v7 m c]
  all_goals rfl

theorem h_cst_2 : V m c main_cst_2 = (Cert.ReferenceIdeal.Read.val_main_cst_2 (F := Ideal)) := by
  refine (at_ m c 12 (r := main_cst_2) rfl (by decide)).trans ((StableHlo.nullary_result' _ _ (F := U m c 12)).trans ?_)
  all_goals rfl

theorem h_v9 : V m c main_v9 = (Cert.ReferenceIdeal.Read.val_main_v9 (F := Ideal)) := by
  refine (at_ m c 13 (r := main_v9) rfl (by decide)).trans ((StableHlo.unary_result' _ _ _ (F := U m c 13)).trans ?_)
  rw [keep m c 13 (x := main_cst_2) (by decide), h_cst_2 m c]
  all_goals rfl

theorem h_v10 : V m c main_v10 = (Cert.ReferenceIdeal.Read.val_main_v10 (F := Ideal)) := by
  refine (at_ m c 14 (r := main_v10) rfl (by decide)).trans ((StableHlo.binary_result' _ _ _ _ (F := U m c 14)).trans ?_)
  rw [keep m c 14 (x := main_v9) (by decide), keep m c 14 (x := main_v8) (by decide), h_v9 m c, h_v8 m c]
  all_goals rfl

theorem h_v11 : V m c main_v11 = (Cert.ReferenceIdeal.Read.val_main_v11 (F := Ideal)) := by
  refine (at_ m c 15 (r := main_v11) rfl (by decide)).trans ((StableHlo.unary_result' _ _ _ (F := U m c 15)).trans ?_)
  rw [keep m c 15 (x := main_v0) (by decide), h_v0 m c]
  all_goals rfl

theorem h_v12 : V m c main_v12 = (Cert.ReferenceIdeal.Read.val_main_v12 (F := Ideal)) := by
  refine (at_ m c 16 (r := main_v12) rfl (by decide)).trans ((StableHlo.unary_result' _ _ _ (F := U m c 16)).trans ?_)
  rw [keep m c 16 (x := main_v10) (by decide), h_v10 m c]
  all_goals rfl

theorem h_v13 : V m c main_v13 = (Cert.ReferenceIdeal.Read.val_main_v13 (F := Ideal)) := by
  refine (at_ m c 17 (r := main_v13) rfl (by decide)).trans ((StableHlo.unary_result' _ _ _ (F := U m c 17)).trans ?_)
  rw [keep m c 17 (x := main_v11) (by decide), h_v11 m c]
  all_goals rfl

theorem h_v14 : V m c main_v14 = (Cert.ReferenceIdeal.Read.val_main_v14 (F := Ideal)) := by
  refine (at_ m c 18 (r := main_v14) rfl (by decide)).trans ((StableHlo.unary_result' _ _ _ (F := U m c 18)).trans ?_)
  rw [keep m c 18 (x := main_v12) (by decide), h_v12 m c]
  all_goals rfl

theorem h_v15 : V m c main_v15 = (Cert.ReferenceIdeal.Read.val_main_v15 (F := Ideal)) := by
  refine (at_ m c 19 (r := main_v15) rfl (by decide)).trans ((StableHlo.binary_result' _ _ _ _ (F := U m c 19)).trans ?_)
  rw [keep m c 19 (x := main_v13) (by decide), keep m c 19 (x := main_v14) (by decide), h_v13 m c, h_v14 m c]
  all_goals rfl

theorem h_v16 : V m c main_v16 = (Cert.ReferenceIdeal.Read.val_main_v16 (F := Ideal)) := by
  refine (at_ m c 20 (r := main_v16) rfl (by decide)).trans ((StableHlo.unary_result' _ _ _ (F := U m c 20)).trans ?_)
  rw [keep m c 20 (x := main_v15) (by decide), h_v15 m c]
  all_goals rfl

theorem h_v17 : V m c main_v17 = (Cert.ReferenceIdeal.Read.val_main_v17 (F := Ideal)) := by
  refine (at_ m c 21 (r := main_v17) rfl (by decide)).trans ((StableHlo.unary_result' _ _ _ (F := U m c 21)).trans ?_)
  rw [keep m c 21 (x := main_v15) (by decide), h_v15 m c]
  all_goals rfl

theorem h_v18 : V m c main_v18 = (Cert.ReferenceIdeal.Read.val_main_v20 (F := Ideal) (V m c main_arg0)) := by
  refine (at_ m c 22 (r := main_v18) rfl (by decide)).trans ((StableHlo.unary_result' _ _ _ (F := U m c 22)).trans ?_)
  rw [keep m c 22 (x := main_arg0) (by decide)]
  all_goals rfl

theorem h_v19 : V m c main_v19 = (Cert.ReferenceIdeal.Read.val_main_v21 (F := Ideal) (V m c main_arg0)) := by
  refine (at_ m c 23 (r := main_v19) rfl (by decide)).trans ((StableHlo.unary_result' _ _ _ (F := U m c 23)).trans ?_)
  rw [keep m c 23 (x := main_arg0) (by decide)]
  all_goals rfl

theorem h_v20 : V m c main_v20 = (Cert.ReferenceIdeal.Read.val_main_v22 (F := Ideal) (V m c main_arg1)) := by
  refine (at_ m c 24 (r := main_v20) rfl (by decide)).trans ((StableHlo.unary_result' _ _ _ (F := U m c 24)).trans ?_)
  rw [keep m c 24 (x := main_arg1) (by decide)]
  all_goals rfl

theorem h_v21 : V m c main_v21 = (Cert.ReferenceIdeal.Read.val_main_v23 (F := Ideal) (V m c main_arg1)) := by
  refine (at_ m c 25 (r := main_v21) rfl (by decide)).trans ((StableHlo.unary_result' _ _ _ (F := U m c 25)).trans ?_)
  rw [keep m c 25 (x := main_arg1) (by decide)]
  all_goals rfl

theorem h_v22 : V m c main_v22 = (Cert.ReferenceIdeal.Read.val_main_v24 (F := Ideal)) := by
  refine (at_ m c 26 (r := main_v22) rfl (by decide)).trans ((StableHlo.unary_result' _ _ _ (F := U m c 26)).trans ?_)
  rw [keep m c 26 (x := main_v16) (by decide), h_v16 m c]
  all_goals rfl

theorem h_v23 : V m c main_v23 = (Cert.ReferenceIdeal.Read.val_main_v25 (F := Ideal)) := by
  refine (at_ m c 27 (r := main_v23) rfl (by decide)).trans ((StableHlo.unary_result' _ _ _ (F := U m c 27)).trans ?_)
  rw [keep m c 27 (x := main_v17) (by decide), h_v17 m c]
  all_goals rfl

theorem h_v24 : V m c main_v24 = (Cert.ReferenceIdeal.Read.val_main_v26 (F := Ideal) (V m c main_arg0)) := by
  refine (at_ m c 28 (r := main_v24) rfl (by decide)).trans ((StableHlo.unary_result' _ _ _ (F := U m c 28)).trans ?_)
  rw [keep m c 28 (x := main_v19) (by decide), h_v19 m c]
  all_goals rfl

theorem h_v25 : V m c main_v25 = (Cert.ReferenceIdeal.Read.val_main_v27 (F := Ideal) (V m c main_arg0)) := by
  refine (at_ m c 29 (r := main_v25) rfl (by decide)).trans ((StableHlo.unary_result' _ _ _ (F := U m c 29)).trans ?_)
  rw [keep m c 29 (x := main_v19) (by decide), h_v19 m c]
  all_goals rfl

theorem h_v26 : V m c main_v26 = (Cert.ReferenceIdeal.Read.val_main_v28 (F := Ideal)) := by
  refine (at_ m c 30 (r := main_v26) rfl (by decide)).trans ((StableHlo.unary_result' _ _ _ (F := U m c 30)).trans ?_)
  rw [keep m c 30 (x := main_v22) (by decide), h_v22 m c]
  all_goals rfl

theorem h_v27 : V m c main_v27 = (Cert.ReferenceIdeal.Read.val_main_v29 (F := Ideal) (V m c main_arg0)) := by
  refine (at_ m c 31 (r := main_v27) rfl (by decide)).trans ((StableHlo.binary_result' _ _ _ _ (F := U m c 31)).trans ?_)
  rw [keep m c 31 (x := main_v24) (by decide), keep m c 31 (x := main_v26) (by decide), h_v24 m c, h_v26 m c]
  all_goals rfl

theorem h_v28 : V m c main_v28 = (Cert.ReferenceIdeal.Read.val_main_v30 (F := Ideal)) := by
  refine (at_ m c 32 (r := main_v28) rfl (by decide)).trans ((StableHlo.unary_result' _ _ _ (F := U m c 32)).trans ?_)
  rw [keep m c 32 (x := main_v23) (by decide), h_v23 m c]
  all_goals rfl

theorem h_v29 : V m c main_v29 = (Cert.ReferenceIdeal.Read.val_main_v31 (F := Ideal) (V m c main_arg0)) := by
  refine (at_ m c 33 (r := main_v29) rfl (by decide)).trans ((StableHlo.binary_result' _ _ _ _ (F := U m c 33)).trans ?_)
  rw [keep m c 33 (x := main_v25) (by decide), keep m c 33 (x := main_v28) (by decide), h_v25 m c, h_v28 m c]
  all_goals rfl

theorem h_v30 : V m c main_v30 = (Cert.ReferenceIdeal.Read.val_main_v32 (F := Ideal) (V m c main_arg0)) := by
  refine (at_ m c 34 (r := main_v30) rfl (by decide)).trans ((StableHlo.binary_result' _ _ _ _ (F := U m c 34)).trans ?_)
  rw [keep m c 34 (x := main_v27) (by decide), keep m c 34 (x := main_v29) (by decide), h_v27 m c, h_v29 m c]
  all_goals rfl

theorem h_v31 : V m c main_v31 = (Cert.ReferenceIdeal.Read.val_main_v33 (F := Ideal)) := by
  refine (at_ m c 35 (r := main_v31) rfl (by decide)).trans ((StableHlo.unary_result' _ _ _ (F := U m c 35)).trans ?_)
  rw [keep m c 35 (x := main_v22) (by decide), h_v22 m c]
  all_goals rfl

theorem h_v32 : V m c main_v32 = (Cert.ReferenceIdeal.Read.val_main_v34 (F := Ideal) (V m c main_arg0)) := by
  refine (at_ m c 36 (r := main_v32) rfl (by decide)).trans ((StableHlo.binary_result' _ _ _ _ (F := U m c 36)).trans ?_)
  rw [keep m c 36 (x := main_v25) (by decide), keep m c 36 (x := main_v31) (by decide), h_v25 m c, h_v31 m c]
  all_goals rfl

theorem h_v33 : V m c main_v33 = (Cert.ReferenceIdeal.Read.val_main_v35 (F := Ideal)) := by
  refine (at_ m c 37 (r := main_v33) rfl (by decide)).trans ((StableHlo.unary_result' _ _ _ (F := U m c 37)).trans ?_)
  rw [keep m c 37 (x := main_v23) (by decide), h_v23 m c]
  all_goals rfl

theorem h_v34 : V m c main_v34 = (Cert.ReferenceIdeal.Read.val_main_v36 (F := Ideal) (V m c main_arg0)) := by
  refine (at_ m c 38 (r := main_v34) rfl (by decide)).trans ((StableHlo.binary_result' _ _ _ _ (F := U m c 38)).trans ?_)
  rw [keep m c 38 (x := main_v24) (by decide), keep m c 38 (x := main_v33) (by decide), h_v24 m c, h_v33 m c]
  all_goals rfl

theorem h_v35 : V m c main_v35 = (Cert.ReferenceIdeal.Read.val_main_v37 (F := Ideal) (V m c main_arg0)) := by
  refine (at_ m c 39 (r := main_v35) rfl (by decide)).trans ((StableHlo.binary_result' _ _ _ _ (F := U m c 39)).trans ?_)
  rw [keep m c 39 (x := main_v32) (by decide), keep m c 39 (x := main_v34) (by decide), h_v32 m c, h_v34 m c]
  all_goals rfl

theorem h_v36 : V m c main_v36 = (Cert.ReferenceIdeal.Read.val_main_v38 (F := Ideal) (V m c main_arg0)) := by
  refine (at_ m c 40 (r := main_v36) rfl (by decide)).trans ((StableHlo.binary_result' _ _ _ _ (F := U m c 40)).trans ?_)
  rw [keep m c 40 (x := main_v30) (by decide), keep m c 40 (x := main_v35) (by decide), h_v30 m c, h_v35 m c]
  all_goals rfl

theorem h_v37 : V m c main_v37 = (Cert.ReferenceIdeal.Read.val_main_v39 (F := Ideal) (V m c main_arg0) (V m c main_arg1)) := by
  refine (at_ m c 41 (r := main_v37) rfl (by decide)).trans ((StableHlo.binary_result' _ _ _ _ (F := U m c 41)).trans ?_)
  rw [keep m c 41 (x := main_v18) (by decide), keep m c 41 (x := main_v20) (by decide), h_v18 m c, h_v20 m c]
  all_goals rfl

theorem e_v38 : (V m c main_v38 : (main_v38 : Ref sig .tc).ty.Contents (Elt Ideal)) = ((fun l r => Host.dotGeneral (F := Ideal) (φ₁ := .f32) (φ₂ := .f32) dot_S4112x64_S4112x16x64_S4112x4112x16_1_2_0_01_n_n none l r) : (⟨S4112x64, .f32⟩ : BufTy).Contents (Elt Ideal) → (⟨S4112x16x64, .f32⟩ : BufTy).Contents (Elt Ideal) → (⟨S4112x4112x16, .f32⟩ : BufTy).Contents (Elt Ideal)) (V m c main_arg2) (V m c main_v36) := by
  refine (at_ m c 42 (r := main_v38) rfl (by decide)).trans ((StableHlo.binary_result' _ _ _ _ (F := U m c 42)).trans ?_)
  rw [keep m c 42 (x := main_arg2) (by decide), keep m c 42 (x := main_v36) (by decide)]
  all_goals rfl

theorem e_v39 : (V m c main_v39 : (main_v39 : Ref sig .tc).ty.Contents (Elt Ideal)) = ((transpose S16x4112x4112 [2, 1, 0] · transposes_S4112x4112x16_S16x4112x4112_2_1_0) : (⟨S4112x4112x16, .f32⟩ : BufTy).Contents (Elt Ideal) → (⟨S16x4112x4112, .f32⟩ : BufTy).Contents (Elt Ideal)) (V m c main_v38) := by
  refine (at_ m c 43 (r := main_v39) rfl (by decide)).trans ((StableHlo.unary_result' _ _ _ (F := U m c 43)).trans ?_)
  rw [keep m c 43 (x := main_v38) (by decide)]
  all_goals rfl

theorem h_v39 : V m c main_v39 = (Cert.ReferenceIdeal.Read.val_main_v40 (F := Ideal) (V m c main_arg0) (V m c main_arg2)) := by
  rw [e_v39, e_v38, h_v36]
  funext j
  exact rope_scores _ _ j

theorem h_v40 : V m c main_v40 = (Cert.ReferenceIdeal.Read.val_main_v41 (F := Ideal) (V m c main_arg0) (V m c main_arg1) (V m c main_arg2)) := by
  refine (at_ m c 44 (r := main_v40) rfl (by decide)).trans ((StableHlo.binary_result' _ _ _ _ (F := U m c 44)).trans ?_)
  rw [keep m c 44 (x := main_v37) (by decide), keep m c 44 (x := main_v39) (by decide), h_v37 m c, h_v39 m c]
  all_goals rfl

theorem h_cst_3 : V m c main_cst_3 = (Cert.ReferenceIdeal.Read.val_main_cst_3 (F := Ideal)) := by
  refine (at_ m c 45 (r := main_cst_3) rfl (by decide)).trans ((StableHlo.nullary_result' _ _ (F := U m c 45)).trans ?_)
  all_goals rfl

theorem h_v41 : V m c main_v41 = (Cert.ReferenceIdeal.Read.val_main_v42 (F := Ideal)) := by
  refine (at_ m c 46 (r := main_v41) rfl (by decide)).trans ((StableHlo.unary_result' _ _ _ (F := U m c 46)).trans ?_)
  rw [keep m c 46 (x := main_cst_3) (by decide), h_cst_3 m c]
  all_goals rfl

theorem h_v42 : V m c main_v42 = (Cert.ReferenceIdeal.Read.val_main_v43 (F := Ideal) (V m c main_arg0) (V m c main_arg1) (V m c main_arg2)) := by
  refine (at_ m c 47 (r := main_v42) rfl (by decide)).trans ((StableHlo.binary_result' _ _ _ _ (F := U m c 47)).trans ?_)
  rw [keep m c 47 (x := main_v40) (by decide), keep m c 47 (x := main_v41) (by decide), h_v40 m c, h_v41 m c]
  all_goals rfl

theorem h_v43 : V m c main_v43 = (Cert.ReferenceIdeal.Read.val_main_v44 (F := Ideal)) := by
  refine (at_ m c 48 (r := main_v43) rfl (by decide)).trans ((StableHlo.nullary_result' _ _ (F := U m c 48)).trans ?_)
  all_goals rfl

theorem h_c : V m c main_c = (Cert.ReferenceIdeal.Read.val_main_c (F := Ideal)) := by
  refine (at_ m c 49 (r := main_c) rfl (by decide)).trans ((StableHlo.nullary_result' _ _ (F := U m c 49)).trans ?_)
  all_goals rfl

theorem h_v44 : V m c main_v44 = (Cert.ReferenceIdeal.Read.val_main_v45 (F := Ideal)) := by
  refine (at_ m c 50 (r := main_v44) rfl (by decide)).trans ((StableHlo.unary_result' _ _ _ (F := U m c 50)).trans ?_)
  rw [keep m c 50 (x := main_c) (by decide), h_c m c]
  all_goals rfl

theorem h_v45 : V m c main_v45 = (Cert.ReferenceIdeal.Read.val_main_v46 (F := Ideal)) := by
  refine (at_ m c 51 (r := main_v45) rfl (by decide)).trans ((StableHlo.binary_result' _ _ _ _ (F := U m c 51)).trans ?_)
  rw [keep m c 51 (x := main_v43) (by decide), keep m c 51 (x := main_v44) (by decide), h_v43 m c, h_v44 m c]
  all_goals rfl

theorem h_c_4 : V m c main_c_4 = (Cert.ReferenceIdeal.Read.val_main_c_4 (F := Ideal)) := by
  refine (at_ m c 52 (r := main_c_4) rfl (by decide)).trans ((StableHlo.nullary_result' _ _ (F := U m c 52)).trans ?_)
  all_goals rfl

theorem h_v46 : V m c main_v46 = (Cert.ReferenceIdeal.Read.val_main_v47 (F := Ideal)) := by
  refine (at_ m c 53 (r := main_v46) rfl (by decide)).trans ((StableHlo.unary_result' _ _ _ (F := U m c 53)).trans ?_)
  rw [keep m c 53 (x := main_c_4) (by decide), h_c_4 m c]
  all_goals rfl

theorem h_v47 : V m c main_v47 = (Cert.ReferenceIdeal.Read.val_main_v48 (F := Ideal)) := by
  refine (at_ m c 54 (r := main_v47) rfl (by decide)).trans ((StableHlo.binary_result' _ _ _ _ (F := U m c 54)).trans ?_)
  rw [keep m c 54 (x := main_v43) (by decide), keep m c 54 (x := main_v46) (by decide), h_v43 m c, h_v46 m c]
  all_goals rfl

theorem h_c_5 : V m c main_c_5 = (Cert.ReferenceIdeal.Read.val_main_c_5 (F := Ideal)) := by
  refine (at_ m c 55 (r := main_c_5) rfl (by decide)).trans ((StableHlo.nullary_result' _ _ (F := U m c 55)).trans ?_)
  all_goals rfl

theorem h_call0_v0 : V m c main_call0_v0 = (Cert.ReferenceIdeal.Read.val_main_call0_v0 (F := Ideal)) := by
  refine (at_ m c 56 (r := main_call0_v0) rfl (by decide)).trans ((StableHlo.unary_result' _ _ _ (F := U m c 56)).trans ?_)
  rw [keep m c 56 (x := main_c_5) (by decide), h_c_5 m c]
  all_goals rfl

theorem h_call0_v1 : V m c main_call0_v1 = (Cert.ReferenceIdeal.Read.val_main_call0_v1 (F := Ideal)) := by
  refine (at_ m c 57 (r := main_call0_v1) rfl (by decide)).trans ((StableHlo.unary_result' _ _ _ (F := U m c 57)).trans ?_)
  rw [keep m c 57 (x := main_call0_v0) (by decide), h_call0_v0 m c]
  all_goals rfl

theorem h_call0_v2 : V m c main_call0_v2 = (Cert.ReferenceIdeal.Read.val_main_call0_v2 (F := Ideal)) := by
  refine (at_ m c 58 (r := main_call0_v2) rfl (by decide)).trans ((StableHlo.binary_result' _ _ _ _ (F := U m c 58)).trans ?_)
  rw [keep m c 58 (x := main_v47) (by decide), keep m c 58 (x := main_call0_v1) (by decide), h_v47 m c, h_call0_v1 m c]
  all_goals rfl

theorem h_call0_v3 : V m c main_call0_v3 = (Cert.ReferenceIdeal.Read.val_main_call0_v3 (F := Ideal)) := by
  refine (at_ m c 59 (r := main_call0_v3) rfl (by decide)).trans ((StableHlo.unary_result' _ _ _ (F := U m c 59)).trans ?_)
  rw [keep m c 59 (x := main_v47) (by decide), h_v47 m c]
  all_goals rfl

theorem h_call0_v4 : V m c main_call0_v4 = (Cert.ReferenceIdeal.Read.val_main_call0_v4 (F := Ideal)) := by
  refine (at_ m c 60 (r := main_call0_v4) rfl (by decide)).trans ((StableHlo.unary_result' _ _ _ (F := U m c 60)).trans ?_)
  rw [keep m c 60 (x := main_call0_v0) (by decide), h_call0_v0 m c]
  all_goals rfl

theorem h_call0_v5 : V m c main_call0_v5 = (Cert.ReferenceIdeal.Read.val_main_call0_v5 (F := Ideal)) := by
  refine (at_ m c 61 (r := main_call0_v5) rfl (by decide)).trans ((StableHlo.unary_result' _ _ _ (F := U m c 61)).trans ?_)
  rw [keep m c 61 (x := main_call0_v4) (by decide), h_call0_v4 m c]
  all_goals rfl

theorem h_call0_v6 : V m c main_call0_v6 = (Cert.ReferenceIdeal.Read.val_main_call0_v6 (F := Ideal)) := by
  refine (at_ m c 62 (r := main_call0_v6) rfl (by decide)).trans ((StableHlo.binary_result' _ _ _ _ (F := U m c 62)).trans ?_)
  rw [keep m c 62 (x := main_call0_v3) (by decide), keep m c 62 (x := main_call0_v5) (by decide), h_call0_v3 m c, h_call0_v5 m c]
  all_goals rfl

theorem h_call0_v7 : V m c main_call0_v7 = (Cert.ReferenceIdeal.Read.val_main_call0_v7 (F := Ideal)) := by
  refine (at_ m c 63 (r := main_call0_v7) rfl (by decide)).trans ((StableHlo.unary_result' _ _ _ (F := U m c 63)).trans ?_)
  rw [keep m c 63 (x := main_call0_v0) (by decide), h_call0_v0 m c]
  all_goals rfl

theorem h_call0_v8 : V m c main_call0_v8 = (Cert.ReferenceIdeal.Read.val_main_call0_v8 (F := Ideal)) := by
  refine (at_ m c 64 (r := main_call0_v8) rfl (by decide)).trans ((StableHlo.binary_result' _ _ _ _ (F := U m c 64)).trans ?_)
  rw [keep m c 64 (x := main_v47) (by decide), keep m c 64 (x := main_call0_v7) (by decide), h_v47 m c, h_call0_v7 m c]
  all_goals rfl

theorem h_call0_c : V m c main_call0_c = (Cert.ReferenceIdeal.Read.val_main_call0_c (F := Ideal)) := by
  refine (at_ m c 65 (r := main_call0_c) rfl (by decide)).trans ((StableHlo.nullary_result' _ _ (F := U m c 65)).trans ?_)
  all_goals rfl

theorem h_call0_v9 : V m c main_call0_v9 = (Cert.ReferenceIdeal.Read.val_main_call0_v9 (F := Ideal)) := by
  refine (at_ m c 66 (r := main_call0_v9) rfl (by decide)).trans ((StableHlo.unary_result' _ _ _ (F := U m c 66)).trans ?_)
  rw [keep m c 66 (x := main_call0_c) (by decide), h_call0_c m c]
  all_goals rfl

theorem h_call0_v10 : V m c main_call0_v10 = (Cert.ReferenceIdeal.Read.val_main_call0_v10 (F := Ideal)) := by
  refine (at_ m c 67 (r := main_call0_v10) rfl (by decide)).trans ((StableHlo.binary_result' _ _ _ _ (F := U m c 67)).trans ?_)
  rw [keep m c 67 (x := main_call0_v8) (by decide), keep m c 67 (x := main_call0_v9) (by decide), h_call0_v8 m c, h_call0_v9 m c]
  all_goals rfl

theorem h_call0_v11 : V m c main_call0_v11 = (Cert.ReferenceIdeal.Read.val_main_call0_v11 (F := Ideal)) := by
  refine (at_ m c 68 (r := main_call0_v11) rfl (by decide)).trans ((StableHlo.binary_result' _ _ _ _ (F := U m c 68)).trans ?_)
  rw [keep m c 68 (x := main_call0_v6) (by decide), keep m c 68 (x := main_call0_v10) (by decide), h_call0_v6 m c, h_call0_v10 m c]
  all_goals rfl

theorem h_call0_c_0 : V m c main_call0_c_0 = (Cert.ReferenceIdeal.Read.val_main_call0_c_0 (F := Ideal)) := by
  refine (at_ m c 69 (r := main_call0_c_0) rfl (by decide)).trans ((StableHlo.nullary_result' _ _ (F := U m c 69)).trans ?_)
  all_goals rfl

theorem h_call0_v12 : V m c main_call0_v12 = (Cert.ReferenceIdeal.Read.val_main_call0_v12 (F := Ideal)) := by
  refine (at_ m c 70 (r := main_call0_v12) rfl (by decide)).trans ((StableHlo.unary_result' _ _ _ (F := U m c 70)).trans ?_)
  rw [keep m c 70 (x := main_call0_c_0) (by decide), h_call0_c_0 m c]
  all_goals rfl

theorem h_call0_v13 : V m c main_call0_v13 = (Cert.ReferenceIdeal.Read.val_main_call0_v13 (F := Ideal)) := by
  refine (at_ m c 71 (r := main_call0_v13) rfl (by decide)).trans ((StableHlo.binary_result' _ _ _ _ (F := U m c 71)).trans ?_)
  rw [keep m c 71 (x := main_call0_v2) (by decide), keep m c 71 (x := main_call0_v12) (by decide), h_call0_v2 m c, h_call0_v12 m c]
  all_goals rfl

theorem h_v48 : V m c main_v48 = (Cert.ReferenceIdeal.Read.val_main_v49 (F := Ideal)) := by
  refine (at_ m c 72 (r := main_v48) rfl (by decide)).trans ((StableHlo.ternary_result' _ _ _ _ _ (F := U m c 72)).trans ?_)
  rw [keep m c 72 (x := main_call0_v11) (by decide), keep m c 72 (x := main_call0_v13) (by decide), keep m c 72 (x := main_call0_v2) (by decide), h_call0_v11 m c, h_call0_v13 m c, h_call0_v2 m c]
  all_goals rfl

theorem h_c_6 : V m c main_c_6 = (Cert.ReferenceIdeal.Read.val_main_c_6 (F := Ideal)) := by
  refine (at_ m c 73 (r := main_c_6) rfl (by decide)).trans ((StableHlo.nullary_result' _ _ (F := U m c 73)).trans ?_)
  all_goals rfl

theorem h_v49 : V m c main_v49 = (Cert.ReferenceIdeal.Read.val_main_v50 (F := Ideal)) := by
  refine (at_ m c 74 (r := main_v49) rfl (by decide)).trans ((StableHlo.unary_result' _ _ _ (F := U m c 74)).trans ?_)
  rw [keep m c 74 (x := main_c_6) (by decide), h_c_6 m c]
  all_goals rfl

theorem h_v50 : V m c main_v50 = (Cert.ReferenceIdeal.Read.val_main_v51 (F := Ideal)) := by
  refine (at_ m c 75 (r := main_v50) rfl (by decide)).trans ((StableHlo.binary_result' _ _ _ _ (F := U m c 75)).trans ?_)
  rw [keep m c 75 (x := main_v49) (by decide), keep m c 75 (x := main_v48) (by decide), h_v49 m c, h_v48 m c]
  all_goals rfl

theorem h_c_7 : V m c main_c_7 = (Cert.ReferenceIdeal.Read.val_main_c_7 (F := Ideal)) := by
  refine (at_ m c 76 (r := main_c_7) rfl (by decide)).trans ((StableHlo.nullary_result' _ _ (F := U m c 76)).trans ?_)
  all_goals rfl

theorem h_call1_v0 : V m c main_call1_v0 = (Cert.ReferenceIdeal.Read.val_main_call1_v0 (F := Ideal)) := by
  refine (at_ m c 77 (r := main_call1_v0) rfl (by decide)).trans ((StableHlo.unary_result' _ _ _ (F := U m c 77)).trans ?_)
  rw [keep m c 77 (x := main_c_7) (by decide), h_c_7 m c]
  all_goals rfl

theorem h_call1_v1 : V m c main_call1_v1 = (Cert.ReferenceIdeal.Read.val_main_call1_v1 (F := Ideal)) := by
  refine (at_ m c 78 (r := main_call1_v1) rfl (by decide)).trans ((StableHlo.unary_result' _ _ _ (F := U m c 78)).trans ?_)
  rw [keep m c 78 (x := main_call1_v0) (by decide), h_call1_v0 m c]
  all_goals rfl

theorem h_v51 : V m c main_v51 = (Cert.ReferenceIdeal.Read.val_main_v52 (F := Ideal)) := by
  refine (at_ m c 79 (r := main_v51) rfl (by decide)).trans ((StableHlo.ternary_result' _ _ _ _ _ (F := U m c 79)).trans ?_)
  rw [keep m c 79 (x := main_v45) (by decide), keep m c 79 (x := main_call1_v1) (by decide), keep m c 79 (x := main_v50) (by decide), h_v45 m c, h_call1_v1 m c, h_v50 m c]
  all_goals rfl

theorem h_v52 : V m c main_v52 = (Cert.ReferenceIdeal.Read.val_main_v53 (F := Ideal)) := by
  refine (at_ m c 80 (r := main_v52) rfl (by decide)).trans ((StableHlo.unary_result' _ _ _ (F := U m c 80)).trans ?_)
  rw [keep m c 80 (x := main_v51) (by decide), h_v51 m c]
  all_goals rfl

theorem h_v53 : V m c main_v53 = (Cert.ReferenceIdeal.Read.val_main_v54 (F := Ideal)) := by
  refine (at_ m c 81 (r := main_v53) rfl (by decide)).trans ((StableHlo.unary_result' _ _ _ (F := U m c 81)).trans ?_)
  rw [keep m c 81 (x := main_v51) (by decide), h_v51 m c]
  all_goals rfl

theorem h_v54 : V m c main_v54 = (Cert.ReferenceIdeal.Read.val_main_v55 (F := Ideal)) := by
  refine (at_ m c 82 (r := main_v54) rfl (by decide)).trans ((StableHlo.unary_result' _ _ _ (F := U m c 82)).trans ?_)
  rw [keep m c 82 (x := main_v52) (by decide), h_v52 m c]
  all_goals rfl

theorem h_v55 : V m c main_v55 = (Cert.ReferenceIdeal.Read.val_main_v56 (F := Ideal)) := by
  refine (at_ m c 83 (r := main_v55) rfl (by decide)).trans ((StableHlo.unary_result' _ _ _ (F := U m c 83)).trans ?_)
  rw [keep m c 83 (x := main_v53) (by decide), h_v53 m c]
  all_goals rfl

theorem h_v56 : V m c main_v56 = (Cert.ReferenceIdeal.Read.val_main_v57 (F := Ideal)) := by
  refine (at_ m c 84 (r := main_v56) rfl (by decide)).trans ((StableHlo.binary_result' _ _ _ _ (F := U m c 84)).trans ?_)
  rw [keep m c 84 (x := main_v54) (by decide), keep m c 84 (x := main_v55) (by decide), h_v54 m c, h_v55 m c]
  all_goals rfl

theorem h_v57 : V m c main_v57 = (Cert.ReferenceIdeal.Read.val_main_v58 (F := Ideal)) := by
  refine (at_ m c 85 (r := main_v57) rfl (by decide)).trans ((StableHlo.unary_result' _ _ _ (F := U m c 85)).trans ?_)
  rw [keep m c 85 (x := main_v56) (by decide), h_v56 m c]
  all_goals rfl

theorem h_cst_8 : V m c main_cst_8 = (Cert.ReferenceIdeal.Read.val_main_cst_8 (F := Ideal)) := by
  refine (at_ m c 86 (r := main_cst_8) rfl (by decide)).trans ((StableHlo.nullary_result' _ _ (F := U m c 86)).trans ?_)
  all_goals rfl

theorem h_call2_v0 : V m c main_call2_v0 = (Cert.ReferenceIdeal.Read.val_main_call2_v0 (F := Ideal)) := by
  refine (at_ m c 87 (r := main_call2_v0) rfl (by decide)).trans ((StableHlo.unary_result' _ _ _ (F := U m c 87)).trans ?_)
  rw [keep m c 87 (x := main_cst_8) (by decide), h_cst_8 m c]
  all_goals rfl

theorem h_call2_v1 : V m c main_call2_v1 = (Cert.ReferenceIdeal.Read.val_main_v59_1 (F := Ideal)) := by
  refine (at_ m c 88 (r := main_call2_v1) rfl (by decide)).trans ((StableHlo.unary_result' _ _ _ (F := U m c 88)).trans ?_)
  rw [keep m c 88 (x := main_v57) (by decide), h_v57 m c]
  all_goals rfl

theorem h_call2_v2 : V m c main_call2_v2 = (Cert.ReferenceIdeal.Read.val_main_call2_v2 (F := Ideal)) := by
  refine (at_ m c 89 (r := main_call2_v2) rfl (by decide)).trans ((StableHlo.unary_result' _ _ _ (F := U m c 89)).trans ?_)
  rw [keep m c 89 (x := main_call2_v0) (by decide), h_call2_v0 m c]
  all_goals rfl

theorem h_v58 : V m c main_v58 = (Cert.ReferenceIdeal.Read.val_main_v59_0 (F := Ideal) (V m c main_arg0) (V m c main_arg1) (V m c main_arg2)) := by
  refine (at_ m c 90 (r := main_v58) rfl (by decide)).trans ((StableHlo.ternary_result' _ _ _ _ _ (F := U m c 90)).trans ?_)
  rw [keep m c 90 (x := main_call2_v1) (by decide), keep m c 90 (x := main_v42) (by decide), keep m c 90 (x := main_call2_v2) (by decide), h_call2_v1 m c, h_v42 m c, h_call2_v2 m c]
  all_goals rfl

theorem h_cst_9 : V m c main_cst_9 = (Cert.ReferenceIdeal.Read.val_main_cst_9 (F := Ideal)) := by
  refine (at_ m c 91 (r := main_cst_9) rfl (by decide)).trans ((StableHlo.nullary_result' _ _ (F := U m c 91)).trans ?_)
  all_goals rfl

theorem e_v59 : (V m c main_v59 : (main_v59 : Ref sig .tc).ty.Contents (Elt Ideal)) = ((fun x v => Host.reduce (FloatOps.maximumf (F := Ideal) (φ := .f32)) x v reducesTo_S16x4112x4112_S16x4112_d2 h_S_) : (⟨S16x4112x4112, .f32⟩ : BufTy).Contents (Elt Ideal) → (⟨S_, .f32⟩ : BufTy).Contents (Elt Ideal) → (⟨S16x4112, .f32⟩ : BufTy).Contents (Elt Ideal)) (V m c main_v58) (V m c main_cst_9) := by
  refine (at_ m c 92 (r := main_v59) rfl (by decide)).trans ((StableHlo.binary_result' _ _ _ _ (F := U m c 92)).trans ?_)
  rw [keep m c 92 (x := main_v58) (by decide), keep m c 92 (x := main_cst_9) (by decide)]
  all_goals rfl

theorem h_v59 : V m c main_v59 = (Cert.ReferenceIdeal.Read.val_main_v67 (F := Ideal) (V m c main_arg0) (V m c main_arg1) (V m c main_arg2)) := by
  rw [e_v59, h_v58, h_cst_9]
  funext j
  exact row_max _ _ _ j

theorem h_v60 : V m c main_v60 = (Cert.ReferenceIdeal.Read.val_main_v77 (F := Ideal) (V m c main_arg0) (V m c main_arg1) (V m c main_arg2)) := by
  refine (at_ m c 93 (r := main_v60) rfl (by decide)).trans ((StableHlo.unary_result' _ _ _ (F := U m c 93)).trans ?_)
  rw [keep m c 93 (x := main_v59) (by decide), h_v59 m c]
  all_goals rfl

theorem h_v61 : V m c main_v61 = (Cert.ReferenceIdeal.Read.val_main_v78 (F := Ideal) (V m c main_arg0) (V m c main_arg1) (V m c main_arg2)) := by
  refine (at_ m c 94 (r := main_v61) rfl (by decide)).trans ((StableHlo.unary_result' _ _ _ (F := U m c 94)).trans ?_)
  rw [keep m c 94 (x := main_v60) (by decide), h_v60 m c]
  all_goals rfl

theorem h_v62 : V m c main_v62 = (Cert.ReferenceIdeal.Read.val_main_v79 (F := Ideal) (V m c main_arg0) (V m c main_arg1) (V m c main_arg2)) := by
  refine (at_ m c 95 (r := main_v62) rfl (by decide)).trans ((StableHlo.binary_result' _ _ _ _ (F := U m c 95)).trans ?_)
  rw [keep m c 95 (x := main_v58) (by decide), keep m c 95 (x := main_v61) (by decide), h_v58 m c, h_v61 m c]
  all_goals rfl

theorem h_v63 : V m c main_v63 = (Cert.ReferenceIdeal.Read.val_main_v80 (F := Ideal) (V m c main_arg0) (V m c main_arg1) (V m c main_arg2)) := by
  refine (at_ m c 96 (r := main_v63) rfl (by decide)).trans ((StableHlo.unary_result' _ _ _ (F := U m c 96)).trans ?_)
  rw [keep m c 96 (x := main_v62) (by decide), h_v62 m c]
  all_goals rfl

theorem h_cst_10 : V m c main_cst_10 = (Cert.ReferenceIdeal.Read.val_main_cst_17 (F := Ideal)) := by
  refine (at_ m c 97 (r := main_cst_10) rfl (by decide)).trans ((StableHlo.nullary_result' _ _ (F := U m c 97)).trans ?_)
  all_goals rfl

theorem h_v64 : V m c main_v64 = (Cert.ReferenceIdeal.Read.val_main_v81 (F := Ideal) (V m c main_arg0) (V m c main_arg1) (V m c main_arg2)) := by
  refine (at_ m c 98 (r := main_v64) rfl (by decide)).trans ((StableHlo.binary_result' _ _ _ _ (F := U m c 98)).trans ?_)
  rw [keep m c 98 (x := main_v63) (by decide), keep m c 98 (x := main_cst_10) (by decide), h_v63 m c, h_cst_10 m c]
  all_goals rfl

theorem h_v65 : V m c main_v65 = (Cert.ReferenceIdeal.Read.val_main_v82 (F := Ideal) (V m c main_arg0) (V m c main_arg1) (V m c main_arg2)) := by
  refine (at_ m c 99 (r := main_v65) rfl (by decide)).trans ((StableHlo.unary_result' _ _ _ (F := U m c 99)).trans ?_)
  rw [keep m c 99 (x := main_v64) (by decide), h_v64 m c]
  all_goals rfl

theorem h_v66 : V m c main_v66 = (Cert.ReferenceIdeal.Read.val_main_v83 (F := Ideal) (V m c main_arg0) (V m c main_arg1) (V m c main_arg2)) := by
  refine (at_ m c 100 (r := main_v66) rfl (by decide)).trans ((StableHlo.unary_result' _ _ _ (F := U m c 100)).trans ?_)
  rw [keep m c 100 (x := main_v65) (by decide), h_v65 m c]
  all_goals rfl

theorem h_v67 : V m c main_v67 = (Cert.ReferenceIdeal.Read.val_main_v84 (F := Ideal) (V m c main_arg0) (V m c main_arg1) (V m c main_arg2)) := by
  refine (at_ m c 101 (r := main_v67) rfl (by decide)).trans ((StableHlo.binary_result' _ _ _ _ (F := U m c 101)).trans ?_)
  rw [keep m c 101 (x := main_v63) (by decide), keep m c 101 (x := main_v66) (by decide), h_v63 m c, h_v66 m c]
  all_goals rfl

theorem h_v68 : V m c main_v68 = (Cert.ReferenceIdeal.Read.val_main_v88 (F := Ideal) (V m c main_arg0) (V m c main_arg1) (V m c main_arg2)) := by
  refine (at_ m c 102 (r := main_v68) rfl (by decide)).trans ((StableHlo.binary_result' _ _ _ _ (F := U m c 102)).trans ?_)
  rw [keep m c 102 (x := main_v21) (by decide), keep m c 102 (x := main_v67) (by decide), h_v21 m c, h_v67 m c]
  all_goals rfl

theorem h_v69 : V m c main_v69 = (Cert.ReferenceIdeal.Read.val_main_v89 (F := Ideal) (V m c main_arg0) (V m c main_arg1) (V m c main_arg2)) := by
  refine (at_ m c 103 (r := main_v69) rfl (by decide)).trans ((StableHlo.unary_result' _ _ _ (F := U m c 103)).trans ?_)
  rw [keep m c 103 (x := main_v68) (by decide), h_v68 m c]
  all_goals rfl

theorem e_v70 : (V m c main_v70 : (main_v70 : Ref sig .tc).ty.Contents (Elt Ideal)) = (Host.log (F := Ideal) (φ := .f32) : (⟨S16x4112x1, .f32⟩ : BufTy).Contents (Elt Ideal) → (⟨S16x4112x1, .f32⟩ : BufTy).Contents (Elt Ideal)) (V m c main_v65) := by
  refine (at_ m c 104 (r := main_v70) rfl (by decide)).trans ((StableHlo.unary_result' _ _ _ (F := U m c 104)).trans ?_)
  rw [keep m c 104 (x := main_v65) (by decide)]
  all_goals rfl

theorem e_v71 : (V m c main_v71 : (main_v71 : Ref sig .tc).ty.Contents (Elt Ideal)) = (addf (F := Ideal) (φ := .f32) : (⟨S16x4112x1, .f32⟩ : BufTy).Contents (Elt Ideal) → (⟨S16x4112x1, .f32⟩ : BufTy).Contents (Elt Ideal) → (⟨S16x4112x1, .f32⟩ : BufTy).Contents (Elt Ideal)) (V m c main_v60) (V m c main_v70) := by
  refine (at_ m c 105 (r := main_v71) rfl (by decide)).trans ((StableHlo.binary_result' _ _ _ _ (F := U m c 105)).trans ?_)
  rw [keep m c 105 (x := main_v60) (by decide), keep m c 105 (x := main_v70) (by decide)]
  all_goals rfl

theorem e_v72 : (V m c main_v72 : (main_v72 : Ref sig .tc).ty.Contents (Elt Ideal)) = ((fun a b => concatenate S4112x16x192 2 [⟨S4112x16x128, a⟩, ⟨S4112x16x64, b⟩] concatenates_S4112x16x128_S4112x16x64_S4112x16x192_d2) : (⟨S4112x16x128, .f32⟩ : BufTy).Contents (Elt Ideal) → (⟨S4112x16x64, .f32⟩ : BufTy).Contents (Elt Ideal) → (⟨S4112x16x192, .f32⟩ : BufTy).Contents (Elt Ideal)) (V m c main_v18) (V m c main_v36) := by
  refine (at_ m c 106 (r := main_v72) rfl (by decide)).trans ((StableHlo.binary_result' _ _ _ _ (F := U m c 106)).trans ?_)
  rw [keep m c 106 (x := main_v18) (by decide), keep m c 106 (x := main_v36) (by decide)]
  all_goals rfl

theorem e_c_11 : (V m c main_c_11 : (main_c_11 : Ref sig .tc).ty.Contents (Elt Ideal)) = (constantI S_ 32 0#32) := by
  refine (at_ m c 107 (r := main_c_11) rfl (by decide)).trans ((StableHlo.nullary_result' _ _ (F := U m c 107)).trans ?_)
  all_goals rfl

theorem e_call3_v0 : (V m c main_call3_v0 : (main_call3_v0 : Ref sig .tc).ty.Contents (Elt Ideal)) = fun _ => (0 : EReal) := by
  refine (at_ m c 108 (r := main_call3_v0) rfl (by decide)).trans ((StableHlo.unary_result' _ _ _ (F := U m c 108)).trans ?_)
  rw [keep m c 108 (x := main_c_11) (by decide)]
  rw [e_c_11 m c]
  funext j
  show (((0#32).toInt : ℝ) : EReal) = 0
  norm_num

theorem e_v73 : (V m c main_v73 : (main_v73 : Ref sig .tc).ty.Contents (Elt Ideal)) = (fun x v => pad S4224x16x256 ![0, 0, 0] ![112, 0, 64] ![0, 0, 0] x v pads_S4112x16x192_S4224x16x256_01120_000_0640 h_S_) (V m c main_v72) (V m c main_call3_v0) := by
  refine (at_ m c 109 (r := main_v73) rfl (by decide)).trans ((StableHlo.binary_result' _ _ _ _ (F := U m c 109)).trans ?_)
  rw [keep m c 109 (x := main_v72) (by decide), keep m c 109 (x := main_call3_v0) (by decide)]
  all_goals rfl

theorem e_v74 : (V m c main_v74 : (main_v74 : Ref sig .tc).ty.Contents (Elt Ideal)) = shapeCast S4224x4096 (V m c main_v73) shapeCasts_S4224x16x256_S4224x4096 := by
  refine (at_ m c 110 (r := main_v74) rfl (by decide)).trans ((StableHlo.reshape_result' _ _ _ _ (F := U m c 110)).trans ?_)
  rw [keep m c 110 (x := main_v73) (by decide)]
  all_goals rfl

theorem e_v75 : (V m c main_v75 : (main_v75 : Ref sig .tc).ty.Contents (Elt Ideal)) = ((truncf (F := Ideal) .bf16 · bitsLt_bf16_f32) : (⟨S4224x4096, .f32⟩ : BufTy).Contents (Elt Ideal) → (⟨S4224x4096, .bf16⟩ : BufTy).Contents (Elt Ideal)) (V m c main_v74) := by
  refine (at_ m c 111 (r := main_v75) rfl (by decide)).trans ((StableHlo.unary_result' _ _ _ (F := U m c 111)).trans ?_)
  rw [keep m c 111 (x := main_v74) (by decide)]
  all_goals rfl

theorem e_c_12 : (V m c main_c_12 : (main_c_12 : Ref sig .tc).ty.Contents (Elt Ideal)) = (constantI S_ 32 0#32) := by
  refine (at_ m c 112 (r := main_c_12) rfl (by decide)).trans ((StableHlo.nullary_result' _ _ (F := U m c 112)).trans ?_)
  all_goals rfl

theorem e_call4_v0 : (V m c main_call4_v0 : (main_call4_v0 : Ref sig .tc).ty.Contents (Elt Ideal)) = fun _ => (0 : EReal) := by
  refine (at_ m c 113 (r := main_call4_v0) rfl (by decide)).trans ((StableHlo.unary_result' _ _ _ (F := U m c 113)).trans ?_)
  rw [keep m c 113 (x := main_c_12) (by decide)]
  rw [e_c_12 m c]
  funext j
  show (((0#32).toInt : ℝ) : EReal) = 0
  norm_num

theorem e_v76 : (V m c main_v76 : (main_v76 : Ref sig .tc).ty.Contents (Elt Ideal)) = (fun x v => pad S4224x16x256 ![0, 0, 0] ![112, 0, 0] ![0, 0, 0] x v pads_S4112x16x256_S4224x16x256_01120_000_000 h_S_) (V m c main_arg1) (V m c main_call4_v0) := by
  refine (at_ m c 114 (r := main_v76) rfl (by decide)).trans ((StableHlo.binary_result' _ _ _ _ (F := U m c 114)).trans ?_)
  rw [keep m c 114 (x := main_arg1) (by decide), keep m c 114 (x := main_call4_v0) (by decide)]
  all_goals rfl

theorem e_v77 : (V m c main_v77 : (main_v77 : Ref sig .tc).ty.Contents (Elt Ideal)) = shapeCast S4224x4096 (V m c main_v76) shapeCasts_S4224x16x256_S4224x4096 := by
  refine (at_ m c 115 (r := main_v77) rfl (by decide)).trans ((StableHlo.reshape_result' _ _ _ _ (F := U m c 115)).trans ?_)
  rw [keep m c 115 (x := main_v76) (by decide)]
  all_goals rfl

theorem e_v78 : (V m c main_v78 : (main_v78 : Ref sig .tc).ty.Contents (Elt Ideal)) = ((truncf (F := Ideal) .bf16 · bitsLt_bf16_f32) : (⟨S4224x4096, .f32⟩ : BufTy).Contents (Elt Ideal) → (⟨S4224x4096, .bf16⟩ : BufTy).Contents (Elt Ideal)) (V m c main_v77) := by
  refine (at_ m c 116 (r := main_v78) rfl (by decide)).trans ((StableHlo.unary_result' _ _ _ (F := U m c 116)).trans ?_)
  rw [keep m c 116 (x := main_v77) (by decide)]
  all_goals rfl

theorem e_c_13 : (V m c main_c_13 : (main_c_13 : Ref sig .tc).ty.Contents (Elt Ideal)) = (constantI S_ 32 0#32) := by
  refine (at_ m c 117 (r := main_c_13) rfl (by decide)).trans ((StableHlo.nullary_result' _ _ (F := U m c 117)).trans ?_)
  all_goals rfl

theorem e_call5_v0 : (V m c main_call5_v0 : (main_call5_v0 : Ref sig .tc).ty.Contents (Elt Ideal)) = fun _ => (0 : EReal) := by
  refine (at_ m c 118 (r := main_call5_v0) rfl (by decide)).trans ((StableHlo.unary_result' _ _ _ (F := U m c 118)).trans ?_)
  rw [keep m c 118 (x := main_c_13) (by decide)]
  rw [e_c_13 m c]
  funext j
  show (((0#32).toInt : ℝ) : EReal) = 0
  norm_num

theorem e_v79 : (V m c main_v79 : (main_v79 : Ref sig .tc).ty.Contents (Elt Ideal)) = (fun x v => pad S4224x128 ![0, 0] ![112, 64] ![0, 0] x v pads_S4112x64_S4224x128_01120_0640 h_S_) (V m c main_arg2) (V m c main_call5_v0) := by
  refine (at_ m c 119 (r := main_v79) rfl (by decide)).trans ((StableHlo.binary_result' _ _ _ _ (F := U m c 119)).trans ?_)
  rw [keep m c 119 (x := main_arg2) (by decide), keep m c 119 (x := main_call5_v0) (by decide)]
  all_goals rfl

theorem e_v80 : (V m c main_v80 : (main_v80 : Ref sig .tc).ty.Contents (Elt Ideal)) = ((truncf (F := Ideal) .bf16 · bitsLt_bf16_f32) : (⟨S4224x128, .f32⟩ : BufTy).Contents (Elt Ideal) → (⟨S4224x128, .bf16⟩ : BufTy).Contents (Elt Ideal)) (V m c main_v79) := by
  refine (at_ m c 120 (r := main_v80) rfl (by decide)).trans ((StableHlo.unary_result' _ _ _ (F := U m c 120)).trans ?_)
  rw [keep m c 120 (x := main_v79) (by decide)]
  all_goals rfl

theorem e_c_14 : (V m c main_c_14 : (main_c_14 : Ref sig .tc).ty.Contents (Elt Ideal)) = (constantI S_ 32 0#32) := by
  refine (at_ m c 121 (r := main_c_14) rfl (by decide)).trans ((StableHlo.nullary_result' _ _ (F := U m c 121)).trans ?_)
  all_goals rfl

theorem e_call6_v0 : (V m c main_call6_v0 : (main_call6_v0 : Ref sig .tc).ty.Contents (Elt Ideal)) = fun _ => (0 : EReal) := by
  refine (at_ m c 122 (r := main_call6_v0) rfl (by decide)).trans ((StableHlo.unary_result' _ _ _ (F := U m c 122)).trans ?_)
  rw [keep m c 122 (x := main_c_14) (by decide)]
  rw [e_c_14 m c]
  funext j
  show (((0#32).toInt : ℝ) : EReal) = 0
  norm_num

theorem e_v81 : (V m c main_v81 : (main_v81 : Ref sig .tc).ty.Contents (Elt Ideal)) = (fun x v => pad S4224x16x128 ![0, 0, 0] ![112, 0, 0] ![0, 0, 0] x v pads_S4112x16x128_S4224x16x128_01120_000_000 h_S_) (V m c main_v69) (V m c main_call6_v0) := by
  refine (at_ m c 123 (r := main_v81) rfl (by decide)).trans ((StableHlo.binary_result' _ _ _ _ (F := U m c 123)).trans ?_)
  rw [keep m c 123 (x := main_v69) (by decide), keep m c 123 (x := main_call6_v0) (by decide)]
  all_goals rfl

theorem e_v82 : (V m c main_v82 : (main_v82 : Ref sig .tc).ty.Contents (Elt Ideal)) = shapeCast S4224x2048 (V m c main_v81) shapeCasts_S4224x16x128_S4224x2048 := by
  refine (at_ m c 124 (r := main_v82) rfl (by decide)).trans ((StableHlo.reshape_result' _ _ _ _ (F := U m c 124)).trans ?_)
  rw [keep m c 124 (x := main_v81) (by decide)]
  all_goals rfl

theorem e_v83 : (V m c main_v83 : (main_v83 : Ref sig .tc).ty.Contents (Elt Ideal)) = ((truncf (F := Ideal) .bf16 · bitsLt_bf16_f32) : (⟨S4224x2048, .f32⟩ : BufTy).Contents (Elt Ideal) → (⟨S4224x2048, .bf16⟩ : BufTy).Contents (Elt Ideal)) (V m c main_v82) := by
  refine (at_ m c 125 (r := main_v83) rfl (by decide)).trans ((StableHlo.unary_result' _ _ _ (F := U m c 125)).trans ?_)
  rw [keep m c 125 (x := main_v82) (by decide)]
  all_goals rfl

theorem e_c_15 : (V m c main_c_15 : (main_c_15 : Ref sig .tc).ty.Contents (Elt Ideal)) = (constantI S_ 32 0#32) := by
  refine (at_ m c 126 (r := main_c_15) rfl (by decide)).trans ((StableHlo.nullary_result' _ _ (F := U m c 126)).trans ?_)
  all_goals rfl

theorem e_call7_v0 : (V m c main_call7_v0 : (main_call7_v0 : Ref sig .tc).ty.Contents (Elt Ideal)) = fun _ => (0 : EReal) := by
  refine (at_ m c 127 (r := main_call7_v0) rfl (by decide)).trans ((StableHlo.unary_result' _ _ _ (F := U m c 127)).trans ?_)
  rw [keep m c 127 (x := main_c_15) (by decide)]
  rw [e_c_15 m c]
  funext j
  show (((0#32).toInt : ℝ) : EReal) = 0
  norm_num

theorem e_v84 : (V m c main_v84 : (main_v84 : Ref sig .tc).ty.Contents (Elt Ideal)) = (fun x v => pad S4224x16x128 ![0, 0, 0] ![112, 0, 0] ![0, 0, 0] x v pads_S4112x16x128_S4224x16x128_01120_000_000 h_S_) (V m c main_arg3) (V m c main_call7_v0) := by
  refine (at_ m c 128 (r := main_v84) rfl (by decide)).trans ((StableHlo.binary_result' _ _ _ _ (F := U m c 128)).trans ?_)
  rw [keep m c 128 (x := main_arg3) (by decide), keep m c 128 (x := main_call7_v0) (by decide)]
  all_goals rfl

theorem e_v85 : (V m c main_v85 : (main_v85 : Ref sig .tc).ty.Contents (Elt Ideal)) = shapeCast S4224x2048 (V m c main_v84) shapeCasts_S4224x16x128_S4224x2048 := by
  refine (at_ m c 129 (r := main_v85) rfl (by decide)).trans ((StableHlo.reshape_result' _ _ _ _ (F := U m c 129)).trans ?_)
  rw [keep m c 129 (x := main_v84) (by decide)]
  all_goals rfl

theorem e_v86 : (V m c main_v86 : (main_v86 : Ref sig .tc).ty.Contents (Elt Ideal)) = ((truncf (F := Ideal) .bf16 · bitsLt_bf16_f32) : (⟨S4224x2048, .f32⟩ : BufTy).Contents (Elt Ideal) → (⟨S4224x2048, .bf16⟩ : BufTy).Contents (Elt Ideal)) (V m c main_v85) := by
  refine (at_ m c 130 (r := main_v86) rfl (by decide)).trans ((StableHlo.unary_result' _ _ _ (F := U m c 130)).trans ?_)
  rw [keep m c 130 (x := main_v85) (by decide)]
  all_goals rfl

theorem e_v87 : (V m c main_v87 : (main_v87 : Ref sig .tc).ty.Contents (Elt Ideal)) = (broadcastInDim S16x4112x128 ![0, 1, 2] bcast_S16x4112x1_S16x4112x128_0_1_2 : (⟨S16x4112x1, .f32⟩ : BufTy).Contents (Elt Ideal) → (⟨S16x4112x128, .f32⟩ : BufTy).Contents (Elt Ideal)) (V m c main_v71) := by
  refine (at_ m c 131 (r := main_v87) rfl (by decide)).trans ((StableHlo.unary_result' _ _ _ (F := U m c 131)).trans ?_)
  rw [keep m c 131 (x := main_v71) (by decide)]
  all_goals rfl

theorem e_c_16 : (V m c main_c_16 : (main_c_16 : Ref sig .tc).ty.Contents (Elt Ideal)) = (constantI S_ 32 0#32) := by
  refine (at_ m c 132 (r := main_c_16) rfl (by decide)).trans ((StableHlo.nullary_result' _ _ (F := U m c 132)).trans ?_)
  all_goals rfl

theorem e_call8_v0 : (V m c main_call8_v0 : (main_call8_v0 : Ref sig .tc).ty.Contents (Elt Ideal)) = fun _ => (0 : EReal) := by
  refine (at_ m c 133 (r := main_call8_v0) rfl (by decide)).trans ((StableHlo.unary_result' _ _ _ (F := U m c 133)).trans ?_)
  rw [keep m c 133 (x := main_c_16) (by decide)]
  rw [e_c_16 m c]
  funext j
  show (((0#32).toInt : ℝ) : EReal) = 0
  norm_num

theorem e_v88 : (V m c main_v88 : (main_v88 : Ref sig .tc).ty.Contents (Elt Ideal)) = (fun x v => pad S16x4224x128 ![0, 0, 0] ![0, 112, 0] ![0, 0, 0] x v pads_S16x4112x128_S16x4224x128_000_01120_000 h_S_) (V m c main_v87) (V m c main_call8_v0) := by
  refine (at_ m c 134 (r := main_v88) rfl (by decide)).trans ((StableHlo.binary_result' _ _ _ _ (F := U m c 134)).trans ?_)
  rw [keep m c 134 (x := main_v87) (by decide), keep m c 134 (x := main_call8_v0) (by decide)]
  all_goals rfl

theorem e_v89 : (V m c main_v89 : (main_v89 : Ref sig .tc).ty.Contents (Elt Ideal)) = shapeCast S1x4112x1x32 (V m c main_v16) shapeCasts_S4112x32_S1x4112x1x32 := by
  refine (at_ m c 135 (r := main_v89) rfl (by decide)).trans ((StableHlo.reshape_result' _ _ _ _ (F := U m c 135)).trans ?_)
  rw [keep m c 135 (x := main_v16) (by decide)]
  all_goals rfl

theorem e_v90 : (V m c main_v90 : (main_v90 : Ref sig .tc).ty.Contents (Elt Ideal)) = (broadcastInDim S1x4112x4x32 ![0, 1, 2, 3] bcast_S1x4112x1x32_S1x4112x4x32_0_1_2_3 : (⟨S1x4112x1x32, .f32⟩ : BufTy).Contents (Elt Ideal) → (⟨S1x4112x4x32, .f32⟩ : BufTy).Contents (Elt Ideal)) (V m c main_v89) := by
  refine (at_ m c 136 (r := main_v90) rfl (by decide)).trans ((StableHlo.unary_result' _ _ _ (F := U m c 136)).trans ?_)
  rw [keep m c 136 (x := main_v89) (by decide)]
  all_goals rfl

theorem e_v91 : (V m c main_v91 : (main_v91 : Ref sig .tc).ty.Contents (Elt Ideal)) = shapeCast S4112x128 (V m c main_v90) shapeCasts_S1x4112x4x32_S4112x128 := by
  refine (at_ m c 137 (r := main_v91) rfl (by decide)).trans ((StableHlo.reshape_result' _ _ _ _ (F := U m c 137)).trans ?_)
  rw [keep m c 137 (x := main_v90) (by decide)]
  all_goals rfl

theorem e_c_17 : (V m c main_c_17 : (main_c_17 : Ref sig .tc).ty.Contents (Elt Ideal)) = (constantI S_ 32 0#32) := by
  refine (at_ m c 138 (r := main_c_17) rfl (by decide)).trans ((StableHlo.nullary_result' _ _ (F := U m c 138)).trans ?_)
  all_goals rfl

theorem e_call9_v0 : (V m c main_call9_v0 : (main_call9_v0 : Ref sig .tc).ty.Contents (Elt Ideal)) = fun _ => (0 : EReal) := by
  refine (at_ m c 139 (r := main_call9_v0) rfl (by decide)).trans ((StableHlo.unary_result' _ _ _ (F := U m c 139)).trans ?_)
  rw [keep m c 139 (x := main_c_17) (by decide)]
  rw [e_c_17 m c]
  funext j
  show (((0#32).toInt : ℝ) : EReal) = 0
  norm_num

theorem e_v92 : (V m c main_v92 : (main_v92 : Ref sig .tc).ty.Contents (Elt Ideal)) = (fun x v => pad S4224x128 ![0, 0] ![112, 0] ![0, 0] x v pads_S4112x128_S4224x128_01120_000 h_S_) (V m c main_v91) (V m c main_call9_v0) := by
  refine (at_ m c 140 (r := main_v92) rfl (by decide)).trans ((StableHlo.binary_result' _ _ _ _ (F := U m c 140)).trans ?_)
  rw [keep m c 140 (x := main_v91) (by decide), keep m c 140 (x := main_call9_v0) (by decide)]
  all_goals rfl

theorem e_v93 : (V m c main_v93 : (main_v93 : Ref sig .tc).ty.Contents (Elt Ideal)) = shapeCast S1x4112x1x32 (V m c main_v17) shapeCasts_S4112x32_S1x4112x1x32 := by
  refine (at_ m c 141 (r := main_v93) rfl (by decide)).trans ((StableHlo.reshape_result' _ _ _ _ (F := U m c 141)).trans ?_)
  rw [keep m c 141 (x := main_v17) (by decide)]
  all_goals rfl

theorem e_v94 : (V m c main_v94 : (main_v94 : Ref sig .tc).ty.Contents (Elt Ideal)) = (broadcastInDim S1x4112x4x32 ![0, 1, 2, 3] bcast_S1x4112x1x32_S1x4112x4x32_0_1_2_3 : (⟨S1x4112x1x32, .f32⟩ : BufTy).Contents (Elt Ideal) → (⟨S1x4112x4x32, .f32⟩ : BufTy).Contents (Elt Ideal)) (V m c main_v93) := by
  refine (at_ m c 142 (r := main_v94) rfl (by decide)).trans ((StableHlo.unary_result' _ _ _ (F := U m c 142)).trans ?_)
  rw [keep m c 142 (x := main_v93) (by decide)]
  all_goals rfl

theorem e_v95 : (V m c main_v95 : (main_v95 : Ref sig .tc).ty.Contents (Elt Ideal)) = shapeCast S4112x128 (V m c main_v94) shapeCasts_S1x4112x4x32_S4112x128 := by
  refine (at_ m c 143 (r := main_v95) rfl (by decide)).trans ((StableHlo.reshape_result' _ _ _ _ (F := U m c 143)).trans ?_)
  rw [keep m c 143 (x := main_v94) (by decide)]
  all_goals rfl

theorem e_c_18 : (V m c main_c_18 : (main_c_18 : Ref sig .tc).ty.Contents (Elt Ideal)) = (constantI S_ 32 0#32) := by
  refine (at_ m c 144 (r := main_c_18) rfl (by decide)).trans ((StableHlo.nullary_result' _ _ (F := U m c 144)).trans ?_)
  all_goals rfl

theorem e_call10_v0 : (V m c main_call10_v0 : (main_call10_v0 : Ref sig .tc).ty.Contents (Elt Ideal)) = fun _ => (0 : EReal) := by
  refine (at_ m c 145 (r := main_call10_v0) rfl (by decide)).trans ((StableHlo.unary_result' _ _ _ (F := U m c 145)).trans ?_)
  rw [keep m c 145 (x := main_c_18) (by decide)]
  rw [e_c_18 m c]
  funext j
  show (((0#32).toInt : ℝ) : EReal) = 0
  norm_num

theorem e_v96 : (V m c main_v96 : (main_v96 : Ref sig .tc).ty.Contents (Elt Ideal)) = (fun x v => pad S4224x128 ![0, 0] ![112, 0] ![0, 0] x v pads_S4112x128_S4224x128_01120_000 h_S_) (V m c main_v95) (V m c main_call10_v0) := by
  refine (at_ m c 146 (r := main_v96) rfl (by decide)).trans ((StableHlo.binary_result' _ _ _ _ (F := U m c 146)).trans ?_)
  rw [keep m c 146 (x := main_v95) (by decide), keep m c 146 (x := main_call10_v0) (by decide)]
  all_goals rfl

end Cert.Proof.Host

end
-- ==== Proof.KVal.lean ====
/- The arrays the kernel's windows read, as real numbers. -/
module

public import proofs.«01_k».proof.Proof.Host
public import proofs.«01_k».proof.Proof.RefVal

@[expose] public section

set_option maxRecDepth 16384

noncomputable section

namespace Cert.Proof.Host

open Cert.KernelIdeal Cert.KernelIdeal.Gen
open Idealize.ShloMosaic Idealize.ShloMosaic.TcCoe
open scoped BigOperators
open Finset (range)
open Cert.Proof.Table Cert.Proof.RV

variable {m : (ℓ : Loc nD τ sig) → Buf (Elt Ideal) ℓ} {c : Dev nD}
variable {a0 a1 a3 : ℕ → ℕ → ℕ → ℝ} {a2 mx : ℕ → ℕ → ℝ}

/-- An array of one lane, repeated along its last axis. -/
theorem _root_.Cert.Proof.Re3.spread {a b c : ℕ} {x : (⟨3, ![a, b, 1]⟩ : Shape).Idx → EReal} {f : ℕ → ℕ → ℕ → ℝ} (hx : Re3 x f) (ha : a ≠ 1) (hb : b ≠ 1)
    (h : (⟨3, ![a, b, 1]⟩ : Shape).BroadcastsInDim ⟨3, ![a, b, c]⟩ ![0, 1, 2]) : Re3 (broadcastInDim ⟨3, ![a, b, c]⟩ ![0, 1, 2] h x) (fun i j _ => f i j 0) := fun j =>
  (broadcastInDim_apply _ h x j (ValueIdx.ix3 (j 0) (j 1) ⟨0, Nat.one_pos⟩) (fun k => match k with
    | ⟨0, _⟩ => by show (j 0).val = if a = 1 then 0 else (j 0).val; rw [if_neg ha]
    | ⟨1, _⟩ => by show (j 1).val = if b = 1 then 0 else (j 1).val; rw [if_neg hb]
    | ⟨2, _⟩ => by show 0 = if (1 : Nat) = 1 then 0 else (j 2).val; rw [if_pos rfl])).trans (hx _)

/-- An array plus the logarithm of another. -/
theorem _root_.Cert.Proof.Re3.addLog {a b c : ℕ} {x y : (⟨3, ![a, b, c]⟩ : Shape).Idx → EReal} {f g : ℕ → ℕ → ℕ → ℝ} (hx : Re3 x f) (hy : Re3 y g)
    (hg : ∀ i j k, i < a → j < b → k < c → 0 < g i j k) :
    Re3 (addf (F := Ideal) (φ := .f32) (s := ⟨3, ![a, b, c]⟩) x (Host.log (F := Ideal) (φ := .f32) (s := ⟨3, ![a, b, c]⟩) y)) (fun i j k => f i j k + Real.log (g i j k)) := fun j =>
  addR (hx j) (logR (hg _ _ _ (j 0).isLt (j 1).isLt (j 2).isLt) (hy j))

/-- The queries' array. -/
theorem q_all (h0 : Re3 (a := 4112) (b := 16) (c := 192) (V m c main_arg0) a0) : Re2 (a := 4224) (b := 4096) (V m c main_v75)
    (fun t k => if t < 4112 ∧ k / 256 < 16 ∧ k % 256 < 192 then (if k % 256 < 128 then a0 t (k / 256) (k % 256) else rop a0 t (k / 256) (k % 256 - 128)) else 0) := by
  have e : Re3 (a := 4112) (b := 16) (c := 192) (V m c main_v72) (fun t r d => if d < 128 then a0 t r d else rop a0 t r (d - 128)) := by
    rw [e_v72, h_v18, h_v36]
    exact Re3.beside (a := 4112) (b := 16) (c := 192) (c₁ := 128) (c₂ := 64) (RV.v20 h0) (RV.v38 h0) concatenates_S4112x16x128_S4112x16x64_S4112x16x192_d2
  have e3 : Re3 (a := 4224) (b := 16) (c := 256) (V m c main_v73) (fun t r d => if t < 4112 ∧ r < 16 ∧ d < 192 then (if d < 128 then a0 t r d else rop a0 t r (d - 128)) else 0) := by
    rw [e_v73]
    exact Re3.pad (a := 4112) (b := 16) (c := 192) (a' := 4224) (b' := 16) (c' := 256) (p := 112) (q := 0) (r := 64) e (fun i => congrFun (e_call3_v0 m c) i) pads_S4112x16x192_S4224x16x256_01120_000_0640 h_S_
  have e4 : Re2 (a := 4224) (b := 4096) (V m c main_v74) (fun t k => if t < 4112 ∧ k / 256 < 16 ∧ k % 256 < 192 then (if k % 256 < 128 then a0 t (k / 256) (k % 256) else rop a0 t (k / 256) (k % 256 - 128)) else 0) := by
    rw [e_v74]
    exact Re3.join (a := 4224) (b := 16) (c := 256) (n := 4096) e3 rfl shapeCasts_S4224x16x256_S4224x4096
  rw [e_v75]
  exact e4

/-- The keys' and values' array. -/
theorem kv_all (h1 : Re3 (a := 4112) (b := 16) (c := 256) (V m c main_arg1) a1) : Re2 (a := 4224) (b := 4096) (V m c main_v78)
    (fun t k => if t < 4112 ∧ k / 256 < 16 ∧ k % 256 < 256 then a1 t (k / 256) (k % 256) else 0) := by
  have e3 : Re3 (a := 4224) (b := 16) (c := 256) (V m c main_v76) (fun t r d => if t < 4112 ∧ r < 16 ∧ d < 256 then a1 t r d  else 0) := by
    rw [e_v76]
    exact Re3.pad (a := 4112) (b := 16) (c := 256) (a' := 4224) (b' := 16) (c' := 256) (p := 112) (q := 0) (r := 0) h1 (fun i => congrFun (e_call4_v0 m c) i) pads_S4112x16x256_S4224x16x256_01120_000_000 h_S_
  have e4 : Re2 (a := 4224) (b := 4096) (V m c main_v77) (fun t k => if t < 4112 ∧ k / 256 < 16 ∧ k % 256 < 256 then a1 t (k / 256) (k % 256)  else 0) := by
    rw [e_v77]
    exact Re3.join (a := 4224) (b := 16) (c := 256) (n := 4096) e3 rfl shapeCasts_S4224x16x256_S4224x4096
  rw [e_v78]
  exact e4

/-- The rotary keys' array. -/
theorem kr_all (h2 : Re2 (a := 4112) (b := 64) (V m c main_arg2) a2) : Re2 (a := 4224) (b := 128) (V m c main_v80)
    (fun t k => if t < 4112 ∧ k < 64 then a2 t k else 0) := by
  have e : Re2 (a := 4224) (b := 128) (V m c main_v79) (fun t k => if t < 4112 ∧ k < 64 then a2 t k else 0) := by
    rw [e_v79]
    exact Re2.pad (a := 4112) (b := 64) (a' := 4224) (b' := 128) (p := 112) (q := 64) h2 (fun i => congrFun (e_call5_v0 m c) i) pads_S4112x64_S4224x128_01120_0640 h_S_
  rw [e_v80]
  exact e

/-- The output's gradient's array. -/
theorem do_all (h3 : Re3 (a := 4112) (b := 16) (c := 128) (V m c main_arg3) a3) : Re2 (a := 4224) (b := 2048) (V m c main_v86)
    (fun t k => if t < 4112 ∧ k / 128 < 16 ∧ k % 128 < 128 then a3 t (k / 128) (k % 128) else 0) := by
  have e3 : Re3 (a := 4224) (b := 16) (c := 128) (V m c main_v84) (fun t r d => if t < 4112 ∧ r < 16 ∧ d < 128 then a3 t r d  else 0) := by
    rw [e_v84]
    exact Re3.pad (a := 4112) (b := 16) (c := 128) (a' := 4224) (b' := 16) (c' := 128) (p := 112) (q := 0) (r := 0) h3 (fun i => congrFun (e_call7_v0 m c) i) pads_S4112x16x128_S4224x16x128_01120_000_000 h_S_
  have e4 : Re2 (a := 4224) (b := 2048) (V m c main_v85) (fun t k => if t < 4112 ∧ k / 128 < 16 ∧ k % 128 < 128 then a3 t (k / 128) (k % 128)  else 0) := by
    rw [e_v85]
    exact Re3.join (a := 4224) (b := 16) (c := 128) (n := 2048) e3 rfl shapeCasts_S4224x16x128_S4224x2048
  rw [e_v86]
  exact e4

section
variable (h0 : Re3 (a := 4112) (b := 16) (c := 192) (V m c main_arg0) a0) (h1 : Re3 (a := 4112) (b := 16) (c := 256) (V m c main_arg1) a1)
  (h2 : Re2 (a := 4112) (b := 64) (V m c main_arg2) a2)
  (hm : Re2 (a := 16) (b := 4112) (Cert.ReferenceIdeal.Read.val_main_v67 (F := Ideal) (V m c main_arg0) (V m c main_arg1) (V m c main_arg2)) mx)
include h0 h1 h2 hm

/-- The forward output's array. -/
theorem o_all : Re2 (a := 4224) (b := 2048) (V m c main_v83)
    (fun t k => if t < 4112 ∧ k / 128 < 16 ∧ k % 128 < 128 then ∑ u ∈ range 4112, a1 u (k / 128) (128 + k % 128) * pr a0 a1 a2 mx (k / 128) t u else 0) := by
  have e : Re3 (a := 4112) (b := 16) (c := 128) (V m c main_v69) (fun t h d => ∑ u ∈ range 4112, a1 u h (128 + d) * pr a0 a1 a2 mx h t u) := by
    rw [h_v69]
    exact RV.v89 h0 h1 h2 hm fun h t ht => (den_pos h t ht).ne'
  have e3 : Re3 (a := 4224) (b := 16) (c := 128) (V m c main_v81) (fun t r d => if t < 4112 ∧ r < 16 ∧ d < 128 then ∑ u ∈ range 4112, a1 u r (128 + d) * pr a0 a1 a2 mx r t u else 0) := by
    rw [e_v81]
    exact Re3.pad (a := 4112) (b := 16) (c := 128) (a' := 4224) (b' := 16) (c' := 128) (p := 112) (q := 0) (r := 0) e (fun i => congrFun (e_call6_v0 m c) i) pads_S4112x16x128_S4224x16x128_01120_000_000 h_S_
  have e4 : Re2 (a := 4224) (b := 2048) (V m c main_v82) (fun t k => if t < 4112 ∧ k / 128 < 16 ∧ k % 128 < 128 then ∑ u ∈ range 4112, a1 u (k / 128) (128 + (k % 128)) * pr a0 a1 a2 mx (k / 128) t u else 0) := by
    rw [e_v82]
    exact Re3.join (a := 4224) (b := 16) (c := 128) (n := 2048) e3 rfl shapeCasts_S4224x16x128_S4224x2048
  rw [e_v83]
  exact e4

/-- The array of the logarithms of the queries' sums. -/
theorem lse_all : Re3 (a := 16) (b := 4224) (c := 128) (V m c main_v88)
    (fun h t l => if h < 16 ∧ t < 4112 ∧ l < 128 then mx h t + Real.log (den a0 a1 a2 mx h t) else 0) := by
  have e1 : Re3 (a := 16) (b := 4112) (c := 1) (V m c main_v71) (fun h t _ => mx h t + Real.log (den a0 a1 a2 mx h t)) := by
    rw [e_v71, e_v70, h_v60, h_v65]
    exact Re3.addLog (RV.v77 h0 h1 h2 hm) (RV.v82 h0 h1 h2 hm) fun h t _ _ ht _ => den_pos h t ht
  have e2 : Re3 (a := 16) (b := 4112) (c := 128) (V m c main_v87) (fun h t _ => mx h t + Real.log (den a0 a1 a2 mx h t)) := by
    rw [e_v87]
    exact Re3.spread (a := 16) (b := 4112) (c := 128) e1 (by decide) (by decide) bcast_S16x4112x1_S16x4112x128_0_1_2
  rw [e_v88]
  exact Re3.pad (a := 16) (b := 4112) (c := 128) (a' := 16) (b' := 4224) (c' := 128) (p := 0) (q := 112) (r := 0) e2 (fun i => congrFun (e_call8_v0 m c) i) pads_S16x4112x128_S16x4224x128_000_01120_000 h_S_
end

/-- A table of 32 lanes, four times beside each other. -/
theorem four {x : S4112x32.Idx → EReal} {f : ℕ → ℕ → ℝ} (hx : Re2 (a := 4112) (b := 32) x f) :
    Re2 (a := 4112) (b := 128) (shapeCast S4112x128 (broadcastInDim (α := EReal) S1x4112x4x32 ![0, 1, 2, 3] bcast_S1x4112x1x32_S1x4112x4x32_0_1_2_3 (shapeCast S1x4112x1x32 x shapeCasts_S4112x32_S1x4112x1x32)) shapeCasts_S1x4112x4x32_S4112x128)
      (fun t d => f t (d % 32)) := fun j => by
  have h1 : (j 1).val < 128 := (j 1).isLt
  refine (shapeCast_apply _ shapeCasts_S1x4112x4x32_S4112x128 j (ValueIdx.ix4 ⟨0, by decide⟩ (j 0) ⟨(j 1).val / 32, by omega⟩ ⟨(j 1).val % 32, by omega⟩) ?_).trans ?_
  · rw [Shape.rowMajor_val_two, Shape.rowMajor_val_four]
    show ((0 * 4112 + (j 0).val) * 4 + (j 1).val / 32) * 32 + (j 1).val % 32 = (j 0).val * 128 + (j 1).val
    omega
  refine (broadcastInDim_apply _ bcast_S1x4112x1x32_S1x4112x4x32_0_1_2_3 _ _ (ValueIdx.ix4 ⟨0, by decide⟩ (j 0) ⟨0, by decide⟩ ⟨(j 1).val % 32, by omega⟩) (fun a => match a with
    | ⟨0, _⟩ => by show 0 = if (1 : Nat) = 1 then 0 else 0; rw [if_pos rfl]
    | ⟨1, _⟩ => by show (j 0).val = if (4112 : Nat) = 1 then 0 else (j 0).val; rw [if_neg (by decide)]
    | ⟨2, _⟩ => by show 0 = if (1 : Nat) = 1 then 0 else _; rw [if_pos rfl]
    | ⟨3, _⟩ => by show (j 1).val % 32 = if (32 : Nat) = 1 then 0 else (j 1).val % 32; rw [if_neg (by decide)])).trans ?_
  refine (shapeCast_apply x shapeCasts_S4112x32_S1x4112x1x32 _ (ValueIdx.ix2 (j 0) ⟨(j 1).val % 32, by omega⟩) ?_).trans (hx _)
  rw [Shape.rowMajor_val_two, Shape.rowMajor_val_four]
  show (j 0).val * 32 + (j 1).val % 32 = ((0 * 4112 + (j 0).val) * 1 + 0) * 32 + (j 1).val % 32
  omega

/-- The cosines' array. -/
theorem cos_all : Re2 (a := 4224) (b := 128) (V m c main_v92) (fun t d => if t < 4112 ∧ d < 128 then cs t (d % 32) else 0) := by
  have e : Re2 (a := 4112) (b := 32) (V m c main_v16) cs := by rw [h_v16]; exact RV.v16
  have e2 : Re2 (a := 4112) (b := 128) (V m c main_v91) (fun t d => cs t (d % 32)) := by
    rw [e_v91, e_v90, e_v89]
    exact four e
  rw [e_v92]
  exact Re2.pad (a := 4112) (b := 128) (a' := 4224) (b' := 128) (p := 112) (q := 0) e2 (fun i => congrFun (e_call9_v0 m c) i) pads_S4112x128_S4224x128_01120_000 h_S_

/-- The sines' array. -/
theorem sin_all : Re2 (a := 4224) (b := 128) (V m c main_v96) (fun t d => if t < 4112 ∧ d < 128 then sn t (d % 32) else 0) := by
  have e : Re2 (a := 4112) (b := 32) (V m c main_v17) sn := by rw [h_v17]; exact RV.v17
  have e2 : Re2 (a := 4112) (b := 128) (V m c main_v95) (fun t d => sn t (d % 32)) := by
    rw [e_v95, e_v94, e_v93]
    exact four e
  rw [e_v96]
  exact Re2.pad (a := 4112) (b := 128) (a' := 4224) (b' := 128) (p := 112) (q := 0) e2 (fun i => congrFun (e_call10_v0 m c) i) pads_S4112x128_S4224x128_01120_000 h_S_

end Cert.Proof.Host

end
-- ==== Proof.Blocks.lean ====
/- The result arrays of the kernel, as the reference's values. -/
module

public import proofs.«01_k».proof.Proof.Arith
public import proofs.«01_k».proof.Proof.KVal
public import proofs.«01_k».proof.Proof.Run
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe
open scoped BigOperators
open Finset (range)
open Cert.Proof.Table Cert.Proof.RV

variable {m : (ℓ : Loc nD τ sig) → Buf (Elt Ideal) ℓ} {c : Dev nD}

/-! ## The blocks -/

/-- The block of each window at each point. -/
theorem idx : ∀ t : Fin cfg0.N, (win0_0.index t = ![0, t.val] ∧ win0_1.index t = ![0, t.val] ∧ win0_2.index t = ![0, 0] ∧ win0_3.index t = ![0, t.val]
    ∧ win0_4.index t = ![t.val, 0, 0] ∧ win0_5.index t = ![0, t.val] ∧ win0_6.index t = ![0, 0] ∧ win0_7.index t = ![0, 0])
    ∧ win0_8.index t = ![0, t.val] ∧ win0_9.index t = ![0, t.val] ∧ win0_10.index t = ![t.val, 0, 0] :=
  (by decide +kernel : ∀ t : Fin grid0.N, _)

/-- There is a point for each head. -/
theorem point_lt (t : Fin cfg0.N) : t.val < 16 := by have h : cfg0.N = 16 := N_0; have := t.isLt; omega

/-- Window 0's block: the columns of its head. -/
theorem blk_0 (t : Fin cfg0.N) {f : ℕ → ℕ → ℝ} (hX : Re2 (a := 4224) (b := 4096) (V m c main_v75) f) :
    Is (α := EReal) (iblk m c 0 t : Vec Ideal S4224x256 .bf16) (up fun r d => f r (256 * t.val + d)) := fun j => by
  have ht := point_lt t
  have h1 : (j 1).val < 256 := (j 1).isLt
  have hi := (idx t).1.1
  have e : (iblk m c 0 t : Vec Ideal S4224x256 .bf16) j = V m c main_v75 (ValueIdx.ix2 (⟨(j 0).val, (j 0).isLt⟩ : Fin 4224) (⟨256 * t.val + (j 1).val, by omega⟩ : Fin 4096)) := by
    unfold iblk
    rw [View.read_apply]
    refine congrArg (V m c main_v75) (funext fun a => Fin.ext ?_)
    match a with
    | ⟨0, _⟩ => show win0_0.index t 0 * 4224 + 1 * (j 0).val = (j 0).val; rw [hi]; show 0 * 4224 + 1 * (j 0).val = _; omega
    | ⟨1, _⟩ => show win0_0.index t 1 * 256 + 1 * (j 1).val = 256 * t.val + (j 1).val; rw [hi]; show t.val * 256 + 1 * (j 1).val = _; omega
  exact e.trans (hX _)

/-- Window 1's block: the columns of its head. -/
theorem blk_1 (t : Fin cfg0.N) {f : ℕ → ℕ → ℝ} (hX : Re2 (a := 4224) (b := 4096) (V m c main_v78) f) :
    Is (α := EReal) (iblk m c 1 t : Vec Ideal S4224x256 .bf16) (up fun r d => f r (256 * t.val + d)) := fun j => by
  have ht := point_lt t
  have h1 : (j 1).val < 256 := (j 1).isLt
  have hi := (idx t).1.2.1
  have e : (iblk m c 1 t : Vec Ideal S4224x256 .bf16) j = V m c main_v78 (ValueIdx.ix2 (⟨(j 0).val, (j 0).isLt⟩ : Fin 4224) (⟨256 * t.val + (j 1).val, by omega⟩ : Fin 4096)) := by
    unfold iblk
    rw [View.read_apply]
    refine congrArg (V m c main_v78) (funext fun a => Fin.ext ?_)
    match a with
    | ⟨0, _⟩ => show win0_1.index t 0 * 4224 + 1 * (j 0).val = (j 0).val; rw [hi]; show 0 * 4224 + 1 * (j 0).val = _; omega
    | ⟨1, _⟩ => show win0_1.index t 1 * 256 + 1 * (j 1).val = 256 * t.val + (j 1).val; rw [hi]; show t.val * 256 + 1 * (j 1).val = _; omega
  exact e.trans (hX _)

/-- Window 3's block: the columns of its head. -/
theorem blk_3 (t : Fin cfg0.N) {f : ℕ → ℕ → ℝ} (hX : Re2 (a := 4224) (b := 2048) (V m c main_v83) f) :
    Is (α := EReal) (iblk m c 3 t : Vec Ideal S4224x128 .bf16) (up fun r d => f r (128 * t.val + d)) := fun j => by
  have ht := point_lt t
  have h1 : (j 1).val < 128 := (j 1).isLt
  have hi := (idx t).1.2.2.2.1
  have e : (iblk m c 3 t : Vec Ideal S4224x128 .bf16) j = V m c main_v83 (ValueIdx.ix2 (⟨(j 0).val, (j 0).isLt⟩ : Fin 4224) (⟨128 * t.val + (j 1).val, by omega⟩ : Fin 2048)) := by
    unfold iblk
    rw [View.read_apply]
    refine congrArg (V m c main_v83) (funext fun a => Fin.ext ?_)
    match a with
    | ⟨0, _⟩ => show win0_3.index t 0 * 4224 + 1 * (j 0).val = (j 0).val; rw [hi]; show 0 * 4224 + 1 * (j 0).val = _; omega
    | ⟨1, _⟩ => show win0_3.index t 1 * 128 + 1 * (j 1).val = 128 * t.val + (j 1).val; rw [hi]; show t.val * 128 + 1 * (j 1).val = _; omega
  exact e.trans (hX _)

/-- Window 5's block: the columns of its head. -/
theorem blk_5 (t : Fin cfg0.N) {f : ℕ → ℕ → ℝ} (hX : Re2 (a := 4224) (b := 2048) (V m c main_v86) f) :
    Is (α := EReal) (iblk m c 5 t : Vec Ideal S4224x128 .bf16) (up fun r d => f r (128 * t.val + d)) := fun j => by
  have ht := point_lt t
  have h1 : (j 1).val < 128 := (j 1).isLt
  have hi := (idx t).1.2.2.2.2.2.1
  have e : (iblk m c 5 t : Vec Ideal S4224x128 .bf16) j = V m c main_v86 (ValueIdx.ix2 (⟨(j 0).val, (j 0).isLt⟩ : Fin 4224) (⟨128 * t.val + (j 1).val, by omega⟩ : Fin 2048)) := by
    unfold iblk
    rw [View.read_apply]
    refine congrArg (V m c main_v86) (funext fun a => Fin.ext ?_)
    match a with
    | ⟨0, _⟩ => show win0_5.index t 0 * 4224 + 1 * (j 0).val = (j 0).val; rw [hi]; show 0 * 4224 + 1 * (j 0).val = _; omega
    | ⟨1, _⟩ => show win0_5.index t 1 * 128 + 1 * (j 1).val = 128 * t.val + (j 1).val; rw [hi]; show t.val * 128 + 1 * (j 1).val = _; omega
  exact e.trans (hX _)

/-- Window 2's block: the whole array. -/
theorem blk_2 (t : Fin cfg0.N) {f : ℕ → ℕ → ℝ} (hX : Re2 (a := 4224) (b := 128) (V m c main_v80) f) :
    Is (α := EReal) (iblk m c 2 t : Vec Ideal S4224x128 .bf16) (up f) := fun j => by
  have hi := (idx t).1.2.2.1
  have e : (iblk m c 2 t : Vec Ideal S4224x128 .bf16) j = V m c main_v80 j := by
    unfold iblk
    rw [View.read_apply]
    refine congrArg (V m c main_v80) (funext fun a => Fin.ext ?_)
    match a with
    | ⟨0, _⟩ => show win0_2.index t 0 * 4224 + 1 * (j 0).val = (j 0).val; rw [hi]; show 0 * 4224 + 1 * (j 0).val = _; omega
    | ⟨1, _⟩ => show win0_2.index t 1 * 128 + 1 * (j 1).val = (j 1).val; rw [hi]; show 0 * 128 + 1 * (j 1).val = _; omega
  exact e.trans (hX _)

/-- Window 6's block: the whole array. -/
theorem blk_6 (t : Fin cfg0.N) {f : ℕ → ℕ → ℝ} (hX : Re2 (a := 4224) (b := 128) (V m c main_v92) f) :
    Is (α := EReal) (iblk m c 6 t : Vec Ideal S4224x128 .f32) (up f) := fun j => by
  have hi := (idx t).1.2.2.2.2.2.2.1
  have e : (iblk m c 6 t : Vec Ideal S4224x128 .f32) j = V m c main_v92 j := by
    unfold iblk
    rw [View.read_apply]
    refine congrArg (V m c main_v92) (funext fun a => Fin.ext ?_)
    match a with
    | ⟨0, _⟩ => show win0_6.index t 0 * 4224 + 1 * (j 0).val = (j 0).val; rw [hi]; show 0 * 4224 + 1 * (j 0).val = _; omega
    | ⟨1, _⟩ => show win0_6.index t 1 * 128 + 1 * (j 1).val = (j 1).val; rw [hi]; show 0 * 128 + 1 * (j 1).val = _; omega
  exact e.trans (hX _)

/-- Window 7's block: the whole array. -/
theorem blk_7 (t : Fin cfg0.N) {f : ℕ → ℕ → ℝ} (hX : Re2 (a := 4224) (b := 128) (V m c main_v96) f) :
    Is (α := EReal) (iblk m c 7 t : Vec Ideal S4224x128 .f32) (up f) := fun j => by
  have hi := (idx t).1.2.2.2.2.2.2.2
  have e : (iblk m c 7 t : Vec Ideal S4224x128 .f32) j = V m c main_v96 j := by
    unfold iblk
    rw [View.read_apply]
    refine congrArg (V m c main_v96) (funext fun a => Fin.ext ?_)
    match a with
    | ⟨0, _⟩ => show win0_7.index t 0 * 4224 + 1 * (j 0).val = (j 0).val; rw [hi]; show 0 * 4224 + 1 * (j 0).val = _; omega
    | ⟨1, _⟩ => show win0_7.index t 1 * 128 + 1 * (j 1).val = (j 1).val; rw [hi]; show 0 * 128 + 1 * (j 1).val = _; omega
  exact e.trans (hX _)

/-- Window 4's block: the rows of its head. -/
theorem blk_4 (t : Fin cfg0.N) {f : ℕ → ℕ → ℕ → ℝ} (hX : Re3 (a := 16) (b := 4224) (c := 128) (V m c main_v88) f) (j : S1x4224x128.Idx) :
    (iblk m c 4 t : Vec Ideal S1x4224x128 .f32) j = up (f t.val) (j 1).val (j 2).val := by
  have ht := point_lt t
  have h0 : (j 0).val < 1 := (j 0).isLt
  have hi := (idx t).1.2.2.2.2.1
  have e : (iblk m c 4 t : Vec Ideal S1x4224x128 .f32) j = V m c main_v88 (ValueIdx.ix3 (⟨t.val, ht⟩ : Fin 16) (⟨(j 1).val, (j 1).isLt⟩ : Fin 4224) (⟨(j 2).val, (j 2).isLt⟩ : Fin 128)) := by
    unfold iblk
    rw [View.read_apply]
    refine congrArg (V m c main_v88) (funext fun a => Fin.ext ?_)
    match a with
    | ⟨0, _⟩ => show win0_4.index t 0 * 1 + 1 * (j 0).val = t.val; rw [hi]; show t.val * 1 + 1 * (j 0).val = _; omega
    | ⟨1, _⟩ => show win0_4.index t 1 * 4224 + 1 * (j 1).val = (j 1).val; rw [hi]; show 0 * 4224 + 1 * (j 1).val = _; omega
    | ⟨2, _⟩ => show win0_4.index t 2 * 128 + 1 * (j 2).val = (j 2).val; rw [hi]; show 0 * 128 + 1 * (j 2).val = _; omega
  exact e.trans (hX _)

/-! ## The outputs at a point -/

section
variable {a0 a1 a3 : ℕ → ℕ → ℕ → ℝ} {a2 mx : ℕ → ℕ → ℝ}
variable (h0 : Re3 (a := 4112) (b := 16) (c := 192) (V m c main_arg0) a0) (h1 : Re3 (a := 4112) (b := 16) (c := 256) (V m c main_arg1) a1)
  (h2 : Re2 (a := 4112) (b := 64) (V m c main_arg2) a2) (h3 : Re3 (a := 4112) (b := 16) (c := 128) (V m c main_arg3) a3)
  (hm : Re2 (a := 16) (b := 4112) (Cert.ReferenceIdeal.Read.val_main_v67 (F := Ideal) (V m c main_arg0) (V m c main_arg1) (V m c main_arg2)) mx)
include h0 h1 h2 h3 hm

/-- What the body leaves at point `t`, which is head `t`. -/
theorem outs (t : Fin cfg0.N) :
    Is (α := EReal) (outsAt_8 (F := Ideal) m c t) (dqOf (up (Qt a0 t.val)) (up (KVt a1 t.val)) (up (KRt a2)) (up (Ot a0 a1 a2 mx t.val)) (up (Lt a0 a1 a2 mx t.val)) (up (DOt a3 t.val)) (up Ct) (up St))
    ∧ Is (α := EReal) (outsAt_9 (F := Ideal) m c t) (fun u d => if d < 128 then dkOf (up (Qt a0 t.val)) (up (KVt a1 t.val)) (up (KRt a2)) (up (Ot a0 a1 a2 mx t.val)) (up (Lt a0 a1 a2 mx t.val)) (up (DOt a3 t.val)) u d
        else dvOf (up (Qt a0 t.val)) (up (KVt a1 t.val)) (up (KRt a2)) (up (Lt a0 a1 a2 mx t.val)) (up (DOt a3 t.val)) u (d - 128))
    ∧ ∀ j, outsAt_10 (F := Ideal) m c t j = dkOf (up (Qt a0 t.val)) (up (KVt a1 t.val)) (up (KRt a2)) (up (Ot a0 a1 a2 mx t.val)) (up (Lt a0 a1 a2 mx t.val)) (up (DOt a3 t.val)) (j 1).val (128 + (j 2).val) := by
  have ht := point_lt t
  have b0 := (blk_0 t (Host.q_all h0)).congr (g := up (Qt a0 t.val)) fun r d hr hd => by
    unfold up Qt
    refine congrArg (fun r : ℝ => (r : EReal)) ?_
    dsimp only
    rw [show (256 * t.val + d) / 256 = t.val by omega, show (256 * t.val + d) % 256 = d by omega]
    by_cases hp : r < 4112 ∧ d < 192
    · rw [if_pos hp, if_pos ⟨hp.1, ht, hp.2⟩]
    · rw [if_neg hp, if_neg fun h => hp ⟨h.1, h.2.2⟩]
  have b1 := (blk_1 t (Host.kv_all h1)).congr (g := up (KVt a1 t.val)) fun r d hr hd => by
    unfold up KVt
    refine congrArg (fun r : ℝ => (r : EReal)) ?_
    dsimp only
    rw [show (256 * t.val + d) / 256 = t.val by omega, show (256 * t.val + d) % 256 = d by omega]
    by_cases hp : r < 4112
    · rw [if_pos hp, if_pos ⟨hp, ht, hd⟩]
    · rw [if_neg hp, if_neg fun h => hp h.1]
  have b3 := (blk_3 t (Host.o_all h0 h1 h2 hm)).congr (g := up (Ot a0 a1 a2 mx t.val)) fun r d hr hd => by
    unfold up Ot
    refine congrArg (fun r : ℝ => (r : EReal)) ?_
    dsimp only
    rw [show (128 * t.val + d) / 128 = t.val by omega, show (128 * t.val + d) % 128 = d by omega]
    by_cases hp : r < 4112
    · rw [if_pos hp, if_pos ⟨hp, ht, hd⟩]
    · rw [if_neg hp, if_neg fun h => hp h.1]
  have b5 := (blk_5 t (Host.do_all h3)).congr (g := up (DOt a3 t.val)) fun r d hr hd => by
    unfold up DOt
    refine congrArg (fun r : ℝ => (r : EReal)) ?_
    dsimp only
    rw [show (128 * t.val + d) / 128 = t.val by omega, show (128 * t.val + d) % 128 = d by omega]
    by_cases hp : r < 4112
    · rw [if_pos hp, if_pos ⟨hp, ht, hd⟩]
    · rw [if_neg hp, if_neg fun h => hp h.1]
  have b6 := (blk_6 t (Host.cos_all (m := m) (c := c))).congr (g := up Ct) fun r d hr hd => by
    unfold up Ct
    refine congrArg (fun r : ℝ => (r : EReal)) ?_
    dsimp only
    by_cases hp : r < 4112
    · rw [if_pos hp, if_pos ⟨hp, hd⟩]
    · rw [if_neg hp, if_neg fun h => hp h.1]
  have b7 := (blk_7 t (Host.sin_all (m := m) (c := c))).congr (g := up St) fun r d hr hd => by
    unfold up St
    refine congrArg (fun r : ℝ => (r : EReal)) ?_
    dsimp only
    by_cases hp : r < 4112
    · rw [if_pos hp, if_pos ⟨hp, hd⟩]
    · rw [if_neg hp, if_neg fun h => hp h.1]
  have b4 : ∀ j, (iblk m c 4 t : Vec Ideal S1x4224x128 .f32) j = up (Lt a0 a1 a2 mx t.val) (j 1).val (j 2).val := fun j => (blk_4 t (Host.lse_all h0 h1 h2 hm) j).trans (by
    have hl : (j 2).val < 128 := (j 2).isLt
    unfold up Lt
    refine congrArg (fun r : ℝ => (r : EReal)) ?_
    dsimp only
    by_cases hp : (j 1).val < 4112
    · rw [if_pos hp, if_pos ⟨ht, hp, hl⟩]
    · rw [if_neg hp, if_neg fun h => hp h.2.1])
  have b2 := (blk_2 t (Host.kr_all h2)).congr (g := up (KRt a2)) fun r d _ _ => rfl
  unfold outsAt_8 outsAt_9 outsAt_10
  exact body_is c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 (Memref.isWhole_whole _) sc_1 (Memref.isWhole_whole _) sc_2 (Memref.isWhole_whole _) sc_3 (Memref.isWhole_whole _)
    (iblk m c 0 t) (iblk m c 1 t) (iblk m c 2 t) (iblk m c 3 t) (iblk m c 4 t) (iblk m c 5 t) (iblk m c 6 t) (iblk m c 7 t)
    b0 b1 b2 b3 b4 b5 b6 b7 VO_8 VO_9 VO_10 VO_8.junk VO_9.junk VO_10.junk

end

end Cert.Proof.KI

end
-- ==== Proof.Final.lean ====
/- The kernel's result arrays are the reference's. -/
module

public import proofs.«01_k».proof.Proof.Blocks
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe
open scoped BigOperators
open Finset (range)
open Cert.Proof.Table Cert.Proof.RV

variable {m : (ℓ : Loc nD τ sig) → Buf (Elt Ideal) ℓ} {c : Dev nD}
variable {a0 a1 a3 : ℕ → ℕ → ℕ → ℝ} {a2 mx : ℕ → ℕ → ℝ}
/-- The queries' gradient of a head, at the head's columns. -/
theorem tail_8 (t : ℕ) (ht : t < 16) (r d : ℕ) (hd : d < 256) :
    dqOf (up (Qt a0 t)) (up (KVt a1 t)) (up (KRt a2)) (up (Ot a0 a1 a2 mx t)) (up (Lt a0 a1 a2 mx t)) (up (DOt a3 t)) (up Ct) (up St) r d
      = ((if r < 4112 ∧ (256 * t + d) / 256 < 16 ∧ (256 * t + d) % 256 < 192 then dqR a0 a1 a3 a2 mx r ((256 * t + d) / 256) ((256 * t + d) % 256) else 0 : ℝ) : EReal) := by
  refine (dq_eq hd).trans (congrArg (fun r : ℝ => (r : EReal)) ?_)
  rw [show (256 * t + d) / 256 = t by omega, show (256 * t + d) % 256 = d by omega]
  by_cases hp : r < 4112 ∧ d < 192
  · rw [if_pos hp, if_pos ⟨hp.1, ht, hp.2⟩]
  · rw [if_neg hp, if_neg fun h => hp ⟨h.1, h.2.2⟩]

/-- The keys' and values' gradients of a head, at the head's columns. -/
theorem tail_9 (t : ℕ) (ht : t < 16) (r d : ℕ) (hd : d < 256) :
    (if d < 128 then dkOf (up (Qt a0 t)) (up (KVt a1 t)) (up (KRt a2)) (up (Ot a0 a1 a2 mx t)) (up (Lt a0 a1 a2 mx t)) (up (DOt a3 t)) r d
        else dvOf (up (Qt a0 t)) (up (KVt a1 t)) (up (KRt a2)) (up (Lt a0 a1 a2 mx t)) (up (DOt a3 t)) r (d - 128))
      = ((if r < 4112 ∧ (256 * t + d) / 256 < 16 ∧ (256 * t + d) % 256 < 256 then dkvR a0 a1 a3 a2 mx r ((256 * t + d) / 256) ((256 * t + d) % 256) else 0 : ℝ) : EReal) := by
  rw [show (256 * t + d) / 256 = t by omega, show (256 * t + d) % 256 = d by omega]
  by_cases h1 : d < 128
  · rw [if_pos h1]
    refine dk_eq.trans (congrArg (fun r : ℝ => (r : EReal)) ?_)
    rw [if_pos h1]
    by_cases hp : r < 4112
    · rw [if_pos ⟨hp, by omega⟩, if_pos ⟨hp, ht, hd⟩]
    · rw [if_neg fun h => hp h.1, if_neg fun h => hp h.1]
  · rw [if_neg h1]
    refine dv_eq.trans (congrArg (fun r : ℝ => (r : EReal)) ?_)
    rw [show 128 + (d - 128) = d by omega]
    by_cases hp : r < 4112
    · rw [if_pos hp, if_pos ⟨hp, ht, hd⟩]
    · rw [if_neg hp, if_neg fun h => hp h.1]

/-- The rotary keys' gradient of a head. -/
theorem tail_10 (t : ℕ) (ht : t < 16) (u e : ℕ) :
    dkOf (up (Qt a0 t)) (up (KVt a1 t)) (up (KRt a2)) (up (Ot a0 a1 a2 mx t)) (up (Lt a0 a1 a2 mx t)) (up (DOt a3 t)) u (128 + e)
      = ((if t < 16 ∧ u < 4112 ∧ e < 64 then dkrR a0 a1 a3 a2 mx t u e else 0 : ℝ) : EReal) := by
  refine dk_eq.trans (congrArg (fun r : ℝ => (r : EReal)) ?_)
  rw [show 128 + e - 128 = e by omega, if_neg (show ¬128 + e < 128 by omega)]
  by_cases hp : u < 4112 ∧ e < 64
  · rw [if_pos ⟨hp.1, by omega⟩, if_pos ⟨ht, hp.1, hp.2⟩]
  · rw [if_neg fun h => hp ⟨h.1, by omega⟩, if_neg fun h => hp ⟨h.2.1, h.2.2⟩]

variable (h0 : Re3 (a := 4112) (b := 16) (c := 192) (V m c main_arg0) a0) (h1 : Re3 (a := 4112) (b := 16) (c := 256) (V m c main_arg1) a1)
  (h2 : Re2 (a := 4112) (b := 64) (V m c main_arg2) a2) (h3 : Re3 (a := 4112) (b := 16) (c := 128) (V m c main_arg3) a3)
  (hm : Re2 (a := 16) (b := 4112) (Cert.ReferenceIdeal.Read.val_main_v67 (F := Ideal) (V m c main_arg0) (V m c main_arg1) (V m c main_arg2)) mx)
include h0 h1 h2 h3 hm

/-- The queries' gradient of a point, at one element. -/
theorem at_8 (t : Fin cfg0.N) (y : S4224x256.Idx) (i : S4224x4096.Idx) (k0 : (i 0).val = (y 0).val) (k1 : (i 1).val = 256 * t.val + (y 1).val) :
    outsAt_8 (F := Ideal) m c t y = Cert.ReferenceIdeal.Read.val_main_v134 (F := Ideal) (V m c main_arg0) (V m c main_arg1) (V m c main_arg2) (V m c main_arg3) i := by
  refine ((outs h0 h1 h2 h3 hm t).1 y).trans ?_
  refine (tail_8 t.val (point_lt t) (y 0).val (y 1).val (y 1).isLt).trans ?_
  refine Eq.trans ?_ (RV.v134 h0 h1 h2 h3 hm (fun h t ht => (den_pos h t ht).ne') i).symm
  rw [k0, k1]

/-- The queries' gradient. -/
theorem final_8 : (dats m 0 c).arrAt 8 cfg0.N = Cert.ReferenceIdeal.Read.val_main_v134 (F := Ideal) (V m c main_arg0) (V m c main_arg1) (V m c main_arg2) (V m c main_arg3) := by
  refine (dats m 0 c).arrAt_eq_of_covers 8 _ (by decide +kernel) fun t hf y => ?_
  have hi := (idx t).2.1
  blk_simp
  rw [after_8]
  exact at_8 h0 h1 h2 h3 hm t y (((cfg0.win 8).blk t).view.emb y) (by
    show win0_8.index t 0 * 4224 + 1 * (y 0).val = (y 0).val
    rw [hi]; show 0 * 4224 + 1 * (y 0).val = _; omega) (by
    show win0_8.index t 1 * 256 + 1 * (y 1).val = 256 * t.val + (y 1).val
    rw [hi]; show t.val * 256 + 1 * (y 1).val = _; omega)

/-- The keys' and values' gradients of a point, at one element. -/
theorem at_9 (t : Fin cfg0.N) (y : S4224x256.Idx) (i : S4224x4096.Idx) (k0 : (i 0).val = (y 0).val) (k1 : (i 1).val = 256 * t.val + (y 1).val) :
    outsAt_9 (F := Ideal) m c t y = Cert.ReferenceIdeal.Read.val_main_v137 (F := Ideal) (V m c main_arg0) (V m c main_arg1) (V m c main_arg2) (V m c main_arg3) i := by
  refine ((outs h0 h1 h2 h3 hm t).2.1 y).trans ?_
  refine (tail_9 t.val (point_lt t) (y 0).val (y 1).val (y 1).isLt).trans ?_
  refine Eq.trans ?_ (RV.v137 h0 h1 h2 h3 hm (fun h t ht => (den_pos h t ht).ne') i).symm
  rw [k0, k1]

/-- The keys' and values' gradients. -/
theorem final_9 : (dats m 0 c).arrAt 9 cfg0.N = Cert.ReferenceIdeal.Read.val_main_v137 (F := Ideal) (V m c main_arg0) (V m c main_arg1) (V m c main_arg2) (V m c main_arg3) := by
  refine (dats m 0 c).arrAt_eq_of_covers 9 _ (by decide +kernel) fun t hf y => ?_
  have hi := (idx t).2.2.1
  blk_simp
  rw [after_9]
  exact at_9 h0 h1 h2 h3 hm t y (((cfg0.win 9).blk t).view.emb y) (by
    show win0_9.index t 0 * 4224 + 1 * (y 0).val = (y 0).val
    rw [hi]; show 0 * 4224 + 1 * (y 0).val = _; omega) (by
    show win0_9.index t 1 * 256 + 1 * (y 1).val = 256 * t.val + (y 1).val
    rw [hi]; show t.val * 256 + 1 * (y 1).val = _; omega)

/-- The rotary keys' gradient, head by head, of a point, at one element. -/
theorem at_10 (t : Fin cfg0.N) (y : S1x4224x128.Idx) (i : S16x4224x128.Idx) (k0 : (i 0).val = t.val) (k1 : (i 1).val = (y 1).val) (k2 : (i 2).val = (y 2).val) :
    outsAt_10 (F := Ideal) m c t y = Cert.ReferenceIdeal.Read.val_main_v138 (F := Ideal) (V m c main_arg0) (V m c main_arg1) (V m c main_arg2) (V m c main_arg3) i := by
  refine ((outs h0 h1 h2 h3 hm t).2.2 y).trans ?_
  refine (tail_10 t.val (point_lt t) (y 1).val (y 2).val).trans ?_
  refine Eq.trans ?_ (RV.v138 h0 h1 h2 h3 hm (fun h t ht => (den_pos h t ht).ne') i).symm
  rw [k0, k1, k2]

/-- The rotary keys' gradient, head by head. -/
theorem final_10 : (dats m 0 c).arrAt 10 cfg0.N = Cert.ReferenceIdeal.Read.val_main_v138 (F := Ideal) (V m c main_arg0) (V m c main_arg1) (V m c main_arg2) (V m c main_arg3) := by
  refine (dats m 0 c).arrAt_eq_of_covers 10 _ (by decide +kernel) fun t hf y => ?_
  have hi := (idx t).2.2.2
  blk_simp
  rw [after_10]
  exact at_10 h0 h1 h2 h3 hm t y (((cfg0.win 10).blk t).view.emb y) (by
    have y0 : (y 0).val < 1 := (y 0).isLt
    show win0_10.index t 0 * 1 + 1 * (y 0).val = t.val
    rw [hi]; show t.val * 1 + 1 * (y 0).val = _; omega) (by
    show win0_10.index t 1 * 4224 + 1 * (y 1).val = (y 1).val
    rw [hi]; show 0 * 4224 + 1 * (y 1).val = _; omega) (by
    show win0_10.index t 2 * 128 + 1 * (y 2).val = (y 2).val
    rw [hi]; show 0 * 128 + 1 * (y 2).val = _; omega)

end Cert.Proof.KI

end
-- ==== Proof.FfnFrames.lean ====
/- The frames of the feed-forward layer's four backward calls. -/
module

public import proofs.«01_k».proof.Defs
public import proofs.«01_k».proof.Proof.Gen.FfnDw
public import proofs.«01_k».proof.Proof.Gen.FfnDwIdeal
public import proofs.«01_k».proof.Proof.Gen.FfnDwIdeal.Frame
public import proofs.«01_k».proof.Proof.Gen.FfnDwRefIdeal
public import proofs.«01_k».proof.Proof.Gen.FfnDwRefIdeal.Run
public import proofs.«01_k».proof.Proof.Gen.FfnDh
public import proofs.«01_k».proof.Proof.Gen.FfnDhIdeal
public import proofs.«01_k».proof.Proof.Gen.FfnDhIdeal.Frame
public import proofs.«01_k».proof.Proof.Gen.FfnDhRefIdeal
public import proofs.«01_k».proof.Proof.Gen.FfnDhRefIdeal.Run
public import proofs.«01_k».proof.Proof.Gen.FfnDd
public import proofs.«01_k».proof.Proof.Gen.FfnDdIdeal
public import proofs.«01_k».proof.Proof.Gen.FfnDdIdeal.Frame
public import proofs.«01_k».proof.Proof.Gen.FfnDdRefIdeal
public import proofs.«01_k».proof.Proof.Gen.FfnDdRefIdeal.Run
public import proofs.«01_k».proof.Proof.Gen.FfnDa
public import proofs.«01_k».proof.Proof.Gen.FfnDaIdeal
public import proofs.«01_k».proof.Proof.Gen.FfnDaIdeal.Frame
public import proofs.«01_k».proof.Proof.Gen.FfnDaRefIdeal
public import proofs.«01_k».proof.Proof.Gen.FfnDaRefIdeal.Run
public import Idealize.ShloMosaic.Lib.Quiescent

@[expose] public section

set_option maxRecDepth 16384

noncomputable section

namespace Cert.Proof.Ffn

open Idealize.ShloMosaic Idealize.ShloMosaic.TcCoe Idealize.SL.Sem

/-- The two bodies of the call for the gradient of the gate's and the up projection's weights are one text. -/
theorem body_dw : Cert.FfnDw.cc0_ffn_dwgu (F := Bits) = Cert.FfnDwIdeal.cc0_ffn_dwgu (F := Bits) := by rfl

/-- The two tables of bodies of the call for the gradient of the gate's and the up projection's weights agree. -/
theorem bodies_dw : Cert.FfnDw.defs₀ (F := Bits) = Cert.FfnDwIdeal.defs₀ (F := Bits) := by
  unfold Cert.FfnDw.defs₀ Cert.FfnDwIdeal.defs₀
  refine congrArg Defs.onTc ?_
  funext l x
  match l, x with
  | 0, (t, s) =>
    show Cert.FfnDw.cc0_ffn_dwgu (F := Bits) _ _ _ _ _ _ _ = _
    rw [body_dw]
    rfl

/-- The two tables of pipelines of the call for the gradient of the gate's and the up projection's weights agree. -/
theorem defs_dw : Cert.FfnDw.defs (F := Bits) = Cert.FfnDwIdeal.defs (F := Bits) := by
  unfold Cert.FfnDw.defs Cert.FfnDwIdeal.defs
  rw [bodies_dw]
  rfl

/-- The two host programs of the call for the gradient of the gate's and the up projection's weights agree. -/
theorem main_dw : Cert.FfnDw.main (F := Bits) = Cert.FfnDwIdeal.main (F := Bits) := by rfl

/-- The frame of the call for the gradient of the gate's and the up projection's weights, on the device's words: the run is the one over any values. -/
theorem frame_dw : Cert.quiescent_FfnDw (hFfnDw := Cert.FfnDw.Gen.facts) := by
  intro m ρ _
  rw [defs_dw, main_dw]
  exact (θ_run Cert.FfnDwIdeal.defs _ _).mono (fun _ h => h) (Cert.FfnDwIdeal.Gen.frame (F := Bits) m ρ)

/-- The frame of the idealized call for the gradient of the gate's and the up projection's weights. -/
theorem frame_dw_ideal : Cert.quiescent_FfnDwIdeal (hFfnDwIdeal := Cert.FfnDwIdeal.Gen.facts) :=
  fun m ρ _ => Cert.FfnDwIdeal.Gen.frame (F := Ideal) m ρ

/-- The frame of the reference for the gradient of the gate's and the up projection's weights. -/
theorem frame_dw_ref : Cert.quiescent_FfnDwRefIdeal (hFfnDwRefIdeal := Cert.FfnDwRefIdeal.Gen.facts) :=
  fun m ρ _ => (θ_run (Cert.FfnDwRefIdeal.defs (F := Ideal)) _ _).mono (fun r h => ⟨fun c => (h c).2, sem_eq_zero_of_no_sems (by decide) r.2⟩) (Cert.FfnDwRefIdeal.Value.run (F := Ideal) m ρ)

/-- The two bodies of the call for the gradient of the layer's input are one text. -/
theorem body_dh : Cert.FfnDh.cc0_ffn_dhn (F := Bits) = Cert.FfnDhIdeal.cc0_ffn_dhn (F := Bits) := by rfl

/-- The two tables of bodies of the call for the gradient of the layer's input agree. -/
theorem bodies_dh : Cert.FfnDh.defs₀ (F := Bits) = Cert.FfnDhIdeal.defs₀ (F := Bits) := by
  unfold Cert.FfnDh.defs₀ Cert.FfnDhIdeal.defs₀
  refine congrArg Defs.onTc ?_
  funext l x
  match l, x with
  | 0, (t, s) =>
    show Cert.FfnDh.cc0_ffn_dhn (F := Bits) _ _ _ _ _ _ _ = _
    rw [body_dh]
    rfl

/-- The two tables of pipelines of the call for the gradient of the layer's input agree. -/
theorem defs_dh : Cert.FfnDh.defs (F := Bits) = Cert.FfnDhIdeal.defs (F := Bits) := by
  unfold Cert.FfnDh.defs Cert.FfnDhIdeal.defs
  rw [bodies_dh]
  rfl

/-- The two host programs of the call for the gradient of the layer's input agree. -/
theorem main_dh : Cert.FfnDh.main (F := Bits) = Cert.FfnDhIdeal.main (F := Bits) := by rfl

/-- The frame of the call for the gradient of the layer's input, on the device's words: the run is the one over any values. -/
theorem frame_dh : Cert.quiescent_FfnDh (hFfnDh := Cert.FfnDh.Gen.facts) := by
  intro m ρ _
  rw [defs_dh, main_dh]
  exact (θ_run Cert.FfnDhIdeal.defs _ _).mono (fun _ h => h) (Cert.FfnDhIdeal.Gen.frame (F := Bits) m ρ)

/-- The frame of the idealized call for the gradient of the layer's input. -/
theorem frame_dh_ideal : Cert.quiescent_FfnDhIdeal (hFfnDhIdeal := Cert.FfnDhIdeal.Gen.facts) :=
  fun m ρ _ => Cert.FfnDhIdeal.Gen.frame (F := Ideal) m ρ

/-- The frame of the reference for the gradient of the layer's input. -/
theorem frame_dh_ref : Cert.quiescent_FfnDhRefIdeal (hFfnDhRefIdeal := Cert.FfnDhRefIdeal.Gen.facts) :=
  fun m ρ _ => (θ_run (Cert.FfnDhRefIdeal.defs (F := Ideal)) _ _).mono (fun r h => ⟨fun c => (h c).2, sem_eq_zero_of_no_sems (by decide) r.2⟩) (Cert.FfnDhRefIdeal.Value.run (F := Ideal) m ρ)

/-- The two bodies of the call for the gradient of the down projection's weights are one text. -/
theorem body_dd : Cert.FfnDd.cc0_ffn_dwdown (F := Bits) = Cert.FfnDdIdeal.cc0_ffn_dwdown (F := Bits) := by rfl

/-- The two tables of bodies of the call for the gradient of the down projection's weights agree. -/
theorem bodies_dd : Cert.FfnDd.defs₀ (F := Bits) = Cert.FfnDdIdeal.defs₀ (F := Bits) := by
  unfold Cert.FfnDd.defs₀ Cert.FfnDdIdeal.defs₀
  refine congrArg Defs.onTc ?_
  funext l x
  match l, x with
  | 0, (t, s) =>
    show Cert.FfnDd.cc0_ffn_dwdown (F := Bits) _ _ _ _ _ _ _ = _
    rw [body_dd]
    rfl

/-- The two tables of pipelines of the call for the gradient of the down projection's weights agree. -/
theorem defs_dd : Cert.FfnDd.defs (F := Bits) = Cert.FfnDdIdeal.defs (F := Bits) := by
  unfold Cert.FfnDd.defs Cert.FfnDdIdeal.defs
  rw [bodies_dd]
  rfl

/-- The two host programs of the call for the gradient of the down projection's weights agree. -/
theorem main_dd : Cert.FfnDd.main (F := Bits) = Cert.FfnDdIdeal.main (F := Bits) := by rfl

/-- The frame of the call for the gradient of the down projection's weights, on the device's words: the run is the one over any values. -/
theorem frame_dd : Cert.quiescent_FfnDd (hFfnDd := Cert.FfnDd.Gen.facts) := by
  intro m ρ _
  rw [defs_dd, main_dd]
  exact (θ_run Cert.FfnDdIdeal.defs _ _).mono (fun _ h => h) (Cert.FfnDdIdeal.Gen.frame (F := Bits) m ρ)

/-- The frame of the idealized call for the gradient of the down projection's weights. -/
theorem frame_dd_ideal : Cert.quiescent_FfnDdIdeal (hFfnDdIdeal := Cert.FfnDdIdeal.Gen.facts) :=
  fun m ρ _ => Cert.FfnDdIdeal.Gen.frame (F := Ideal) m ρ

/-- The frame of the reference for the gradient of the down projection's weights. -/
theorem frame_dd_ref : Cert.quiescent_FfnDdRefIdeal (hFfnDdRefIdeal := Cert.FfnDdRefIdeal.Gen.facts) :=
  fun m ρ _ => (θ_run (Cert.FfnDdRefIdeal.defs (F := Ideal)) _ _).mono (fun r h => ⟨fun c => (h c).2, sem_eq_zero_of_no_sems (by decide) r.2⟩) (Cert.FfnDdRefIdeal.Value.run (F := Ideal) m ρ)

/-- The two bodies of the call for the gradients of the gate and of the up projection are one text. -/
theorem body_da : Cert.FfnDa.cc0_ffn_dact (F := Bits) = Cert.FfnDaIdeal.cc0_ffn_dact (F := Bits) := by rfl

/-- The two tables of bodies of the call for the gradients of the gate and of the up projection agree. -/
theorem bodies_da : Cert.FfnDa.defs₀ (F := Bits) = Cert.FfnDaIdeal.defs₀ (F := Bits) := by
  unfold Cert.FfnDa.defs₀ Cert.FfnDaIdeal.defs₀
  refine congrArg Defs.onTc ?_
  funext l x
  match l, x with
  | 0, (t, s) =>
    show Cert.FfnDa.cc0_ffn_dact (F := Bits) _ _ _ _ _ _ _ _ _ = _
    rw [body_da]
    rfl

/-- The two tables of pipelines of the call for the gradients of the gate and of the up projection agree. -/
theorem defs_da : Cert.FfnDa.defs (F := Bits) = Cert.FfnDaIdeal.defs (F := Bits) := by
  unfold Cert.FfnDa.defs Cert.FfnDaIdeal.defs
  rw [bodies_da]
  rfl

/-- The two host programs of the call for the gradients of the gate and of the up projection agree. -/
theorem main_da : Cert.FfnDa.main (F := Bits) = Cert.FfnDaIdeal.main (F := Bits) := by rfl

/-- The frame of the call for the gradients of the gate and of the up projection, on the device's words: the run is the one over any values. -/
theorem frame_da : Cert.quiescent_FfnDa (hFfnDa := Cert.FfnDa.Gen.facts) := by
  intro m ρ _
  rw [defs_da, main_da]
  exact (θ_run Cert.FfnDaIdeal.defs _ _).mono (fun _ h => h) (Cert.FfnDaIdeal.Gen.frame (F := Bits) m ρ)

/-- The frame of the idealized call for the gradients of the gate and of the up projection. -/
theorem frame_da_ideal : Cert.quiescent_FfnDaIdeal (hFfnDaIdeal := Cert.FfnDaIdeal.Gen.facts) :=
  fun m ρ _ => Cert.FfnDaIdeal.Gen.frame (F := Ideal) m ρ

/-- The frame of the reference for the gradients of the gate and of the up projection. -/
theorem frame_da_ref : Cert.quiescent_FfnDaRefIdeal (hFfnDaRefIdeal := Cert.FfnDaRefIdeal.Gen.facts) :=
  fun m ρ _ => (θ_run (Cert.FfnDaRefIdeal.defs (F := Ideal)) _ _).mono (fun r h => ⟨fun c => (h c).2, sem_eq_zero_of_no_sems (by decide) r.2⟩) (Cert.FfnDaRefIdeal.Value.run (F := Ideal) m ρ)

end Cert.Proof.Ffn

end
-- ==== Proof.Tab.lean ====
/- Arrays of rank three read as tables, and every array as some table: what the feed-forward layer's calls are read with. -/
module

public import proofs.«01_k».proof.Proof.Table
public import Idealize.ShloMosaic.Lib.Pipeline.ValueKit

@[expose] public section

noncomputable section

namespace Cert.Proof.Table

open Idealize.ShloMosaic
open scoped BigOperators

/-- The shape of `p` planes of `m` rows and `n` columns. -/
abbrev Sh3 (p m n : ℕ) : Shape := ⟨3, ![p, m, n]⟩

/-- The array `w` holds `f q r c` in plane `q` at row `r` and column `c`. -/
def Is3 {p m n : ℕ} {α : Type} (w : (Sh3 p m n).Idx → α) (f : ℕ → ℕ → ℕ → α) : Prop := ∀ j, w j = f (j 0).val (j 1).val (j 2).val

/-- The planes read at the index of given coordinates. -/
theorem Is3.at {p m n : ℕ} {α : Type} {w : (Sh3 p m n).Idx → α} {f : ℕ → ℕ → ℕ → α} (h : Is3 w f) (j : (Sh3 p m n).Idx) {q r c : ℕ}
    (hq : (j 0).val = q) (hr : (j 1).val = r) (hc : (j 2).val = c) : w j = f q r c := by rw [h j, hq, hr, hc]

/-- Every array of extended reals is a table. -/
theorem exists_is {m n : ℕ} (w : (Sh m n).Idx → EReal) : ∃ f, Is (α := EReal) w f := by
  refine ⟨fun r c => if h : r < m ∧ c < n then w (ValueIdx.ix2 ⟨r, h.1⟩ ⟨c, h.2⟩) else 0, fun j => ?_⟩
  have hj : (j 0).val < m ∧ (j 1).val < n := ⟨(j 0).isLt, (j 1).isLt⟩
  show w j = dite ((j 0).val < m ∧ (j 1).val < n) (fun h => w (ValueIdx.ix2 (⟨(j 0).val, h.1⟩ : Fin m) (⟨(j 1).val, h.2⟩ : Fin n))) fun _ => 0
  rw [dif_pos hj]
  exact congrArg w (ValueIdx.eq_ix2 j)

/-- Every array of planes is a table. -/
theorem exists_is3 {p m n : ℕ} (w : (Sh3 p m n).Idx → EReal) : ∃ f, Is3 (α := EReal) w f := by
  refine ⟨fun q r c => if h : q < p ∧ r < m ∧ c < n then w (ValueIdx.ix3 ⟨q, h.1⟩ ⟨r, h.2.1⟩ ⟨c, h.2.2⟩) else 0, fun j => ?_⟩
  have hj : (j 0).val < p ∧ (j 1).val < m ∧ (j 2).val < n := ⟨(j 0).isLt, (j 1).isLt, (j 2).isLt⟩
  show w j = dite ((j 0).val < p ∧ (j 1).val < m ∧ (j 2).val < n)
    (fun h => w (ValueIdx.ix3 (⟨(j 0).val, h.1⟩ : Fin p) (⟨(j 1).val, h.2.1⟩ : Fin m) (⟨(j 2).val, h.2.2⟩ : Fin n))) fun _ => 0
  rw [dif_pos hj]
  exact congrArg w (ValueIdx.eq_ix3 j)

/-- The offset of a window that starts at the corner. -/
theorem corner2 : (![0, 0] : Fin 2 → ℕ) = fun _ => 0 := by decide

/-- The offset of a window of planes that starts at the corner. -/
theorem corner3 : (![0, 0, 0] : Fin 3 → ℕ) = fun _ => 0 := by decide

/-- A load of a part of one plane. -/
theorem Is3.load {p m n p' m' n' o : ℕ} {w : Vec Ideal (Sh3 p m n) .bf16} {f : ℕ → ℕ → ℕ → EReal} (hw : Is3 (α := EReal) w f)
    (inb : ∀ a, (![p', 0, o] : Fin 3 → ℕ) a + (![1, m', n'] : Fin 3 → ℕ) a ≤ (Sh3 p m n).size a) (j : (Sh3 1 m' n').Idx) :
    (View.ld (Val := Elt Ideal) (e' := .bf16) w (Rect.unit (s := Sh3 p m n) ![p', 0, o] ![1, m', n'] inb) j : EReal) = f p' (j 1).val (o + (j 2).val) := by
  have h0 : (j 0).val < 1 := (j 0).isLt
  refine hw.at _ ?_ ?_ ?_
  · show p' + 1 * (j 0).val = _; omega
  · show 0 + 1 * (j 1).val = _; omega
  · show o + 1 * (j 2).val = _; omega

/-- A sum over blocks of equal length. -/
theorem sum_blocks {M : Type} [AddCommMonoid M] (F : ℕ → M) (n : ℕ) : ∀ s, ∑ k ∈ Finset.range (n * s), F k = ∑ i ∈ Finset.range s, ∑ k ∈ Finset.range n, F (n * i + k)
  | 0 => by simp
  | s + 1 => by rw [Nat.mul_succ, Finset.sum_range_add, sum_blocks F n s, Finset.sum_range_succ]

end Cert.Proof.Table

end
-- ==== Proof.GradW.lean ====
/- The gradient of the feed-forward layer's first weights: the kernel's blocks of products are the reference's one product. -/
module

public import proofs.«01_k».proof.Proof.Tab
public import proofs.«01_k».proof.Proof.Gen.FfnDwIdeal.Value
public import proofs.«01_k».proof.Proof.Gen.FfnDwRefIdeal.Read

@[expose] public section

set_option maxRecDepth 16384

noncomputable section

namespace Cert.Proof.DW

open Cert.FfnDwIdeal Cert.FfnDwIdeal.Gen
open Idealize.ShloMosaic Idealize.ShloMosaic.TcCoe
open scoped BigOperators
open Finset (range)
open Cert.Proof.Table

variable {m : (ℓ : Loc nD τ sig) → Buf (Elt Ideal) ℓ} {c : Dev nD}
variable {f : ℕ → ℕ → EReal} {g : ℕ → ℕ → ℕ → EReal}

/-- The blocks of a point: the columns of the activations, the columns of a plane of the gradient, the rows of a shard. -/
theorem idx : ∀ t : Fin cfg0.N, win0_0.index t = ![0, t.val % 4] ∧ win0_1.index t = ![t.val / 16, 0, t.val / 4 % 4] ∧ win0_2.index t = ![t.val / 4, t.val % 4, 0] :=
  (by decide +kernel : ∀ t : Fin grid0.N, _)

/-- There are thirty-two points. -/
theorem point_lt (t : Fin cfg0.N) : t.val < 32 := by have h : cfg0.N = 32 := N_0; have := t.isLt; omega

/-- The block of activations of a point. -/
theorem blk_0 (t : Fin cfg0.N) (hX : Is (α := EReal) (m := 4224) (n := 2048) (V m c main_arg0) f) :
    Is (α := EReal) (iblk m c 0 t : Vec Ideal S4224x512 .bf16) (fun r d => f r (512 * (t.val % 4) + d)) := fun j => by
  have ht := point_lt t
  have h1 : (j 1).val < 512 := (j 1).isLt
  have hi := (idx t).1
  have e : (iblk m c 0 t : Vec Ideal S4224x512 .bf16) j = V m c main_arg0 (ValueIdx.ix2 (⟨(j 0).val, (j 0).isLt⟩ : Fin 4224) (⟨512 * (t.val % 4) + (j 1).val, by omega⟩ : Fin 2048)) := by
    unfold iblk
    rw [View.read_apply]
    refine congrArg (V m c main_arg0) (funext fun a => Fin.ext ?_)
    match a with
    | ⟨0, _⟩ => show win0_0.index t 0 * 4224 + 1 * (j 0).val = (j 0).val; rw [hi]; show 0 * 4224 + 1 * (j 0).val = _; omega
    | ⟨1, _⟩ => show win0_0.index t 1 * 512 + 1 * (j 1).val = 512 * (t.val % 4) + (j 1).val; rw [hi]; show t.val % 4 * 512 + 1 * (j 1).val = _; omega
  exact e.trans (hX _)

/-- The block of the gradient of a point. -/
theorem blk_1 (t : Fin cfg0.N) (hX : Is3 (α := EReal) (p := 2) (m := 4224) (n := 5632) (V m c main_arg1) g) (j : S1x4224x1408.Idx) :
    (iblk m c 1 t : Vec Ideal S1x4224x1408 .bf16) j = g (t.val / 16) (j 1).val (1408 * (t.val / 4 % 4) + (j 2).val) := by
  have ht := point_lt t
  have h0 : (j 0).val < 1 := (j 0).isLt
  have h2 : (j 2).val < 1408 := (j 2).isLt
  have hi := (idx t).2.1
  have e : (iblk m c 1 t : Vec Ideal S1x4224x1408 .bf16) j
      = V m c main_arg1 (ValueIdx.ix3 (⟨t.val / 16, by omega⟩ : Fin 2) (⟨(j 1).val, (j 1).isLt⟩ : Fin 4224) (⟨1408 * (t.val / 4 % 4) + (j 2).val, by omega⟩ : Fin 5632)) := by
    unfold iblk
    rw [View.read_apply]
    refine congrArg (V m c main_arg1) (funext fun a => Fin.ext ?_)
    match a with
    | ⟨0, _⟩ => show win0_1.index t 0 * 1 + 1 * (j 0).val = t.val / 16; rw [hi]; show t.val / 16 * 1 + 1 * (j 0).val = _; omega
    | ⟨1, _⟩ => show win0_1.index t 1 * 4224 + 1 * (j 1).val = (j 1).val; rw [hi]; show 0 * 4224 + 1 * (j 1).val = _; omega
    | ⟨2, _⟩ => show win0_1.index t 2 * 1408 + 1 * (j 2).val = 1408 * (t.val / 4 % 4) + (j 2).val; rw [hi]; show t.val / 4 % 4 * 1408 + 1 * (j 2).val = _; omega
  exact e.trans (hX _)

/-- The body's result: the product of its two blocks. -/
theorem out (x0 : Vec Ideal S4224x512 .bf16) (x1 : Vec Ideal S1x4224x1408 .bf16) {a b : ℕ → ℕ → EReal} (h0 : Is (α := EReal) x0 a)
    (h1 : ∀ j, (x1 j : EReal) = b (j 1).val (j 2).val) (j : S1x512x1408.Idx) :
    (out0_2 x0 x1 j : EReal) = ∑ k ∈ range 4224, a k (j 1).val * b k (j 2).val := by
  unfold out0_2
  rw [View.canon_unit_zero corner3, View.ld_unit_zero corner2, View.ld_unit_zero corner3]
  unfold k0_pay1
  exact Is.addUnit (Is.narrow _ (Is.mm_tn _ rfl h0 (Is.dropUnit h1 _) _ rfl)) _ j

/-- The reference's gradient, element by element. -/
theorem reference {x0 : (Sh 4224 2048).Idx → EReal} {x1 : (Sh3 2 4224 5632).Idx → EReal} (h0 : Is x0 f) (h1 : Is3 x1 g) (i : S8x2048x1408.Idx) :
    (Cert.FfnDwRefIdeal.Read.val_main_v10 (F := Ideal) x0 x1 i : EReal)
      = ∑ k ∈ range 4224, g ((1408 * (i 0).val + (i 2).val) / 5632) k ((1408 * (i 0).val + (i 2).val) % 5632) * f k (i 1).val := by
  have i0 : (i 0).val < 8 := (i 0).isLt
  have i1 : (i 1).val < 2048 := (i 1).isLt
  have i2 : (i 2).val < 1408 := (i 2).isLt
  rw [Cert.FfnDwRefIdeal.Read.val_main_v10_apply]
  show (Cert.FfnDwRefIdeal.Read.val_main_v9 (F := Ideal) x0 x1 i : EReal) = _
  rw [Cert.FfnDwRefIdeal.Read.val_main_v9_apply, Cert.FfnDwRefIdeal.Read.val_main_v8_apply, Cert.FfnDwRefIdeal.Read.val_main_v7_apply, Cert.FfnDwRefIdeal.Read.val_main_v6_apply,
    Finset.sum_range]
  refine Finset.sum_congr rfl fun k _ => congrArg₂ (· * ·) ?_ ?_
  · rw [Cert.FfnDwRefIdeal.Read.val_main_v2_apply]
    show (Cert.FfnDwRefIdeal.Read.val_main_v1 (F := Ideal) x1 _ : EReal) = _
    rw [Cert.FfnDwRefIdeal.Read.val_main_v1_apply, Cert.FfnDwRefIdeal.Read.val_main_v0_apply]
    have hk := k.isLt
    refine h1.at _ ?_ ?_ ?_
    · show (k.val * 11264 + (((i 1).val * 8 + (i 0).val) * 1408 + (i 2).val) % 11264) / 5632 % 2 = _; omega
    · show (k.val * 11264 + (((i 1).val * 8 + (i 0).val) * 1408 + (i 2).val) % 11264) / 11264 = _; omega
    · show (k.val * 11264 + (((i 1).val * 8 + (i 0).val) * 1408 + (i 2).val) % 11264) % 5632 = _; omega
  · rw [Cert.FfnDwRefIdeal.Read.val_main_v4_apply]
    refine h0.at _ rfl ?_
    show (((i 1).val * 8 + (i 0).val) * 1408 + (i 2).val) / 11264 = _; omega

/-- The gradient of a point, at one element. -/
theorem at_2 (t : Fin cfg0.N) (y : S1x512x1408.Idx) (i : S8x2048x1408.Idx) (k0 : (i 0).val = t.val / 4) (k1 : (i 1).val = 512 * (t.val % 4) + (y 1).val)
    (k2 : (i 2).val = (y 2).val) :
    out0_2 (F := Ideal) (iblk m c 0 t) (iblk m c 1 t) y = Cert.FfnDwRefIdeal.Read.val_main_v10 (F := Ideal) (V m c main_arg0) (V m c main_arg1) i := by
  have ht := point_lt t
  have y2 : (y 2).val < 1408 := (y 2).isLt
  obtain ⟨f, h0⟩ := exists_is (m := 4224) (n := 2048) (V m c main_arg0)
  obtain ⟨g, h1⟩ := exists_is3 (p := 2) (m := 4224) (n := 5632) (V m c main_arg1)
  refine (out _ _ (blk_0 t h0) (b := fun r d => g (t.val / 16) r (1408 * (t.val / 4 % 4) + d)) (blk_1 t h1) y).trans ?_
  refine Eq.trans ?_ (reference h0 h1 i).symm
  rw [k0, k1, k2]
  refine Finset.sum_congr rfl fun k _ => ?_
  rw [show (1408 * (t.val / 4) + (y 2).val) / 5632 = t.val / 16 by omega, show (1408 * (t.val / 4) + (y 2).val) % 5632 = 1408 * (t.val / 4 % 4) + (y 2).val by omega]
  exact mul_comm _ _

/-- The kernel's array is the reference's gradient. -/
theorem final : (dats m 0 c).arrAt 2 cfg0.N = Cert.FfnDwRefIdeal.Read.val_main_v10 (F := Ideal) (V m c main_arg0) (V m c main_arg1) := by
  refine (dats m 0 c).arrAt_eq_of_covers 2 _ (by decide +kernel) fun t hf y => ?_
  have hi := (idx t).2.2
  blk_simp
  rw [after0_2]
  exact at_2 t y (((cfg0.win 2).blk t).view.emb y) (by
    have y0 : (y 0).val < 1 := (y 0).isLt
    show win0_2.index t 0 * 1 + 1 * (y 0).val = t.val / 4
    rw [hi]; show t.val / 4 * 1 + 1 * (y 0).val = _; omega) (by
    show win0_2.index t 1 * 512 + 1 * (y 1).val = 512 * (t.val % 4) + (y 1).val
    rw [hi]; show t.val % 4 * 512 + 1 * (y 1).val = _; omega) (by
    show win0_2.index t 2 * 1408 + 1 * (y 2).val = (y 2).val
    rw [hi]; show 0 * 1408 + 1 * (y 2).val = _; omega)

end Cert.Proof.DW

end
-- ==== Proof.GradH.lean ====
/- The gradient of the feed-forward layer's input: the kernel's eight products, one for each shard of the weights, add up to the
   reference's one product. -/
module

public import proofs.«01_k».proof.Proof.Tab
public import proofs.«01_k».proof.Proof.Gen.FfnDhIdeal.Value
public import proofs.«01_k».proof.Proof.Gen.FfnDhRefIdeal.Read

@[expose] public section

set_option maxRecDepth 16384

noncomputable section

namespace Cert.Proof.DH

open Cert.FfnDhIdeal Cert.FfnDhIdeal.Gen
open Idealize.ShloMosaic Idealize.ShloMosaic.TcCoe
open scoped BigOperators
open Finset (range)
open Cert.Proof.Table

variable {m : (ℓ : Loc nD τ sig) → Buf (Elt Ideal) ℓ} {c : Dev nD}
variable {f g : ℕ → ℕ → ℕ → EReal}

/-- The blocks of a point: rows of the gradient, rows of the shards of weights, rows and columns of the result. -/
theorem idx : ∀ t : Fin cfg0.N, win0_0.index t = ![0, t.val % 11, 0] ∧ win0_1.index t = ![0, t.val / 11, 0] ∧ win0_2.index t = ![t.val % 11, t.val / 11] :=
  (by decide +kernel : ∀ t : Fin grid0.N, _)

/-- There are forty-four points. -/
theorem point_lt (t : Fin cfg0.N) : t.val < 44 := by have h : cfg0.N = 44 := N_0; have := t.isLt; omega

/-- The block of the gradient of a point. -/
theorem blk_0 (t : Fin cfg0.N) (hX : Is3 (α := EReal) (p := 2) (m := 4224) (n := 5632) (V m c main_arg0) f) :
    Is3 (α := EReal) (iblk m c 0 t : Vec Ideal S2x384x5632 .bf16) (fun q r d => f q (384 * (t.val % 11) + r) d) := fun j => by
  have ht := point_lt t
  have h1 : (j 1).val < 384 := (j 1).isLt
  have hi := (idx t).1
  have e : (iblk m c 0 t : Vec Ideal S2x384x5632 .bf16) j
      = V m c main_arg0 (ValueIdx.ix3 (⟨(j 0).val, (j 0).isLt⟩ : Fin 2) (⟨384 * (t.val % 11) + (j 1).val, by omega⟩ : Fin 4224) (⟨(j 2).val, (j 2).isLt⟩ : Fin 5632)) := by
    unfold iblk
    rw [View.read_apply]
    refine congrArg (V m c main_arg0) (funext fun a => Fin.ext ?_)
    match a with
    | ⟨0, _⟩ => show win0_0.index t 0 * 2 + 1 * (j 0).val = (j 0).val; rw [hi]; show 0 * 2 + 1 * (j 0).val = _; omega
    | ⟨1, _⟩ => show win0_0.index t 1 * 384 + 1 * (j 1).val = 384 * (t.val % 11) + (j 1).val; rw [hi]; show t.val % 11 * 384 + 1 * (j 1).val = _; omega
    | ⟨2, _⟩ => show win0_0.index t 2 * 5632 + 1 * (j 2).val = (j 2).val; rw [hi]; show 0 * 5632 + 1 * (j 2).val = _; omega
  exact e.trans (hX _)

/-- The block of weights of a point. -/
theorem blk_1 (t : Fin cfg0.N) (hX : Is3 (α := EReal) (p := 8) (m := 2048) (n := 1408) (V m c main_arg1) g) :
    Is3 (α := EReal) (iblk m c 1 t : Vec Ideal S8x512x1408 .bf16) (fun q r d => g q (512 * (t.val / 11) + r) d) := fun j => by
  have ht := point_lt t
  have h1 : (j 1).val < 512 := (j 1).isLt
  have hi := (idx t).2.1
  have e : (iblk m c 1 t : Vec Ideal S8x512x1408 .bf16) j
      = V m c main_arg1 (ValueIdx.ix3 (⟨(j 0).val, (j 0).isLt⟩ : Fin 8) (⟨512 * (t.val / 11) + (j 1).val, by omega⟩ : Fin 2048) (⟨(j 2).val, (j 2).isLt⟩ : Fin 1408)) := by
    unfold iblk
    rw [View.read_apply]
    refine congrArg (V m c main_arg1) (funext fun a => Fin.ext ?_)
    match a with
    | ⟨0, _⟩ => show win0_1.index t 0 * 8 + 1 * (j 0).val = (j 0).val; rw [hi]; show 0 * 8 + 1 * (j 0).val = _; omega
    | ⟨1, _⟩ => show win0_1.index t 1 * 512 + 1 * (j 1).val = 512 * (t.val / 11) + (j 1).val; rw [hi]; show t.val / 11 * 512 + 1 * (j 1).val = _; omega
    | ⟨2, _⟩ => show win0_1.index t 2 * 1408 + 1 * (j 2).val = (j 2).val; rw [hi]; show 0 * 1408 + 1 * (j 2).val = _; omega
  exact e.trans (hX _)

/-- One shard's product. -/
def part (a b : ℕ → ℕ → ℕ → EReal) (s r d : ℕ) : EReal := ∑ k ∈ range 1408, a (s / 4) r (1408 * (s % 4) + k) * b s d k

/-- One product of two planes, as the body computes it. -/
theorem shard {v : FVec Ideal S1x384x1408 .bf16} {w : FVec Ideal S1x512x1408 .bf16} {a b : ℕ → ℕ → EReal} (hv : ∀ j, (v j : EReal) = a (j 1).val (j 2).val)
    (hw : ∀ j, (w j : EReal) = b (j 1).val (j 2).val) :
    Is (α := EReal) (matmul (F := Ideal) dot_S384x1408_S512x1408_S384x512_1_1_0_0_n_n none (shapeCast S384x1408 v shapeCasts_S1x384x1408_S384x1408)
      (shapeCast S512x1408 w shapeCasts_S1x512x1408_S512x1408) (constant S384x512 .f32 0x00000000#32)) (fun r c => ∑ k ∈ range 1408, a r k * b c k) :=
  Is.mm_nt _ rfl (Is.dropUnit hv _) (Is.dropUnit hw _) _ rfl

section Halves

variable {v0 v1 v2 v3 : FVec Ideal S1x384x1408 .bf16} {w0 w1 w2 w3 : FVec Ideal S1x512x1408 .bf16} {a0 a1 a2 a3 b0 b1 b2 b3 : ℕ → ℕ → EReal}
variable (p0 : ∀ j, (v0 j : EReal) = a0 (j 1).val (j 2).val) (p1 : ∀ j, (v1 j : EReal) = a1 (j 1).val (j 2).val)
variable (p2 : ∀ j, (v2 j : EReal) = a2 (j 1).val (j 2).val) (p3 : ∀ j, (v3 j : EReal) = a3 (j 1).val (j 2).val)
variable (q0 : ∀ j, (w0 j : EReal) = b0 (j 1).val (j 2).val) (q1 : ∀ j, (w1 j : EReal) = b1 (j 1).val (j 2).val)
variable (q2 : ∀ j, (w2 j : EReal) = b2 (j 1).val (j 2).val) (q3 : ∀ j, (w3 j : EReal) = b3 (j 1).val (j 2).val)
include p0 p1 p2 p3 q0 q1 q2 q3

/-- The first four products, added up. -/
theorem first : Is (α := EReal) (k0_pay2 (F := Ideal) v0 w0 v1 w1 v2 w2 v3 w3)
    (fun r c => ∑ k ∈ range 1408, a0 r k * b0 c k + ∑ k ∈ range 1408, a1 r k * b1 c k + ∑ k ∈ range 1408, a2 r k * b2 c k + ∑ k ∈ range 1408, a3 r k * b3 c k) :=
  (((shard p0 q0).add (shard p1 q1)).add (shard p2 q2)).add (shard p3 q3)

/-- The last four products, added to what there is. -/
theorem second {z : FVec Ideal S384x512 .f32} {s : ℕ → ℕ → EReal} (hz : Is (α := EReal) z s) :
    Is (α := EReal) (k0_pay1 (F := Ideal) z (k0_pay3 (F := Ideal) v0) w0 v1 w1 v2 w2 v3 w3)
      (fun r c => s r c + ∑ k ∈ range 1408, a0 r k * b0 c k + ∑ k ∈ range 1408, a1 r k * b1 c k + ∑ k ∈ range 1408, a2 r k * b2 c k + ∑ k ∈ range 1408, a3 r k * b3 c k) :=
  Is.narrow (by decide) ((((hz.add (shard p0 q0)).add (shard p1 q1)).add (shard p2 q2)).add (shard p3 q3))

end Halves

/-- The body's result: the eight shards' products, added up. -/
theorem out (x0 : Vec Ideal S2x384x5632 .bf16) (x1 : Vec Ideal S8x512x1408 .bf16) {a b : ℕ → ℕ → ℕ → EReal} (h0 : Is3 (α := EReal) x0 a)
    (h1 : Is3 (α := EReal) x1 b) (j : S384x512.Idx) :
    (out0_2 x0 x1 j : EReal) = part a b 0 (j 0).val (j 1).val + part a b 1 (j 0).val (j 1).val + part a b 2 (j 0).val (j 1).val + part a b 3 (j 0).val (j 1).val
      + part a b 4 (j 0).val (j 1).val + part a b 5 (j 0).val (j 1).val + part a b 6 (j 0).val (j 1).val + part a b 7 (j 0).val (j 1).val := by
  unfold out0_2
  rw [View.canon_unit_zero corner2]
  have e0 : ∀ j : S1x384x1408.Idx, ((View.ld x0 r0_0 : FVec Ideal S1x384x1408 .bf16) j : EReal) = (fun r k => a 0 r (0 + k)) (j 1).val (j 2).val := h0.load (m' := 384) (n' := 1408) (p' := 0) (o := 0) _
  have w0 : ∀ j : S1x512x1408.Idx, ((View.ld x1 r0_1 : FVec Ideal S1x512x1408 .bf16) j : EReal) = (fun r k => b 0 r (0 + k)) (j 1).val (j 2).val := h1.load (m' := 512) (n' := 1408) (p' := 0) (o := 0) _
  have e1 : ∀ j : S1x384x1408.Idx, ((View.ld x0 r0_2 : FVec Ideal S1x384x1408 .bf16) j : EReal) = (fun r k => a 0 r (1408 + k)) (j 1).val (j 2).val := h0.load (m' := 384) (n' := 1408) (p' := 0) (o := 1408) _
  have w1 : ∀ j : S1x512x1408.Idx, ((View.ld x1 r0_3 : FVec Ideal S1x512x1408 .bf16) j : EReal) = (fun r k => b 1 r (0 + k)) (j 1).val (j 2).val := h1.load (m' := 512) (n' := 1408) (p' := 1) (o := 0) _
  have e2 : ∀ j : S1x384x1408.Idx, ((View.ld x0 r0_4 : FVec Ideal S1x384x1408 .bf16) j : EReal) = (fun r k => a 0 r (2816 + k)) (j 1).val (j 2).val := h0.load (m' := 384) (n' := 1408) (p' := 0) (o := 2816) _
  have w2 : ∀ j : S1x512x1408.Idx, ((View.ld x1 r0_5 : FVec Ideal S1x512x1408 .bf16) j : EReal) = (fun r k => b 2 r (0 + k)) (j 1).val (j 2).val := h1.load (m' := 512) (n' := 1408) (p' := 2) (o := 0) _
  have e3 : ∀ j : S1x384x1408.Idx, ((View.ld x0 r0_6 : FVec Ideal S1x384x1408 .bf16) j : EReal) = (fun r k => a 0 r (4224 + k)) (j 1).val (j 2).val := h0.load (m' := 384) (n' := 1408) (p' := 0) (o := 4224) _
  have w3 : ∀ j : S1x512x1408.Idx, ((View.ld x1 r0_7 : FVec Ideal S1x512x1408 .bf16) j : EReal) = (fun r k => b 3 r (0 + k)) (j 1).val (j 2).val := h1.load (m' := 512) (n' := 1408) (p' := 3) (o := 0) _
  have e4 : ∀ j : S1x384x1408.Idx, ((View.ld x0 r0_8 : FVec Ideal S1x384x1408 .bf16) j : EReal) = (fun r k => a 1 r (0 + k)) (j 1).val (j 2).val := h0.load (m' := 384) (n' := 1408) (p' := 1) (o := 0) _
  have w4 : ∀ j : S1x512x1408.Idx, ((View.ld x1 r0_9 : FVec Ideal S1x512x1408 .bf16) j : EReal) = (fun r k => b 4 r (0 + k)) (j 1).val (j 2).val := h1.load (m' := 512) (n' := 1408) (p' := 4) (o := 0) _
  have e5 : ∀ j : S1x384x1408.Idx, ((View.ld x0 r0_10 : FVec Ideal S1x384x1408 .bf16) j : EReal) = (fun r k => a 1 r (1408 + k)) (j 1).val (j 2).val := h0.load (m' := 384) (n' := 1408) (p' := 1) (o := 1408) _
  have w5 : ∀ j : S1x512x1408.Idx, ((View.ld x1 r0_11 : FVec Ideal S1x512x1408 .bf16) j : EReal) = (fun r k => b 5 r (0 + k)) (j 1).val (j 2).val := h1.load (m' := 512) (n' := 1408) (p' := 5) (o := 0) _
  have e6 : ∀ j : S1x384x1408.Idx, ((View.ld x0 r0_12 : FVec Ideal S1x384x1408 .bf16) j : EReal) = (fun r k => a 1 r (2816 + k)) (j 1).val (j 2).val := h0.load (m' := 384) (n' := 1408) (p' := 1) (o := 2816) _
  have w6 : ∀ j : S1x512x1408.Idx, ((View.ld x1 r0_13 : FVec Ideal S1x512x1408 .bf16) j : EReal) = (fun r k => b 6 r (0 + k)) (j 1).val (j 2).val := h1.load (m' := 512) (n' := 1408) (p' := 6) (o := 0) _
  have e7 : ∀ j : S1x384x1408.Idx, ((View.ld x0 r0_14 : FVec Ideal S1x384x1408 .bf16) j : EReal) = (fun r k => a 1 r (4224 + k)) (j 1).val (j 2).val := h0.load (m' := 384) (n' := 1408) (p' := 1) (o := 4224) _
  have w7 : ∀ j : S1x512x1408.Idx, ((View.ld x1 r0_15 : FVec Ideal S1x512x1408 .bf16) j : EReal) = (fun r k => b 7 r (0 + k)) (j 1).val (j 2).val := h1.load (m' := 512) (n' := 1408) (p' := 7) (o := 0) _
  refine (second (v0 := View.ld x0 r0_8) (w0 := View.ld x1 r0_9) (a0 := fun r k => a 1 r (0 + k)) (b0 := fun r k => b 4 r (0 + k)) (v1 := View.ld x0 r0_10) (w1 := View.ld x1 r0_11) (a1 := fun r k => a 1 r (1408 + k)) (b1 := fun r k => b 5 r (0 + k)) (v2 := View.ld x0 r0_12) (w2 := View.ld x1 r0_13) (a2 := fun r k => a 1 r (2816 + k)) (b2 := fun r k => b 6 r (0 + k)) (v3 := View.ld x0 r0_14) (w3 := View.ld x1 r0_15) (a3 := fun r k => a 1 r (4224 + k)) (b3 := fun r k => b 7 r (0 + k))
    e4 e5 e6 e7 w4 w5 w6 w7 (first (v0 := View.ld x0 r0_0) (w0 := View.ld x1 r0_1) (a0 := fun r k => a 0 r (0 + k)) (b0 := fun r k => b 0 r (0 + k)) (v1 := View.ld x0 r0_2) (w1 := View.ld x1 r0_3) (a1 := fun r k => a 0 r (1408 + k)) (b1 := fun r k => b 1 r (0 + k)) (v2 := View.ld x0 r0_4) (w2 := View.ld x1 r0_5) (a2 := fun r k => a 0 r (2816 + k)) (b2 := fun r k => b 2 r (0 + k)) (v3 := View.ld x0 r0_6) (w3 := View.ld x1 r0_7) (a3 := fun r k => a 0 r (4224 + k)) (b3 := fun r k => b 3 r (0 + k))
    e0 e1 e2 e3 w0 w1 w2 w3) j).trans ?_
  unfold part
  simp only [zero_add]
  rfl

/-- The product over the whole width is the sum of the shards' products. -/
theorem parts (a b : ℕ → ℕ → ℕ → EReal) (r d : ℕ) :
    ∑ k ∈ range 11264, a (k / 5632) r (k % 5632) * b (k / 1408) d (k % 1408)
      = part a b 0 r d + part a b 1 r d + part a b 2 r d + part a b 3 r d + part a b 4 r d + part a b 5 r d + part a b 6 r d + part a b 7 r d := by
  have h : ∀ s, s < 8 → ∑ k ∈ range 1408, a ((1408 * s + k) / 5632) r ((1408 * s + k) % 5632) * b ((1408 * s + k) / 1408) d ((1408 * s + k) % 1408) = part a b s r d := by
    intro s hs
    refine Finset.sum_congr rfl fun k hk => ?_
    have hk' := Finset.mem_range.mp hk
    rw [show (1408 * s + k) / 5632 = s / 4 by omega, show (1408 * s + k) % 5632 = 1408 * (s % 4) + k by omega, show (1408 * s + k) / 1408 = s by omega,
      show (1408 * s + k) % 1408 = k by omega]
  refine (sum_blocks (fun k => a (k / 5632) r (k % 5632) * b (k / 1408) d (k % 1408)) 1408 8).trans ?_
  refine (Finset.sum_congr rfl fun s hs => h s (Finset.mem_range.mp hs)).trans ?_
  simp only [Finset.sum_range_succ, Finset.sum_range_zero, zero_add]

/-- The reference's gradient, element by element. -/
theorem reference {x0 : (Sh3 2 4224 5632).Idx → EReal} {x1 : (Sh3 8 2048 1408).Idx → EReal} (h0 : Is3 x0 f) (h1 : Is3 x1 g) (i : S4224x2048.Idx) :
    (Cert.FfnDhRefIdeal.Read.val_main_v9 (F := Ideal) x0 x1 i : EReal)
      = ∑ k ∈ range 11264, f (k / 5632) (i 0).val (k % 5632) * g (k / 1408) (i 1).val (k % 1408) := by
  rw [Cert.FfnDhRefIdeal.Read.val_main_v9_apply]
  show (Cert.FfnDhRefIdeal.Read.val_main_v8 (F := Ideal) x0 x1 i : EReal) = _
  rw [Cert.FfnDhRefIdeal.Read.val_main_v8_apply, Finset.sum_range]
  refine Finset.sum_congr rfl fun k _ => congrArg₂ (· * ·) ?_ ?_
  · rw [Cert.FfnDhRefIdeal.Read.val_main_v2_apply]
    show (Cert.FfnDhRefIdeal.Read.val_main_v1 (F := Ideal) x0 _ : EReal) = _
    rw [Cert.FfnDhRefIdeal.Read.val_main_v1_apply, Cert.FfnDhRefIdeal.Read.val_main_v0_apply]
    have hk := k.isLt
    refine h0.at _ ?_ ?_ ?_
    · show ((i 0).val * 11264 + k.val) / 5632 % 2 = _; omega
    · show ((i 0).val * 11264 + k.val) / 11264 = _; omega
    · show ((i 0).val * 11264 + k.val) % 5632 = _; omega
  · rw [Cert.FfnDhRefIdeal.Read.val_main_v5_apply]
    show (Cert.FfnDhRefIdeal.Read.val_main_v4 (F := Ideal) x1 _ : EReal) = _
    rw [Cert.FfnDhRefIdeal.Read.val_main_v4_apply, Cert.FfnDhRefIdeal.Read.val_main_v3_apply]
    have hk := k.isLt
    refine h1.at _ ?_ ?_ ?_
    · show ((i 1).val * 11264 + k.val) / 1408 % 8 = _; omega
    · show ((i 1).val * 11264 + k.val) / 11264 = _; omega
    · show ((i 1).val * 11264 + k.val) % 1408 = _; omega

/-- The gradient of a point, at one element. -/
theorem at_2 (t : Fin cfg0.N) (y : S384x512.Idx) (i : S4224x2048.Idx) (k0 : (i 0).val = 384 * (t.val % 11) + (y 0).val) (k1 : (i 1).val = 512 * (t.val / 11) + (y 1).val) :
    out0_2 (F := Ideal) (iblk m c 0 t) (iblk m c 1 t) y = Cert.FfnDhRefIdeal.Read.val_main_v9 (F := Ideal) (V m c main_arg0) (V m c main_arg1) i := by
  obtain ⟨f, h0⟩ := exists_is3 (p := 2) (m := 4224) (n := 5632) (V m c main_arg0)
  obtain ⟨g, h1⟩ := exists_is3 (p := 8) (m := 2048) (n := 1408) (V m c main_arg1)
  refine (out _ _ (blk_0 t h0) (blk_1 t h1) y).trans ?_
  refine Eq.trans ?_ (reference h0 h1 i).symm
  rw [parts f g, k0, k1]
  rfl

/-- The kernel's array is the reference's gradient. -/
theorem final : (dats m 0 c).arrAt 2 cfg0.N = Cert.FfnDhRefIdeal.Read.val_main_v9 (F := Ideal) (V m c main_arg0) (V m c main_arg1) := by
  refine (dats m 0 c).arrAt_eq_of_covers 2 _ (by decide +kernel) fun t hf y => ?_
  have hi := (idx t).2.2
  blk_simp
  rw [after0_2]
  exact at_2 t y (((cfg0.win 2).blk t).view.emb y) (by
    show win0_2.index t 0 * 384 + 1 * (y 0).val = 384 * (t.val % 11) + (y 0).val
    rw [hi]; show t.val % 11 * 384 + 1 * (y 0).val = _; omega) (by
    show win0_2.index t 1 * 512 + 1 * (y 1).val = 512 * (t.val / 11) + (y 1).val
    rw [hi]; show t.val / 11 * 512 + 1 * (y 1).val = _; omega)

end Cert.Proof.DH

end
-- ==== Proof.GradD.lean ====
/- The gradient of the feed-forward layer's second weights: the kernel's blocks of products are the reference's one product. -/
module

public import proofs.«01_k».proof.Proof.Tab
public import proofs.«01_k».proof.Proof.Gen.FfnDdIdeal.Value
public import proofs.«01_k».proof.Proof.Gen.FfnDdRefIdeal.Read

@[expose] public section

set_option maxRecDepth 16384

noncomputable section

namespace Cert.Proof.DD

open Cert.FfnDdIdeal Cert.FfnDdIdeal.Gen
open Idealize.ShloMosaic Idealize.ShloMosaic.TcCoe
open scoped BigOperators
open Finset (range)
open Cert.Proof.Table

variable {m : (ℓ : Loc nD τ sig) → Buf (Elt Ideal) ℓ} {c : Dev nD}
variable {f g : ℕ → ℕ → EReal}

/-- The blocks of a point: columns of the activations, columns of the gradient, rows and columns of the result. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- There are sixteen points. -/
theorem point_lt (t : Fin cfg0.N) : t.val < 16 := by have h : cfg0.N = 16 := N_0; have := t.isLt; omega

/-- The block of activations of a point. -/
theorem blk_0 (t : Fin cfg0.N) (hX : Is (α := EReal) (m := 4224) (n := 5632) (V m c main_arg0) f) :
    Is (α := EReal) (iblk m c 0 t : Vec Ideal S4224x1408 .bf16) (fun r d => f r (1408 * (t.val / 4) + d)) := fun j => by
  have ht := point_lt t
  have h1 : (j 1).val < 1408 := (j 1).isLt
  have hi := (idx t).1
  have e : (iblk m c 0 t : Vec Ideal S4224x1408 .bf16) j = V m c main_arg0 (ValueIdx.ix2 (⟨(j 0).val, (j 0).isLt⟩ : Fin 4224) (⟨1408 * (t.val / 4) + (j 1).val, by omega⟩ : Fin 5632)) := by
    unfold iblk
    rw [View.read_apply]
    refine congrArg (V m c main_arg0) (funext fun a => Fin.ext ?_)
    match a with
    | ⟨0, _⟩ => show win0_0.index t 0 * 4224 + 1 * (j 0).val = (j 0).val; rw [hi]; show 0 * 4224 + 1 * (j 0).val = _; omega
    | ⟨1, _⟩ => show win0_0.index t 1 * 1408 + 1 * (j 1).val = 1408 * (t.val / 4) + (j 1).val; rw [hi]; show t.val / 4 * 1408 + 1 * (j 1).val = _; omega
  exact e.trans (hX _)

/-- The block of the gradient of a point. -/
theorem blk_1 (t : Fin cfg0.N) (hX : Is (α := EReal) (m := 4224) (n := 2048) (V m c main_arg1) g) :
    Is (α := EReal) (iblk m c 1 t : Vec Ideal S4224x512 .bf16) (fun r d => g r (512 * (t.val % 4) + d)) := fun j => by
  have ht := point_lt t
  have h1 : (j 1).val < 512 := (j 1).isLt
  have hi := (idx t).2.1
  have e : (iblk m c 1 t : Vec Ideal S4224x512 .bf16) j = V m c main_arg1 (ValueIdx.ix2 (⟨(j 0).val, (j 0).isLt⟩ : Fin 4224) (⟨512 * (t.val % 4) + (j 1).val, by omega⟩ : Fin 2048)) := by
    unfold iblk
    rw [View.read_apply]
    refine congrArg (V m c main_arg1) (funext fun a => Fin.ext ?_)
    match a with
    | ⟨0, _⟩ => show win0_1.index t 0 * 4224 + 1 * (j 0).val = (j 0).val; rw [hi]; show 0 * 4224 + 1 * (j 0).val = _; omega
    | ⟨1, _⟩ => show win0_1.index t 1 * 512 + 1 * (j 1).val = 512 * (t.val % 4) + (j 1).val; rw [hi]; show t.val % 4 * 512 + 1 * (j 1).val = _; omega
  exact e.trans (hX _)

/-- The body's result: the product of its two blocks. -/
theorem out (x0 : Vec Ideal S4224x1408 .bf16) (x1 : Vec Ideal S4224x512 .bf16) {a b : ℕ → ℕ → EReal} (h0 : Is (α := EReal) x0 a)
    (h1 : Is (α := EReal) x1 b) (j : S1408x512.Idx) :
    (out0_2 x0 x1 j : EReal) = ∑ k ∈ range 4224, a k (j 0).val * b k (j 1).val := by
  unfold out0_2
  rw [View.canon_unit_zero corner2, View.ld_unit_zero corner2, View.ld_unit_zero corner2]
  unfold k0_pay1
  exact Is.narrow _ (Is.mm_tn _ rfl h0 h1 _ rfl) j

/-- The reference's gradient, element by element. -/
theorem reference {x0 : (Sh 4224 5632).Idx → EReal} {x1 : (Sh 4224 2048).Idx → EReal} (h0 : Is x0 f) (h1 : Is x1 g) (i : S5632x2048.Idx) :
    (Cert.FfnDdRefIdeal.Read.val_main_v6 (F := Ideal) x0 x1 i : EReal) = ∑ k ∈ range 4224, g k (i 1).val * f k (i 0).val := by
  rw [Cert.FfnDdRefIdeal.Read.val_main_v6_apply]
  show (Cert.FfnDdRefIdeal.Read.val_main_v5 (F := Ideal) x0 x1 i : EReal) = _
  rw [Cert.FfnDdRefIdeal.Read.val_main_v5_apply, Cert.FfnDdRefIdeal.Read.val_main_v4_apply, Finset.sum_range]
  refine Finset.sum_congr rfl fun k _ => congrArg₂ (· * ·) ?_ ?_
  · rw [Cert.FfnDdRefIdeal.Read.val_main_v3_apply]
    exact h1.at _ rfl rfl
  · rw [Cert.FfnDdRefIdeal.Read.val_main_v1_apply]
    exact h0.at _ rfl rfl

/-- The gradient of a point, at one element. -/
theorem at_2 (t : Fin cfg0.N) (y : S1408x512.Idx) (i : S5632x2048.Idx) (k0 : (i 0).val = 1408 * (t.val / 4) + (y 0).val) (k1 : (i 1).val = 512 * (t.val % 4) + (y 1).val) :
    out0_2 (F := Ideal) (iblk m c 0 t) (iblk m c 1 t) y = Cert.FfnDdRefIdeal.Read.val_main_v6 (F := Ideal) (V m c main_arg0) (V m c main_arg1) i := by
  obtain ⟨f, h0⟩ := exists_is (m := 4224) (n := 5632) (V m c main_arg0)
  obtain ⟨g, h1⟩ := exists_is (m := 4224) (n := 2048) (V m c main_arg1)
  refine (out _ _ (blk_0 t h0) (blk_1 t h1) y).trans ?_
  refine Eq.trans ?_ (reference h0 h1 i).symm
  rw [k0, k1]
  exact Finset.sum_congr rfl fun k _ => mul_comm _ _

/-- The kernel's array is the reference's gradient. -/
theorem final : (dats m 0 c).arrAt 2 cfg0.N = Cert.FfnDdRefIdeal.Read.val_main_v6 (F := Ideal) (V m c main_arg0) (V m c main_arg1) := by
  refine (dats m 0 c).arrAt_eq_of_covers 2 _ (by decide +kernel) fun t hf y => ?_
  have hi := (idx t).2.2
  blk_simp
  rw [after0_2]
  exact at_2 t y (((cfg0.win 2).blk t).view.emb y) (by
    show win0_2.index t 0 * 1408 + 1 * (y 0).val = 1408 * (t.val / 4) + (y 0).val
    rw [hi]; show t.val / 4 * 1408 + 1 * (y 0).val = _; omega) (by
    show win0_2.index t 1 * 512 + 1 * (y 1).val = 512 * (t.val % 4) + (y 1).val
    rw [hi]; show t.val % 4 * 512 + 1 * (y 1).val = _; omega)

end Cert.Proof.DD

end
-- ==== Proof.GradA.lean ====
/- The gradients of the feed-forward layer's gate and up projection: the kernel's derivative of the gate, with a hyperbolic tangent,
   is the reference's, with an exponential, wherever the arguments are finite. -/
module

public import proofs.«01_k».proof.Proof.Tab
public import proofs.«01_k».proof.Proof.Real
public import proofs.«01_k».proof.Proof.Gen.FfnDaIdeal.Value
public import proofs.«01_k».proof.Proof.Gen.FfnDaRefIdeal.Read

@[expose] public section

set_option maxRecDepth 16384

noncomputable section

namespace Cert.Proof.DA

open Cert.FfnDaIdeal Cert.FfnDaIdeal.Gen
open Idealize.ShloMosaic Idealize.ShloMosaic.TcCoe
open scoped BigOperators
open Finset (range)
open Cert.Proof.Table

variable {m : (ℓ : Loc nD τ sig) → Buf (Elt Ideal) ℓ} {c : Dev nD}
variable {f g : ℕ → ℕ → ℝ} {h : ℕ → ℕ → ℕ → ℝ}

/-! ## The real functions -/

/-- The logistic function. -/
def logistic (x : ℝ) : ℝ := 1 / (1 + Real.exp (-x))

/-- The logistic function by the hyperbolic tangent of half the argument. -/
theorem logistic_eq (x : ℝ) : 1 / 2 + 1 / 2 * Real.tanh (1 / 2 * x) = logistic x := by
  unfold logistic
  have e : Real.exp (-x) = Real.exp (-(1 / 2 * x)) * Real.exp (-(1 / 2 * x)) := by rw [← Real.exp_add]; congr 1; ring
  have i : Real.exp (1 / 2 * x) * Real.exp (-(1 / 2 * x)) = 1 := by rw [← Real.exp_add, add_neg_cancel, Real.exp_zero]
  have p := Real.exp_pos (1 / 2 * x)
  have q := Real.exp_pos (-(1 / 2 * x))
  rw [Real.tanh_eq, e]
  generalize Real.exp (1 / 2 * x) = A at *
  generalize Real.exp (-(1 / 2 * x)) = B at *
  have hA : A + B ≠ 0 := by positivity
  have hB : 1 + B * B ≠ 0 := by positivity
  field_simp
  linear_combination (2 : ℝ) * B * i

/-- The gradient of the activations: the products of the rows of two tables. -/
def act (f g : ℕ → ℕ → ℝ) (r k : ℕ) : ℝ := ∑ d ∈ range 2048, f r d * g k d

/-- The gradient of the gate, from the gradient `a` of the activation, the gate `x` and the up projection `u`. -/
def gate (a x u : ℝ) : ℝ := a * u * (logistic x * (1 + x * (1 - logistic x)))

/-- The gradient of the up projection. -/
def up (a x : ℝ) : ℝ := a * x * logistic x

/-- The word of one half. -/
theorem bits_half : (Ideal.ofBits .f32 0x3F000000#32 : EReal) = ((1 / 2 : ℝ) : EReal) := by
  simp [Ideal.ofBits, Ideal.ieee]
  rw [← EReal.coe_mul]
  norm_num

/-- The word of one. -/
theorem bits_one : (Ideal.ofBits .f32 0x3F800000#32 : EReal) = ((1 : ℝ) : EReal) := by
  simp [Ideal.ofBits, Ideal.ieee]
  rw [← EReal.coe_mul]
  norm_num

/-! ## The kernel's blocks -/

/-- The blocks of a point: rows of the gradient, rows of the weights, rows and columns of the two planes. -/
theorem idx : ∀ t : Fin cfg0.N, win0_0.index t = ![t.val % 6, 0] ∧ win0_1.index t = ![t.val / 6, 0] ∧ win0_2.index t = ![0, t.val % 6, t.val / 6]
    ∧ win0_3.index t = ![0, t.val % 6, t.val / 6] :=
  (by decide +kernel : ∀ t : Fin grid0.N, _)

/-- There are twenty-four points. -/
theorem point_lt (t : Fin cfg0.N) : t.val < 24 := by have h : cfg0.N = 24 := N_0; have := t.isLt; omega

/-- The block of the gradient of a point. -/
theorem blk_0 (t : Fin cfg0.N) (hX : Re2 (a := 4224) (b := 2048) (V m c main_arg0) f) :
    Re2 (iblk m c 0 t : Vec Ideal S704x2048 .bf16) (fun r d => f (704 * (t.val % 6) + r) d) := fun j => by
  have ht := point_lt t
  have h0 : (j 0).val < 704 := (j 0).isLt
  have hi := (idx t).1
  have e : (iblk m c 0 t : Vec Ideal S704x2048 .bf16) j = V m c main_arg0 (ValueIdx.ix2 (⟨704 * (t.val % 6) + (j 0).val, by omega⟩ : Fin 4224) (⟨(j 1).val, (j 1).isLt⟩ : Fin 2048)) := by
    unfold iblk
    rw [View.read_apply]
    refine congrArg (V m c main_arg0) (funext fun a => Fin.ext ?_)
    match a with
    | ⟨0, _⟩ => show win0_0.index t 0 * 704 + 1 * (j 0).val = 704 * (t.val % 6) + (j 0).val; rw [hi]; show t.val % 6 * 704 + 1 * (j 0).val = _; omega
    | ⟨1, _⟩ => show win0_0.index t 1 * 2048 + 1 * (j 1).val = (j 1).val; rw [hi]; show 0 * 2048 + 1 * (j 1).val = _; omega
  exact e.trans (hX _)

/-- The block of the weights of a point. -/
theorem blk_1 (t : Fin cfg0.N) (hX : Re2 (a := 5632) (b := 2048) (V m c main_arg1) g) :
    Re2 (iblk m c 1 t : Vec Ideal S1408x2048 .bf16) (fun r d => g (1408 * (t.val / 6) + r) d) := fun j => by
  have ht := point_lt t
  have h0 : (j 0).val < 1408 := (j 0).isLt
  have hi := (idx t).2.1
  have e : (iblk m c 1 t : Vec Ideal S1408x2048 .bf16) j = V m c main_arg1 (ValueIdx.ix2 (⟨1408 * (t.val / 6) + (j 0).val, by omega⟩ : Fin 5632) (⟨(j 1).val, (j 1).isLt⟩ : Fin 2048)) := by
    unfold iblk
    rw [View.read_apply]
    refine congrArg (V m c main_arg1) (funext fun a => Fin.ext ?_)
    match a with
    | ⟨0, _⟩ => show win0_1.index t 0 * 1408 + 1 * (j 0).val = 1408 * (t.val / 6) + (j 0).val; rw [hi]; show t.val / 6 * 1408 + 1 * (j 0).val = _; omega
    | ⟨1, _⟩ => show win0_1.index t 1 * 2048 + 1 * (j 1).val = (j 1).val; rw [hi]; show 0 * 2048 + 1 * (j 1).val = _; omega
  exact e.trans (hX _)

/-- The block of the two planes of a point. -/
theorem blk_2 (t : Fin cfg0.N) (hX : Re3 (a := 2) (b := 4224) (c := 5632) (V m c main_arg2) h) :
    Re3 (iblk m c 2 t : Vec Ideal S2x704x1408 .bf16) (fun p r d => h p (704 * (t.val % 6) + r) (1408 * (t.val / 6) + d)) := fun j => by
  have ht := point_lt t
  have h1 : (j 1).val < 704 := (j 1).isLt
  have h2 : (j 2).val < 1408 := (j 2).isLt
  have hi := (idx t).2.2.1
  have e : (iblk m c 2 t : Vec Ideal S2x704x1408 .bf16) j = V m c main_arg2 (ValueIdx.ix3 (⟨(j 0).val, (j 0).isLt⟩ : Fin 2) (⟨704 * (t.val % 6) + (j 1).val, by omega⟩ : Fin 4224)
      (⟨1408 * (t.val / 6) + (j 2).val, by omega⟩ : Fin 5632)) := by
    unfold iblk
    rw [View.read_apply]
    refine congrArg (V m c main_arg2) (funext fun a => Fin.ext ?_)
    match a with
    | ⟨0, _⟩ => show win0_2.index t 0 * 2 + 1 * (j 0).val = (j 0).val; rw [hi]; show 0 * 2 + 1 * (j 0).val = _; omega
    | ⟨1, _⟩ => show win0_2.index t 1 * 704 + 1 * (j 1).val = 704 * (t.val % 6) + (j 1).val; rw [hi]; show t.val % 6 * 704 + 1 * (j 1).val = _; omega
    | ⟨2, _⟩ => show win0_2.index t 2 * 1408 + 1 * (j 2).val = 1408 * (t.val / 6) + (j 2).val; rw [hi]; show t.val / 6 * 1408 + 1 * (j 2).val = _; omega
  exact e.trans (hX _)

/-! ## The body -/

variable {v0 : Vec Ideal S704x2048 .bf16} {v1 : Vec Ideal S1408x2048 .bf16} {v3 v6 : Vec Ideal S1x704x1408 .bf16} {x u : ℕ → ℕ → ℝ}

/-- The gradient of the activations. -/
theorem is_1 (h0 : Re2 v0 f) (h1 : Re2 v1 g) (j : S704x1408.Idx) : (k0_pay1 v0 v1 j : EReal) = ((act f g (j 0).val (j 1).val : ℝ) : EReal) := by
  unfold k0_pay1
  refine (Is.mm_nt (f := fun r d => ((f r d : ℝ) : EReal)) (g := fun r d => ((g r d : ℝ) : EReal)) _ rfl h0 h1 _ rfl j).trans ?_
  exact sumR fun k _ => mulR rfl rfl

/-- A plane widened. -/
theorem is_plane (hx : ∀ j, (v3 j : EReal) = ((x (j 1).val (j 2).val : ℝ) : EReal)) (j : S704x1408.Idx) : (k0_pay2 v3 j : EReal) = ((x (j 0).val (j 1).val : ℝ) : EReal) := by
  unfold k0_pay2
  exact Is.widen _ (Is.dropUnit (f := fun r d => ((x r d : ℝ) : EReal)) hx _) j

/-- The logistic function of the gate. -/
theorem is_3 (hx : ∀ j, (v3 j : EReal) = ((x (j 1).val (j 2).val : ℝ) : EReal)) (j : S704x1408.Idx) :
    (k0_pay3 v3 j : EReal) = ((logistic (x (j 0).val (j 1).val) : ℝ) : EReal) := by
  have e : (k0_pay3 v3 j : EReal) = Ideal.ofBits .f32 0x3F000000#32 + Ideal.ofBits .f32 0x3F000000#32 * Ideal.tanh (Ideal.ofBits .f32 0x3F000000#32 * (k0_pay2 v3 j : EReal)) := rfl
  rw [e, is_plane hx j, bits_half, ← EReal.coe_mul, Ideal.tanh_coe, ← EReal.coe_mul, ← EReal.coe_add, logistic_eq]

/-- The stored gradient of the up projection. -/
theorem is_5 (h0 : Re2 v0 f) (h1 : Re2 v1 g) (hx : ∀ j, (v3 j : EReal) = ((x (j 1).val (j 2).val : ℝ) : EReal)) (j : S1x704x1408.Idx) :
    (k0_pay5 v0 v1 v3 j : EReal) = ((up (act f g (j 1).val (j 2).val) (x (j 1).val (j 2).val) : ℝ) : EReal) := by
  unfold k0_pay5
  refine Is.addUnit (f := fun r d => ((up (act f g r d) (x r d) : ℝ) : EReal)) (fun i => ?_) _ j
  exact mulR (mulR (is_1 h0 h1 i) (is_plane hx i)) (is_3 hx i)

/-- The stored gradient of the gate. -/
theorem is_4 (h0 : Re2 v0 f) (h1 : Re2 v1 g) (hx : ∀ j, (v3 j : EReal) = ((x (j 1).val (j 2).val : ℝ) : EReal)) (hu : ∀ j, (v6 j : EReal) = ((u (j 1).val (j 2).val : ℝ) : EReal))
    (j : S1x704x1408.Idx) :
    (k0_pay4 v0 v1 v3 v6 j : EReal) = ((gate (act f g (j 1).val (j 2).val) (x (j 1).val (j 2).val) (u (j 1).val (j 2).val) : ℝ) : EReal) := by
  unfold k0_pay4
  refine Is.addUnit (f := fun r d => ((gate (act f g r d) (x r d) (u r d) : ℝ) : EReal)) (fun i => ?_) _ j
  exact mulR (mulR (is_1 h0 h1 i) (is_plane hu i)) (mulR (is_3 hx i) (addR bits_one (mulR (is_plane hx i) (subR bits_one (is_3 hx i)))))

/-- The body's result: the gate's gradient in the first plane, the up projection's in the second. -/
theorem out (x0 : Vec Ideal S704x2048 .bf16) (x1 : Vec Ideal S1408x2048 .bf16) (x2 : Vec Ideal S2x704x1408 .bf16) (h0 : Re2 x0 f) (h1 : Re2 x1 g) (h2 : Re3 x2 h) (y : S2x704x1408.Idx) :
    (out0_3 x0 x1 x2 y : EReal) = (((if (y 0).val = 0 then gate (act f g (y 1).val (y 2).val) (h 0 (y 1).val (y 2).val) (h 1 (y 1).val (y 2).val)
      else up (act f g (y 1).val (y 2).val) (h 0 (y 1).val (y 2).val)) : ℝ) : EReal) := by
  have p0 : ∀ j, (View.ld (Val := Elt Ideal) (e' := .bf16) x2 r0_2 j : EReal) = ((h 0 (j 1).val (j 2).val : ℝ) : EReal) := fun j =>
    (Is3.load (f := fun q r d => ((h q r d : ℝ) : EReal)) (o := 0) h2 inb_S2x704x1408_S1x704x1408_0_0_0 j).trans (by rw [Nat.zero_add])
  have p1 : ∀ j, (View.ld (Val := Elt Ideal) (e' := .bf16) x2 r0_3 j : EReal) = ((h 1 (j 1).val (j 2).val : ℝ) : EReal) := fun j =>
    (Is3.load (f := fun q r d => ((h q r d : ℝ) : EReal)) (o := 0) h2 inb_S2x704x1408_S1x704x1408_1_0_0 j).trans (by rw [Nat.zero_add])
  unfold out0_3
  rw [View.ld_unit_zero corner2, View.ld_unit_zero corner2]
  refine View.canon_eq_of_allAt _ y _ (cover0_3 _ _ y) fun p hp z hz => ?_
  subst hz
  rcases List.mem_cons.mp hp with rfl | hp
  · have z0 : (z 0).val < 1 := (z 0).isLt
    have e0 : ((r0_3.emb z) 0).val = 1 := by show 1 + 1 * (z 0).val = 1; omega
    have e1 : ((r0_3.emb z) 1).val = (z 1).val := by show 0 + 1 * (z 1).val = _; omega
    have e2 : ((r0_3.emb z) 2).val = (z 2).val := by show 0 + 1 * (z 2).val = _; omega
    refine (is_5 h0 h1 p0 z).trans ?_
    dsimp only
    rw [if_neg (by rw [e0]; decide), e1, e2]
  · obtain rfl := List.mem_singleton.mp hp
    have z0 : (z 0).val < 1 := (z 0).isLt
    have e0 : ((r0_2.emb z) 0).val = 0 := by show 0 + 1 * (z 0).val = 0; omega
    have e1 : ((r0_2.emb z) 1).val = (z 1).val := by show 0 + 1 * (z 1).val = _; omega
    have e2 : ((r0_2.emb z) 2).val = (z 2).val := by show 0 + 1 * (z 2).val = _; omega
    refine (is_4 h0 h1 p0 p1 z).trans ?_
    dsimp only
    rw [if_pos e0, e1, e2]

/-! ## The reference -/

section Reference

open Cert.FfnDaRefIdeal.Read

variable {x0 : (Sh 4224 2048).Idx → EReal} {x1 : (Sh 5632 2048).Idx → EReal} {x2 : (Sh3 2 4224 5632).Idx → EReal}

/-- The reference's gradient of the activations. -/
theorem ref_act (h0 : Re2 x0 f) (h1 : Re2 x1 g) (i : Cert.FfnDaRefIdeal.S4224x5632.Idx) : (val_main_v11 (F := Ideal) x0 x1 i : EReal) = ((act f g (i 0).val (i 1).val : ℝ) : EReal) := by
  rw [val_main_v11_apply]
  exact sumFin (f := fun d => f (i 0).val d * g (i 1).val d) fun k => mulR (h0 _) (h1 _)

/-- The reference's gate. -/
theorem ref_gate (h2 : Re3 x2 h) (i : Cert.FfnDaRefIdeal.S4224x5632.Idx) : (val_main_v3 (F := Ideal) x2 i : EReal) = ((h 0 (i 0).val (i 1).val : ℝ) : EReal) := by
  have i0 : (i 0).val < 4224 := (i 0).isLt
  have i1 : (i 1).val < 5632 := (i 1).isLt
  rw [val_main_v3_apply, val_main_v2_apply, val_main_v1_apply]
  exact Is3.at (f := fun q r d => ((h q r d : ℝ) : EReal)) h2 _ rfl (by show ((i 0).val * 5632 + (i 1).val) / 5632 % 4224 = _; omega) (by show ((i 0).val * 5632 + (i 1).val) % 5632 = _; omega)

/-- The reference's up projection. -/
theorem ref_up (h2 : Re3 x2 h) (i : Cert.FfnDaRefIdeal.S4224x5632.Idx) : (val_main_v6 (F := Ideal) x2 i : EReal) = ((h 1 (i 0).val (i 1).val : ℝ) : EReal) := by
  have i0 : (i 0).val < 4224 := (i 0).isLt
  have i1 : (i 1).val < 5632 := (i 1).isLt
  rw [val_main_v6_apply, val_main_v5_apply, val_main_v4_apply]
  exact Is3.at (f := fun q r d => ((h q r d : ℝ) : EReal)) h2 _ rfl (by show ((i 0).val * 5632 + (i 1).val) / 5632 % 4224 = _; omega) (by show ((i 0).val * 5632 + (i 1).val) % 5632 = _; omega)

/-- The reference's logistic function of the gate. -/
theorem ref_logistic (h2 : Re3 x2 h) (i : Cert.FfnDaRefIdeal.S4224x5632.Idx) : (val_main_v7_2 (F := Ideal) x2 i : EReal) = ((logistic (h 0 (i 0).val (i 1).val) : ℝ) : EReal) := by
  have e : (val_main_v7_2 (F := Ideal) x2 i : EReal) = Ideal.div (Ideal.ofBits .f32 0x3F800000#32) (Ideal.ofBits .f32 0x3F800000#32 + Ideal.exp (-(val_main_v3 (F := Ideal) x2 i : EReal))) := rfl
  rw [e, ref_gate h2 i, ← EReal.coe_neg]
  exact divR (by positivity) bits_one (addR bits_one rfl)

/-- The reference's gradient of the up projection. -/
theorem ref_dup (h0 : Re2 x0 f) (h1 : Re2 x1 g) (h2 : Re3 x2 h) (i : Cert.FfnDaRefIdeal.S4224x5632.Idx) :
    (val_main_v12 (F := Ideal) x0 x1 x2 i : EReal) = ((up (act f g (i 0).val (i 1).val) (h 0 (i 0).val (i 1).val) : ℝ) : EReal) := by
  rw [val_main_v12_apply, val_main_v7_0_apply]
  refine (mulR (mulR (ref_gate h2 i) (ref_logistic h2 i)) (ref_act h0 h1 i)).trans (congrArg _ ?_)
  unfold up
  ring

/-- The reference's gradient of the gate. -/
theorem ref_dgate (h0 : Re2 x0 f) (h1 : Re2 x1 g) (h2 : Re3 x2 h) (i : Cert.FfnDaRefIdeal.S4224x5632.Idx) :
    (val_main_v14 (F := Ideal) x0 x1 x2 i : EReal) = ((gate (act f g (i 0).val (i 1).val) (h 0 (i 0).val (i 1).val) (h 1 (i 0).val (i 1).val) : ℝ) : EReal) := by
  have one : (val_main_call0_v6 (F := Ideal) i : EReal) = ((1 : ℝ) : EReal) := bits_one
  have v13 := mulR (ref_act h0 h1 i) (ref_up h2 i)
  rw [val_main_v14_apply, val_main_call1_v1_apply, val_main_call1_v2_apply, val_main_call1_v0_apply, val_main_v13_apply, val_main_v7_1_apply, val_main_call0_v7_apply]
  refine (addR (mulR v13 (ref_logistic h2 i)) (mulR (mulR (ref_gate h2 i) v13) (mulR (ref_logistic h2 i) (subR one (ref_logistic h2 i))))).trans (congrArg _ ?_)
  unfold gate
  ring

/-- The reference's two planes. -/
theorem reference (h0 : Re2 x0 f) (h1 : Re2 x1 g) (h2 : Re3 x2 h) (i : S2x4224x5632.Idx) :
    (val_main_v18 (F := Ideal) x0 x1 x2 i : EReal) = (((if (i 0).val = 0 then gate (act f g (i 1).val (i 2).val) (h 0 (i 1).val (i 2).val) (h 1 (i 1).val (i 2).val)
      else up (act f g (i 1).val (i 2).val) (h 0 (i 1).val (i 2).val)) : ℝ) : EReal) := by
  rw [val_main_v18_apply]
  show (val_main_v17 (F := Ideal) x0 x1 x2 i : EReal) = _
  unfold val_main_v17
  rw [concatenate_pair_apply]
  by_cases hlt : (i 0).val < 1
  · refine (dif_pos hlt).trans ?_
    rw [if_pos (by omega), val_main_v15_apply]
    exact ref_dgate h0 h1 h2 _
  · refine (dif_neg hlt).trans ?_
    rw [if_neg (by omega), val_main_v16_apply]
    exact ref_dup h0 h1 h2 _

end Reference

/-- The gradients of a point, at one element. -/
theorem at_3 (h0 : Re2 (a := 4224) (b := 2048) (V m c main_arg0) f) (h1 : Re2 (a := 5632) (b := 2048) (V m c main_arg1) g) (h2 : Re3 (a := 2) (b := 4224) (c := 5632) (V m c main_arg2) h)
    (t : Fin cfg0.N) (y : S2x704x1408.Idx) (i : S2x4224x5632.Idx) (k0 : (i 0).val = (y 0).val) (k1 : (i 1).val = 704 * (t.val % 6) + (y 1).val) (k2 : (i 2).val = 1408 * (t.val / 6) + (y 2).val) :
    out0_3 (F := Ideal) (iblk m c 0 t) (iblk m c 1 t) (iblk m c 2 t) y
      = Cert.FfnDaRefIdeal.Read.val_main_v18 (F := Ideal) (V m c main_arg0) (V m c main_arg1) (V m c main_arg2) i := by
  refine (out _ _ _ (blk_0 t h0) (blk_1 t h1) (blk_2 t h2) y).trans ?_
  refine Eq.trans ?_ (reference h0 h1 h2 i).symm
  rw [k0, k1, k2]
  rfl

/-- On finite arguments the kernel's array is the reference's gradients. -/
theorem final (r0 : ∀ i, ∃ r : ℝ, (V m c main_arg0 i : EReal) = (r : EReal)) (r1 : ∀ i, ∃ r : ℝ, (V m c main_arg1 i : EReal) = (r : EReal))
    (r2 : ∀ i, ∃ r : ℝ, (V m c main_arg2 i : EReal) = (r : EReal)) :
    (dats m 0 c).arrAt 3 cfg0.N = Cert.FfnDaRefIdeal.Read.val_main_v18 (F := Ideal) (V m c main_arg0) (V m c main_arg1) (V m c main_arg2) := by
  obtain ⟨f, h0⟩ := Re2.of_real (a := 4224) (b := 2048) r0
  obtain ⟨g, h1⟩ := Re2.of_real (a := 5632) (b := 2048) r1
  obtain ⟨h, h2⟩ := Re3.of_real (a := 2) (b := 4224) (c := 5632) r2
  refine (dats m 0 c).arrAt_eq_of_covers 3 _ (by decide +kernel) fun t hf y => ?_
  have hi := (idx t).2.2.2
  blk_simp
  rw [after0_3]
  exact at_3 h0 h1 h2 t y (((cfg0.win 3).blk t).view.emb y) (by
    show win0_3.index t 0 * 2 + 1 * (y 0).val = (y 0).val
    rw [hi]; show 0 * 2 + 1 * (y 0).val = _; omega) (by
    show win0_3.index t 1 * 704 + 1 * (y 1).val = 704 * (t.val % 6) + (y 1).val
    rw [hi]; show t.val % 6 * 704 + 1 * (y 1).val = _; omega) (by
    show win0_3.index t 2 * 1408 + 1 * (y 2).val = 1408 * (t.val / 6) + (y 2).val
    rw [hi]; show t.val / 6 * 1408 + 1 * (y 2).val = _; omega)

end Cert.Proof.DA

end
-- ==== Proof.FfnValues.lean ====
/- The results of the feed-forward layer's four backward calls are the reference's. -/
module

public import proofs.«01_k».proof.Defs
public import proofs.«01_k».proof.Proof.Finite
public import proofs.«01_k».proof.Proof.GradW
public import proofs.«01_k».proof.Proof.Gen.FfnDwIdeal.Value
public import proofs.«01_k».proof.Proof.Gen.FfnDwRefIdeal.Run
public import proofs.«01_k».proof.Proof.Gen.FfnDwRefIdeal.Read
public import proofs.«01_k».proof.Proof.Gen.FfnDwIdeal
public import proofs.«01_k».proof.Proof.Gen.FfnDwRefIdeal
public import proofs.«01_k».proof.Proof.GradH
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Gen.FfnDhIdeal
public import proofs.«01_k».proof.Proof.Gen.FfnDhRefIdeal
public import proofs.«01_k».proof.Proof.GradD
public import proofs.«01_k».proof.Proof.Gen.FfnDdIdeal.Value
public import proofs.«01_k».proof.Proof.Gen.FfnDdRefIdeal.Run
public import proofs.«01_k».proof.Proof.Gen.FfnDdRefIdeal.Read
public import proofs.«01_k».proof.Proof.Gen.FfnDdIdeal
public import proofs.«01_k».proof.Proof.Gen.FfnDdRefIdeal
public import proofs.«01_k».proof.Proof.GradA
public import proofs.«01_k».proof.Proof.Gen.FfnDaIdeal.Value
public import proofs.«01_k».proof.Proof.Gen.FfnDaRefIdeal.Run
public import proofs.«01_k».proof.Proof.Gen.FfnDaRefIdeal.Read
public import proofs.«01_k».proof.Proof.Gen.FfnDaIdeal
public import proofs.«01_k».proof.Proof.Gen.FfnDaRefIdeal

@[expose] public section

set_option maxRecDepth 16384

noncomputable section

/-- The scalar bound is broadcast over each argument. -/
theorem Cert.Pre_finite_ffn.shapes_fit : Cert.Pre_finite_ffn.Facts := ⟨by decide, by decide, by decide, by decide⟩

namespace Cert.Proof.Ffn

open Idealize.ShloMosaic Idealize.ShloMosaic.TcCoe Idealize.SL.Sem

/-- The call for the gradient of the gate's and the up projection's weights computes the reference's. -/
theorem values_dw : Cert.algebraic_FfnDwIdeal_FfnDwRefIdeal (hFfnDwIdeal := Cert.FfnDwIdeal.Gen.facts) (hFfnDwRefIdeal := Cert.FfnDwRefIdeal.Gen.facts) := by
  intro m g m' g' hpre hargs
  refine ⟨fun c => (Cert.FfnDwIdeal.Gen.dats (F := Ideal) m 0 c).arrAt 2 Cert.FfnDwIdeal.cfg0.N, Cert.FfnDwIdeal.Value.run_blocks (F := Ideal) m g, ?_⟩
  refine (θ_run Cert.FfnDwRefIdeal.defs _ _).mono (fun r h c => ?_) (Cert.FfnDwRefIdeal.Value.run (F := Ideal) m' g')
  obtain ⟨e0, e1⟩ := hargs c
  have f := DW.final (m := m) (c := c)
  rw [Cert.FfnDwIdeal.Gen.V_main_arg0, Cert.FfnDwIdeal.Gen.V_main_arg1, ← e0, ← e1] at f
  exact ⟨((h c).1.trans (Cert.FfnDwRefIdeal.Read.val_main_v10_eq (F := Ideal)
    (m' ((c.tc : Thread Cert.FfnDwRefIdeal.nD Cert.FfnDwRefIdeal.τ).loc Cert.FfnDwRefIdeal.main_arg0)) (m' ((c.tc : Thread Cert.FfnDwRefIdeal.nD Cert.FfnDwRefIdeal.τ).loc Cert.FfnDwRefIdeal.main_arg1)))).trans f.symm, (h c).2⟩

/-- The call for the gradient of the layer's input computes the reference's. -/
theorem values_dh : Cert.algebraic_FfnDhIdeal_FfnDhRefIdeal (hFfnDhIdeal := Cert.FfnDhIdeal.Gen.facts) (hFfnDhRefIdeal := Cert.FfnDhRefIdeal.Gen.facts) := by
  intro m g m' g' hpre hargs
  refine ⟨fun c => (Cert.FfnDhIdeal.Gen.dats (F := Ideal) m 0 c).arrAt 2 Cert.FfnDhIdeal.cfg0.N, Cert.FfnDhIdeal.Value.run_blocks (F := Ideal) m g, ?_⟩
  refine (θ_run Cert.FfnDhRefIdeal.defs _ _).mono (fun r h c => ?_) (Cert.FfnDhRefIdeal.Value.run (F := Ideal) m' g')
  obtain ⟨e0, e1⟩ := hargs c
  have f := DH.final (m := m) (c := c)
  rw [Cert.FfnDhIdeal.Gen.V_main_arg0, Cert.FfnDhIdeal.Gen.V_main_arg1, ← e0, ← e1] at f
  exact ⟨((h c).1.trans (Cert.FfnDhRefIdeal.Read.val_main_v9_eq (F := Ideal)
    (m' ((c.tc : Thread Cert.FfnDhRefIdeal.nD Cert.FfnDhRefIdeal.τ).loc Cert.FfnDhRefIdeal.main_arg0)) (m' ((c.tc : Thread Cert.FfnDhRefIdeal.nD Cert.FfnDhRefIdeal.τ).loc Cert.FfnDhRefIdeal.main_arg1)))).trans f.symm, (h c).2⟩

/-- The call for the gradient of the down projection's weights computes the reference's. -/
theorem values_dd : Cert.algebraic_FfnDdIdeal_FfnDdRefIdeal (hFfnDdIdeal := Cert.FfnDdIdeal.Gen.facts) (hFfnDdRefIdeal := Cert.FfnDdRefIdeal.Gen.facts) := by
  intro m g m' g' hpre hargs
  refine ⟨fun c => (Cert.FfnDdIdeal.Gen.dats (F := Ideal) m 0 c).arrAt 2 Cert.FfnDdIdeal.cfg0.N, Cert.FfnDdIdeal.Value.run_blocks (F := Ideal) m g, ?_⟩
  refine (θ_run Cert.FfnDdRefIdeal.defs _ _).mono (fun r h c => ?_) (Cert.FfnDdRefIdeal.Value.run (F := Ideal) m' g')
  obtain ⟨e0, e1⟩ := hargs c
  have f := DD.final (m := m) (c := c)
  rw [Cert.FfnDdIdeal.Gen.V_main_arg0, Cert.FfnDdIdeal.Gen.V_main_arg1, ← e0, ← e1] at f
  exact ⟨((h c).1.trans (Cert.FfnDdRefIdeal.Read.val_main_v6_eq (F := Ideal)
    (m' ((c.tc : Thread Cert.FfnDdRefIdeal.nD Cert.FfnDdRefIdeal.τ).loc Cert.FfnDdRefIdeal.main_arg0)) (m' ((c.tc : Thread Cert.FfnDdRefIdeal.nD Cert.FfnDdRefIdeal.τ).loc Cert.FfnDdRefIdeal.main_arg1)))).trans f.symm, (h c).2⟩

/-- The call for the gradients of the gate and of the up projection computes the reference's on finite arguments. -/
theorem values_da : Cert.algebraic_FfnDaIdeal_FfnDaRefIdeal_pre_finite_ffn (hFfnDaIdeal := Cert.FfnDaIdeal.Gen.facts) (hFfnDaRefIdeal := Cert.FfnDaRefIdeal.Gen.facts) (hPre_finite_ffn := Cert.Pre_finite_ffn.shapes_fit) := by
  intro m g m' g' hpre hargs
  refine ⟨fun c => (Cert.FfnDaIdeal.Gen.dats (F := Ideal) m 0 c).arrAt 3 Cert.FfnDaIdeal.cfg0.N, Cert.FfnDaIdeal.Value.run_blocks (F := Ideal) m g, ?_⟩
  refine (θ_run Cert.FfnDaRefIdeal.defs _ _).mono (fun r h c => ?_) (Cert.FfnDaRefIdeal.Value.run (F := Ideal) m' g')
  obtain ⟨e0, e1, e2⟩ := hargs c
  obtain ⟨b0, b1, b2⟩ := hpre c
  have f := DA.final (m := m) (c := c) (reals_of_bounded (s := Cert.Pre_finite_ffn.S4224x2048) _ Cert.Pre_finite_ffn.shapes_fit.bcast_S_S4224x2048 b0)
    (reals_of_bounded (s := Cert.Pre_finite_ffn.S5632x2048) _ Cert.Pre_finite_ffn.shapes_fit.bcast_S_S5632x2048 b1)
    (reals_of_bounded (s := Cert.Pre_finite_ffn.S2x4224x5632) _ Cert.Pre_finite_ffn.shapes_fit.bcast_S_S2x4224x5632 b2)
  rw [Cert.FfnDaIdeal.Gen.V_main_arg0, Cert.FfnDaIdeal.Gen.V_main_arg1, Cert.FfnDaIdeal.Gen.V_main_arg2, ← e0, ← e1, ← e2] at f
  exact ⟨((h c).1.trans (Cert.FfnDaRefIdeal.Read.val_main_v18_eq (F := Ideal)
    (m' ((c.tc : Thread Cert.FfnDaRefIdeal.nD Cert.FfnDaRefIdeal.τ).loc Cert.FfnDaRefIdeal.main_arg0)) (m' ((c.tc : Thread Cert.FfnDaRefIdeal.nD Cert.FfnDaRefIdeal.τ).loc Cert.FfnDaRefIdeal.main_arg1)) (m' ((c.tc : Thread Cert.FfnDaRefIdeal.nD Cert.FfnDaRefIdeal.τ).loc Cert.FfnDaRefIdeal.main_arg2)))).trans f.symm, (h c).2⟩

end Cert.Proof.Ffn

end
-- ==== Proof.CallFrames.lean ====
/- The frames of the two forward calls of the feed-forward layer and of two calls of the recurrent layer. -/
module

public import proofs.«01_k».proof.Defs
public import proofs.«01_k».proof.Proof.Gen.FfnUp
public import proofs.«01_k».proof.Proof.Gen.FfnUpIdeal
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDownIdeal
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.LruIn
public import proofs.«01_k».proof.Proof.Gen.LruInIdeal
public import proofs.«01_k».proof.Proof.Gen.LruInIdeal.Frame
public import proofs.«01_k».proof.Proof.Gen.LruInRefIdeal
public import proofs.«01_k».proof.Proof.Gen.LruInRefIdeal.Run
public import proofs.«01_k».proof.Proof.Gen.LruDw
public import proofs.«01_k».proof.Proof.Gen.LruDwIdeal
public import proofs.«01_k».proof.Proof.Gen.LruDwIdeal.Frame
public import proofs.«01_k».proof.Proof.Gen.LruDwRefIdeal
public import proofs.«01_k».proof.Proof.Gen.LruDwRefIdeal.Run
public import Idealize.ShloMosaic.Lib.Quiescent

@[expose] public section

set_option maxRecDepth 16384

noncomputable section

namespace Cert.Proof.Calls

open Idealize.ShloMosaic Idealize.ShloMosaic.TcCoe Idealize.SL.Sem

/-- The two bodies of the call for the activation are one text. -/
theorem body_up : Cert.FfnUp.cc0_ffn_up (F := Bits) = Cert.FfnUpIdeal.cc0_ffn_up (F := Bits) := by rfl

/-- The two tables of bodies of the call for the activation agree. -/
theorem bodies_up : Cert.FfnUp.defs₀ (F := Bits) = Cert.FfnUpIdeal.defs₀ (F := Bits) := by
  unfold Cert.FfnUp.defs₀ Cert.FfnUpIdeal.defs₀
  refine congrArg Defs.onTc ?_
  funext l x
  match l, x with
  | 0, (t, s) =>
    show Cert.FfnUp.cc0_ffn_up (F := Bits) _ _ _ _ _ _ _ _ _ _ _ = _
    rw [body_up]
    rfl

/-- The two tables of pipelines of the call for the activation agree. -/
theorem defs_up : Cert.FfnUp.defs (F := Bits) = Cert.FfnUpIdeal.defs (F := Bits) := by
  unfold Cert.FfnUp.defs Cert.FfnUpIdeal.defs
  rw [bodies_up]
  rfl

/-- The two host programs of the call for the activation agree. -/
theorem main_up : Cert.FfnUp.main (F := Bits) = Cert.FfnUpIdeal.main (F := Bits) := by rfl

/-- The frame of the call for the activation, on the device's words: the run is the one over any values. -/
theorem frame_up : Cert.quiescent_FfnUp (hFfnUp := Cert.FfnUp.Gen.facts) := by
  intro m ρ _
  rw [defs_up, main_up]
  exact (θ_run Cert.FfnUpIdeal.defs _ _).mono (fun _ h => h) (Cert.FfnUpIdeal.Gen.frame (F := Bits) m ρ)

/-- The frame of the idealized call for the activation. -/
theorem frame_up_ideal : Cert.quiescent_FfnUpIdeal (hFfnUpIdeal := Cert.FfnUpIdeal.Gen.facts) :=
  fun m ρ _ => Cert.FfnUpIdeal.Gen.frame (F := Ideal) m ρ

/-- The frame of the reference for the activation. -/
theorem frame_up_ref : Cert.quiescent_FfnUpRefIdeal (hFfnUpRefIdeal := Cert.FfnUpRefIdeal.Gen.facts) :=
  fun m ρ _ => (θ_run (Cert.FfnUpRefIdeal.defs (F := Ideal)) _ _).mono (fun r h => ⟨fun c => (h c).2.2, sem_eq_zero_of_no_sems (by decide) r.2⟩) (Cert.FfnUpRefIdeal.Value.run (F := Ideal) m ρ)

/-- The two bodies of the call for the down projection are one text. -/
theorem body_down : Cert.FfnDown.cc0_ffn_down (F := Bits) = Cert.FfnDownIdeal.cc0_ffn_down (F := Bits) := by rfl

/-- The two tables of bodies of the call for the down projection agree. -/
theorem bodies_down : Cert.FfnDown.defs₀ (F := Bits) = Cert.FfnDownIdeal.defs₀ (F := Bits) := by
  unfold Cert.FfnDown.defs₀ Cert.FfnDownIdeal.defs₀
  refine congrArg Defs.onTc ?_
  funext l x
  match l, x with
  | 0, (t, s) =>
    show Cert.FfnDown.cc0_ffn_down (F := Bits) _ _ _ _ _ _ _ _ _ = _
    rw [body_down]
    rfl

/-- The two tables of pipelines of the call for the down projection agree. -/
theorem defs_down : Cert.FfnDown.defs (F := Bits) = Cert.FfnDownIdeal.defs (F := Bits) := by
  unfold Cert.FfnDown.defs Cert.FfnDownIdeal.defs
  rw [bodies_down]
  rfl

/-- The two host programs of the call for the down projection agree. -/
theorem main_down : Cert.FfnDown.main (F := Bits) = Cert.FfnDownIdeal.main (F := Bits) := by rfl

/-- The frame of the call for the down projection, on the device's words: the run is the one over any values. -/
theorem frame_down : Cert.quiescent_FfnDown (hFfnDown := Cert.FfnDown.Gen.facts) := by
  intro m ρ _
  rw [defs_down, main_down]
  exact (θ_run Cert.FfnDownIdeal.defs _ _).mono (fun _ h => h) (Cert.FfnDownIdeal.Gen.frame (F := Bits) m ρ)

/-- The frame of the idealized call for the down projection. -/
theorem frame_down_ideal : Cert.quiescent_FfnDownIdeal (hFfnDownIdeal := Cert.FfnDownIdeal.Gen.facts) :=
  fun m ρ _ => Cert.FfnDownIdeal.Gen.frame (F := Ideal) m ρ

/-- The frame of the reference for the down projection. -/
theorem frame_down_ref : Cert.quiescent_FfnDownRefIdeal (hFfnDownRefIdeal := Cert.FfnDownRefIdeal.Gen.facts) :=
  fun m ρ _ => (θ_run (Cert.FfnDownRefIdeal.defs (F := Ideal)) _ _).mono (fun r h => ⟨fun c => (h c).2, sem_eq_zero_of_no_sems (by decide) r.2⟩) (Cert.FfnDownRefIdeal.Value.run (F := Ideal) m ρ)

/-- The two bodies of the call for the recurrent layer's inputs are one text. -/
theorem body_in : Cert.LruIn.cc0_lru_in (F := Bits) = Cert.LruInIdeal.cc0_lru_in (F := Bits) := by rfl

/-- The two tables of bodies of the call for the recurrent layer's inputs agree. -/
theorem bodies_in : Cert.LruIn.defs₀ (F := Bits) = Cert.LruInIdeal.defs₀ (F := Bits) := by
  unfold Cert.LruIn.defs₀ Cert.LruInIdeal.defs₀
  refine congrArg Defs.onTc ?_
  funext l x
  match l, x with
  | 0, (t, s) =>
    show Cert.LruIn.cc0_lru_in (F := Bits) _ _ _ _ _ _ _ = _
    rw [body_in]
    rfl

/-- The two tables of pipelines of the call for the recurrent layer's inputs agree. -/
theorem defs_in : Cert.LruIn.defs (F := Bits) = Cert.LruInIdeal.defs (F := Bits) := by
  unfold Cert.LruIn.defs Cert.LruInIdeal.defs
  rw [bodies_in]
  rfl

/-- The two host programs of the call for the recurrent layer's inputs agree. -/
theorem main_in : Cert.LruIn.main (F := Bits) = Cert.LruInIdeal.main (F := Bits) := by rfl

/-- The frame of the call for the recurrent layer's inputs, on the device's words: the run is the one over any values. -/
theorem frame_in : Cert.quiescent_LruIn (hLruIn := Cert.LruIn.Gen.facts) := by
  intro m ρ _
  rw [defs_in, main_in]
  exact (θ_run Cert.LruInIdeal.defs _ _).mono (fun _ h => h) (Cert.LruInIdeal.Gen.frame (F := Bits) m ρ)

/-- The frame of the idealized call for the recurrent layer's inputs. -/
theorem frame_in_ideal : Cert.quiescent_LruInIdeal (hLruInIdeal := Cert.LruInIdeal.Gen.facts) :=
  fun m ρ _ => Cert.LruInIdeal.Gen.frame (F := Ideal) m ρ

/-- The frame of the reference for the recurrent layer's inputs. -/
theorem frame_in_ref : Cert.quiescent_LruInRefIdeal (hLruInRefIdeal := Cert.LruInRefIdeal.Gen.facts) :=
  fun m ρ _ => (θ_run (Cert.LruInRefIdeal.defs (F := Ideal)) _ _).mono (fun r h => ⟨fun c => (h c).2, sem_eq_zero_of_no_sems (by decide) r.2⟩) (Cert.LruInRefIdeal.Value.run (F := Ideal) m ρ)

/-- The two bodies of the call for the gradient of the recurrent layer's first weights are one text. -/
theorem body_dw_in : Cert.LruDw.cc0_lru_dwin (F := Bits) = Cert.LruDwIdeal.cc0_lru_dwin (F := Bits) := by rfl

/-- The two tables of bodies of the call for the gradient of the recurrent layer's first weights agree. -/
theorem bodies_dw_in : Cert.LruDw.defs₀ (F := Bits) = Cert.LruDwIdeal.defs₀ (F := Bits) := by
  unfold Cert.LruDw.defs₀ Cert.LruDwIdeal.defs₀
  refine congrArg Defs.onTc ?_
  funext l x
  match l, x with
  | 0, (t, s) =>
    show Cert.LruDw.cc0_lru_dwin (F := Bits) _ _ _ _ _ _ _ = _
    rw [body_dw_in]
    rfl

/-- The two tables of pipelines of the call for the gradient of the recurrent layer's first weights agree. -/
theorem defs_dw_in : Cert.LruDw.defs (F := Bits) = Cert.LruDwIdeal.defs (F := Bits) := by
  unfold Cert.LruDw.defs Cert.LruDwIdeal.defs
  rw [bodies_dw_in]
  rfl

/-- The two host programs of the call for the gradient of the recurrent layer's first weights agree. -/
theorem main_dw_in : Cert.LruDw.main (F := Bits) = Cert.LruDwIdeal.main (F := Bits) := by rfl

/-- The frame of the call for the gradient of the recurrent layer's first weights, on the device's words: the run is the one over any values. -/
theorem frame_dw_in : Cert.quiescent_LruDw (hLruDw := Cert.LruDw.Gen.facts) := by
  intro m ρ _
  rw [defs_dw_in, main_dw_in]
  exact (θ_run Cert.LruDwIdeal.defs _ _).mono (fun _ h => h) (Cert.LruDwIdeal.Gen.frame (F := Bits) m ρ)

/-- The frame of the idealized call for the gradient of the recurrent layer's first weights. -/
theorem frame_dw_in_ideal : Cert.quiescent_LruDwIdeal (hLruDwIdeal := Cert.LruDwIdeal.Gen.facts) :=
  fun m ρ _ => Cert.LruDwIdeal.Gen.frame (F := Ideal) m ρ

/-- The frame of the reference for the gradient of the recurrent layer's first weights. -/
theorem frame_dw_in_ref : Cert.quiescent_LruDwRefIdeal (hLruDwRefIdeal := Cert.LruDwRefIdeal.Gen.facts) :=
  fun m ρ _ => (θ_run (Cert.LruDwRefIdeal.defs (F := Ideal)) _ _).mono (fun r h => ⟨fun c => (h c).2, sem_eq_zero_of_no_sems (by decide) r.2⟩) (Cert.LruDwRefIdeal.Value.run (F := Ideal) m ρ)

end Cert.Proof.Calls

end
-- ==== Proof.ProdUp.lean ====
/- The gate, the up projection and the activation: the kernel's blocks of products are the reference's one product, and its logistic
   function, with a hyperbolic tangent, is the reference's, with an exponential, at every extended real. -/
module

public import proofs.«01_k».proof.Proof.Tab
public import proofs.«01_k».proof.Proof.GradA
public import proofs.«01_k».proof.Proof.Gen.FfnUpIdeal.Value
public import proofs.«01_k».proof.Proof.Gen.FfnUpRefIdeal.Read

@[expose] public section

set_option maxRecDepth 16384

noncomputable section

namespace Cert.Proof.Up

open Cert.FfnUpIdeal Cert.FfnUpIdeal.Gen
open Idealize.ShloMosaic Idealize.ShloMosaic.TcCoe
open scoped BigOperators
open Finset (range)
open Cert.Proof.Table
open Cert.Proof.DA (bits_half bits_one logistic_eq)

variable {m : (ℓ : Loc nD τ sig) → Buf (Elt Ideal) ℓ} {c : Dev nD}
variable {f : ℕ → ℕ → EReal} {g : ℕ → ℕ → ℕ → EReal}

/-! ## The logistic function -/

/-- The logistic function by the hyperbolic tangent of half the argument, at every extended real. -/
theorem sigmoid (x : EReal) : ((1 / 2 : ℝ) : EReal) + ((1 / 2 : ℝ) : EReal) * Ideal.tanh (((1 / 2 : ℝ) : EReal) * x) = Ideal.logistic x := by
  have half : (0 : ℝ) < 1 / 2 := by norm_num
  induction x with
  | bot =>
    rw [EReal.coe_mul_bot_of_pos half, Ideal.logistic_bot]
    show ((1 / 2 : ℝ) : EReal) + ((1 / 2 : ℝ) : EReal) * (-((1 : ℝ) : EReal)) = ((0 : ℝ) : EReal)
    rw [← EReal.coe_neg, ← EReal.coe_mul, ← EReal.coe_add]
    norm_num
  | top =>
    rw [EReal.coe_mul_top_of_pos half, Ideal.logistic_top]
    show ((1 / 2 : ℝ) : EReal) + ((1 / 2 : ℝ) : EReal) * ((1 : ℝ) : EReal) = ((1 : ℝ) : EReal)
    rw [← EReal.coe_mul, ← EReal.coe_add]
    norm_num
  | coe r =>
    rw [← EReal.coe_mul, Ideal.tanh_coe, ← EReal.coe_mul, ← EReal.coe_add, logistic_eq, Ideal.logistic_coe]
    unfold DA.logistic
    rw [one_div]

/-- The product of a row of the activations and a column of a shard. -/
def dot (f : ℕ → ℕ → EReal) (g : ℕ → ℕ → ℕ → EReal) (s r d : ℕ) : EReal := ∑ k ∈ range 2048, f r k * g s k d

/-- The activation, from the gate and the up projection. -/
def act (x u : EReal) : EReal := x * Ideal.logistic x * u

/-! ## The kernel's blocks -/

/-- The blocks of a point: rows of the input, a shard of the gates' weights, a shard of the ups', rows and columns of the results. -/
theorem idx : ∀ t : Fin cfg0.N, win0_0.index t = ![t.val % 6, 0] ∧ win0_1.index t = ![t.val / 6, 0, 0] ∧ win0_2.index t = ![t.val / 6 + 4, 0, 0]
    ∧ win0_3.index t = ![0, t.val % 6, t.val / 6] ∧ win0_4.index t = ![t.val % 6, t.val / 6] :=
  (by decide +kernel : ∀ t : Fin grid0.N, _)

/-- There are twenty-four points. -/
theorem point_lt (t : Fin cfg0.N) : t.val < 24 := by have h : cfg0.N = 24 := N_0; have := t.isLt; omega

/-- The block of the input of a point. -/
theorem blk_0 (t : Fin cfg0.N) (hX : Is (α := EReal) (m := 4224) (n := 2048) (V m c main_arg0) f) :
    Is (α := EReal) (iblk m c 0 t : Vec Ideal S704x2048 .bf16) (fun r d => f (704 * (t.val % 6) + r) d) := fun j => by
  have ht := point_lt t
  have h0 : (j 0).val < 704 := (j 0).isLt
  have hi := (idx t).1
  have e : (iblk m c 0 t : Vec Ideal S704x2048 .bf16) j = V m c main_arg0 (ValueIdx.ix2 (⟨704 * (t.val % 6) + (j 0).val, by omega⟩ : Fin 4224) (⟨(j 1).val, (j 1).isLt⟩ : Fin 2048)) := by
    unfold iblk
    rw [View.read_apply]
    refine congrArg (V m c main_arg0) (funext fun a => Fin.ext ?_)
    match a with
    | ⟨0, _⟩ => show win0_0.index t 0 * 704 + 1 * (j 0).val = 704 * (t.val % 6) + (j 0).val; rw [hi]; show t.val % 6 * 704 + 1 * (j 0).val = _; omega
    | ⟨1, _⟩ => show win0_0.index t 1 * 2048 + 1 * (j 1).val = (j 1).val; rw [hi]; show 0 * 2048 + 1 * (j 1).val = _; omega
  exact e.trans (hX _)

/-- The shard of the gates' weights of a point. -/
theorem blk_1 (t : Fin cfg0.N) (hX : Is3 (α := EReal) (p := 8) (m := 2048) (n := 1408) (V m c main_arg1) g) (j : S1x2048x1408.Idx) :
    (iblk m c 1 t : Vec Ideal S1x2048x1408 .bf16) j = g (t.val / 6) (j 1).val (j 2).val := by
  have ht := point_lt t
  have h0 : (j 0).val < 1 := (j 0).isLt
  have hi := (idx t).2.1
  have e : (iblk m c 1 t : Vec Ideal S1x2048x1408 .bf16) j
      = V m c main_arg1 (ValueIdx.ix3 (⟨t.val / 6, by omega⟩ : Fin 8) (⟨(j 1).val, (j 1).isLt⟩ : Fin 2048) (⟨(j 2).val, (j 2).isLt⟩ : Fin 1408)) := by
    unfold iblk
    rw [View.read_apply]
    refine congrArg (V m c main_arg1) (funext fun a => Fin.ext ?_)
    match a with
    | ⟨0, _⟩ => show win0_1.index t 0 * 1 + 1 * (j 0).val = t.val / 6; rw [hi]; show t.val / 6 * 1 + 1 * (j 0).val = _; omega
    | ⟨1, _⟩ => show win0_1.index t 1 * 2048 + 1 * (j 1).val = (j 1).val; rw [hi]; show 0 * 2048 + 1 * (j 1).val = _; omega
    | ⟨2, _⟩ => show win0_1.index t 2 * 1408 + 1 * (j 2).val = (j 2).val; rw [hi]; show 0 * 1408 + 1 * (j 2).val = _; omega
  exact e.trans (hX _)

/-- The shard of the ups' weights of a point. -/
theorem blk_2 (t : Fin cfg0.N) (hX : Is3 (α := EReal) (p := 8) (m := 2048) (n := 1408) (V m c main_arg1) g) (j : S1x2048x1408.Idx) :
    (iblk m c 2 t : Vec Ideal S1x2048x1408 .bf16) j = g (t.val / 6 + 4) (j 1).val (j 2).val := by
  have ht := point_lt t
  have h0 : (j 0).val < 1 := (j 0).isLt
  have hi := (idx t).2.2.1
  have e : (iblk m c 2 t : Vec Ideal S1x2048x1408 .bf16) j
      = V m c main_arg1 (ValueIdx.ix3 (⟨t.val / 6 + 4, by omega⟩ : Fin 8) (⟨(j 1).val, (j 1).isLt⟩ : Fin 2048) (⟨(j 2).val, (j 2).isLt⟩ : Fin 1408)) := by
    unfold iblk
    rw [View.read_apply]
    refine congrArg (V m c main_arg1) (funext fun a => Fin.ext ?_)
    match a with
    | ⟨0, _⟩ => show win0_2.index t 0 * 1 + 1 * (j 0).val = t.val / 6 + 4; rw [hi]; show (t.val / 6 + 4) * 1 + 1 * (j 0).val = _; omega
    | ⟨1, _⟩ => show win0_2.index t 1 * 2048 + 1 * (j 1).val = (j 1).val; rw [hi]; show 0 * 2048 + 1 * (j 1).val = _; omega
    | ⟨2, _⟩ => show win0_2.index t 2 * 1408 + 1 * (j 2).val = (j 2).val; rw [hi]; show 0 * 1408 + 1 * (j 2).val = _; omega
  exact e.trans (hX _)

/-! ## The body -/

section Body

variable {v0 : Vec Ideal S704x2048 .bf16} {v1 v4 : Vec Ideal S1x2048x1408 .bf16} {a : ℕ → ℕ → EReal} {b : ℕ → ℕ → ℕ → EReal} {s s' : ℕ}

/-- The gate. -/
theorem is_1 (h0 : Is (α := EReal) v0 a) (h1 : ∀ j, (v1 j : EReal) = b s (j 1).val (j 2).val) : Is (α := EReal) (k0_pay1 v0 v1) (dot a b s) := by
  unfold k0_pay1
  exact Is.mm_nn _ rfl h0 (Is.dropUnit h1 _) _ rfl

/-- The up projection. -/
theorem is_2 (h0 : Is (α := EReal) v0 a) (h1 : ∀ j, (v4 j : EReal) = b s' (j 1).val (j 2).val) : Is (α := EReal) (k0_pay2 v0 v4) (dot a b s') := by
  unfold k0_pay2
  exact Is.mm_nn _ rfl h0 (Is.dropUnit h1 _) _ rfl

/-- The stored gate. -/
theorem is_3 (h0 : Is (α := EReal) v0 a) (h1 : ∀ j, (v1 j : EReal) = b s (j 1).val (j 2).val) (j : S1x704x1408.Idx) : (k0_pay3 v0 v1 j : EReal) = dot a b s (j 1).val (j 2).val := by
  unfold k0_pay3
  exact Is.addUnit (Is.narrow _ (is_1 h0 h1)) _ j

/-- The stored up projection. -/
theorem is_4 (h0 : Is (α := EReal) v0 a) (h1 : ∀ j, (v4 j : EReal) = b s' (j 1).val (j 2).val) (j : S1x704x1408.Idx) : (k0_pay4 v0 v4 j : EReal) = dot a b s' (j 1).val (j 2).val := by
  unfold k0_pay4
  exact Is.addUnit (Is.narrow _ (is_2 h0 h1)) _ j

/-- The activation. -/
theorem is_5 (h0 : Is (α := EReal) v0 a) (h1 : ∀ j, (v1 j : EReal) = b s (j 1).val (j 2).val) (h2 : ∀ j, (v4 j : EReal) = b s' (j 1).val (j 2).val) (j : S704x1408.Idx) :
    (k0_pay5 v0 v1 v4 j : EReal) = act (dot a b s (j 0).val (j 1).val) (dot a b s' (j 0).val (j 1).val) := by
  have e : (k0_pay5 v0 v1 v4 j : EReal) = (k0_pay1 v0 v1 j : EReal)
      * (Ideal.ofBits .f32 0x3F000000#32 + Ideal.ofBits .f32 0x3F000000#32 * Ideal.tanh (Ideal.ofBits .f32 0x3F000000#32 * (k0_pay1 v0 v1 j : EReal))) * (k0_pay2 v0 v4 j : EReal) := rfl
  rw [e, bits_half, sigmoid, is_1 h0 h1 j, is_2 h0 h2 j]
  rfl

end Body

/-- The body's first result: the gate in the first plane, the up projection in the second. -/
theorem out_3 (x0 : Vec Ideal S704x2048 .bf16) (x1 x2 : Vec Ideal S1x2048x1408 .bf16) {a : ℕ → ℕ → EReal} {b : ℕ → ℕ → ℕ → EReal} {s s' : ℕ} (h0 : Is (α := EReal) x0 a)
    (h1 : ∀ j, (x1 j : EReal) = b s (j 1).val (j 2).val) (h2 : ∀ j, (x2 j : EReal) = b s' (j 1).val (j 2).val) (y : S2x704x1408.Idx) :
    (out0_3 x0 x1 x2 y : EReal) = dot a b (if (y 0).val = 0 then s else s') (y 1).val (y 2).val := by
  unfold out0_3
  rw [View.ld_unit_zero corner2, View.ld_unit_zero corner3, View.ld_unit_zero corner3]
  refine View.canon_eq_of_allAt _ y _ (cover0_3 _ _ y) fun p hp z hz => ?_
  subst hz
  rcases List.mem_cons.mp hp with rfl | hp
  · have z0 : (z 0).val < 1 := (z 0).isLt
    have e0 : ((r0_3.emb z) 0).val = 1 := by show 1 + 1 * (z 0).val = 1; omega
    have e1 : ((r0_3.emb z) 1).val = (z 1).val := by show 0 + 1 * (z 1).val = _; omega
    have e2 : ((r0_3.emb z) 2).val = (z 2).val := by show 0 + 1 * (z 2).val = _; omega
    refine (is_4 h0 h2 z).trans ?_
    dsimp only
    rw [if_neg (by rw [e0]; decide), e1, e2]
  · obtain rfl := List.mem_singleton.mp hp
    have z0 : (z 0).val < 1 := (z 0).isLt
    have e0 : ((r0_2.emb z) 0).val = 0 := by show 0 + 1 * (z 0).val = 0; omega
    have e1 : ((r0_2.emb z) 1).val = (z 1).val := by show 0 + 1 * (z 1).val = _; omega
    have e2 : ((r0_2.emb z) 2).val = (z 2).val := by show 0 + 1 * (z 2).val = _; omega
    refine (is_3 h0 h1 z).trans ?_
    dsimp only
    rw [if_pos e0, e1, e2]

/-- The body's second result: the activation. -/
theorem out_4 (x0 : Vec Ideal S704x2048 .bf16) (x1 x2 : Vec Ideal S1x2048x1408 .bf16) {a : ℕ → ℕ → EReal} {b : ℕ → ℕ → ℕ → EReal} {s s' : ℕ} (h0 : Is (α := EReal) x0 a)
    (h1 : ∀ j, (x1 j : EReal) = b s (j 1).val (j 2).val) (h2 : ∀ j, (x2 j : EReal) = b s' (j 1).val (j 2).val) (y : S704x1408.Idx) :
    (out0_4 x0 x1 x2 y : EReal) = act (dot a b s (y 0).val (y 1).val) (dot a b s' (y 0).val (y 1).val) := by
  unfold out0_4
  rw [View.canon_unit_zero corner2, View.ld_unit_zero corner2, View.ld_unit_zero corner3, View.ld_unit_zero corner3]
  exact is_5 h0 h1 h2 y

/-! ## The reference -/

section Reference

open Cert.FfnUpRefIdeal.Read

variable {x0 : (Sh 4224 2048).Idx → EReal} {x1 : (Sh3 8 2048 1408).Idx → EReal}

/-- The reference's product. -/
theorem ref_dot (h0 : Is x0 f) (h1 : Is3 x1 g) (i : Cert.FfnUpRefIdeal.S4224x11264.Idx) :
    (val_main_v4 (F := Ideal) x0 x1 i : EReal) = dot f g ((i 1).val / 1408) (i 0).val ((i 1).val % 1408) := by
  have i1 : (i 1).val < 11264 := (i 1).isLt
  unfold dot
  rw [val_main_v4_apply, Finset.sum_range]
  refine Finset.sum_congr rfl fun k _ => congrArg₂ (· * ·) (h0.at _ rfl rfl) ?_
  rw [val_main_v2_apply]
  show (val_main_v1 (F := Ideal) x1 _ : EReal) = _
  rw [val_main_v1_apply, val_main_v0_apply]
  have hk := k.isLt
  refine h1.at _ ?_ ?_ ?_
  · show (k.val * 11264 + (i 1).val) / 1408 % 8 = _; omega
  · show (k.val * 11264 + (i 1).val) / 11264 = _; omega
  · show (k.val * 11264 + (i 1).val) % 1408 = _; omega

/-- The reference's gate. -/
theorem ref_gate (h0 : Is x0 f) (h1 : Is3 x1 g) (i : Cert.FfnUpRefIdeal.S4224x5632.Idx) :
    (val_main_v5 (F := Ideal) x0 x1 i : EReal) = dot f g ((i 1).val / 1408) (i 0).val ((i 1).val % 1408) := by
  rw [val_main_v5_apply]
  exact ref_dot h0 h1 _

/-- The reference's up projection. -/
theorem ref_up (h0 : Is x0 f) (h1 : Is3 x1 g) (i : Cert.FfnUpRefIdeal.S4224x5632.Idx) :
    (val_main_v6 (F := Ideal) x0 x1 i : EReal) = dot f g ((i 1).val / 1408 + 4) (i 0).val ((i 1).val % 1408) := by
  rw [val_main_v6_apply]
  refine (ref_dot h0 h1 _).trans ?_
  show dot f g ((5632 + (i 1).val) / 1408) (i 0).val ((5632 + (i 1).val) % 1408) = _
  rw [show (5632 + (i 1).val) / 1408 = (i 1).val / 1408 + 4 by omega, show (5632 + (i 1).val) % 1408 = (i 1).val % 1408 by omega]

/-- The reference's two planes. -/
theorem ref_planes (h0 : Is x0 f) (h1 : Is3 x1 g) (i : S2x4224x5632.Idx) :
    (val_main_v10 (F := Ideal) x0 x1 i : EReal) = dot f g (if (i 0).val = 0 then (i 2).val / 1408 else (i 2).val / 1408 + 4) (i 1).val ((i 2).val % 1408) := by
  rw [val_main_v10_apply]
  show (val_main_v9 (F := Ideal) x0 x1 i : EReal) = _
  unfold val_main_v9
  rw [concatenate_pair_apply]
  by_cases hlt : (i 0).val < 1
  · refine (dif_pos hlt).trans ?_
    rw [if_pos (by omega), val_main_v7_apply]
    exact ref_gate h0 h1 _
  · refine (dif_neg hlt).trans ?_
    rw [if_neg (by omega), val_main_v8_apply]
    exact ref_up h0 h1 _

/-- The reference's activation. -/
theorem ref_act (h0 : Is x0 f) (h1 : Is3 x1 g) (i : S4224x5632.Idx) :
    (val_main_v13 (F := Ideal) x0 x1 i : EReal)
      = act (dot f g ((i 1).val / 1408) (i 0).val ((i 1).val % 1408)) (dot f g ((i 1).val / 1408 + 4) (i 0).val ((i 1).val % 1408)) := by
  have e : (val_main_v13 (F := Ideal) x0 x1 i : EReal) = (val_main_v5 (F := Ideal) x0 x1 i : EReal)
      * Ideal.div (Ideal.ofBits .f32 0x3F800000#32) (Ideal.ofBits .f32 0x3F800000#32 + Ideal.exp (-(val_main_v5 (F := Ideal) x0 x1 i : EReal))) * (val_main_v6 (F := Ideal) x0 x1 i : EReal) := rfl
  rw [e, bits_one, ref_gate h0 h1 i, ref_up h0 h1 i]
  rfl

end Reference

/-! ## The arrays -/

/-- The planes of a point, at one element. -/
theorem at_3 (t : Fin cfg0.N) (y : S2x704x1408.Idx) (i : S2x4224x5632.Idx) (k0 : (i 0).val = (y 0).val) (k1 : (i 1).val = 704 * (t.val % 6) + (y 1).val)
    (k2 : (i 2).val = 1408 * (t.val / 6) + (y 2).val) :
    out0_3 (F := Ideal) (iblk m c 0 t) (iblk m c 1 t) (iblk m c 2 t) y = Cert.FfnUpRefIdeal.Read.val_main_v10 (F := Ideal) (V m c main_arg0) (V m c main_arg1) i := by
  have y2 : (y 2).val < 1408 := (y 2).isLt
  obtain ⟨f, h0⟩ := exists_is (m := 4224) (n := 2048) (V m c main_arg0)
  obtain ⟨g, h1⟩ := exists_is3 (p := 8) (m := 2048) (n := 1408) (V m c main_arg1)
  refine (out_3 _ _ _ (blk_0 t h0) (blk_1 t h1) (blk_2 t h1) y).trans ?_
  refine Eq.trans ?_ (ref_planes h0 h1 i).symm
  rw [k0, k1, k2, show (1408 * (t.val / 6) + (y 2).val) / 1408 = t.val / 6 by omega, show (1408 * (t.val / 6) + (y 2).val) % 1408 = (y 2).val by omega]
  rfl

/-- The activation of a point, at one element. -/
theorem at_4 (t : Fin cfg0.N) (y : S704x1408.Idx) (i : S4224x5632.Idx) (k0 : (i 0).val = 704 * (t.val % 6) + (y 0).val) (k1 : (i 1).val = 1408 * (t.val / 6) + (y 1).val) :
    out0_4 (F := Ideal) (iblk m c 0 t) (iblk m c 1 t) (iblk m c 2 t) y = Cert.FfnUpRefIdeal.Read.val_main_v13 (F := Ideal) (V m c main_arg0) (V m c main_arg1) i := by
  have y1 : (y 1).val < 1408 := (y 1).isLt
  obtain ⟨f, h0⟩ := exists_is (m := 4224) (n := 2048) (V m c main_arg0)
  obtain ⟨g, h1⟩ := exists_is3 (p := 8) (m := 2048) (n := 1408) (V m c main_arg1)
  refine (out_4 _ _ _ (blk_0 t h0) (blk_1 t h1) (blk_2 t h1) y).trans ?_
  refine Eq.trans ?_ (ref_act h0 h1 i).symm
  rw [k0, k1, show (1408 * (t.val / 6) + (y 1).val) / 1408 = t.val / 6 by omega, show (1408 * (t.val / 6) + (y 1).val) % 1408 = (y 1).val by omega]
  rfl

/-- The kernel's first array is the reference's gate and up projection. -/
theorem final_planes : (dats m 0 c).arrAt 3 cfg0.N = Cert.FfnUpRefIdeal.Read.val_main_v10 (F := Ideal) (V m c main_arg0) (V m c main_arg1) := by
  refine (dats m 0 c).arrAt_eq_of_covers 3 _ (by decide +kernel) fun t hf y => ?_
  have hi := (idx t).2.2.2.1
  blk_simp
  rw [after0_3]
  exact at_3 t y (((cfg0.win 3).blk t).view.emb y) (by
    show win0_3.index t 0 * 2 + 1 * (y 0).val = (y 0).val
    rw [hi]; show 0 * 2 + 1 * (y 0).val = _; omega) (by
    show win0_3.index t 1 * 704 + 1 * (y 1).val = 704 * (t.val % 6) + (y 1).val
    rw [hi]; show t.val % 6 * 704 + 1 * (y 1).val = _; omega) (by
    show win0_3.index t 2 * 1408 + 1 * (y 2).val = 1408 * (t.val / 6) + (y 2).val
    rw [hi]; show t.val / 6 * 1408 + 1 * (y 2).val = _; omega)

/-- The kernel's second array is the reference's activation. -/
theorem final_act : (dats m 0 c).arrAt 4 cfg0.N = Cert.FfnUpRefIdeal.Read.val_main_v13 (F := Ideal) (V m c main_arg0) (V m c main_arg1) := by
  refine (dats m 0 c).arrAt_eq_of_covers 4 _ (by decide +kernel) fun t hf y => ?_
  have hi := (idx t).2.2.2.2
  blk_simp
  rw [after0_4]
  exact at_4 t y (((cfg0.win 4).blk t).view.emb y) (by
    show win0_4.index t 0 * 704 + 1 * (y 0).val = 704 * (t.val % 6) + (y 0).val
    rw [hi]; show t.val % 6 * 704 + 1 * (y 0).val = _; omega) (by
    show win0_4.index t 1 * 1408 + 1 * (y 1).val = 1408 * (t.val / 6) + (y 1).val
    rw [hi]; show t.val / 6 * 1408 + 1 * (y 1).val = _; omega)

end Cert.Proof.Up

end
-- ==== Proof.ProdDown.lean ====
/- The down projection: the kernel's blocks of products, added to the stream, are the reference's. -/
module

public import proofs.«01_k».proof.Proof.Tab
public import proofs.«01_k».proof.Proof.Gen.FfnDownIdeal.Value
public import proofs.«01_k».proof.Proof.Gen.FfnDownRefIdeal.Read

@[expose] public section

set_option maxRecDepth 16384

noncomputable section

namespace Cert.Proof.Down

open Cert.FfnDownIdeal Cert.FfnDownIdeal.Gen
open Idealize.ShloMosaic Idealize.ShloMosaic.TcCoe
open scoped BigOperators
open Finset (range)
open Cert.Proof.Table

variable {m : (ℓ : Loc nD τ sig) → Buf (Elt Ideal) ℓ} {c : Dev nD}
variable {f g h : ℕ → ℕ → EReal}

/-- The blocks of a point: rows of the activations, columns of the weights, rows and columns of the stream and of the result. -/
theorem idx : ∀ t : Fin cfg0.N, win0_0.index t = ![t.val % 11, 0] ∧ win0_1.index t = ![0, t.val / 11] ∧ win0_2.index t = ![t.val % 11, t.val / 11]
    ∧ win0_3.index t = ![t.val % 11, t.val / 11] :=
  (by decide +kernel : ∀ t : Fin grid0.N, _)

/-- There are twenty-two points. -/
theorem point_lt (t : Fin cfg0.N) : t.val < 22 := by have h : cfg0.N = 22 := N_0; have := t.isLt; omega

/-- The block of activations of a point. -/
theorem blk_0 (t : Fin cfg0.N) (hX : Is (α := EReal) (m := 4224) (n := 5632) (V m c main_arg0) f) :
    Is (α := EReal) (iblk m c 0 t : Vec Ideal S384x5632 .bf16) (fun r d => f (384 * (t.val % 11) + r) d) := fun j => by
  have ht := point_lt t
  have h0 : (j 0).val < 384 := (j 0).isLt
  have hi := (idx t).1
  have e : (iblk m c 0 t : Vec Ideal S384x5632 .bf16) j = V m c main_arg0 (ValueIdx.ix2 (⟨384 * (t.val % 11) + (j 0).val, by omega⟩ : Fin 4224) (⟨(j 1).val, (j 1).isLt⟩ : Fin 5632)) := by
    unfold iblk
    rw [View.read_apply]
    refine congrArg (V m c main_arg0) (funext fun a => Fin.ext ?_)
    match a with
    | ⟨0, _⟩ => show win0_0.index t 0 * 384 + 1 * (j 0).val = 384 * (t.val % 11) + (j 0).val; rw [hi]; show t.val % 11 * 384 + 1 * (j 0).val = _; omega
    | ⟨1, _⟩ => show win0_0.index t 1 * 5632 + 1 * (j 1).val = (j 1).val; rw [hi]; show 0 * 5632 + 1 * (j 1).val = _; omega
  exact e.trans (hX _)

/-- The block of weights of a point. -/
theorem blk_1 (t : Fin cfg0.N) (hX : Is (α := EReal) (m := 5632) (n := 2048) (V m c main_arg1) g) :
    Is (α := EReal) (iblk m c 1 t : Vec Ideal S5632x1024 .bf16) (fun r d => g r (1024 * (t.val / 11) + d)) := fun j => by
  have ht := point_lt t
  have h1 : (j 1).val < 1024 := (j 1).isLt
  have hi := (idx t).2.1
  have e : (iblk m c 1 t : Vec Ideal S5632x1024 .bf16) j = V m c main_arg1 (ValueIdx.ix2 (⟨(j 0).val, (j 0).isLt⟩ : Fin 5632) (⟨1024 * (t.val / 11) + (j 1).val, by omega⟩ : Fin 2048)) := by
    unfold iblk
    rw [View.read_apply]
    refine congrArg (V m c main_arg1) (funext fun a => Fin.ext ?_)
    match a with
    | ⟨0, _⟩ => show win0_1.index t 0 * 5632 + 1 * (j 0).val = (j 0).val; rw [hi]; show 0 * 5632 + 1 * (j 0).val = _; omega
    | ⟨1, _⟩ => show win0_1.index t 1 * 1024 + 1 * (j 1).val = 1024 * (t.val / 11) + (j 1).val; rw [hi]; show t.val / 11 * 1024 + 1 * (j 1).val = _; omega
  exact e.trans (hX _)

/-- The block of the stream of a point. -/
theorem blk_2 (t : Fin cfg0.N) (hX : Is (α := EReal) (m := 4224) (n := 2048) (V m c main_arg2) h) :
    Is (α := EReal) (iblk m c 2 t : Vec Ideal S384x1024 .f32) (fun r d => h (384 * (t.val % 11) + r) (1024 * (t.val / 11) + d)) := fun j => by
  have ht := point_lt t
  have h0 : (j 0).val < 384 := (j 0).isLt
  have h1 : (j 1).val < 1024 := (j 1).isLt
  have hi := (idx t).2.2.1
  have e : (iblk m c 2 t : Vec Ideal S384x1024 .f32) j = V m c main_arg2 (ValueIdx.ix2 (⟨384 * (t.val % 11) + (j 0).val, by omega⟩ : Fin 4224) (⟨1024 * (t.val / 11) + (j 1).val, by omega⟩ : Fin 2048)) := by
    unfold iblk
    rw [View.read_apply]
    refine congrArg (V m c main_arg2) (funext fun a => Fin.ext ?_)
    match a with
    | ⟨0, _⟩ => show win0_2.index t 0 * 384 + 1 * (j 0).val = 384 * (t.val % 11) + (j 0).val; rw [hi]; show t.val % 11 * 384 + 1 * (j 0).val = _; omega
    | ⟨1, _⟩ => show win0_2.index t 1 * 1024 + 1 * (j 1).val = 1024 * (t.val / 11) + (j 1).val; rw [hi]; show t.val / 11 * 1024 + 1 * (j 1).val = _; omega
  exact e.trans (hX _)

/-- The body's result: the product of its first two blocks, added to the third. -/
theorem out (x0 : Vec Ideal S384x5632 .bf16) (x1 : Vec Ideal S5632x1024 .bf16) (x2 : Vec Ideal S384x1024 .f32) (h0 : Is (α := EReal) x0 f)
    (h1 : Is (α := EReal) x1 g) (h2 : Is (α := EReal) x2 h) (j : S384x1024.Idx) :
    (out0_3 x0 x1 x2 j : EReal) = ∑ k ∈ range 5632, f (j 0).val k * g k (j 1).val + h (j 0).val (j 1).val := by
  unfold out0_3
  rw [View.canon_unit_zero corner2, View.ld_unit_zero corner2, View.ld_unit_zero corner2, View.ld_unit_zero corner2]
  unfold k0_pay1
  exact (Is.mm_nn _ rfl h0 h1 _ rfl).add h2 j

/-- The reference's output, element by element. -/
theorem reference {x0 : (Sh 4224 5632).Idx → EReal} {x1 : (Sh 5632 2048).Idx → EReal} {x2 : (Sh 4224 2048).Idx → EReal} (h0 : Is x0 f) (h1 : Is x1 g) (h2 : Is x2 h) (i : S4224x2048.Idx) :
    (Cert.FfnDownRefIdeal.Read.val_main_v3 (F := Ideal) x0 x1 x2 i : EReal) = h (i 0).val (i 1).val + ∑ k ∈ range 5632, f (i 0).val k * g k (i 1).val := by
  rw [Cert.FfnDownRefIdeal.Read.val_main_v3_apply]
  refine congrArg₂ (fun a b : EReal => a + b) (h2 i) ?_
  rw [Cert.FfnDownRefIdeal.Read.val_main_v2_apply, Finset.sum_range]
  exact Finset.sum_congr rfl fun k _ => congrArg₂ (· * ·) (h0.at _ rfl rfl) (h1.at _ rfl rfl)

/-- The output of a point, at one element. -/
theorem at_3 (t : Fin cfg0.N) (y : S384x1024.Idx) (i : S4224x2048.Idx) (k0 : (i 0).val = 384 * (t.val % 11) + (y 0).val) (k1 : (i 1).val = 1024 * (t.val / 11) + (y 1).val) :
    out0_3 (F := Ideal) (iblk m c 0 t) (iblk m c 1 t) (iblk m c 2 t) y
      = Cert.FfnDownRefIdeal.Read.val_main_v3 (F := Ideal) (V m c main_arg0) (V m c main_arg1) (V m c main_arg2) i := by
  obtain ⟨f, h0⟩ := exists_is (m := 4224) (n := 5632) (V m c main_arg0)
  obtain ⟨g, h1⟩ := exists_is (m := 5632) (n := 2048) (V m c main_arg1)
  obtain ⟨h, h2⟩ := exists_is (m := 4224) (n := 2048) (V m c main_arg2)
  refine (out _ _ _ (blk_0 t h0) (blk_1 t h1) (blk_2 t h2) y).trans ?_
  refine Eq.trans ?_ (reference h0 h1 h2 i).symm
  rw [k0, k1]
  exact add_comm _ _

/-- The kernel's array is the reference's output. -/
theorem final : (dats m 0 c).arrAt 3 cfg0.N = Cert.FfnDownRefIdeal.Read.val_main_v3 (F := Ideal) (V m c main_arg0) (V m c main_arg1) (V m c main_arg2) := by
  refine (dats m 0 c).arrAt_eq_of_covers 3 _ (by decide +kernel) fun t hf y => ?_
  have hi := (idx t).2.2.2
  blk_simp
  rw [after0_3]
  exact at_3 t y (((cfg0.win 3).blk t).view.emb y) (by
    show win0_3.index t 0 * 384 + 1 * (y 0).val = 384 * (t.val % 11) + (y 0).val
    rw [hi]; show t.val % 11 * 384 + 1 * (y 0).val = _; omega) (by
    show win0_3.index t 1 * 1024 + 1 * (y 1).val = 1024 * (t.val / 11) + (y 1).val
    rw [hi]; show t.val / 11 * 1024 + 1 * (y 1).val = _; omega)

end Cert.Proof.Down

end
-- ==== Proof.ProdIn.lean ====
/- The recurrent layer's inputs: the kernel's blocks of products are the reference's one product. -/
module

public import proofs.«01_k».proof.Proof.Tab
public import proofs.«01_k».proof.Proof.Gen.LruInIdeal.Value
public import proofs.«01_k».proof.Proof.Gen.LruInRefIdeal.Read

@[expose] public section

set_option maxRecDepth 16384

noncomputable section

namespace Cert.Proof.In

open Cert.LruInIdeal Cert.LruInIdeal.Gen
open Idealize.ShloMosaic Idealize.ShloMosaic.TcCoe
open scoped BigOperators
open Finset (range)
open Cert.Proof.Table

variable {m : (ℓ : Loc nD τ sig) → Buf (Elt Ideal) ℓ} {c : Dev nD}
variable {f : ℕ → ℕ → EReal} {g : ℕ → ℕ → ℕ → EReal}

/-- The blocks of a point: rows of the activations, one shard of the weights, rows and columns of the result. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

/-- There are twenty-four points. -/
theorem point_lt (t : Fin cfg0.N) : t.val < 24 := by have h : cfg0.N = 24 := N_0; have := t.isLt; omega

/-- The block of activations of a point. -/
theorem blk_0 (t : Fin cfg0.N) (hX : Is (α := EReal) (m := 4224) (n := 2048) (V m c main_arg0) f) :
    Is (α := EReal) (iblk m c 0 t : Vec Ideal S1408x2048 .bf16) (fun r d => f (1408 * (t.val / 8) + r) d) := fun j => by
  have ht := point_lt t
  have h0 : (j 0).val < 1408 := (j 0).isLt
  have hi := (idx t).1
  have e : (iblk m c 0 t : Vec Ideal S1408x2048 .bf16) j = V m c main_arg0 (ValueIdx.ix2 (⟨1408 * (t.val / 8) + (j 0).val, by omega⟩ : Fin 4224) (⟨(j 1).val, (j 1).isLt⟩ : Fin 2048)) := by
    unfold iblk
    rw [View.read_apply]
    refine congrArg (V m c main_arg0) (funext fun a => Fin.ext ?_)
    match a with
    | ⟨0, _⟩ => show win0_0.index t 0 * 1408 + 1 * (j 0).val = 1408 * (t.val / 8) + (j 0).val; rw [hi]; show t.val / 8 * 1408 + 1 * (j 0).val = _; omega
    | ⟨1, _⟩ => show win0_0.index t 1 * 2048 + 1 * (j 1).val = (j 1).val; rw [hi]; show 0 * 2048 + 1 * (j 1).val = _; omega
  exact e.trans (hX _)

/-- The block of weights of a point. -/
theorem blk_1 (t : Fin cfg0.N) (hX : Is3 (α := EReal) (p := 8) (m := 2048) (n := 512) (V m c main_arg1) g) (j : S1x2048x512.Idx) :
    (iblk m c 1 t : Vec Ideal S1x2048x512 .bf16) j = g (t.val % 8) (j 1).val (j 2).val := by
  have h0 : (j 0).val < 1 := (j 0).isLt
  have hi := (idx t).2.1
  have e : (iblk m c 1 t : Vec Ideal S1x2048x512 .bf16) j
      = V m c main_arg1 (ValueIdx.ix3 (⟨t.val % 8, by omega⟩ : Fin 8) (⟨(j 1).val, (j 1).isLt⟩ : Fin 2048) (⟨(j 2).val, (j 2).isLt⟩ : Fin 512)) := by
    unfold iblk
    rw [View.read_apply]
    refine congrArg (V m c main_arg1) (funext fun a => Fin.ext ?_)
    match a with
    | ⟨0, _⟩ => show win0_1.index t 0 * 1 + 1 * (j 0).val = t.val % 8; rw [hi]; show t.val % 8 * 1 + 1 * (j 0).val = _; omega
    | ⟨1, _⟩ => show win0_1.index t 1 * 2048 + 1 * (j 1).val = (j 1).val; rw [hi]; show 0 * 2048 + 1 * (j 1).val = _; omega
    | ⟨2, _⟩ => show win0_1.index t 2 * 512 + 1 * (j 2).val = (j 2).val; rw [hi]; show 0 * 512 + 1 * (j 2).val = _; omega
  exact e.trans (hX _)

/-- The body's result: the product of its two blocks. -/
theorem out (x0 : Vec Ideal S1408x2048 .bf16) (x1 : Vec Ideal S1x2048x512 .bf16) {a b : ℕ → ℕ → EReal} (h0 : Is (α := EReal) x0 a)
    (h1 : ∀ j, (x1 j : EReal) = b (j 1).val (j 2).val) (j : S1408x512.Idx) :
    (out0_2 x0 x1 j : EReal) = ∑ k ∈ range 2048, a (j 0).val k * b k (j 1).val := by
  unfold out0_2
  rw [View.canon_unit_zero corner2, View.ld_unit_zero corner2, View.ld_unit_zero corner3]
  unfold k0_pay1
  exact Is.mm_nn _ rfl h0 (Is.dropUnit h1 _) _ rfl j

/-- The reference's inputs, element by element. -/
theorem reference {x0 : (Sh 4224 2048).Idx → EReal} {x1 : (Sh3 8 2048 512).Idx → EReal} (h0 : Is x0 f) (h1 : Is3 x1 g) (i : S4224x4096.Idx) :
    (Cert.LruInRefIdeal.Read.val_main_v4 (F := Ideal) x0 x1 i : EReal)
      = ∑ k ∈ range 2048, f (i 0).val k * g ((i 1).val / 512) k ((i 1).val % 512) := by
  have i1 : (i 1).val < 4096 := (i 1).isLt
  rw [Cert.LruInRefIdeal.Read.val_main_v4_apply, Finset.sum_range]
  refine Finset.sum_congr rfl fun k _ => congrArg₂ (· * ·) (h0.at _ rfl rfl) ?_
  rw [Cert.LruInRefIdeal.Read.val_main_v3_apply]
  show (Cert.LruInRefIdeal.Read.val_main_v2 (F := Ideal) x1 _ : EReal) = _
  rw [Cert.LruInRefIdeal.Read.val_main_v2_apply, Cert.LruInRefIdeal.Read.val_main_v1_apply]
  have hk := k.isLt
  refine h1.at _ ?_ ?_ ?_
  · show (k.val * 4096 + (i 1).val) / 512 % 8 = _; omega
  · show (k.val * 4096 + (i 1).val) / 4096 = _; omega
  · show (k.val * 4096 + (i 1).val) % 512 = _; omega

/-- The inputs of a point, at one element. -/
theorem at_2 (t : Fin cfg0.N) (y : S1408x512.Idx) (i : S4224x4096.Idx) (k0 : (i 0).val = 1408 * (t.val / 8) + (y 0).val) (k1 : (i 1).val = 512 * (t.val % 8) + (y 1).val) :
    out0_2 (F := Ideal) (iblk m c 0 t) (iblk m c 1 t) y = Cert.LruInRefIdeal.Read.val_main_v4 (F := Ideal) (V m c main_arg0) (V m c main_arg1) i := by
  have y1 : (y 1).val < 512 := (y 1).isLt
  obtain ⟨f, h0⟩ := exists_is (m := 4224) (n := 2048) (V m c main_arg0)
  obtain ⟨g, h1⟩ := exists_is3 (p := 8) (m := 2048) (n := 512) (V m c main_arg1)
  refine (out _ _ (blk_0 t h0) (b := fun r d => g (t.val % 8) r d) (blk_1 t h1) y).trans ?_
  refine Eq.trans ?_ (reference h0 h1 i).symm
  rw [k0, k1, show (512 * (t.val % 8) + (y 1).val) / 512 = t.val % 8 by omega, show (512 * (t.val % 8) + (y 1).val) % 512 = (y 1).val by omega]

/-- The kernel's array is the reference's inputs. -/
theorem final : (dats m 0 c).arrAt 2 cfg0.N = Cert.LruInRefIdeal.Read.val_main_v4 (F := Ideal) (V m c main_arg0) (V m c main_arg1) := by
  refine (dats m 0 c).arrAt_eq_of_covers 2 _ (by decide +kernel) fun t hf y => ?_
  have hi := (idx t).2.2
  blk_simp
  rw [after0_2]
  exact at_2 t y (((cfg0.win 2).blk t).view.emb y) (by
    show win0_2.index t 0 * 1408 + 1 * (y 0).val = 1408 * (t.val / 8) + (y 0).val
    rw [hi]; show t.val / 8 * 1408 + 1 * (y 0).val = _; omega) (by
    show win0_2.index t 1 * 512 + 1 * (y 1).val = 512 * (t.val % 8) + (y 1).val
    rw [hi]; show t.val % 8 * 512 + 1 * (y 1).val = _; omega)

end Cert.Proof.In

end
-- ==== Proof.GradL.lean ====
/- The gradient of the recurrent layer's first weights: the kernel's blocks of products are the reference's one product. -/
module

public import proofs.«01_k».proof.Proof.Tab
public import proofs.«01_k».proof.Proof.Gen.LruDwIdeal.Value
public import proofs.«01_k».proof.Proof.Gen.LruDwRefIdeal.Read

@[expose] public section

set_option maxRecDepth 16384

noncomputable section

namespace Cert.Proof.LW

open Cert.LruDwIdeal Cert.LruDwIdeal.Gen
open Idealize.ShloMosaic Idealize.ShloMosaic.TcCoe
open scoped BigOperators
open Finset (range)
open Cert.Proof.Table

variable {m : (ℓ : Loc nD τ sig) → Buf (Elt Ideal) ℓ} {c : Dev nD}
variable {f : ℕ → ℕ → EReal} {g : ℕ → ℕ → ℕ → EReal}

/-- The blocks of a point: the columns of the activations, the columns of a plane of the gradient, the rows of a shard. -/
theorem idx : ∀ t : Fin cfg0.N, win0_0.index t = ![0, t.val / 8] ∧ win0_1.index t = ![t.val / 4 % 2, 0, t.val % 4] ∧ win0_2.index t = ![t.val % 8, t.val / 8, 0] :=
  (by decide +kernel : ∀ t : Fin grid0.N, _)

/-- There are sixteen points. -/
theorem point_lt (t : Fin cfg0.N) : t.val < 16 := by have h : cfg0.N = 16 := N_0; have := t.isLt; omega

/-- The block of activations of a point. -/
theorem blk_0 (t : Fin cfg0.N) (hX : Is (α := EReal) (m := 4224) (n := 2048) (V m c main_arg0) f) :
    Is (α := EReal) (iblk m c 0 t : Vec Ideal S4224x1024 .bf16) (fun r d => f r (1024 * (t.val / 8) + d)) := fun j => by
  have ht := point_lt t
  have h1 : (j 1).val < 1024 := (j 1).isLt
  have hi := (idx t).1
  have e : (iblk m c 0 t : Vec Ideal S4224x1024 .bf16) j = V m c main_arg0 (ValueIdx.ix2 (⟨(j 0).val, (j 0).isLt⟩ : Fin 4224) (⟨1024 * (t.val / 8) + (j 1).val, by omega⟩ : Fin 2048)) := by
    unfold iblk
    rw [View.read_apply]
    refine congrArg (V m c main_arg0) (funext fun a => Fin.ext ?_)
    match a with
    | ⟨0, _⟩ => show win0_0.index t 0 * 4224 + 1 * (j 0).val = (j 0).val; rw [hi]; show 0 * 4224 + 1 * (j 0).val = _; omega
    | ⟨1, _⟩ => show win0_0.index t 1 * 1024 + 1 * (j 1).val = 1024 * (t.val / 8) + (j 1).val; rw [hi]; show t.val / 8 * 1024 + 1 * (j 1).val = _; omega
  exact e.trans (hX _)

/-- The block of the gradient of a point. -/
theorem blk_1 (t : Fin cfg0.N) (hX : Is3 (α := EReal) (p := 2) (m := 4224) (n := 2048) (V m c main_arg1) g) (j : S1x4224x512.Idx) :
    (iblk m c 1 t : Vec Ideal S1x4224x512 .bf16) j = g (t.val / 4 % 2) (j 1).val (512 * (t.val % 4) + (j 2).val) := by
  have ht := point_lt t
  have h0 : (j 0).val < 1 := (j 0).isLt
  have h2 : (j 2).val < 512 := (j 2).isLt
  have hi := (idx t).2.1
  have e : (iblk m c 1 t : Vec Ideal S1x4224x512 .bf16) j
      = V m c main_arg1 (ValueIdx.ix3 (⟨t.val / 4 % 2, by omega⟩ : Fin 2) (⟨(j 1).val, (j 1).isLt⟩ : Fin 4224) (⟨512 * (t.val % 4) + (j 2).val, by omega⟩ : Fin 2048)) := by
    unfold iblk
    rw [View.read_apply]
    refine congrArg (V m c main_arg1) (funext fun a => Fin.ext ?_)
    match a with
    | ⟨0, _⟩ => show win0_1.index t 0 * 1 + 1 * (j 0).val = t.val / 4 % 2; rw [hi]; show t.val / 4 % 2 * 1 + 1 * (j 0).val = _; omega
    | ⟨1, _⟩ => show win0_1.index t 1 * 4224 + 1 * (j 1).val = (j 1).val; rw [hi]; show 0 * 4224 + 1 * (j 1).val = _; omega
    | ⟨2, _⟩ => show win0_1.index t 2 * 512 + 1 * (j 2).val = 512 * (t.val % 4) + (j 2).val; rw [hi]; show t.val % 4 * 512 + 1 * (j 2).val = _; omega
  exact e.trans (hX _)

/-- The body's result: the product of its two blocks. -/
theorem out (x0 : Vec Ideal S4224x1024 .bf16) (x1 : Vec Ideal S1x4224x512 .bf16) {a b : ℕ → ℕ → EReal} (h0 : Is (α := EReal) x0 a)
    (h1 : ∀ j, (x1 j : EReal) = b (j 1).val (j 2).val) (j : S1x1024x512.Idx) :
    (out0_2 x0 x1 j : EReal) = ∑ k ∈ range 4224, a k (j 1).val * b k (j 2).val := by
  unfold out0_2
  rw [View.canon_unit_zero corner3, View.ld_unit_zero corner2, View.ld_unit_zero corner3]
  unfold k0_pay1
  exact Is.addUnit (Is.narrow _ (Is.mm_tn _ rfl h0 (Is.dropUnit h1 _) _ rfl)) _ j

/-- The reference's gradient, element by element. -/
theorem reference {x0 : (Sh 4224 2048).Idx → EReal} {x1 : (Sh3 2 4224 2048).Idx → EReal} (h0 : Is x0 f) (h1 : Is3 x1 g) (i : S8x2048x512.Idx) :
    (Cert.LruDwRefIdeal.Read.val_main_v10 (F := Ideal) x0 x1 i : EReal)
      = ∑ k ∈ range 4224, g ((512 * (i 0).val + (i 2).val) / 2048) k ((512 * (i 0).val + (i 2).val) % 2048) * f k (i 1).val := by
  have i0 : (i 0).val < 8 := (i 0).isLt
  have i1 : (i 1).val < 2048 := (i 1).isLt
  have i2 : (i 2).val < 512 := (i 2).isLt
  rw [Cert.LruDwRefIdeal.Read.val_main_v10_apply]
  show (Cert.LruDwRefIdeal.Read.val_main_v9 (F := Ideal) x0 x1 i : EReal) = _
  rw [Cert.LruDwRefIdeal.Read.val_main_v9_apply, Cert.LruDwRefIdeal.Read.val_main_v8_apply, Cert.LruDwRefIdeal.Read.val_main_v7_apply, Cert.LruDwRefIdeal.Read.val_main_v6_apply,
    Finset.sum_range]
  refine Finset.sum_congr rfl fun k _ => congrArg₂ (· * ·) ?_ ?_
  · rw [Cert.LruDwRefIdeal.Read.val_main_v2_apply]
    show (Cert.LruDwRefIdeal.Read.val_main_v1 (F := Ideal) x1 _ : EReal) = _
    rw [Cert.LruDwRefIdeal.Read.val_main_v1_apply, Cert.LruDwRefIdeal.Read.val_main_v0_apply]
    have hk := k.isLt
    refine h1.at _ ?_ ?_ ?_
    · show (k.val * 4096 + (((i 1).val * 8 + (i 0).val) * 512 + (i 2).val) % 4096) / 2048 % 2 = _; omega
    · show (k.val * 4096 + (((i 1).val * 8 + (i 0).val) * 512 + (i 2).val) % 4096) / 4096 = _; omega
    · show (k.val * 4096 + (((i 1).val * 8 + (i 0).val) * 512 + (i 2).val) % 4096) % 2048 = _; omega
  · rw [Cert.LruDwRefIdeal.Read.val_main_v4_apply]
    refine h0.at _ rfl ?_
    show (((i 1).val * 8 + (i 0).val) * 512 + (i 2).val) / 4096 = _; omega

/-- The gradient of a point, at one element. -/
theorem at_2 (t : Fin cfg0.N) (y : S1x1024x512.Idx) (i : S8x2048x512.Idx) (k0 : (i 0).val = t.val % 8) (k1 : (i 1).val = 1024 * (t.val / 8) + (y 1).val)
    (k2 : (i 2).val = (y 2).val) :
    out0_2 (F := Ideal) (iblk m c 0 t) (iblk m c 1 t) y = Cert.LruDwRefIdeal.Read.val_main_v10 (F := Ideal) (V m c main_arg0) (V m c main_arg1) i := by
  have ht := point_lt t
  have y2 : (y 2).val < 512 := (y 2).isLt
  obtain ⟨f, h0⟩ := exists_is (m := 4224) (n := 2048) (V m c main_arg0)
  obtain ⟨g, h1⟩ := exists_is3 (p := 2) (m := 4224) (n := 2048) (V m c main_arg1)
  refine (out _ _ (blk_0 t h0) (b := fun r d => g (t.val / 4 % 2) r (512 * (t.val % 4) + d)) (blk_1 t h1) y).trans ?_
  refine Eq.trans ?_ (reference h0 h1 i).symm
  rw [k0, k1, k2]
  refine Finset.sum_congr rfl fun k _ => ?_
  rw [show (512 * (t.val % 8) + (y 2).val) / 2048 = t.val / 4 % 2 by omega, show (512 * (t.val % 8) + (y 2).val) % 2048 = 512 * (t.val % 4) + (y 2).val by omega]
  exact mul_comm _ _

/-- The kernel's array is the reference's gradient. -/
theorem final : (dats m 0 c).arrAt 2 cfg0.N = Cert.LruDwRefIdeal.Read.val_main_v10 (F := Ideal) (V m c main_arg0) (V m c main_arg1) := by
  refine (dats m 0 c).arrAt_eq_of_covers 2 _ (by decide +kernel) fun t hf y => ?_
  have hi := (idx t).2.2
  blk_simp
  rw [after0_2]
  exact at_2 t y (((cfg0.win 2).blk t).view.emb y) (by
    have y0 : (y 0).val < 1 := (y 0).isLt
    show win0_2.index t 0 * 1 + 1 * (y 0).val = t.val % 8
    rw [hi]; show t.val % 8 * 1 + 1 * (y 0).val = _; omega) (by
    show win0_2.index t 1 * 1024 + 1 * (y 1).val = 1024 * (t.val / 8) + (y 1).val
    rw [hi]; show t.val / 8 * 1024 + 1 * (y 1).val = _; omega) (by
    show win0_2.index t 2 * 512 + 1 * (y 2).val = (y 2).val
    rw [hi]; show 0 * 512 + 1 * (y 2).val = _; omega)

end Cert.Proof.LW

end
-- ==== Proof.CallValues.lean ====
/- The results of the two forward calls of the feed-forward layer and of two calls of the recurrent layer are the reference's. -/
module

public import proofs.«01_k».proof.Defs
public import proofs.«01_k».proof.Proof.ProdUp
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnUpIdeal
public import proofs.«01_k».proof.Proof.Gen.FfnUpRefIdeal
public import proofs.«01_k».proof.Proof.ProdDown
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.FfnDownIdeal
public import proofs.«01_k».proof.Proof.Gen.FfnDownRefIdeal
public import proofs.«01_k».proof.Proof.ProdIn
public import proofs.«01_k».proof.Proof.Gen.LruInIdeal.Value
public import proofs.«01_k».proof.Proof.Gen.LruInRefIdeal.Run
public import proofs.«01_k».proof.Proof.Gen.LruInRefIdeal.Read
public import proofs.«01_k».proof.Proof.Gen.LruInIdeal
public import proofs.«01_k».proof.Proof.Gen.LruInRefIdeal
public import proofs.«01_k».proof.Proof.GradL
public import proofs.«01_k».proof.Proof.Gen.LruDwIdeal.Value
public import proofs.«01_k».proof.Proof.Gen.LruDwRefIdeal.Run
public import proofs.«01_k».proof.Proof.Gen.LruDwRefIdeal.Read
public import proofs.«01_k».proof.Proof.Gen.LruDwIdeal
public import proofs.«01_k».proof.Proof.Gen.LruDwRefIdeal

@[expose] public section

set_option maxRecDepth 16384

noncomputable section

namespace Cert.Proof.Calls

open Idealize.ShloMosaic Idealize.ShloMosaic.TcCoe Idealize.SL.Sem

/-- The call for the activation computes the reference's gate, up projection and activation. -/
theorem values_up : Cert.algebraic_FfnUpIdeal_FfnUpRefIdeal (hFfnUpIdeal := Cert.FfnUpIdeal.Gen.facts) (hFfnUpRefIdeal := Cert.FfnUpRefIdeal.Gen.facts) := by
  intro m g m' g' hpre hargs
  refine ⟨fun c => (Cert.FfnUpIdeal.Gen.dats (F := Ideal) m 0 c).arrAt 3 Cert.FfnUpIdeal.cfg0.N, fun c => (Cert.FfnUpIdeal.Gen.dats (F := Ideal) m 0 c).arrAt 4 Cert.FfnUpIdeal.cfg0.N,
    Cert.FfnUpIdeal.Value.run_blocks (F := Ideal) m g, ?_⟩
  refine (θ_run Cert.FfnUpRefIdeal.defs _ _).mono (fun r h c => ?_) (Cert.FfnUpRefIdeal.Value.run (F := Ideal) m' g')
  obtain ⟨e0, e1⟩ := hargs c
  have p := Up.final_planes (m := m) (c := c)
  have a := Up.final_act (m := m) (c := c)
  rw [Cert.FfnUpIdeal.Gen.V_main_arg0, Cert.FfnUpIdeal.Gen.V_main_arg1, ← e0, ← e1] at p a
  exact ⟨((h c).1.trans (Cert.FfnUpRefIdeal.Read.val_main_v10_eq (F := Ideal)
    (m' ((c.tc : Thread Cert.FfnUpRefIdeal.nD Cert.FfnUpRefIdeal.τ).loc Cert.FfnUpRefIdeal.main_arg0)) (m' ((c.tc : Thread Cert.FfnUpRefIdeal.nD Cert.FfnUpRefIdeal.τ).loc Cert.FfnUpRefIdeal.main_arg1)))).trans p.symm,
    ((h c).2.1.trans (Cert.FfnUpRefIdeal.Read.val_main_v13_eq (F := Ideal)
    (m' ((c.tc : Thread Cert.FfnUpRefIdeal.nD Cert.FfnUpRefIdeal.τ).loc Cert.FfnUpRefIdeal.main_arg0)) (m' ((c.tc : Thread Cert.FfnUpRefIdeal.nD Cert.FfnUpRefIdeal.τ).loc Cert.FfnUpRefIdeal.main_arg1)))).trans a.symm, (h c).2.2⟩

/-- The call for the down projection computes the reference's. -/
theorem values_down : Cert.algebraic_FfnDownIdeal_FfnDownRefIdeal (hFfnDownIdeal := Cert.FfnDownIdeal.Gen.facts) (hFfnDownRefIdeal := Cert.FfnDownRefIdeal.Gen.facts) := by
  intro m g m' g' hpre hargs
  refine ⟨fun c => (Cert.FfnDownIdeal.Gen.dats (F := Ideal) m 0 c).arrAt 3 Cert.FfnDownIdeal.cfg0.N, Cert.FfnDownIdeal.Value.run_blocks (F := Ideal) m g, ?_⟩
  refine (θ_run Cert.FfnDownRefIdeal.defs _ _).mono (fun r h c => ?_) (Cert.FfnDownRefIdeal.Value.run (F := Ideal) m' g')
  obtain ⟨e0, e1, e2⟩ := hargs c
  have f := Down.final (m := m) (c := c)
  rw [Cert.FfnDownIdeal.Gen.V_main_arg0, Cert.FfnDownIdeal.Gen.V_main_arg1, Cert.FfnDownIdeal.Gen.V_main_arg2, ← e0, ← e1, ← e2] at f
  exact ⟨((h c).1.trans (Cert.FfnDownRefIdeal.Read.val_main_v3_eq (F := Ideal)
    (m' ((c.tc : Thread Cert.FfnDownRefIdeal.nD Cert.FfnDownRefIdeal.τ).loc Cert.FfnDownRefIdeal.main_arg0)) (m' ((c.tc : Thread Cert.FfnDownRefIdeal.nD Cert.FfnDownRefIdeal.τ).loc Cert.FfnDownRefIdeal.main_arg1)) (m' ((c.tc : Thread Cert.FfnDownRefIdeal.nD Cert.FfnDownRefIdeal.τ).loc Cert.FfnDownRefIdeal.main_arg2)))).trans f.symm, (h c).2⟩

/-- The call for the recurrent layer's inputs computes the reference's. -/
theorem values_in : Cert.algebraic_LruInIdeal_LruInRefIdeal (hLruInIdeal := Cert.LruInIdeal.Gen.facts) (hLruInRefIdeal := Cert.LruInRefIdeal.Gen.facts) := by
  intro m g m' g' hpre hargs
  refine ⟨fun c => (Cert.LruInIdeal.Gen.dats (F := Ideal) m 0 c).arrAt 2 Cert.LruInIdeal.cfg0.N, Cert.LruInIdeal.Value.run_blocks (F := Ideal) m g, ?_⟩
  refine (θ_run Cert.LruInRefIdeal.defs _ _).mono (fun r h c => ?_) (Cert.LruInRefIdeal.Value.run (F := Ideal) m' g')
  obtain ⟨e0, e1⟩ := hargs c
  have f := In.final (m := m) (c := c)
  rw [Cert.LruInIdeal.Gen.V_main_arg0, Cert.LruInIdeal.Gen.V_main_arg1, ← e0, ← e1] at f
  exact ⟨((h c).1.trans (Cert.LruInRefIdeal.Read.val_main_v4_eq (F := Ideal)
    (m' ((c.tc : Thread Cert.LruInRefIdeal.nD Cert.LruInRefIdeal.τ).loc Cert.LruInRefIdeal.main_arg0)) (m' ((c.tc : Thread Cert.LruInRefIdeal.nD Cert.LruInRefIdeal.τ).loc Cert.LruInRefIdeal.main_arg1)))).trans f.symm, (h c).2⟩

/-- The call for the gradient of the recurrent layer's first weights computes the reference's. -/
theorem values_dw_in : Cert.algebraic_LruDwIdeal_LruDwRefIdeal (hLruDwIdeal := Cert.LruDwIdeal.Gen.facts) (hLruDwRefIdeal := Cert.LruDwRefIdeal.Gen.facts) := by
  intro m g m' g' hpre hargs
  refine ⟨fun c => (Cert.LruDwIdeal.Gen.dats (F := Ideal) m 0 c).arrAt 2 Cert.LruDwIdeal.cfg0.N, Cert.LruDwIdeal.Value.run_blocks (F := Ideal) m g, ?_⟩
  refine (θ_run Cert.LruDwRefIdeal.defs _ _).mono (fun r h c => ?_) (Cert.LruDwRefIdeal.Value.run (F := Ideal) m' g')
  obtain ⟨e0, e1⟩ := hargs c
  have f := LW.final (m := m) (c := c)
  rw [Cert.LruDwIdeal.Gen.V_main_arg0, Cert.LruDwIdeal.Gen.V_main_arg1, ← e0, ← e1] at f
  exact ⟨((h c).1.trans (Cert.LruDwRefIdeal.Read.val_main_v10_eq (F := Ideal)
    (m' ((c.tc : Thread Cert.LruDwRefIdeal.nD Cert.LruDwRefIdeal.τ).loc Cert.LruDwRefIdeal.main_arg0)) (m' ((c.tc : Thread Cert.LruDwRefIdeal.nD Cert.LruDwRefIdeal.τ).loc Cert.LruDwRefIdeal.main_arg1)))).trans f.symm, (h c).2⟩

end Cert.Proof.Calls

end
-- ==== Proof.OptFrames.lean ====
/- The frames of three calls of the optimiser. -/
module

public import proofs.«01_k».proof.Defs
public import proofs.«01_k».proof.Proof.Gen.Opt
public import proofs.«01_k».proof.Proof.Gen.OptIdeal
public import proofs.«01_k».proof.Proof.Gen.OptIdeal.Frame
public import proofs.«01_k».proof.Proof.Gen.OptRefIdeal
public import proofs.«01_k».proof.Proof.Gen.OptRefIdeal.Run
public import proofs.«01_k».proof.Proof.Gen.OptRow
public import proofs.«01_k».proof.Proof.Gen.OptRowIdeal
public import proofs.«01_k».proof.Proof.Gen.OptRowIdeal.Frame
public import proofs.«01_k».proof.Proof.Gen.OptRowRefIdeal
public import proofs.«01_k».proof.Proof.Gen.OptRowRefIdeal.Run
public import proofs.«01_k».proof.Proof.Gen.OptLatent
public import proofs.«01_k».proof.Proof.Gen.OptLatentIdeal
public import proofs.«01_k».proof.Proof.Gen.OptLatentIdeal.Frame
public import proofs.«01_k».proof.Proof.Gen.OptLatentRefIdeal
public import proofs.«01_k».proof.Proof.Gen.OptLatentRefIdeal.Run
public import Idealize.ShloMosaic.Lib.Quiescent

@[expose] public section

set_option maxRecDepth 16384

noncomputable section

namespace Cert.Proof.Calls

open Idealize.ShloMosaic Idealize.ShloMosaic.TcCoe Idealize.SL.Sem

/-- The two bodies of the optimiser's call for a gate's weights are one text. -/
theorem body_opt : Cert.Opt.cc0_adamw_lru_w_gate_a (F := Bits) = Cert.OptIdeal.cc0_adamw_lru_w_gate_a (F := Bits) := by rfl

/-- The two tables of bodies of the optimiser's call for a gate's weights agree. -/
theorem bodies_opt : Cert.Opt.defs₀ (F := Bits) = Cert.OptIdeal.defs₀ (F := Bits) := by
  unfold Cert.Opt.defs₀ Cert.OptIdeal.defs₀
  refine congrArg Defs.onTc ?_
  funext l x
  match l, x with
  | 0, (t, s) =>
    show Cert.Opt.cc0_adamw_lru_w_gate_a (F := Bits) _ _ _ _ _ _ _ _ _ _ _ _ _ _ _ _ _ = _
    rw [body_opt]
    rfl

/-- The two tables of pipelines of the optimiser's call for a gate's weights agree. -/
theorem defs_opt : Cert.Opt.defs (F := Bits) = Cert.OptIdeal.defs (F := Bits) := by
  unfold Cert.Opt.defs Cert.OptIdeal.defs
  rw [bodies_opt]
  rfl

/-- The two host programs of the optimiser's call for a gate's weights agree. -/
theorem main_opt : Cert.Opt.main (F := Bits) = Cert.OptIdeal.main (F := Bits) := by rfl

/-- The frame of the optimiser's call for a gate's weights, on the device's words: the run is the one over any values. -/
theorem frame_opt : Cert.quiescent_Opt (hOpt := Cert.Opt.Gen.facts) := by
  intro m ρ _
  rw [defs_opt, main_opt]
  exact (θ_run Cert.OptIdeal.defs _ _).mono (fun _ h => h) (Cert.OptIdeal.Gen.frame (F := Bits) m ρ)

/-- The frame of the idealized call for a gate's weights. -/
theorem frame_opt_ideal : Cert.quiescent_OptIdeal (hOptIdeal := Cert.OptIdeal.Gen.facts) :=
  fun m ρ _ => Cert.OptIdeal.Gen.frame (F := Ideal) m ρ

/-- The frame of the reference's step of a gate's weights. -/
theorem frame_opt_ref : Cert.quiescent_OptRefIdeal (hOptRefIdeal := Cert.OptRefIdeal.Gen.facts) :=
  fun m ρ _ => (θ_run (Cert.OptRefIdeal.defs (F := Ideal)) _ _).mono (fun r h => ⟨fun c => (h c).2.2.2.2, sem_eq_zero_of_no_sems (by decide) r.2⟩) (Cert.OptRefIdeal.Value.run (F := Ideal) m ρ)

/-- The two bodies of the optimiser's call for a norm's gains are one text. -/
theorem body_row : Cert.OptRow.cc0_adamw_norm_mix (F := Bits) = Cert.OptRowIdeal.cc0_adamw_norm_mix (F := Bits) := by rfl

/-- The two tables of bodies of the optimiser's call for a norm's gains agree. -/
theorem bodies_row : Cert.OptRow.defs₀ (F := Bits) = Cert.OptRowIdeal.defs₀ (F := Bits) := by
  unfold Cert.OptRow.defs₀ Cert.OptRowIdeal.defs₀
  refine congrArg Defs.onTc ?_
  funext l x
  match l, x with
  | 0, (t, s) =>
    show Cert.OptRow.cc0_adamw_norm_mix (F := Bits) _ _ _ _ _ _ _ _ _ _ _ _ _ _ _ _ _ = _
    rw [body_row]
    rfl

/-- The two tables of pipelines of the optimiser's call for a norm's gains agree. -/
theorem defs_row : Cert.OptRow.defs (F := Bits) = Cert.OptRowIdeal.defs (F := Bits) := by
  unfold Cert.OptRow.defs Cert.OptRowIdeal.defs
  rw [bodies_row]
  rfl

/-- The two host programs of the optimiser's call for a norm's gains agree. -/
theorem main_row : Cert.OptRow.main (F := Bits) = Cert.OptRowIdeal.main (F := Bits) := by rfl

/-- The frame of the optimiser's call for a norm's gains, on the device's words: the run is the one over any values. -/
theorem frame_row : Cert.quiescent_OptRow (hOptRow := Cert.OptRow.Gen.facts) := by
  intro m ρ _
  rw [defs_row, main_row]
  exact (θ_run Cert.OptRowIdeal.defs _ _).mono (fun _ h => h) (Cert.OptRowIdeal.Gen.frame (F := Bits) m ρ)

/-- The frame of the idealized call for a norm's gains. -/
theorem frame_row_ideal : Cert.quiescent_OptRowIdeal (hOptRowIdeal := Cert.OptRowIdeal.Gen.facts) :=
  fun m ρ _ => Cert.OptRowIdeal.Gen.frame (F := Ideal) m ρ

/-- The frame of the reference's step of a norm's gains. -/
theorem frame_row_ref : Cert.quiescent_OptRowRefIdeal (hOptRowRefIdeal := Cert.OptRowRefIdeal.Gen.facts) :=
  fun m ρ _ => (θ_run (Cert.OptRowRefIdeal.defs (F := Ideal)) _ _).mono (fun r h => ⟨fun c => (h c).2.2.2.2, sem_eq_zero_of_no_sems (by decide) r.2⟩) (Cert.OptRowRefIdeal.Value.run (F := Ideal) m ρ)

/-- The two bodies of the optimiser's call for a latent norm's gains are one text. -/
theorem body_latent : Cert.OptLatent.cc0_adamw_mla_q_norm (F := Bits) = Cert.OptLatentIdeal.cc0_adamw_mla_q_norm (F := Bits) := by rfl

/-- The two tables of bodies of the optimiser's call for a latent norm's gains agree. -/
theorem bodies_latent : Cert.OptLatent.defs₀ (F := Bits) = Cert.OptLatentIdeal.defs₀ (F := Bits) := by
  unfold Cert.OptLatent.defs₀ Cert.OptLatentIdeal.defs₀
  refine congrArg Defs.onTc ?_
  funext l x
  match l, x with
  | 0, (t, s) =>
    show Cert.OptLatent.cc0_adamw_mla_q_norm (F := Bits) _ _ _ _ _ _ _ _ _ _ _ _ _ _ _ _ _ = _
    rw [body_latent]
    rfl

/-- The two tables of pipelines of the optimiser's call for a latent norm's gains agree. -/
theorem defs_latent : Cert.OptLatent.defs (F := Bits) = Cert.OptLatentIdeal.defs (F := Bits) := by
  unfold Cert.OptLatent.defs Cert.OptLatentIdeal.defs
  rw [bodies_latent]
  rfl

/-- The two host programs of the optimiser's call for a latent norm's gains agree. -/
theorem main_latent : Cert.OptLatent.main (F := Bits) = Cert.OptLatentIdeal.main (F := Bits) := by rfl

/-- The frame of the optimiser's call for a latent norm's gains, on the device's words: the run is the one over any values. -/
theorem frame_latent : Cert.quiescent_OptLatent (hOptLatent := Cert.OptLatent.Gen.facts) := by
  intro m ρ _
  rw [defs_latent, main_latent]
  exact (θ_run Cert.OptLatentIdeal.defs _ _).mono (fun _ h => h) (Cert.OptLatentIdeal.Gen.frame (F := Bits) m ρ)

/-- The frame of the idealized call for a latent norm's gains. -/
theorem frame_latent_ideal : Cert.quiescent_OptLatentIdeal (hOptLatentIdeal := Cert.OptLatentIdeal.Gen.facts) :=
  fun m ρ _ => Cert.OptLatentIdeal.Gen.frame (F := Ideal) m ρ

/-- The frame of the reference's step of a latent norm's gains. -/
theorem frame_latent_ref : Cert.quiescent_OptLatentRefIdeal (hOptLatentRefIdeal := Cert.OptLatentRefIdeal.Gen.facts) :=
  fun m ρ _ => (θ_run (Cert.OptLatentRefIdeal.defs (F := Ideal)) _ _).mono (fun r h => ⟨fun c => (h c).2.2.2.2, sem_eq_zero_of_no_sems (by decide) r.2⟩) (Cert.OptLatentRefIdeal.Value.run (F := Ideal) m ρ)

end Cert.Proof.Calls

end
-- ==== Proof.ProdOpt.lean ====
/- The optimiser's call for a gate of the recurrent layer: the devices' gradients are summed one after another, and each element of the
   weights and of the two moments takes the reference's step. -/
module

public import proofs.«01_k».proof.Proof.Tab
public import proofs.«01_k».proof.Proof.Gen.OptIdeal.Value
public import proofs.«01_k».proof.Proof.Gen.OptRefIdeal.Read

@[expose] public section

set_option maxRecDepth 16384

noncomputable section

namespace Cert.Proof.Opt

open Cert.OptIdeal Cert.OptIdeal.Gen
open Idealize.ShloMosaic Idealize.ShloMosaic.TcCoe
open scoped BigOperators
open Finset (range)
open Cert.Proof.Table

variable {m : (ℓ : Loc nD τ sig) → Buf (Elt Ideal) ℓ} {c : Dev nD}
variable {fw fm fv : ℕ → ℕ → EReal} {g : ℕ → ℕ → ℕ → EReal}

/-! ## The step of one element -/

/-- The gradient over all examples: the devices' gradients summed. -/
def total (g : ℕ → ℕ → ℕ → EReal) (r d : ℕ) : EReal := ∑ s ∈ range 8, g s r d

/-- The new first moment, of the old one and the gradient. -/
def first (m g : EReal) : EReal := Ideal.ofBits .f32 0x3F666666#32 * m + Ideal.ofBits .f32 0x3DCCCCCD#32 * g

/-- The new second moment, of the old one and the gradient. -/
def second (v g : EReal) : EReal := Ideal.ofBits .f32 0x3F7FBE77#32 * v + Ideal.ofBits .f32 0x3A83126F#32 * (g * g)

/-- The change of a weight, of the weight, the old moments and the gradient. -/
def delta (w m v g : EReal) : EReal :=
  Ideal.ofBits .f32 0xBA83126F#32 * (Ideal.div (Ideal.div (first m g) (Ideal.ofBits .f32 0x3F26BD02#32))
    (Ideal.sqrt (Ideal.div (second v g) (Ideal.ofBits .f32 0x3C231ACC#32)) + Ideal.ofBits .f32 0x322BCC77#32) + Ideal.ofBits .f32 0x3C23D70A#32 * w)

/-! ## The kernel's blocks -/

/-- The blocks of a point: rows of the weights, of the moments, of every device's gradient and of the four results. -/
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- There are four points. -/
theorem point_lt (t : Fin cfg0.N) : t.val < 4 := by have h : cfg0.N = 4 := N_0; have := t.isLt; omega

/-- The block of the weights of a point. -/
theorem blk_0 (t : Fin cfg0.N) (hX : Is (α := EReal) (m := 4096) (n := 128) (V m c main_arg0) fw) :
    Is (α := EReal) (iblk m c 0 t : Vec Ideal S1024x128 .f32) (fun r d => fw (1024 * t.val + r) d) := fun j => by
  have ht := point_lt t
  have h0 : (j 0).val < 1024 := (j 0).isLt
  have hi := (idx t).1
  have e : (iblk m c 0 t : Vec Ideal S1024x128 .f32) j = V m c main_arg0 (ValueIdx.ix2 (⟨1024 * t.val + (j 0).val, by omega⟩ : Fin 4096) (⟨(j 1).val, (j 1).isLt⟩ : Fin 128)) := by
    unfold iblk
    rw [View.read_apply]
    refine congrArg (V m c main_arg0) (funext fun a => Fin.ext ?_)
    match a with
    | ⟨0, _⟩ => show win0_0.index t 0 * 1024 + 1 * (j 0).val = 1024 * t.val + (j 0).val; rw [hi]; show t.val * 1024 + 1 * (j 0).val = _; omega
    | ⟨1, _⟩ => show win0_0.index t 1 * 128 + 1 * (j 1).val = (j 1).val; rw [hi]; show 0 * 128 + 1 * (j 1).val = _; omega
  exact e.trans (hX _)

/-- The block of the first moment of a point. -/
theorem blk_1 (t : Fin cfg0.N) (hX : Is (α := EReal) (m := 4096) (n := 128) (V m c main_arg1) fm) :
    Is (α := EReal) (iblk m c 1 t : Vec Ideal S1024x128 .f32) (fun r d => fm (1024 * t.val + r) d) := fun j => by
  have ht := point_lt t
  have h0 : (j 0).val < 1024 := (j 0).isLt
  have hi := (idx t).2.1
  have e : (iblk m c 1 t : Vec Ideal S1024x128 .f32) j = V m c main_arg1 (ValueIdx.ix2 (⟨1024 * t.val + (j 0).val, by omega⟩ : Fin 4096) (⟨(j 1).val, (j 1).isLt⟩ : Fin 128)) := by
    unfold iblk
    rw [View.read_apply]
    refine congrArg (V m c main_arg1) (funext fun a => Fin.ext ?_)
    match a with
    | ⟨0, _⟩ => show win0_1.index t 0 * 1024 + 1 * (j 0).val = 1024 * t.val + (j 0).val; rw [hi]; show t.val * 1024 + 1 * (j 0).val = _; omega
    | ⟨1, _⟩ => show win0_1.index t 1 * 128 + 1 * (j 1).val = (j 1).val; rw [hi]; show 0 * 128 + 1 * (j 1).val = _; omega
  exact e.trans (hX _)

/-- The block of the second moment of a point. -/
theorem blk_2 (t : Fin cfg0.N) (hX : Is (α := EReal) (m := 4096) (n := 128) (V m c main_arg2) fv) :
    Is (α := EReal) (iblk m c 2 t : Vec Ideal S1024x128 .f32) (fun r d => fv (1024 * t.val + r) d) := fun j => by
  have ht := point_lt t
  have h0 : (j 0).val < 1024 := (j 0).isLt
  have hi := (idx t).2.2.1
  have e : (iblk m c 2 t : Vec Ideal S1024x128 .f32) j = V m c main_arg2 (ValueIdx.ix2 (⟨1024 * t.val + (j 0).val, by omega⟩ : Fin 4096) (⟨(j 1).val, (j 1).isLt⟩ : Fin 128)) := by
    unfold iblk
    rw [View.read_apply]
    refine congrArg (V m c main_arg2) (funext fun a => Fin.ext ?_)
    match a with
    | ⟨0, _⟩ => show win0_2.index t 0 * 1024 + 1 * (j 0).val = 1024 * t.val + (j 0).val; rw [hi]; show t.val * 1024 + 1 * (j 0).val = _; omega
    | ⟨1, _⟩ => show win0_2.index t 1 * 128 + 1 * (j 1).val = (j 1).val; rw [hi]; show 0 * 128 + 1 * (j 1).val = _; omega
  exact e.trans (hX _)

/-- The block of the gradients of a point. -/
theorem blk_3 (t : Fin cfg0.N) (hX : Is3 (α := EReal) (p := 8) (m := 4096) (n := 128) (V m c main_arg3) g) :
    Is3 (α := EReal) (iblk m c 3 t : Vec Ideal S8x1024x128 .f32) (fun s r d => g s (1024 * t.val + r) d) := fun j => by
  have ht := point_lt t
  have h1 : (j 1).val < 1024 := (j 1).isLt
  have hi := (idx t).2.2.2.1
  have e : (iblk m c 3 t : Vec Ideal S8x1024x128 .f32) j
      = V m c main_arg3 (ValueIdx.ix3 (⟨(j 0).val, (j 0).isLt⟩ : Fin 8) (⟨1024 * t.val + (j 1).val, by omega⟩ : Fin 4096) (⟨(j 2).val, (j 2).isLt⟩ : Fin 128)) := by
    unfold iblk
    rw [View.read_apply]
    refine congrArg (V m c main_arg3) (funext fun a => Fin.ext ?_)
    match a with
    | ⟨0, _⟩ => show win0_3.index t 0 * 8 + 1 * (j 0).val = (j 0).val; rw [hi]; show 0 * 8 + 1 * (j 0).val = _; omega
    | ⟨1, _⟩ => show win0_3.index t 1 * 1024 + 1 * (j 1).val = 1024 * t.val + (j 1).val; rw [hi]; show t.val * 1024 + 1 * (j 1).val = _; omega
    | ⟨2, _⟩ => show win0_3.index t 2 * 128 + 1 * (j 2).val = (j 2).val; rw [hi]; show 0 * 128 + 1 * (j 2).val = _; omega
  exact e.trans (hX _)

/-! ## The body -/

section Body

variable {x0 x1 x2 : Vec Ideal S1024x128 .f32} {x3 : Vec Ideal S8x1024x128 .f32} {aw am av : ℕ → ℕ → EReal} {b : ℕ → ℕ → ℕ → EReal}

/-- One device's gradient, loaded from the block of all of them. -/
theorem plane (h3 : Is3 (α := EReal) x3 b) (s : ℕ) (h : ∀ a : Fin 3, (![s, 0, 0] : Fin 3 → ℕ) a + S1x1024x128.size a ≤ S8x1024x128.size a) (j : S1x1024x128.Idx) :
    (View.ld x3 (Rect.unit (s := S8x1024x128) ![s, 0, 0] S1x1024x128.size h) j : EReal) = b s (j 1).val (j 2).val := by
  have z : (j 0).val < 1 := (j 0).isLt
  refine h3.at _ ?_ ?_ ?_
  · show s + 1 * (j 0).val = s; omega
  · show 0 + 1 * (j 1).val = _; omega
  · show 0 + 1 * (j 2).val = _; omega

/-- The sum of the devices' gradients. -/
theorem is_g (h3 : Is3 (α := EReal) x3 b) : Is (α := EReal) (k0_pay6 x0 x1 x2 x3) (total b) := fun j => by
  unfold k0_pay6 k0_pay4 total
  simp only [Finset.sum_range_succ, Finset.sum_range_zero, zero_add]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Is.dropUnit (plane h3 0 _) _ j
  · exact Is.dropUnit (plane h3 1 _) _ j
  · exact Is.dropUnit (plane h3 2 _) _ j
  · exact Is.dropUnit (plane h3 3 _) _ j
  · exact Is.dropUnit (plane h3 4 _) _ j
  · exact Is.dropUnit (plane h3 5 _) _ j
  · exact Is.dropUnit (plane h3 6 _) _ j
  · exact Is.dropUnit (plane h3 7 _) _ j

/-- The new first moment of the block. -/
theorem is_m (h1 : Is (α := EReal) x1 am) (h3 : Is3 (α := EReal) x3 b) (j : S1024x128.Idx) :
    (k0_pay1 (k0_pay6 x0 x1 x2 x3) (k0_pay7 x0 x1 x2 x3) j : EReal) = first (am (j 0).val (j 1).val) (total b (j 0).val (j 1).val) := by
  unfold k0_pay7
  rw [View.ld_unit_zero corner2]
  have e : (k0_pay1 (k0_pay6 x0 x1 x2 x3) (k0_pay5 x1) j : EReal) = first (x1 j) (k0_pay6 x0 x1 x2 x3 j) := rfl
  rw [e, h1 j, is_g h3 j]

/-- The new second moment of the block. -/
theorem is_v (h2 : Is (α := EReal) x2 av) (h3 : Is3 (α := EReal) x3 b) (j : S1024x128.Idx) :
    (k0_pay2 (k0_pay6 x0 x1 x2 x3) x2 j : EReal) = second (av (j 0).val (j 1).val) (total b (j 0).val (j 1).val) := by
  have e : (k0_pay2 (k0_pay6 x0 x1 x2 x3) x2 j : EReal) = second (x2 j) (k0_pay6 x0 x1 x2 x3 j) := rfl
  rw [e, h2 j, is_g h3 j]

/-- The change of the block's weights. -/
theorem is_d (h0 : Is (α := EReal) x0 aw) (h1 : Is (α := EReal) x1 am) (h2 : Is (α := EReal) x2 av) (h3 : Is3 (α := EReal) x3 b) (j : S1024x128.Idx) :
    (k0_pay3 (k0_pay6 x0 x1 x2 x3) x0 x2 (k0_pay7 x0 x1 x2 x3) j : EReal)
      = delta (aw (j 0).val (j 1).val) (am (j 0).val (j 1).val) (av (j 0).val (j 1).val) (total b (j 0).val (j 1).val) := by
  unfold k0_pay7
  rw [View.ld_unit_zero corner2]
  have e : (k0_pay3 (k0_pay6 x0 x1 x2 x3) x0 x2 (k0_pay5 x1) j : EReal) = delta (x0 j) (x1 j) (x2 j) (k0_pay6 x0 x1 x2 x3 j) := rfl
  rw [e, h0 j, h1 j, h2 j, is_g h3 j]

/-- The body's first result: the gradient. -/
theorem out_4 (h3 : Is3 (α := EReal) x3 b) (y : S1024x128.Idx) : (out0_4 x0 x1 x2 x3 y : EReal) = total b (y 0).val (y 1).val := by
  unfold out0_4
  rw [View.canon_unit_zero corner2]
  exact is_g h3 y

/-- The body's second result: the change of the weights. -/
theorem out_5 (h0 : Is (α := EReal) x0 aw) (h1 : Is (α := EReal) x1 am) (h2 : Is (α := EReal) x2 av) (h3 : Is3 (α := EReal) x3 b) (y : S1024x128.Idx) :
    (out0_5 x0 x1 x2 x3 y : EReal) = delta (aw (y 0).val (y 1).val) (am (y 0).val (y 1).val) (av (y 0).val (y 1).val) (total b (y 0).val (y 1).val) := by
  unfold out0_5
  rw [View.canon_unit_zero corner2, View.ld_unit_zero corner2, View.ld_unit_zero corner2]
  exact is_d h0 h1 h2 h3 y

/-- The body's third result: the new first moment. -/
theorem out_6 (h1 : Is (α := EReal) x1 am) (h3 : Is3 (α := EReal) x3 b) (y : S1024x128.Idx) :
    (out0_6 x0 x1 x2 x3 y : EReal) = first (am (y 0).val (y 1).val) (total b (y 0).val (y 1).val) := by
  unfold out0_6
  rw [View.canon_unit_zero corner2]
  exact is_m h1 h3 y

/-- The body's fourth result: the new second moment. -/
theorem out_7 (h2 : Is (α := EReal) x2 av) (h3 : Is3 (α := EReal) x3 b) (y : S1024x128.Idx) :
    (out0_7 x0 x1 x2 x3 y : EReal) = second (av (y 0).val (y 1).val) (total b (y 0).val (y 1).val) := by
  unfold out0_7
  rw [View.canon_unit_zero corner2, View.ld_unit_zero corner2]
  exact is_v h2 h3 y

end Body

/-! ## The reference -/

section Reference

open Cert.OptRefIdeal.Read

variable {x0 x1 x2 : (Sh 4096 128).Idx → EReal} {x3 : (Sh3 8 4096 128).Idx → EReal}

/-- The reference's gradient. -/
theorem ref_g (h3 : Is3 x3 g) (i : S4096x128.Idx) : (val_main_v0 (F := Ideal) x3 i : EReal) = total g (i 0).val (i 1).val := by
  have z : (val_main_cst (F := Ideal) (Shape.Idx.first Cert.OptRefIdeal.Gen.h_S_) : EReal) = 0 := Ideal.ofBits_zero_f32
  unfold total
  rw [val_main_v0_apply, z, zero_add, Finset.sum_range]
  exact Finset.sum_congr rfl fun k _ => h3.at _ rfl rfl rfl

/-- The reference's new first moment. -/
theorem ref_m (h1 : Is x1 fm) (h3 : Is3 x3 g) (i : S4096x128.Idx) :
    (val_main_v5 (F := Ideal) x1 x3 i : EReal) = first (fm (i 0).val (i 1).val) (total g (i 0).val (i 1).val) := by
  have e : (val_main_v5 (F := Ideal) x1 x3 i : EReal) = first (x1 i) (val_main_v0 (F := Ideal) x3 i) := rfl
  rw [e, h1 i, ref_g h3 i]

/-- The reference's new second moment. -/
theorem ref_v (h2 : Is x2 fv) (h3 : Is3 x3 g) (i : S4096x128.Idx) :
    (val_main_v11 (F := Ideal) x2 x3 i : EReal) = second (fv (i 0).val (i 1).val) (total g (i 0).val (i 1).val) := by
  have e : (val_main_v11 (F := Ideal) x2 x3 i : EReal) = second (x2 i) (val_main_v0 (F := Ideal) x3 i) := rfl
  rw [e, h2 i, ref_g h3 i]

/-- The reference's change of the weights. -/
theorem ref_d (h0 : Is x0 fw) (h1 : Is x1 fm) (h2 : Is x2 fv) (h3 : Is3 x3 g) (i : S4096x128.Idx) :
    (val_main_v24 (F := Ideal) x0 x1 x2 x3 i : EReal)
      = delta (fw (i 0).val (i 1).val) (fm (i 0).val (i 1).val) (fv (i 0).val (i 1).val) (total g (i 0).val (i 1).val) := by
  have e : (val_main_v24 (F := Ideal) x0 x1 x2 x3 i : EReal) = delta (x0 i) (x1 i) (x2 i) (val_main_v0 (F := Ideal) x3 i) := rfl
  rw [e, h0 i, h1 i, h2 i, ref_g h3 i]

end Reference

/-! ## The arrays -/

/-- The gradient of a point, at one element. -/
theorem at_4 (t : Fin cfg0.N) (y : S1024x128.Idx) (i : S4096x128.Idx) (k0 : (i 0).val = 1024 * t.val + (y 0).val) (k1 : (i 1).val = (y 1).val) :
    out0_4 (F := Ideal) (iblk m c 0 t) (iblk m c 1 t) (iblk m c 2 t) (iblk m c 3 t) y = Cert.OptRefIdeal.Read.val_main_v0 (F := Ideal) (V m c main_arg3) i := by
  obtain ⟨g, h3⟩ := exists_is3 (p := 8) (m := 4096) (n := 128) (V m c main_arg3)
  refine (out_4 (blk_3 t h3) y).trans ?_
  refine Eq.trans ?_ (ref_g h3 i).symm
  rw [k0, k1]
  rfl

/-- The change of the weights of a point, at one element. -/
theorem at_5 (t : Fin cfg0.N) (y : S1024x128.Idx) (i : S4096x128.Idx) (k0 : (i 0).val = 1024 * t.val + (y 0).val) (k1 : (i 1).val = (y 1).val) :
    out0_5 (F := Ideal) (iblk m c 0 t) (iblk m c 1 t) (iblk m c 2 t) (iblk m c 3 t) y = Cert.OptRefIdeal.Read.val_main_v24 (F := Ideal) (V m c main_arg0) (V m c main_arg1) (V m c main_arg2) (V m c main_arg3) i := by
  obtain ⟨fw, h0⟩ := exists_is (m := 4096) (n := 128) (V m c main_arg0)
  obtain ⟨fm, h1⟩ := exists_is (m := 4096) (n := 128) (V m c main_arg1)
  obtain ⟨fv, h2⟩ := exists_is (m := 4096) (n := 128) (V m c main_arg2)
  obtain ⟨g, h3⟩ := exists_is3 (p := 8) (m := 4096) (n := 128) (V m c main_arg3)
  refine (out_5 (blk_0 t h0) (blk_1 t h1) (blk_2 t h2) (blk_3 t h3) y).trans ?_
  refine Eq.trans ?_ (ref_d h0 h1 h2 h3 i).symm
  rw [k0, k1]
  rfl

/-- The new first moment of a point, at one element. -/
theorem at_6 (t : Fin cfg0.N) (y : S1024x128.Idx) (i : S4096x128.Idx) (k0 : (i 0).val = 1024 * t.val + (y 0).val) (k1 : (i 1).val = (y 1).val) :
    out0_6 (F := Ideal) (iblk m c 0 t) (iblk m c 1 t) (iblk m c 2 t) (iblk m c 3 t) y = Cert.OptRefIdeal.Read.val_main_v5 (F := Ideal) (V m c main_arg1) (V m c main_arg3) i := by
  obtain ⟨fm, h1⟩ := exists_is (m := 4096) (n := 128) (V m c main_arg1)
  obtain ⟨g, h3⟩ := exists_is3 (p := 8) (m := 4096) (n := 128) (V m c main_arg3)
  refine (out_6 (blk_1 t h1) (blk_3 t h3) y).trans ?_
  refine Eq.trans ?_ (ref_m h1 h3 i).symm
  rw [k0, k1]
  rfl

/-- The new second moment of a point, at one element. -/
theorem at_7 (t : Fin cfg0.N) (y : S1024x128.Idx) (i : S4096x128.Idx) (k0 : (i 0).val = 1024 * t.val + (y 0).val) (k1 : (i 1).val = (y 1).val) :
    out0_7 (F := Ideal) (iblk m c 0 t) (iblk m c 1 t) (iblk m c 2 t) (iblk m c 3 t) y = Cert.OptRefIdeal.Read.val_main_v11 (F := Ideal) (V m c main_arg2) (V m c main_arg3) i := by
  obtain ⟨fv, h2⟩ := exists_is (m := 4096) (n := 128) (V m c main_arg2)
  obtain ⟨g, h3⟩ := exists_is3 (p := 8) (m := 4096) (n := 128) (V m c main_arg3)
  refine (out_7 (blk_2 t h2) (blk_3 t h3) y).trans ?_
  refine Eq.trans ?_ (ref_v h2 h3 i).symm
  rw [k0, k1]
  rfl

/-- The kernel's gradient is the reference's. -/
theorem final_g : (dats m 0 c).arrAt 4 cfg0.N = Cert.OptRefIdeal.Read.val_main_v0 (F := Ideal) (V m c main_arg3) := by
  refine (dats m 0 c).arrAt_eq_of_covers 4 _ (by decide +kernel) fun t hf y => ?_
  have hi := (idx t).2.2.2.2.1
  blk_simp
  rw [after0_4]
  exact at_4 t y (((cfg0.win 4).blk t).view.emb y) (by
    show win0_4.index t 0 * 1024 + 1 * (y 0).val = 1024 * t.val + (y 0).val
    rw [hi]; show t.val * 1024 + 1 * (y 0).val = _; omega) (by
    show win0_4.index t 1 * 128 + 1 * (y 1).val = (y 1).val
    rw [hi]; show 0 * 128 + 1 * (y 1).val = _; omega)

/-- The kernel's change of the weights is the reference's. -/
theorem final_d : (dats m 0 c).arrAt 5 cfg0.N = Cert.OptRefIdeal.Read.val_main_v24 (F := Ideal) (V m c main_arg0) (V m c main_arg1) (V m c main_arg2) (V m c main_arg3) := by
  refine (dats m 0 c).arrAt_eq_of_covers 5 _ (by decide +kernel) fun t hf y => ?_
  have hi := (idx t).2.2.2.2.2.1
  blk_simp
  rw [after0_5]
  exact at_5 t y (((cfg0.win 5).blk t).view.emb y) (by
    show win0_5.index t 0 * 1024 + 1 * (y 0).val = 1024 * t.val + (y 0).val
    rw [hi]; show t.val * 1024 + 1 * (y 0).val = _; omega) (by
    show win0_5.index t 1 * 128 + 1 * (y 1).val = (y 1).val
    rw [hi]; show 0 * 128 + 1 * (y 1).val = _; omega)

/-- The kernel's new first moment is the reference's. -/
theorem final_m : (dats m 0 c).arrAt 6 cfg0.N = Cert.OptRefIdeal.Read.val_main_v5 (F := Ideal) (V m c main_arg1) (V m c main_arg3) := by
  refine (dats m 0 c).arrAt_eq_of_covers 6 _ (by decide +kernel) fun t hf y => ?_
  have hi := (idx t).2.2.2.2.2.2.1
  blk_simp
  rw [after0_6]
  exact at_6 t y (((cfg0.win 6).blk t).view.emb y) (by
    show win0_6.index t 0 * 1024 + 1 * (y 0).val = 1024 * t.val + (y 0).val
    rw [hi]; show t.val * 1024 + 1 * (y 0).val = _; omega) (by
    show win0_6.index t 1 * 128 + 1 * (y 1).val = (y 1).val
    rw [hi]; show 0 * 128 + 1 * (y 1).val = _; omega)

/-- The kernel's new second moment is the reference's. -/
theorem final_v : (dats m 0 c).arrAt 7 cfg0.N = Cert.OptRefIdeal.Read.val_main_v11 (F := Ideal) (V m c main_arg2) (V m c main_arg3) := by
  refine (dats m 0 c).arrAt_eq_of_covers 7 _ (by decide +kernel) fun t hf y => ?_
  have hi := (idx t).2.2.2.2.2.2.2
  blk_simp
  rw [after0_7]
  exact at_7 t y (((cfg0.win 7).blk t).view.emb y) (by
    show win0_7.index t 0 * 1024 + 1 * (y 0).val = 1024 * t.val + (y 0).val
    rw [hi]; show t.val * 1024 + 1 * (y 0).val = _; omega) (by
    show win0_7.index t 1 * 128 + 1 * (y 1).val = (y 1).val
    rw [hi]; show 0 * 128 + 1 * (y 1).val = _; omega)

end Cert.Proof.Opt

end
-- ==== Proof.ProdOptRow.lean ====
/- The optimiser's call for a weight of rows of 2048 that all devices hold: each element takes the reference's step. -/
module

public import proofs.«01_k».proof.Proof.ProdOpt
public import proofs.«01_k».proof.Proof.Gen.OptRowIdeal.Value
public import proofs.«01_k».proof.Proof.Gen.OptRowRefIdeal.Read

@[expose] public section

set_option maxRecDepth 16384

noncomputable section

namespace Cert.Proof.OptRow

open Cert.OptRowIdeal Cert.OptRowIdeal.Gen
open Idealize.ShloMosaic Idealize.ShloMosaic.TcCoe
open scoped BigOperators
open Finset (range)
open Cert.Proof.Table
open Cert.Proof.Opt (total first second delta)

variable {m : (ℓ : Loc nD τ sig) → Buf (Elt Ideal) ℓ} {c : Dev nD}
variable {fw fm fv : ℕ → ℕ → EReal} {g : ℕ → ℕ → ℕ → EReal}

/-! ## The kernel's blocks -/

/-- The blocks of a point: rows of the weights, of the moments, of every device's gradient and of the four results. -/
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- There is one point. -/
theorem point_lt (t : Fin cfg0.N) : t.val < 1 := by have h : cfg0.N = 1 := N_0; have := t.isLt; omega

/-- The block of the weights of a point. -/
theorem blk_0 (t : Fin cfg0.N) (hX : Is (α := EReal) (m := 8) (n := 2048) (V m c main_arg0) fw) :
    Is (α := EReal) (iblk m c 0 t : Vec Ideal S8x2048 .f32) (fun r d => fw (8 * t.val + r) d) := fun j => by
  have ht := point_lt t
  have h0 : (j 0).val < 8 := (j 0).isLt
  have hi := (idx t).1
  have e : (iblk m c 0 t : Vec Ideal S8x2048 .f32) j = V m c main_arg0 (ValueIdx.ix2 (⟨8 * t.val + (j 0).val, by omega⟩ : Fin 8) (⟨(j 1).val, (j 1).isLt⟩ : Fin 2048)) := by
    unfold iblk
    rw [View.read_apply]
    refine congrArg (V m c main_arg0) (funext fun a => Fin.ext ?_)
    match a with
    | ⟨0, _⟩ => show win0_0.index t 0 * 8 + 1 * (j 0).val = 8 * t.val + (j 0).val; rw [hi]; show t.val * 8 + 1 * (j 0).val = _; omega
    | ⟨1, _⟩ => show win0_0.index t 1 * 2048 + 1 * (j 1).val = (j 1).val; rw [hi]; show 0 * 2048 + 1 * (j 1).val = _; omega
  exact e.trans (hX _)

/-- The block of the first moment of a point. -/
theorem blk_1 (t : Fin cfg0.N) (hX : Is (α := EReal) (m := 8) (n := 2048) (V m c main_arg1) fm) :
    Is (α := EReal) (iblk m c 1 t : Vec Ideal S8x2048 .f32) (fun r d => fm (8 * t.val + r) d) := fun j => by
  have ht := point_lt t
  have h0 : (j 0).val < 8 := (j 0).isLt
  have hi := (idx t).2.1
  have e : (iblk m c 1 t : Vec Ideal S8x2048 .f32) j = V m c main_arg1 (ValueIdx.ix2 (⟨8 * t.val + (j 0).val, by omega⟩ : Fin 8) (⟨(j 1).val, (j 1).isLt⟩ : Fin 2048)) := by
    unfold iblk
    rw [View.read_apply]
    refine congrArg (V m c main_arg1) (funext fun a => Fin.ext ?_)
    match a with
    | ⟨0, _⟩ => show win0_1.index t 0 * 8 + 1 * (j 0).val = 8 * t.val + (j 0).val; rw [hi]; show t.val * 8 + 1 * (j 0).val = _; omega
    | ⟨1, _⟩ => show win0_1.index t 1 * 2048 + 1 * (j 1).val = (j 1).val; rw [hi]; show 0 * 2048 + 1 * (j 1).val = _; omega
  exact e.trans (hX _)

/-- The block of the second moment of a point. -/
theorem blk_2 (t : Fin cfg0.N) (hX : Is (α := EReal) (m := 8) (n := 2048) (V m c main_arg2) fv) :
    Is (α := EReal) (iblk m c 2 t : Vec Ideal S8x2048 .f32) (fun r d => fv (8 * t.val + r) d) := fun j => by
  have ht := point_lt t
  have h0 : (j 0).val < 8 := (j 0).isLt
  have hi := (idx t).2.2.1
  have e : (iblk m c 2 t : Vec Ideal S8x2048 .f32) j = V m c main_arg2 (ValueIdx.ix2 (⟨8 * t.val + (j 0).val, by omega⟩ : Fin 8) (⟨(j 1).val, (j 1).isLt⟩ : Fin 2048)) := by
    unfold iblk
    rw [View.read_apply]
    refine congrArg (V m c main_arg2) (funext fun a => Fin.ext ?_)
    match a with
    | ⟨0, _⟩ => show win0_2.index t 0 * 8 + 1 * (j 0).val = 8 * t.val + (j 0).val; rw [hi]; show t.val * 8 + 1 * (j 0).val = _; omega
    | ⟨1, _⟩ => show win0_2.index t 1 * 2048 + 1 * (j 1).val = (j 1).val; rw [hi]; show 0 * 2048 + 1 * (j 1).val = _; omega
  exact e.trans (hX _)

/-- The block of the gradients of a point. -/
theorem blk_3 (t : Fin cfg0.N) (hX : Is3 (α := EReal) (p := 8) (m := 8) (n := 2048) (V m c main_arg3) g) :
    Is3 (α := EReal) (iblk m c 3 t : Vec Ideal S8x8x2048 .f32) (fun s r d => g s (8 * t.val + r) d) := fun j => by
  have ht := point_lt t
  have h1 : (j 1).val < 8 := (j 1).isLt
  have hi := (idx t).2.2.2.1
  have e : (iblk m c 3 t : Vec Ideal S8x8x2048 .f32) j
      = V m c main_arg3 (ValueIdx.ix3 (⟨(j 0).val, (j 0).isLt⟩ : Fin 8) (⟨8 * t.val + (j 1).val, by omega⟩ : Fin 8) (⟨(j 2).val, (j 2).isLt⟩ : Fin 2048)) := by
    unfold iblk
    rw [View.read_apply]
    refine congrArg (V m c main_arg3) (funext fun a => Fin.ext ?_)
    match a with
    | ⟨0, _⟩ => show win0_3.index t 0 * 8 + 1 * (j 0).val = (j 0).val; rw [hi]; show 0 * 8 + 1 * (j 0).val = _; omega
    | ⟨1, _⟩ => show win0_3.index t 1 * 8 + 1 * (j 1).val = 8 * t.val + (j 1).val; rw [hi]; show t.val * 8 + 1 * (j 1).val = _; omega
    | ⟨2, _⟩ => show win0_3.index t 2 * 2048 + 1 * (j 2).val = (j 2).val; rw [hi]; show 0 * 2048 + 1 * (j 2).val = _; omega
  exact e.trans (hX _)

/-! ## The body -/

section Body

variable {x0 x1 x2 : Vec Ideal S8x2048 .f32} {x3 : Vec Ideal S8x8x2048 .f32} {aw am av : ℕ → ℕ → EReal} {b : ℕ → ℕ → ℕ → EReal}

/-- One device's gradient, loaded from the block of all of them. -/
theorem plane (h3 : Is3 (α := EReal) x3 b) (s : ℕ) (h : ∀ a : Fin 3, (![s, 0, 0] : Fin 3 → ℕ) a + S1x8x2048.size a ≤ S8x8x2048.size a) (j : S1x8x2048.Idx) :
    (View.ld x3 (Rect.unit (s := S8x8x2048) ![s, 0, 0] S1x8x2048.size h) j : EReal) = b s (j 1).val (j 2).val := by
  have z : (j 0).val < 1 := (j 0).isLt
  refine h3.at _ ?_ ?_ ?_
  · show s + 1 * (j 0).val = s; omega
  · show 0 + 1 * (j 1).val = _; omega
  · show 0 + 1 * (j 2).val = _; omega

/-- The sum of the devices' gradients. -/
theorem is_g (h3 : Is3 (α := EReal) x3 b) : Is (α := EReal) (k0_pay6 x0 x1 x2 x3) (total b) := fun j => by
  unfold k0_pay6 k0_pay4 total
  simp only [Finset.sum_range_succ, Finset.sum_range_zero, zero_add]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Is.dropUnit (plane h3 0 _) _ j
  · exact Is.dropUnit (plane h3 1 _) _ j
  · exact Is.dropUnit (plane h3 2 _) _ j
  · exact Is.dropUnit (plane h3 3 _) _ j
  · exact Is.dropUnit (plane h3 4 _) _ j
  · exact Is.dropUnit (plane h3 5 _) _ j
  · exact Is.dropUnit (plane h3 6 _) _ j
  · exact Is.dropUnit (plane h3 7 _) _ j

/-- The new first moment of the block. -/
theorem is_m (h1 : Is (α := EReal) x1 am) (h3 : Is3 (α := EReal) x3 b) (j : S8x2048.Idx) :
    (k0_pay1 (k0_pay6 x0 x1 x2 x3) (k0_pay7 x0 x1 x2 x3) j : EReal) = first (am (j 0).val (j 1).val) (total b (j 0).val (j 1).val) := by
  unfold k0_pay7
  rw [View.ld_unit_zero corner2]
  have e : (k0_pay1 (k0_pay6 x0 x1 x2 x3) (k0_pay5 x1) j : EReal) = first (x1 j) (k0_pay6 x0 x1 x2 x3 j) := rfl
  rw [e, h1 j, is_g h3 j]

/-- The new second moment of the block. -/
theorem is_v (h2 : Is (α := EReal) x2 av) (h3 : Is3 (α := EReal) x3 b) (j : S8x2048.Idx) :
    (k0_pay2 (k0_pay6 x0 x1 x2 x3) x2 j : EReal) = second (av (j 0).val (j 1).val) (total b (j 0).val (j 1).val) := by
  have e : (k0_pay2 (k0_pay6 x0 x1 x2 x3) x2 j : EReal) = second (x2 j) (k0_pay6 x0 x1 x2 x3 j) := rfl
  rw [e, h2 j, is_g h3 j]

/-- The change of the block's weights. -/
theorem is_d (h0 : Is (α := EReal) x0 aw) (h1 : Is (α := EReal) x1 am) (h2 : Is (α := EReal) x2 av) (h3 : Is3 (α := EReal) x3 b) (j : S8x2048.Idx) :
    (k0_pay3 (k0_pay6 x0 x1 x2 x3) x0 x2 (k0_pay7 x0 x1 x2 x3) j : EReal)
      = delta (aw (j 0).val (j 1).val) (am (j 0).val (j 1).val) (av (j 0).val (j 1).val) (total b (j 0).val (j 1).val) := by
  unfold k0_pay7
  rw [View.ld_unit_zero corner2]
  have e : (k0_pay3 (k0_pay6 x0 x1 x2 x3) x0 x2 (k0_pay5 x1) j : EReal) = delta (x0 j) (x1 j) (x2 j) (k0_pay6 x0 x1 x2 x3 j) := rfl
  rw [e, h0 j, h1 j, h2 j, is_g h3 j]

/-- The body's first result: the gradient. -/
theorem out_4 (h3 : Is3 (α := EReal) x3 b) (y : S8x2048.Idx) : (out0_4 x0 x1 x2 x3 y : EReal) = total b (y 0).val (y 1).val := by
  unfold out0_4
  rw [View.canon_unit_zero corner2]
  exact is_g h3 y

/-- The body's second result: the change of the weights. -/
theorem out_5 (h0 : Is (α := EReal) x0 aw) (h1 : Is (α := EReal) x1 am) (h2 : Is (α := EReal) x2 av) (h3 : Is3 (α := EReal) x3 b) (y : S8x2048.Idx) :
    (out0_5 x0 x1 x2 x3 y : EReal) = delta (aw (y 0).val (y 1).val) (am (y 0).val (y 1).val) (av (y 0).val (y 1).val) (total b (y 0).val (y 1).val) := by
  unfold out0_5
  rw [View.canon_unit_zero corner2, View.ld_unit_zero corner2, View.ld_unit_zero corner2]
  exact is_d h0 h1 h2 h3 y

/-- The body's third result: the new first moment. -/
theorem out_6 (h1 : Is (α := EReal) x1 am) (h3 : Is3 (α := EReal) x3 b) (y : S8x2048.Idx) :
    (out0_6 x0 x1 x2 x3 y : EReal) = first (am (y 0).val (y 1).val) (total b (y 0).val (y 1).val) := by
  unfold out0_6
  rw [View.canon_unit_zero corner2]
  exact is_m h1 h3 y

/-- The body's fourth result: the new second moment. -/
theorem out_7 (h2 : Is (α := EReal) x2 av) (h3 : Is3 (α := EReal) x3 b) (y : S8x2048.Idx) :
    (out0_7 x0 x1 x2 x3 y : EReal) = second (av (y 0).val (y 1).val) (total b (y 0).val (y 1).val) := by
  unfold out0_7
  rw [View.canon_unit_zero corner2, View.ld_unit_zero corner2]
  exact is_v h2 h3 y

end Body

/-! ## The reference -/

section Reference

open Cert.OptRowRefIdeal.Read

variable {x0 x1 x2 : (Sh 8 2048).Idx → EReal} {x3 : (Sh3 8 8 2048).Idx → EReal}

/-- The reference's gradient. -/
theorem ref_g (h3 : Is3 x3 g) (i : S8x2048.Idx) : (val_main_v0 (F := Ideal) x3 i : EReal) = total g (i 0).val (i 1).val := by
  have z : (val_main_cst (F := Ideal) (Shape.Idx.first Cert.OptRowRefIdeal.Gen.h_S_) : EReal) = 0 := Ideal.ofBits_zero_f32
  unfold total
  rw [val_main_v0_apply, z, zero_add, Finset.sum_range]
  exact Finset.sum_congr rfl fun k _ => h3.at _ rfl rfl rfl

/-- The reference's new first moment. -/
theorem ref_m (h1 : Is x1 fm) (h3 : Is3 x3 g) (i : S8x2048.Idx) :
    (val_main_v5 (F := Ideal) x1 x3 i : EReal) = first (fm (i 0).val (i 1).val) (total g (i 0).val (i 1).val) := by
  have e : (val_main_v5 (F := Ideal) x1 x3 i : EReal) = first (x1 i) (val_main_v0 (F := Ideal) x3 i) := rfl
  rw [e, h1 i, ref_g h3 i]

/-- The reference's new second moment. -/
theorem ref_v (h2 : Is x2 fv) (h3 : Is3 x3 g) (i : S8x2048.Idx) :
    (val_main_v11 (F := Ideal) x2 x3 i : EReal) = second (fv (i 0).val (i 1).val) (total g (i 0).val (i 1).val) := by
  have e : (val_main_v11 (F := Ideal) x2 x3 i : EReal) = second (x2 i) (val_main_v0 (F := Ideal) x3 i) := rfl
  rw [e, h2 i, ref_g h3 i]

/-- The reference's change of the weights. -/
theorem ref_d (h0 : Is x0 fw) (h1 : Is x1 fm) (h2 : Is x2 fv) (h3 : Is3 x3 g) (i : S8x2048.Idx) :
    (val_main_v24 (F := Ideal) x0 x1 x2 x3 i : EReal)
      = delta (fw (i 0).val (i 1).val) (fm (i 0).val (i 1).val) (fv (i 0).val (i 1).val) (total g (i 0).val (i 1).val) := by
  have e : (val_main_v24 (F := Ideal) x0 x1 x2 x3 i : EReal) = delta (x0 i) (x1 i) (x2 i) (val_main_v0 (F := Ideal) x3 i) := rfl
  rw [e, h0 i, h1 i, h2 i, ref_g h3 i]

end Reference

/-! ## The arrays -/

/-- The gradient of a point, at one element. -/
theorem at_4 (t : Fin cfg0.N) (y : S8x2048.Idx) (i : S8x2048.Idx) (k0 : (i 0).val = 8 * t.val + (y 0).val) (k1 : (i 1).val = (y 1).val) :
    out0_4 (F := Ideal) (iblk m c 0 t) (iblk m c 1 t) (iblk m c 2 t) (iblk m c 3 t) y = Cert.OptRowRefIdeal.Read.val_main_v0 (F := Ideal) (V m c main_arg3) i := by
  obtain ⟨g, h3⟩ := exists_is3 (p := 8) (m := 8) (n := 2048) (V m c main_arg3)
  refine (out_4 (blk_3 t h3) y).trans ?_
  refine Eq.trans ?_ (ref_g h3 i).symm
  rw [k0, k1]
  rfl

/-- The change of the weights of a point, at one element. -/
theorem at_5 (t : Fin cfg0.N) (y : S8x2048.Idx) (i : S8x2048.Idx) (k0 : (i 0).val = 8 * t.val + (y 0).val) (k1 : (i 1).val = (y 1).val) :
    out0_5 (F := Ideal) (iblk m c 0 t) (iblk m c 1 t) (iblk m c 2 t) (iblk m c 3 t) y = Cert.OptRowRefIdeal.Read.val_main_v24 (F := Ideal) (V m c main_arg0) (V m c main_arg1) (V m c main_arg2) (V m c main_arg3) i := by
  obtain ⟨fw, h0⟩ := exists_is (m := 8) (n := 2048) (V m c main_arg0)
  obtain ⟨fm, h1⟩ := exists_is (m := 8) (n := 2048) (V m c main_arg1)
  obtain ⟨fv, h2⟩ := exists_is (m := 8) (n := 2048) (V m c main_arg2)
  obtain ⟨g, h3⟩ := exists_is3 (p := 8) (m := 8) (n := 2048) (V m c main_arg3)
  refine (out_5 (blk_0 t h0) (blk_1 t h1) (blk_2 t h2) (blk_3 t h3) y).trans ?_
  refine Eq.trans ?_ (ref_d h0 h1 h2 h3 i).symm
  rw [k0, k1]
  rfl

/-- The new first moment of a point, at one element. -/
theorem at_6 (t : Fin cfg0.N) (y : S8x2048.Idx) (i : S8x2048.Idx) (k0 : (i 0).val = 8 * t.val + (y 0).val) (k1 : (i 1).val = (y 1).val) :
    out0_6 (F := Ideal) (iblk m c 0 t) (iblk m c 1 t) (iblk m c 2 t) (iblk m c 3 t) y = Cert.OptRowRefIdeal.Read.val_main_v5 (F := Ideal) (V m c main_arg1) (V m c main_arg3) i := by
  obtain ⟨fm, h1⟩ := exists_is (m := 8) (n := 2048) (V m c main_arg1)
  obtain ⟨g, h3⟩ := exists_is3 (p := 8) (m := 8) (n := 2048) (V m c main_arg3)
  refine (out_6 (blk_1 t h1) (blk_3 t h3) y).trans ?_
  refine Eq.trans ?_ (ref_m h1 h3 i).symm
  rw [k0, k1]
  rfl

/-- The new second moment of a point, at one element. -/
theorem at_7 (t : Fin cfg0.N) (y : S8x2048.Idx) (i : S8x2048.Idx) (k0 : (i 0).val = 8 * t.val + (y 0).val) (k1 : (i 1).val = (y 1).val) :
    out0_7 (F := Ideal) (iblk m c 0 t) (iblk m c 1 t) (iblk m c 2 t) (iblk m c 3 t) y = Cert.OptRowRefIdeal.Read.val_main_v11 (F := Ideal) (V m c main_arg2) (V m c main_arg3) i := by
  obtain ⟨fv, h2⟩ := exists_is (m := 8) (n := 2048) (V m c main_arg2)
  obtain ⟨g, h3⟩ := exists_is3 (p := 8) (m := 8) (n := 2048) (V m c main_arg3)
  refine (out_7 (blk_2 t h2) (blk_3 t h3) y).trans ?_
  refine Eq.trans ?_ (ref_v h2 h3 i).symm
  rw [k0, k1]
  rfl

/-- The kernel's gradient is the reference's. -/
theorem final_g : (dats m 0 c).arrAt 4 cfg0.N = Cert.OptRowRefIdeal.Read.val_main_v0 (F := Ideal) (V m c main_arg3) := by
  refine (dats m 0 c).arrAt_eq_of_covers 4 _ (by decide +kernel) fun t hf y => ?_
  have hi := (idx t).2.2.2.2.1
  blk_simp
  rw [after0_4]
  exact at_4 t y (((cfg0.win 4).blk t).view.emb y) (by
    show win0_4.index t 0 * 8 + 1 * (y 0).val = 8 * t.val + (y 0).val
    rw [hi]; show t.val * 8 + 1 * (y 0).val = _; omega) (by
    show win0_4.index t 1 * 2048 + 1 * (y 1).val = (y 1).val
    rw [hi]; show 0 * 2048 + 1 * (y 1).val = _; omega)

/-- The kernel's change of the weights is the reference's. -/
theorem final_d : (dats m 0 c).arrAt 5 cfg0.N = Cert.OptRowRefIdeal.Read.val_main_v24 (F := Ideal) (V m c main_arg0) (V m c main_arg1) (V m c main_arg2) (V m c main_arg3) := by
  refine (dats m 0 c).arrAt_eq_of_covers 5 _ (by decide +kernel) fun t hf y => ?_
  have hi := (idx t).2.2.2.2.2.1
  blk_simp
  rw [after0_5]
  exact at_5 t y (((cfg0.win 5).blk t).view.emb y) (by
    show win0_5.index t 0 * 8 + 1 * (y 0).val = 8 * t.val + (y 0).val
    rw [hi]; show t.val * 8 + 1 * (y 0).val = _; omega) (by
    show win0_5.index t 1 * 2048 + 1 * (y 1).val = (y 1).val
    rw [hi]; show 0 * 2048 + 1 * (y 1).val = _; omega)

/-- The kernel's new first moment is the reference's. -/
theorem final_m : (dats m 0 c).arrAt 6 cfg0.N = Cert.OptRowRefIdeal.Read.val_main_v5 (F := Ideal) (V m c main_arg1) (V m c main_arg3) := by
  refine (dats m 0 c).arrAt_eq_of_covers 6 _ (by decide +kernel) fun t hf y => ?_
  have hi := (idx t).2.2.2.2.2.2.1
  blk_simp
  rw [after0_6]
  exact at_6 t y (((cfg0.win 6).blk t).view.emb y) (by
    show win0_6.index t 0 * 8 + 1 * (y 0).val = 8 * t.val + (y 0).val
    rw [hi]; show t.val * 8 + 1 * (y 0).val = _; omega) (by
    show win0_6.index t 1 * 2048 + 1 * (y 1).val = (y 1).val
    rw [hi]; show 0 * 2048 + 1 * (y 1).val = _; omega)

/-- The kernel's new second moment is the reference's. -/
theorem final_v : (dats m 0 c).arrAt 7 cfg0.N = Cert.OptRowRefIdeal.Read.val_main_v11 (F := Ideal) (V m c main_arg2) (V m c main_arg3) := by
  refine (dats m 0 c).arrAt_eq_of_covers 7 _ (by decide +kernel) fun t hf y => ?_
  have hi := (idx t).2.2.2.2.2.2.2
  blk_simp
  rw [after0_7]
  exact at_7 t y (((cfg0.win 7).blk t).view.emb y) (by
    show win0_7.index t 0 * 8 + 1 * (y 0).val = 8 * t.val + (y 0).val
    rw [hi]; show t.val * 8 + 1 * (y 0).val = _; omega) (by
    show win0_7.index t 1 * 2048 + 1 * (y 1).val = (y 1).val
    rw [hi]; show 0 * 2048 + 1 * (y 1).val = _; omega)

end Cert.Proof.OptRow

end
-- ==== Proof.ProdOptLatent.lean ====
/- The optimiser's call for a weight of rows of 512 that all devices hold: each element takes the reference's step. -/
module

public import proofs.«01_k».proof.Proof.ProdOpt
public import proofs.«01_k».proof.Proof.Gen.OptLatentIdeal.Value
public import proofs.«01_k».proof.Proof.Gen.OptLatentRefIdeal.Read

@[expose] public section

set_option maxRecDepth 16384

noncomputable section

namespace Cert.Proof.OptLatent

open Cert.OptLatentIdeal Cert.OptLatentIdeal.Gen
open Idealize.ShloMosaic Idealize.ShloMosaic.TcCoe
open scoped BigOperators
open Finset (range)
open Cert.Proof.Table
open Cert.Proof.Opt (total first second delta)

variable {m : (ℓ : Loc nD τ sig) → Buf (Elt Ideal) ℓ} {c : Dev nD}
variable {fw fm fv : ℕ → ℕ → EReal} {g : ℕ → ℕ → ℕ → EReal}

/-! ## The kernel's blocks -/

/-- The blocks of a point: rows of the weights, of the moments, of every device's gradient and of the four results. -/
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- There is one point. -/
theorem point_lt (t : Fin cfg0.N) : t.val < 1 := by have h : cfg0.N = 1 := N_0; have := t.isLt; omega

/-- The block of the weights of a point. -/
theorem blk_0 (t : Fin cfg0.N) (hX : Is (α := EReal) (m := 8) (n := 512) (V m c main_arg0) fw) :
    Is (α := EReal) (iblk m c 0 t : Vec Ideal S8x512 .f32) (fun r d => fw (8 * t.val + r) d) := fun j => by
  have ht := point_lt t
  have h0 : (j 0).val < 8 := (j 0).isLt
  have hi := (idx t).1
  have e : (iblk m c 0 t : Vec Ideal S8x512 .f32) j = V m c main_arg0 (ValueIdx.ix2 (⟨8 * t.val + (j 0).val, by omega⟩ : Fin 8) (⟨(j 1).val, (j 1).isLt⟩ : Fin 512)) := by
    unfold iblk
    rw [View.read_apply]
    refine congrArg (V m c main_arg0) (funext fun a => Fin.ext ?_)
    match a with
    | ⟨0, _⟩ => show win0_0.index t 0 * 8 + 1 * (j 0).val = 8 * t.val + (j 0).val; rw [hi]; show t.val * 8 + 1 * (j 0).val = _; omega
    | ⟨1, _⟩ => show win0_0.index t 1 * 512 + 1 * (j 1).val = (j 1).val; rw [hi]; show 0 * 512 + 1 * (j 1).val = _; omega
  exact e.trans (hX _)

/-- The block of the first moment of a point. -/
theorem blk_1 (t : Fin cfg0.N) (hX : Is (α := EReal) (m := 8) (n := 512) (V m c main_arg1) fm) :
    Is (α := EReal) (iblk m c 1 t : Vec Ideal S8x512 .f32) (fun r d => fm (8 * t.val + r) d) := fun j => by
  have ht := point_lt t
  have h0 : (j 0).val < 8 := (j 0).isLt
  have hi := (idx t).2.1
  have e : (iblk m c 1 t : Vec Ideal S8x512 .f32) j = V m c main_arg1 (ValueIdx.ix2 (⟨8 * t.val + (j 0).val, by omega⟩ : Fin 8) (⟨(j 1).val, (j 1).isLt⟩ : Fin 512)) := by
    unfold iblk
    rw [View.read_apply]
    refine congrArg (V m c main_arg1) (funext fun a => Fin.ext ?_)
    match a with
    | ⟨0, _⟩ => show win0_1.index t 0 * 8 + 1 * (j 0).val = 8 * t.val + (j 0).val; rw [hi]; show t.val * 8 + 1 * (j 0).val = _; omega
    | ⟨1, _⟩ => show win0_1.index t 1 * 512 + 1 * (j 1).val = (j 1).val; rw [hi]; show 0 * 512 + 1 * (j 1).val = _; omega
  exact e.trans (hX _)

/-- The block of the second moment of a point. -/
theorem blk_2 (t : Fin cfg0.N) (hX : Is (α := EReal) (m := 8) (n := 512) (V m c main_arg2) fv) :
    Is (α := EReal) (iblk m c 2 t : Vec Ideal S8x512 .f32) (fun r d => fv (8 * t.val + r) d) := fun j => by
  have ht := point_lt t
  have h0 : (j 0).val < 8 := (j 0).isLt
  have hi := (idx t).2.2.1
  have e : (iblk m c 2 t : Vec Ideal S8x512 .f32) j = V m c main_arg2 (ValueIdx.ix2 (⟨8 * t.val + (j 0).val, by omega⟩ : Fin 8) (⟨(j 1).val, (j 1).isLt⟩ : Fin 512)) := by
    unfold iblk
    rw [View.read_apply]
    refine congrArg (V m c main_arg2) (funext fun a => Fin.ext ?_)
    match a with
    | ⟨0, _⟩ => show win0_2.index t 0 * 8 + 1 * (j 0).val = 8 * t.val + (j 0).val; rw [hi]; show t.val * 8 + 1 * (j 0).val = _; omega
    | ⟨1, _⟩ => show win0_2.index t 1 * 512 + 1 * (j 1).val = (j 1).val; rw [hi]; show 0 * 512 + 1 * (j 1).val = _; omega
  exact e.trans (hX _)

/-- The block of the gradients of a point. -/
theorem blk_3 (t : Fin cfg0.N) (hX : Is3 (α := EReal) (p := 8) (m := 8) (n := 512) (V m c main_arg3) g) :
    Is3 (α := EReal) (iblk m c 3 t : Vec Ideal S8x8x512 .f32) (fun s r d => g s (8 * t.val + r) d) := fun j => by
  have ht := point_lt t
  have h1 : (j 1).val < 8 := (j 1).isLt
  have hi := (idx t).2.2.2.1
  have e : (iblk m c 3 t : Vec Ideal S8x8x512 .f32) j
      = V m c main_arg3 (ValueIdx.ix3 (⟨(j 0).val, (j 0).isLt⟩ : Fin 8) (⟨8 * t.val + (j 1).val, by omega⟩ : Fin 8) (⟨(j 2).val, (j 2).isLt⟩ : Fin 512)) := by
    unfold iblk
    rw [View.read_apply]
    refine congrArg (V m c main_arg3) (funext fun a => Fin.ext ?_)
    match a with
    | ⟨0, _⟩ => show win0_3.index t 0 * 8 + 1 * (j 0).val = (j 0).val; rw [hi]; show 0 * 8 + 1 * (j 0).val = _; omega
    | ⟨1, _⟩ => show win0_3.index t 1 * 8 + 1 * (j 1).val = 8 * t.val + (j 1).val; rw [hi]; show t.val * 8 + 1 * (j 1).val = _; omega
    | ⟨2, _⟩ => show win0_3.index t 2 * 512 + 1 * (j 2).val = (j 2).val; rw [hi]; show 0 * 512 + 1 * (j 2).val = _; omega
  exact e.trans (hX _)

/-! ## The body -/

section Body

variable {x0 x1 x2 : Vec Ideal S8x512 .f32} {x3 : Vec Ideal S8x8x512 .f32} {aw am av : ℕ → ℕ → EReal} {b : ℕ → ℕ → ℕ → EReal}

/-- One device's gradient, loaded from the block of all of them. -/
theorem plane (h3 : Is3 (α := EReal) x3 b) (s : ℕ) (h : ∀ a : Fin 3, (![s, 0, 0] : Fin 3 → ℕ) a + S1x8x512.size a ≤ S8x8x512.size a) (j : S1x8x512.Idx) :
    (View.ld x3 (Rect.unit (s := S8x8x512) ![s, 0, 0] S1x8x512.size h) j : EReal) = b s (j 1).val (j 2).val := by
  have z : (j 0).val < 1 := (j 0).isLt
  refine h3.at _ ?_ ?_ ?_
  · show s + 1 * (j 0).val = s; omega
  · show 0 + 1 * (j 1).val = _; omega
  · show 0 + 1 * (j 2).val = _; omega

/-- The sum of the devices' gradients. -/
theorem is_g (h3 : Is3 (α := EReal) x3 b) : Is (α := EReal) (k0_pay6 x0 x1 x2 x3) (total b) := fun j => by
  unfold k0_pay6 k0_pay4 total
  simp only [Finset.sum_range_succ, Finset.sum_range_zero, zero_add]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Is.dropUnit (plane h3 0 _) _ j
  · exact Is.dropUnit (plane h3 1 _) _ j
  · exact Is.dropUnit (plane h3 2 _) _ j
  · exact Is.dropUnit (plane h3 3 _) _ j
  · exact Is.dropUnit (plane h3 4 _) _ j
  · exact Is.dropUnit (plane h3 5 _) _ j
  · exact Is.dropUnit (plane h3 6 _) _ j
  · exact Is.dropUnit (plane h3 7 _) _ j

/-- The new first moment of the block. -/
theorem is_m (h1 : Is (α := EReal) x1 am) (h3 : Is3 (α := EReal) x3 b) (j : S8x512.Idx) :
    (k0_pay1 (k0_pay6 x0 x1 x2 x3) (k0_pay7 x0 x1 x2 x3) j : EReal) = first (am (j 0).val (j 1).val) (total b (j 0).val (j 1).val) := by
  unfold k0_pay7
  rw [View.ld_unit_zero corner2]
  have e : (k0_pay1 (k0_pay6 x0 x1 x2 x3) (k0_pay5 x1) j : EReal) = first (x1 j) (k0_pay6 x0 x1 x2 x3 j) := rfl
  rw [e, h1 j, is_g h3 j]

/-- The new second moment of the block. -/
theorem is_v (h2 : Is (α := EReal) x2 av) (h3 : Is3 (α := EReal) x3 b) (j : S8x512.Idx) :
    (k0_pay2 (k0_pay6 x0 x1 x2 x3) x2 j : EReal) = second (av (j 0).val (j 1).val) (total b (j 0).val (j 1).val) := by
  have e : (k0_pay2 (k0_pay6 x0 x1 x2 x3) x2 j : EReal) = second (x2 j) (k0_pay6 x0 x1 x2 x3 j) := rfl
  rw [e, h2 j, is_g h3 j]

/-- The change of the block's weights. -/
theorem is_d (h0 : Is (α := EReal) x0 aw) (h1 : Is (α := EReal) x1 am) (h2 : Is (α := EReal) x2 av) (h3 : Is3 (α := EReal) x3 b) (j : S8x512.Idx) :
    (k0_pay3 (k0_pay6 x0 x1 x2 x3) x0 x2 (k0_pay7 x0 x1 x2 x3) j : EReal)
      = delta (aw (j 0).val (j 1).val) (am (j 0).val (j 1).val) (av (j 0).val (j 1).val) (total b (j 0).val (j 1).val) := by
  unfold k0_pay7
  rw [View.ld_unit_zero corner2]
  have e : (k0_pay3 (k0_pay6 x0 x1 x2 x3) x0 x2 (k0_pay5 x1) j : EReal) = delta (x0 j) (x1 j) (x2 j) (k0_pay6 x0 x1 x2 x3 j) := rfl
  rw [e, h0 j, h1 j, h2 j, is_g h3 j]

/-- The body's first result: the gradient. -/
theorem out_4 (h3 : Is3 (α := EReal) x3 b) (y : S8x512.Idx) : (out0_4 x0 x1 x2 x3 y : EReal) = total b (y 0).val (y 1).val := by
  unfold out0_4
  rw [View.canon_unit_zero corner2]
  exact is_g h3 y

/-- The body's second result: the change of the weights. -/
theorem out_5 (h0 : Is (α := EReal) x0 aw) (h1 : Is (α := EReal) x1 am) (h2 : Is (α := EReal) x2 av) (h3 : Is3 (α := EReal) x3 b) (y : S8x512.Idx) :
    (out0_5 x0 x1 x2 x3 y : EReal) = delta (aw (y 0).val (y 1).val) (am (y 0).val (y 1).val) (av (y 0).val (y 1).val) (total b (y 0).val (y 1).val) := by
  unfold out0_5
  rw [View.canon_unit_zero corner2, View.ld_unit_zero corner2, View.ld_unit_zero corner2]
  exact is_d h0 h1 h2 h3 y

/-- The body's third result: the new first moment. -/
theorem out_6 (h1 : Is (α := EReal) x1 am) (h3 : Is3 (α := EReal) x3 b) (y : S8x512.Idx) :
    (out0_6 x0 x1 x2 x3 y : EReal) = first (am (y 0).val (y 1).val) (total b (y 0).val (y 1).val) := by
  unfold out0_6
  rw [View.canon_unit_zero corner2]
  exact is_m h1 h3 y

/-- The body's fourth result: the new second moment. -/
theorem out_7 (h2 : Is (α := EReal) x2 av) (h3 : Is3 (α := EReal) x3 b) (y : S8x512.Idx) :
    (out0_7 x0 x1 x2 x3 y : EReal) = second (av (y 0).val (y 1).val) (total b (y 0).val (y 1).val) := by
  unfold out0_7
  rw [View.canon_unit_zero corner2, View.ld_unit_zero corner2]
  exact is_v h2 h3 y

end Body

/-! ## The reference -/

section Reference

open Cert.OptLatentRefIdeal.Read

variable {x0 x1 x2 : (Sh 8 512).Idx → EReal} {x3 : (Sh3 8 8 512).Idx → EReal}

/-- The reference's gradient. -/
theorem ref_g (h3 : Is3 x3 g) (i : S8x512.Idx) : (val_main_v0 (F := Ideal) x3 i : EReal) = total g (i 0).val (i 1).val := by
  have z : (val_main_cst (F := Ideal) (Shape.Idx.first Cert.OptLatentRefIdeal.Gen.h_S_) : EReal) = 0 := Ideal.ofBits_zero_f32
  unfold total
  rw [val_main_v0_apply, z, zero_add, Finset.sum_range]
  exact Finset.sum_congr rfl fun k _ => h3.at _ rfl rfl rfl

/-- The reference's new first moment. -/
theorem ref_m (h1 : Is x1 fm) (h3 : Is3 x3 g) (i : S8x512.Idx) :
    (val_main_v5 (F := Ideal) x1 x3 i : EReal) = first (fm (i 0).val (i 1).val) (total g (i 0).val (i 1).val) := by
  have e : (val_main_v5 (F := Ideal) x1 x3 i : EReal) = first (x1 i) (val_main_v0 (F := Ideal) x3 i) := rfl
  rw [e, h1 i, ref_g h3 i]

/-- The reference's new second moment. -/
theorem ref_v (h2 : Is x2 fv) (h3 : Is3 x3 g) (i : S8x512.Idx) :
    (val_main_v11 (F := Ideal) x2 x3 i : EReal) = second (fv (i 0).val (i 1).val) (total g (i 0).val (i 1).val) := by
  have e : (val_main_v11 (F := Ideal) x2 x3 i : EReal) = second (x2 i) (val_main_v0 (F := Ideal) x3 i) := rfl
  rw [e, h2 i, ref_g h3 i]

/-- The reference's change of the weights. -/
theorem ref_d (h0 : Is x0 fw) (h1 : Is x1 fm) (h2 : Is x2 fv) (h3 : Is3 x3 g) (i : S8x512.Idx) :
    (val_main_v24 (F := Ideal) x0 x1 x2 x3 i : EReal)
      = delta (fw (i 0).val (i 1).val) (fm (i 0).val (i 1).val) (fv (i 0).val (i 1).val) (total g (i 0).val (i 1).val) := by
  have e : (val_main_v24 (F := Ideal) x0 x1 x2 x3 i : EReal) = delta (x0 i) (x1 i) (x2 i) (val_main_v0 (F := Ideal) x3 i) := rfl
  rw [e, h0 i, h1 i, h2 i, ref_g h3 i]

end Reference

/-! ## The arrays -/

/-- The gradient of a point, at one element. -/
theorem at_4 (t : Fin cfg0.N) (y : S8x512.Idx) (i : S8x512.Idx) (k0 : (i 0).val = 8 * t.val + (y 0).val) (k1 : (i 1).val = (y 1).val) :
    out0_4 (F := Ideal) (iblk m c 0 t) (iblk m c 1 t) (iblk m c 2 t) (iblk m c 3 t) y = Cert.OptLatentRefIdeal.Read.val_main_v0 (F := Ideal) (V m c main_arg3) i := by
  obtain ⟨g, h3⟩ := exists_is3 (p := 8) (m := 8) (n := 512) (V m c main_arg3)
  refine (out_4 (blk_3 t h3) y).trans ?_
  refine Eq.trans ?_ (ref_g h3 i).symm
  rw [k0, k1]
  rfl

/-- The change of the weights of a point, at one element. -/
theorem at_5 (t : Fin cfg0.N) (y : S8x512.Idx) (i : S8x512.Idx) (k0 : (i 0).val = 8 * t.val + (y 0).val) (k1 : (i 1).val = (y 1).val) :
    out0_5 (F := Ideal) (iblk m c 0 t) (iblk m c 1 t) (iblk m c 2 t) (iblk m c 3 t) y = Cert.OptLatentRefIdeal.Read.val_main_v24 (F := Ideal) (V m c main_arg0) (V m c main_arg1) (V m c main_arg2) (V m c main_arg3) i := by
  obtain ⟨fw, h0⟩ := exists_is (m := 8) (n := 512) (V m c main_arg0)
  obtain ⟨fm, h1⟩ := exists_is (m := 8) (n := 512) (V m c main_arg1)
  obtain ⟨fv, h2⟩ := exists_is (m := 8) (n := 512) (V m c main_arg2)
  obtain ⟨g, h3⟩ := exists_is3 (p := 8) (m := 8) (n := 512) (V m c main_arg3)
  refine (out_5 (blk_0 t h0) (blk_1 t h1) (blk_2 t h2) (blk_3 t h3) y).trans ?_
  refine Eq.trans ?_ (ref_d h0 h1 h2 h3 i).symm
  rw [k0, k1]
  rfl

/-- The new first moment of a point, at one element. -/
theorem at_6 (t : Fin cfg0.N) (y : S8x512.Idx) (i : S8x512.Idx) (k0 : (i 0).val = 8 * t.val + (y 0).val) (k1 : (i 1).val = (y 1).val) :
    out0_6 (F := Ideal) (iblk m c 0 t) (iblk m c 1 t) (iblk m c 2 t) (iblk m c 3 t) y = Cert.OptLatentRefIdeal.Read.val_main_v5 (F := Ideal) (V m c main_arg1) (V m c main_arg3) i := by
  obtain ⟨fm, h1⟩ := exists_is (m := 8) (n := 512) (V m c main_arg1)
  obtain ⟨g, h3⟩ := exists_is3 (p := 8) (m := 8) (n := 512) (V m c main_arg3)
  refine (out_6 (blk_1 t h1) (blk_3 t h3) y).trans ?_
  refine Eq.trans ?_ (ref_m h1 h3 i).symm
  rw [k0, k1]
  rfl

/-- The new second moment of a point, at one element. -/
theorem at_7 (t : Fin cfg0.N) (y : S8x512.Idx) (i : S8x512.Idx) (k0 : (i 0).val = 8 * t.val + (y 0).val) (k1 : (i 1).val = (y 1).val) :
    out0_7 (F := Ideal) (iblk m c 0 t) (iblk m c 1 t) (iblk m c 2 t) (iblk m c 3 t) y = Cert.OptLatentRefIdeal.Read.val_main_v11 (F := Ideal) (V m c main_arg2) (V m c main_arg3) i := by
  obtain ⟨fv, h2⟩ := exists_is (m := 8) (n := 512) (V m c main_arg2)
  obtain ⟨g, h3⟩ := exists_is3 (p := 8) (m := 8) (n := 512) (V m c main_arg3)
  refine (out_7 (blk_2 t h2) (blk_3 t h3) y).trans ?_
  refine Eq.trans ?_ (ref_v h2 h3 i).symm
  rw [k0, k1]
  rfl

/-- The kernel's gradient is the reference's. -/
theorem final_g : (dats m 0 c).arrAt 4 cfg0.N = Cert.OptLatentRefIdeal.Read.val_main_v0 (F := Ideal) (V m c main_arg3) := by
  refine (dats m 0 c).arrAt_eq_of_covers 4 _ (by decide +kernel) fun t hf y => ?_
  have hi := (idx t).2.2.2.2.1
  blk_simp
  rw [after0_4]
  exact at_4 t y (((cfg0.win 4).blk t).view.emb y) (by
    show win0_4.index t 0 * 8 + 1 * (y 0).val = 8 * t.val + (y 0).val
    rw [hi]; show t.val * 8 + 1 * (y 0).val = _; omega) (by
    show win0_4.index t 1 * 512 + 1 * (y 1).val = (y 1).val
    rw [hi]; show 0 * 512 + 1 * (y 1).val = _; omega)

/-- The kernel's change of the weights is the reference's. -/
theorem final_d : (dats m 0 c).arrAt 5 cfg0.N = Cert.OptLatentRefIdeal.Read.val_main_v24 (F := Ideal) (V m c main_arg0) (V m c main_arg1) (V m c main_arg2) (V m c main_arg3) := by
  refine (dats m 0 c).arrAt_eq_of_covers 5 _ (by decide +kernel) fun t hf y => ?_
  have hi := (idx t).2.2.2.2.2.1
  blk_simp
  rw [after0_5]
  exact at_5 t y (((cfg0.win 5).blk t).view.emb y) (by
    show win0_5.index t 0 * 8 + 1 * (y 0).val = 8 * t.val + (y 0).val
    rw [hi]; show t.val * 8 + 1 * (y 0).val = _; omega) (by
    show win0_5.index t 1 * 512 + 1 * (y 1).val = (y 1).val
    rw [hi]; show 0 * 512 + 1 * (y 1).val = _; omega)

/-- The kernel's new first moment is the reference's. -/
theorem final_m : (dats m 0 c).arrAt 6 cfg0.N = Cert.OptLatentRefIdeal.Read.val_main_v5 (F := Ideal) (V m c main_arg1) (V m c main_arg3) := by
  refine (dats m 0 c).arrAt_eq_of_covers 6 _ (by decide +kernel) fun t hf y => ?_
  have hi := (idx t).2.2.2.2.2.2.1
  blk_simp
  rw [after0_6]
  exact at_6 t y (((cfg0.win 6).blk t).view.emb y) (by
    show win0_6.index t 0 * 8 + 1 * (y 0).val = 8 * t.val + (y 0).val
    rw [hi]; show t.val * 8 + 1 * (y 0).val = _; omega) (by
    show win0_6.index t 1 * 512 + 1 * (y 1).val = (y 1).val
    rw [hi]; show 0 * 512 + 1 * (y 1).val = _; omega)

/-- The kernel's new second moment is the reference's. -/
theorem final_v : (dats m 0 c).arrAt 7 cfg0.N = Cert.OptLatentRefIdeal.Read.val_main_v11 (F := Ideal) (V m c main_arg2) (V m c main_arg3) := by
  refine (dats m 0 c).arrAt_eq_of_covers 7 _ (by decide +kernel) fun t hf y => ?_
  have hi := (idx t).2.2.2.2.2.2.2
  blk_simp
  rw [after0_7]
  exact at_7 t y (((cfg0.win 7).blk t).view.emb y) (by
    show win0_7.index t 0 * 8 + 1 * (y 0).val = 8 * t.val + (y 0).val
    rw [hi]; show t.val * 8 + 1 * (y 0).val = _; omega) (by
    show win0_7.index t 1 * 512 + 1 * (y 1).val = (y 1).val
    rw [hi]; show 0 * 512 + 1 * (y 1).val = _; omega)

end Cert.Proof.OptLatent

end
-- ==== Proof.OptValues.lean ====
/- The results of three calls of the optimiser are the reference's. -/
module

public import proofs.«01_k».proof.Defs
public import proofs.«01_k».proof.Proof.ProdOpt
public import proofs.«01_k».proof.Proof.Gen.OptIdeal.Value
public import proofs.«01_k».proof.Proof.Gen.OptRefIdeal.Run
public import proofs.«01_k».proof.Proof.Gen.OptRefIdeal.Read
public import proofs.«01_k».proof.Proof.Gen.OptIdeal
public import proofs.«01_k».proof.Proof.Gen.OptRefIdeal
public import proofs.«01_k».proof.Proof.ProdOptRow
public import proofs.«01_k».proof.Proof.Gen.OptRowIdeal.Value
public import proofs.«01_k».proof.Proof.Gen.OptRowRefIdeal.Run
public import proofs.«01_k».proof.Proof.Gen.OptRowRefIdeal.Read
public import proofs.«01_k».proof.Proof.Gen.OptRowIdeal
public import proofs.«01_k».proof.Proof.Gen.OptRowRefIdeal
public import proofs.«01_k».proof.Proof.ProdOptLatent
public import proofs.«01_k».proof.Proof.Gen.OptLatentIdeal.Value
public import proofs.«01_k».proof.Proof.Gen.OptLatentRefIdeal.Run
public import proofs.«01_k».proof.Proof.Gen.OptLatentRefIdeal.Read
public import proofs.«01_k».proof.Proof.Gen.OptLatentIdeal
public import proofs.«01_k».proof.Proof.Gen.OptLatentRefIdeal

@[expose] public section

set_option maxRecDepth 16384

noncomputable section

namespace Cert.Proof.Calls

open Idealize.ShloMosaic Idealize.ShloMosaic.TcCoe Idealize.SL.Sem

/-- The optimiser's call for a gate's weights computes the reference's gradient, change of the weights and two moments. -/
theorem values_opt : Cert.algebraic_OptIdeal_OptRefIdeal (hOptIdeal := Cert.OptIdeal.Gen.facts) (hOptRefIdeal := Cert.OptRefIdeal.Gen.facts) := by
  intro m g m' g' hpre hargs
  refine ⟨fun c => (Cert.OptIdeal.Gen.dats (F := Ideal) m 0 c).arrAt 4 Cert.OptIdeal.cfg0.N, fun c => (Cert.OptIdeal.Gen.dats (F := Ideal) m 0 c).arrAt 5 Cert.OptIdeal.cfg0.N,
    fun c => (Cert.OptIdeal.Gen.dats (F := Ideal) m 0 c).arrAt 6 Cert.OptIdeal.cfg0.N, fun c => (Cert.OptIdeal.Gen.dats (F := Ideal) m 0 c).arrAt 7 Cert.OptIdeal.cfg0.N,
    Cert.OptIdeal.Value.run_blocks (F := Ideal) m g, ?_⟩
  refine (θ_run Cert.OptRefIdeal.defs _ _).mono (fun r h c => ?_) (Cert.OptRefIdeal.Value.run (F := Ideal) m' g')
  obtain ⟨e0, e1, e2, e3⟩ := hargs c
  have f4 := Opt.final_g (m := m) (c := c)
  have f5 := Opt.final_d (m := m) (c := c)
  have f6 := Opt.final_m (m := m) (c := c)
  have f7 := Opt.final_v (m := m) (c := c)
  rw [Cert.OptIdeal.Gen.V_main_arg3, ← e3] at f4
  rw [Cert.OptIdeal.Gen.V_main_arg0, Cert.OptIdeal.Gen.V_main_arg1, Cert.OptIdeal.Gen.V_main_arg2, Cert.OptIdeal.Gen.V_main_arg3, ← e0, ← e1, ← e2, ← e3] at f5
  rw [Cert.OptIdeal.Gen.V_main_arg1, Cert.OptIdeal.Gen.V_main_arg3, ← e1, ← e3] at f6
  rw [Cert.OptIdeal.Gen.V_main_arg2, Cert.OptIdeal.Gen.V_main_arg3, ← e2, ← e3] at f7
  exact ⟨(((h c).1).trans (Cert.OptRefIdeal.Read.val_main_v0_eq (F := Ideal)
    (m' ((c.tc : Thread Cert.OptRefIdeal.nD Cert.OptRefIdeal.τ).loc Cert.OptRefIdeal.main_arg3)))).trans f4.symm,
    (((h c).2.1).trans (Cert.OptRefIdeal.Read.val_main_v24_eq (F := Ideal)
    (m' ((c.tc : Thread Cert.OptRefIdeal.nD Cert.OptRefIdeal.τ).loc Cert.OptRefIdeal.main_arg0)) (m' ((c.tc : Thread Cert.OptRefIdeal.nD Cert.OptRefIdeal.τ).loc Cert.OptRefIdeal.main_arg1)) (m' ((c.tc : Thread Cert.OptRefIdeal.nD Cert.OptRefIdeal.τ).loc Cert.OptRefIdeal.main_arg2)) (m' ((c.tc : Thread Cert.OptRefIdeal.nD Cert.OptRefIdeal.τ).loc Cert.OptRefIdeal.main_arg3)))).trans f5.symm,
    (((h c).2.2.1).trans (Cert.OptRefIdeal.Read.val_main_v5_eq (F := Ideal)
    (m' ((c.tc : Thread Cert.OptRefIdeal.nD Cert.OptRefIdeal.τ).loc Cert.OptRefIdeal.main_arg1)) (m' ((c.tc : Thread Cert.OptRefIdeal.nD Cert.OptRefIdeal.τ).loc Cert.OptRefIdeal.main_arg3)))).trans f6.symm,
    (((h c).2.2.2.1).trans (Cert.OptRefIdeal.Read.val_main_v11_eq (F := Ideal)
    (m' ((c.tc : Thread Cert.OptRefIdeal.nD Cert.OptRefIdeal.τ).loc Cert.OptRefIdeal.main_arg2)) (m' ((c.tc : Thread Cert.OptRefIdeal.nD Cert.OptRefIdeal.τ).loc Cert.OptRefIdeal.main_arg3)))).trans f7.symm, (h c).2.2.2.2⟩

/-- The optimiser's call for a norm's gains computes the reference's gradient, change of the weights and two moments. -/
theorem values_row : Cert.algebraic_OptRowIdeal_OptRowRefIdeal (hOptRowIdeal := Cert.OptRowIdeal.Gen.facts) (hOptRowRefIdeal := Cert.OptRowRefIdeal.Gen.facts) := by
  intro m g m' g' hpre hargs
  refine ⟨fun c => (Cert.OptRowIdeal.Gen.dats (F := Ideal) m 0 c).arrAt 4 Cert.OptRowIdeal.cfg0.N, fun c => (Cert.OptRowIdeal.Gen.dats (F := Ideal) m 0 c).arrAt 5 Cert.OptRowIdeal.cfg0.N,
    fun c => (Cert.OptRowIdeal.Gen.dats (F := Ideal) m 0 c).arrAt 6 Cert.OptRowIdeal.cfg0.N, fun c => (Cert.OptRowIdeal.Gen.dats (F := Ideal) m 0 c).arrAt 7 Cert.OptRowIdeal.cfg0.N,
    Cert.OptRowIdeal.Value.run_blocks (F := Ideal) m g, ?_⟩
  refine (θ_run Cert.OptRowRefIdeal.defs _ _).mono (fun r h c => ?_) (Cert.OptRowRefIdeal.Value.run (F := Ideal) m' g')
  obtain ⟨e0, e1, e2, e3⟩ := hargs c
  have f4 := OptRow.final_g (m := m) (c := c)
  have f5 := OptRow.final_d (m := m) (c := c)
  have f6 := OptRow.final_m (m := m) (c := c)
  have f7 := OptRow.final_v (m := m) (c := c)
  rw [Cert.OptRowIdeal.Gen.V_main_arg3, ← e3] at f4
  rw [Cert.OptRowIdeal.Gen.V_main_arg0, Cert.OptRowIdeal.Gen.V_main_arg1, Cert.OptRowIdeal.Gen.V_main_arg2, Cert.OptRowIdeal.Gen.V_main_arg3, ← e0, ← e1, ← e2, ← e3] at f5
  rw [Cert.OptRowIdeal.Gen.V_main_arg1, Cert.OptRowIdeal.Gen.V_main_arg3, ← e1, ← e3] at f6
  rw [Cert.OptRowIdeal.Gen.V_main_arg2, Cert.OptRowIdeal.Gen.V_main_arg3, ← e2, ← e3] at f7
  exact ⟨(((h c).1).trans (Cert.OptRowRefIdeal.Read.val_main_v0_eq (F := Ideal)
    (m' ((c.tc : Thread Cert.OptRowRefIdeal.nD Cert.OptRowRefIdeal.τ).loc Cert.OptRowRefIdeal.main_arg3)))).trans f4.symm,
    (((h c).2.1).trans (Cert.OptRowRefIdeal.Read.val_main_v24_eq (F := Ideal)
    (m' ((c.tc : Thread Cert.OptRowRefIdeal.nD Cert.OptRowRefIdeal.τ).loc Cert.OptRowRefIdeal.main_arg0)) (m' ((c.tc : Thread Cert.OptRowRefIdeal.nD Cert.OptRowRefIdeal.τ).loc Cert.OptRowRefIdeal.main_arg1)) (m' ((c.tc : Thread Cert.OptRowRefIdeal.nD Cert.OptRowRefIdeal.τ).loc Cert.OptRowRefIdeal.main_arg2)) (m' ((c.tc : Thread Cert.OptRowRefIdeal.nD Cert.OptRowRefIdeal.τ).loc Cert.OptRowRefIdeal.main_arg3)))).trans f5.symm,
    (((h c).2.2.1).trans (Cert.OptRowRefIdeal.Read.val_main_v5_eq (F := Ideal)
    (m' ((c.tc : Thread Cert.OptRowRefIdeal.nD Cert.OptRowRefIdeal.τ).loc Cert.OptRowRefIdeal.main_arg1)) (m' ((c.tc : Thread Cert.OptRowRefIdeal.nD Cert.OptRowRefIdeal.τ).loc Cert.OptRowRefIdeal.main_arg3)))).trans f6.symm,
    (((h c).2.2.2.1).trans (Cert.OptRowRefIdeal.Read.val_main_v11_eq (F := Ideal)
    (m' ((c.tc : Thread Cert.OptRowRefIdeal.nD Cert.OptRowRefIdeal.τ).loc Cert.OptRowRefIdeal.main_arg2)) (m' ((c.tc : Thread Cert.OptRowRefIdeal.nD Cert.OptRowRefIdeal.τ).loc Cert.OptRowRefIdeal.main_arg3)))).trans f7.symm, (h c).2.2.2.2⟩

/-- The optimiser's call for a latent norm's gains computes the reference's gradient, change of the weights and two moments. -/
theorem values_latent : Cert.algebraic_OptLatentIdeal_OptLatentRefIdeal (hOptLatentIdeal := Cert.OptLatentIdeal.Gen.facts) (hOptLatentRefIdeal := Cert.OptLatentRefIdeal.Gen.facts) := by
  intro m g m' g' hpre hargs
  refine ⟨fun c => (Cert.OptLatentIdeal.Gen.dats (F := Ideal) m 0 c).arrAt 4 Cert.OptLatentIdeal.cfg0.N, fun c => (Cert.OptLatentIdeal.Gen.dats (F := Ideal) m 0 c).arrAt 5 Cert.OptLatentIdeal.cfg0.N,
    fun c => (Cert.OptLatentIdeal.Gen.dats (F := Ideal) m 0 c).arrAt 6 Cert.OptLatentIdeal.cfg0.N, fun c => (Cert.OptLatentIdeal.Gen.dats (F := Ideal) m 0 c).arrAt 7 Cert.OptLatentIdeal.cfg0.N,
    Cert.OptLatentIdeal.Value.run_blocks (F := Ideal) m g, ?_⟩
  refine (θ_run Cert.OptLatentRefIdeal.defs _ _).mono (fun r h c => ?_) (Cert.OptLatentRefIdeal.Value.run (F := Ideal) m' g')
  obtain ⟨e0, e1, e2, e3⟩ := hargs c
  have f4 := OptLatent.final_g (m := m) (c := c)
  have f5 := OptLatent.final_d (m := m) (c := c)
  have f6 := OptLatent.final_m (m := m) (c := c)
  have f7 := OptLatent.final_v (m := m) (c := c)
  rw [Cert.OptLatentIdeal.Gen.V_main_arg3, ← e3] at f4
  rw [Cert.OptLatentIdeal.Gen.V_main_arg0, Cert.OptLatentIdeal.Gen.V_main_arg1, Cert.OptLatentIdeal.Gen.V_main_arg2, Cert.OptLatentIdeal.Gen.V_main_arg3, ← e0, ← e1, ← e2, ← e3] at f5
  rw [Cert.OptLatentIdeal.Gen.V_main_arg1, Cert.OptLatentIdeal.Gen.V_main_arg3, ← e1, ← e3] at f6
  rw [Cert.OptLatentIdeal.Gen.V_main_arg2, Cert.OptLatentIdeal.Gen.V_main_arg3, ← e2, ← e3] at f7
  exact ⟨(((h c).1).trans (Cert.OptLatentRefIdeal.Read.val_main_v0_eq (F := Ideal)
    (m' ((c.tc : Thread Cert.OptLatentRefIdeal.nD Cert.OptLatentRefIdeal.τ).loc Cert.OptLatentRefIdeal.main_arg3)))).trans f4.symm,
    (((h c).2.1).trans (Cert.OptLatentRefIdeal.Read.val_main_v24_eq (F := Ideal)
    (m' ((c.tc : Thread Cert.OptLatentRefIdeal.nD Cert.OptLatentRefIdeal.τ).loc Cert.OptLatentRefIdeal.main_arg0)) (m' ((c.tc : Thread Cert.OptLatentRefIdeal.nD Cert.OptLatentRefIdeal.τ).loc Cert.OptLatentRefIdeal.main_arg1)) (m' ((c.tc : Thread Cert.OptLatentRefIdeal.nD Cert.OptLatentRefIdeal.τ).loc Cert.OptLatentRefIdeal.main_arg2)) (m' ((c.tc : Thread Cert.OptLatentRefIdeal.nD Cert.OptLatentRefIdeal.τ).loc Cert.OptLatentRefIdeal.main_arg3)))).trans f5.symm,
    (((h c).2.2.1).trans (Cert.OptLatentRefIdeal.Read.val_main_v5_eq (F := Ideal)
    (m' ((c.tc : Thread Cert.OptLatentRefIdeal.nD Cert.OptLatentRefIdeal.τ).loc Cert.OptLatentRefIdeal.main_arg1)) (m' ((c.tc : Thread Cert.OptLatentRefIdeal.nD Cert.OptLatentRefIdeal.τ).loc Cert.OptLatentRefIdeal.main_arg3)))).trans f6.symm,
    (((h c).2.2.2.1).trans (Cert.OptLatentRefIdeal.Read.val_main_v11_eq (F := Ideal)
    (m' ((c.tc : Thread Cert.OptLatentRefIdeal.nD Cert.OptLatentRefIdeal.τ).loc Cert.OptLatentRefIdeal.main_arg2)) (m' ((c.tc : Thread Cert.OptLatentRefIdeal.nD Cert.OptLatentRefIdeal.τ).loc Cert.OptLatentRefIdeal.main_arg3)))).trans f7.symm, (h c).2.2.2.2⟩

end Cert.Proof.Calls

end
-- ==== Proof.lean ====
/- The claims: the frames of the kernel and of the reference, and the equality of their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Words
public import proofs.«01_k».proof.Proof.Finite
public import proofs.«01_k».proof.Proof.Final
public import proofs.«01_k».proof.Proof.FfnFrames
public import proofs.«01_k».proof.Proof.FfnValues
public import proofs.«01_k».proof.Proof.CallFrames
public import proofs.«01_k».proof.Proof.CallValues
public import proofs.«01_k».proof.Proof.OptFrames
public import proofs.«01_k».proof.Proof.OptValues
public import Idealize.ShloMosaic.Lib.Quiescent

@[expose] public section

set_option maxRecDepth 16384

noncomputable section

namespace Cert.Proof

open Idealize.ShloMosaic Idealize.ShloMosaic.TcCoe Idealize.SL.Sem

/-- The idealized kernel's frame. -/
theorem frame_kernelIdeal : Cert.quiescent_KernelIdeal (hKernelIdeal := Cert.KernelIdeal.Gen.facts) :=
  fun m ρ _ => KI.frame (F := Ideal) m ρ

/-- The idealized kernel's frame, on finite arguments. -/
theorem frame_kernelIdeal_finite : Cert.quiescent_KernelIdeal_pre_finite (hKernelIdeal := Cert.KernelIdeal.Gen.facts) (hPre_finite := Cert.Pre_finite.shapes_fit) :=
  fun m ρ _ => KI.frame (F := Ideal) m ρ

/-- A run of the reference leaves its arguments and every counter as they were. -/
theorem frame_reference_all (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run (F := Ideal) m ρ)

/-- The reference's frame. -/
theorem frame_reference : Cert.quiescent_ReferenceIdeal (hReferenceIdeal := Cert.ReferenceIdeal.Gen.facts) :=
  fun m ρ _ => frame_reference_all m ρ

/-- The reference's frame, on finite arguments. -/
theorem frame_reference_finite : Cert.quiescent_ReferenceIdeal_pre_finite (hReferenceIdeal := Cert.ReferenceIdeal.Gen.facts) (hPre_finite := Cert.Pre_finite.shapes_fit) :=
  fun m ρ _ => frame_reference_all m ρ

section Results

open Cert.KernelIdeal Cert.KernelIdeal.Gen

/-- On finite arguments the kernel's three arrays are the reference's functions of them. -/
theorem finals (m : (ℓ : Loc nD τ sig) → Buf (Elt Ideal) ℓ) (h : Cert.Pre_KernelIdeal_finite (hPre_finite := Cert.Pre_finite.shapes_fit) m) (c : Dev nD) :
    (KI.dats (F := Ideal) m 0 c).arrAt 8 cfg0.N = Cert.ReferenceIdeal.Read.val_main_v134 (F := Ideal) (V m c main_arg0) (V m c main_arg1) (V m c main_arg2) (V m c main_arg3)
    ∧ (KI.dats (F := Ideal) m 0 c).arrAt 9 cfg0.N = Cert.ReferenceIdeal.Read.val_main_v137 (F := Ideal) (V m c main_arg0) (V m c main_arg1) (V m c main_arg2) (V m c main_arg3)
    ∧ (KI.dats (F := Ideal) m 0 c).arrAt 10 cfg0.N = Cert.ReferenceIdeal.Read.val_main_v138 (F := Ideal) (V m c main_arg0) (V m c main_arg1) (V m c main_arg2) (V m c main_arg3) := by
  obtain ⟨p0, p1, p2, p3⟩ := h c
  obtain ⟨a0, h0⟩ := Re3.of_real (a := 4112) (b := 16) (c := 192) (w := V m c main_arg0) (by rw [V_main_arg0]; exact reals_of_bounded _ _ p0)
  obtain ⟨a1, h1⟩ := Re3.of_real (a := 4112) (b := 16) (c := 256) (w := V m c main_arg1) (by rw [V_main_arg1]; exact reals_of_bounded _ _ p1)
  obtain ⟨a2, h2⟩ := Re2.of_real (a := 4112) (b := 64) (w := V m c main_arg2) (by rw [V_main_arg2]; exact reals_of_bounded _ _ p2)
  obtain ⟨a3, h3⟩ := Re3.of_real (a := 4112) (b := 16) (c := 128) (w := V m c main_arg3) (by rw [V_main_arg3]; exact reals_of_bounded _ _ p3)
  obtain ⟨mx, hm⟩ := RV.exists_max h0 h1 h2
  exact ⟨KI.final_8 h0 h1 h2 h3 hm, KI.final_9 h0 h1 h2 h3 hm, KI.final_10 h0 h1 h2 h3 hm⟩

end Results

/-- On finite arguments the kernel and the reference end with the same three results. -/
theorem values : Cert.algebraic_KernelIdeal_ReferenceIdeal_pre_finite (hKernelIdeal := Cert.KernelIdeal.Gen.facts) (hReferenceIdeal := Cert.ReferenceIdeal.Gen.facts) (hPre_finite := Cert.Pre_finite.shapes_fit) := by
  intro m g m' g' hpre hargs
  refine ⟨fun c => (KI.dats (F := Ideal) m 0 c).arrAt 8 Cert.KernelIdeal.cfg0.N, fun c => (KI.dats (F := Ideal) m 0 c).arrAt 9 Cert.KernelIdeal.cfg0.N,
    fun c => (KI.dats (F := Ideal) m 0 c).arrAt 10 Cert.KernelIdeal.cfg0.N, ?_, ?_⟩
  · refine (θ_run Cert.KernelIdeal.defs _ _).mono (fun r h c => ?_) (θ_run_and (KI.run_main (F := Ideal) m g) (KI.frame (F := Ideal) m g))
    exact ⟨(h.1 c).1 8, (h.1 c).1 9, (h.1 c).1 10, h.2.1 c⟩
  · refine (θ_run Cert.ReferenceIdeal.defs _ _).mono (fun r h c => ?_) (Cert.ReferenceIdeal.Value.run (F := Ideal) m' g')
    obtain ⟨e0, e1, e2, e3⟩ := hargs c
    obtain ⟨f8, f9, f10⟩ := finals m hpre c
    rw [Cert.KernelIdeal.Gen.V_main_arg0, Cert.KernelIdeal.Gen.V_main_arg1, Cert.KernelIdeal.Gen.V_main_arg2, Cert.KernelIdeal.Gen.V_main_arg3, ← e0, ← e1, ← e2, ← e3] at f8 f9 f10
    exact ⟨((h c).1.trans (Cert.ReferenceIdeal.Read.val_main_v134_eq (F := Ideal) (StableHlo.launchContents m' c))).trans f8.symm,
      ((h c).2.1.trans (Cert.ReferenceIdeal.Read.val_main_v137_eq (F := Ideal) (StableHlo.launchContents m' c))).trans f9.symm,
      ((h c).2.2.1.trans (Cert.ReferenceIdeal.Read.val_main_v138_eq (F := Ideal) (StableHlo.launchContents m' c))).trans f10.symm, (h c).2.2.2⟩

/-- Everything that is claimed of the twelve calls. -/
theorem claim : Cert.Claim :=
  ⟨Cert.Kernel.Gen.facts, Cert.KernelIdeal.Gen.facts, Cert.ReferenceIdeal.Gen.facts,
    Cert.FfnDw.Gen.facts, Cert.FfnDwIdeal.Gen.facts, Cert.FfnDwRefIdeal.Gen.facts,
    Cert.FfnDh.Gen.facts, Cert.FfnDhIdeal.Gen.facts, Cert.FfnDhRefIdeal.Gen.facts,
    Cert.FfnDd.Gen.facts, Cert.FfnDdIdeal.Gen.facts, Cert.FfnDdRefIdeal.Gen.facts,
    Cert.FfnDa.Gen.facts, Cert.FfnDaIdeal.Gen.facts, Cert.FfnDaRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.LruIn.Gen.facts, Cert.LruInIdeal.Gen.facts, Cert.LruInRefIdeal.Gen.facts,
    Cert.LruDw.Gen.facts, Cert.LruDwIdeal.Gen.facts, Cert.LruDwRefIdeal.Gen.facts,
    Cert.Opt.Gen.facts, Cert.OptIdeal.Gen.facts, Cert.OptRefIdeal.Gen.facts,
    Cert.OptRow.Gen.facts, Cert.OptRowIdeal.Gen.facts, Cert.OptRowRefIdeal.Gen.facts,
    Cert.OptLatent.Gen.facts, Cert.OptLatentIdeal.Gen.facts, Cert.OptLatentRefIdeal.Gen.facts,
    Cert.Pre_finite.shapes_fit, Cert.Pre_finite_ffn.shapes_fit,
    frame_kernel, frame_kernelIdeal, frame_kernelIdeal_finite, frame_reference, frame_reference_finite,
    Ffn.frame_dw, Ffn.frame_dw_ideal, Ffn.frame_dw_ref,
    Ffn.frame_dh, Ffn.frame_dh_ideal, Ffn.frame_dh_ref,
    Ffn.frame_dd, Ffn.frame_dd_ideal, Ffn.frame_dd_ref,
    Ffn.frame_da, Ffn.frame_da_ideal, fun m ρ _ => Ffn.frame_da_ideal m ρ trivial, Ffn.frame_da_ref, fun m ρ _ => Ffn.frame_da_ref m ρ trivial,
    Calls.frame_up, Calls.frame_up_ideal, Calls.frame_up_ref,
    Calls.frame_down, Calls.frame_down_ideal, Calls.frame_down_ref,
    Calls.frame_in, Calls.frame_in_ideal, Calls.frame_in_ref,
    Calls.frame_dw_in, Calls.frame_dw_in_ideal, Calls.frame_dw_in_ref,
    Calls.frame_opt, Calls.frame_opt_ideal, Calls.frame_opt_ref,
    Calls.frame_row, Calls.frame_row_ideal, Calls.frame_row_ref,
    Calls.frame_latent, Calls.frame_latent_ideal, Calls.frame_latent_ref,
    trivial, values, trivial, Ffn.values_dw, trivial, Ffn.values_dh, trivial, Ffn.values_dd, trivial, Ffn.values_da,
    trivial, Calls.values_up, trivial, Calls.values_down, trivial, Calls.values_in, trivial, Calls.values_dw_in,
    trivial, Calls.values_opt, trivial, Calls.values_row, trivial, Calls.values_latent⟩

end Cert.Proof

end
